-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores [hPre_finite_scores : Cert.Pre_finite_scores.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores [hPre_finite_scores : Cert.Pre_finite_scores.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_scores [hKernelIdeal : Cert.KernelIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_scores [hReferenceIdeal : Cert.ReferenceIdeal.Facts] [hPre_finite_scores : Cert.Pre_finite_scores.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9)
      ∧ r.2.mem ((c.tc : Thread Cert.Kernel2.nD Cert.Kernel2.τ).loc Cert.Kernel2.main_arg10) = m ((c.tc : Thread Cert.Kernel2.nD Cert.Kernel2.τ).loc Cert.Kernel2.main_arg10))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
      ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3)
      ∧ r.2.mem ((c.tc : Thread Cert.Kernel10.nD Cert.Kernel10.τ).loc Cert.Kernel10.main_arg4) = m ((c.tc : Thread Cert.Kernel10.nD Cert.Kernel10.τ).loc Cert.Kernel10.main_arg4))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
      ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3)
      ∧ r.2.mem ((c.tc : Thread Cert.Reference10Ideal.nD Cert.Reference10Ideal.τ).loc Cert.Reference10Ideal.main_arg4) = m ((c.tc : Thread Cert.Reference10Ideal.nD Cert.Reference10Ideal.τ).loc Cert.Reference10Ideal.main_arg4))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1))
      ∧ r.2.sem = fun _ => 0)

def preserves_Kernel_KernelIdeal : Prop :=
  IdealRules.named_const.Statement Cert.KernelIdeal.κ "scale" .f32 0x3E0293EE#32 ((((Real.log 2) * (Real.sqrt 128))⁻¹ : ℝ) : EReal)
  ∧ IdealRules.named_const.Statement Cert.KernelIdeal.κ "mask" .f32 0xF149F2CA#32 ⊥
  ∧ IdealRules.named_const.Statement Cert.KernelIdeal.κ "log2e" .f32 0x3FB8AA3B#32 (((Real.log 2)⁻¹ : ℝ) : EReal)

def algebraic_KernelIdeal_ReferenceIdeal_pre_finite_scores [hKernelIdeal : Cert.KernelIdeal.Facts] [hReferenceIdeal : Cert.ReferenceIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v68) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)
      ∧ m' ((c.tc : Thread Cert.Reference2Ideal.nD Cert.Reference2Ideal.τ).loc Cert.Reference2Ideal.main_arg10) = m ((c.tc : Thread Cert.Kernel2Ideal.nD Cert.Kernel2Ideal.τ).loc Cert.Kernel2Ideal.main_arg10)) →
    ∃ (v0 : (c : Dev Cert.Kernel2Ideal.nD) → Buf (Elt Ideal) ((c.tc : Thread Cert.Kernel2Ideal.nD Cert.Kernel2Ideal.τ).loc Cert.Kernel2Ideal.main_v14_0)) (v1 : (c : Dev Cert.Kernel2Ideal.nD) → Buf (Elt Ideal) ((c.tc : Thread Cert.Kernel2Ideal.nD Cert.Kernel2Ideal.τ).loc Cert.Kernel2Ideal.main_v14_1)) (v2 : (c : Dev Cert.Kernel2Ideal.nD) → Buf (Elt Ideal) ((c.tc : Thread Cert.Kernel2Ideal.nD Cert.Kernel2Ideal.τ).loc Cert.Kernel2Ideal.main_v14_2)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v14_0) = v0 c
          ∧ r.2.mem ((c.tc : Thread Cert.Kernel2Ideal.nD Cert.Kernel2Ideal.τ).loc Cert.Kernel2Ideal.main_v14_1) = v1 c
          ∧ r.2.mem ((c.tc : Thread Cert.Kernel2Ideal.nD Cert.Kernel2Ideal.τ).loc Cert.Kernel2Ideal.main_v14_2) = v2 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
          ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v31) = v0 c
          ∧ r.2.mem ((c.tc : Thread Cert.Reference2Ideal.nD Cert.Reference2Ideal.τ).loc Cert.Reference2Ideal.main_v34) = v1 c
          ∧ r.2.mem ((c.tc : Thread Cert.Reference2Ideal.nD Cert.Reference2Ideal.τ).loc Cert.Reference2Ideal.main_v37) = v2 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9)
          ∧ r.2.mem ((c.tc : Thread Cert.Reference2Ideal.nD Cert.Reference2Ideal.τ).loc Cert.Reference2Ideal.main_arg10) = m' ((c.tc : Thread Cert.Reference2Ideal.nD Cert.Reference2Ideal.τ).loc Cert.Reference2Ideal.main_arg10))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)) →
    ∃ (v0 : (c : Dev Cert.Kernel3Ideal.nD) → Buf (Elt Ideal) ((c.tc : Thread Cert.Kernel3Ideal.nD Cert.Kernel3Ideal.τ).loc Cert.Kernel3Ideal.main_v8_0)) (v1 : (c : Dev Cert.Kernel3Ideal.nD) → Buf (Elt Ideal) ((c.tc : Thread Cert.Kernel3Ideal.nD Cert.Kernel3Ideal.τ).loc Cert.Kernel3Ideal.main_v8_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v8_0) = v0 c
          ∧ r.2.mem ((c.tc : Thread Cert.Kernel3Ideal.nD Cert.Kernel3Ideal.τ).loc Cert.Kernel3Ideal.main_v8_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v18) = v0 c
          ∧ r.2.mem ((c.tc : Thread Cert.Reference3Ideal.nD Cert.Reference3Ideal.τ).loc Cert.Reference3Ideal.main_v21) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)) →
    ∃ (v0 : (c : Dev Cert.Kernel4Ideal.nD) → Buf (Elt Ideal) ((c.tc : Thread Cert.Kernel4Ideal.nD Cert.Kernel4Ideal.τ).loc Cert.Kernel4Ideal.main_v3_0)) (v1 : (c : Dev Cert.Kernel4Ideal.nD) → Buf (Elt Ideal) ((c.tc : Thread Cert.Kernel4Ideal.nD Cert.Kernel4Ideal.τ).loc Cert.Kernel4Ideal.main_v3_1)) (v2 : (c : Dev Cert.Kernel4Ideal.nD) → Buf (Elt Ideal) ((c.tc : Thread Cert.Kernel4Ideal.nD Cert.Kernel4Ideal.τ).loc Cert.Kernel4Ideal.main_v3_2)) (v3 : (c : Dev Cert.Kernel4Ideal.nD) → Buf (Elt Ideal) ((c.tc : Thread Cert.Kernel4Ideal.nD Cert.Kernel4Ideal.τ).loc Cert.Kernel4Ideal.main_v3_3)) (v4 : (c : Dev Cert.Kernel4Ideal.nD) → Buf (Elt Ideal) ((c.tc : Thread Cert.Kernel4Ideal.nD Cert.Kernel4Ideal.τ).loc Cert.Kernel4Ideal.main_v3_4)) (v5 : (c : Dev Cert.Kernel4Ideal.nD) → Buf (Elt Ideal) ((c.tc : Thread Cert.Kernel4Ideal.nD Cert.Kernel4Ideal.τ).loc Cert.Kernel4Ideal.main_v3_5)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v3_0) = v0 c
          ∧ r.2.mem ((c.tc : Thread Cert.Kernel4Ideal.nD Cert.Kernel4Ideal.τ).loc Cert.Kernel4Ideal.main_v3_1) = v1 c
          ∧ r.2.mem ((c.tc : Thread Cert.Kernel4Ideal.nD Cert.Kernel4Ideal.τ).loc Cert.Kernel4Ideal.main_v3_2) = v2 c
          ∧ r.2.mem ((c.tc : Thread Cert.Kernel4Ideal.nD Cert.Kernel4Ideal.τ).loc Cert.Kernel4Ideal.main_v3_3) = v3 c
          ∧ r.2.mem ((c.tc : Thread Cert.Kernel4Ideal.nD Cert.Kernel4Ideal.τ).loc Cert.Kernel4Ideal.main_v3_4) = v4 c
          ∧ r.2.mem ((c.tc : Thread Cert.Kernel4Ideal.nD Cert.Kernel4Ideal.τ).loc Cert.Kernel4Ideal.main_v3_5) = v5 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v3) = v0 c
          ∧ r.2.mem ((c.tc : Thread Cert.Reference4Ideal.nD Cert.Reference4Ideal.τ).loc Cert.Reference4Ideal.main_v9) = v1 c
          ∧ r.2.mem ((c.tc : Thread Cert.Reference4Ideal.nD Cert.Reference4Ideal.τ).loc Cert.Reference4Ideal.main_v12) = v2 c
          ∧ r.2.mem ((c.tc : Thread Cert.Reference4Ideal.nD Cert.Reference4Ideal.τ).loc Cert.Reference4Ideal.main_v15) = v3 c
          ∧ r.2.mem ((c.tc : Thread Cert.Reference4Ideal.nD Cert.Reference4Ideal.τ).loc Cert.Reference4Ideal.main_v18) = v4 c
          ∧ r.2.mem ((c.tc : Thread Cert.Reference4Ideal.nD Cert.Reference4Ideal.τ).loc Cert.Reference4Ideal.main_v21) = v5 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)) →
    ∃ (v0 : (c : Dev Cert.Kernel5Ideal.nD) → Buf (Elt Ideal) ((c.tc : Thread Cert.Kernel5Ideal.nD Cert.Kernel5Ideal.τ).loc Cert.Kernel5Ideal.main_v90_0)) (v1 : (c : Dev Cert.Kernel5Ideal.nD) → Buf (Elt Ideal) ((c.tc : Thread Cert.Kernel5Ideal.nD Cert.Kernel5Ideal.τ).loc Cert.Kernel5Ideal.main_v90_1)) (v2 : (c : Dev Cert.Kernel5Ideal.nD) → Buf (Elt Ideal) ((c.tc : Thread Cert.Kernel5Ideal.nD Cert.Kernel5Ideal.τ).loc Cert.Kernel5Ideal.main_v90_2)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v90_0) = v0 c
          ∧ r.2.mem ((c.tc : Thread Cert.Kernel5Ideal.nD Cert.Kernel5Ideal.τ).loc Cert.Kernel5Ideal.main_v90_1) = v1 c
          ∧ r.2.mem ((c.tc : Thread Cert.Kernel5Ideal.nD Cert.Kernel5Ideal.τ).loc Cert.Kernel5Ideal.main_v90_2) = v2 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v79) = v0 c
          ∧ r.2.mem ((c.tc : Thread Cert.Reference5Ideal.nD Cert.Reference5Ideal.τ).loc Cert.Reference5Ideal.main_v82) = v1 c
          ∧ r.2.mem ((c.tc : Thread Cert.Reference5Ideal.nD Cert.Reference5Ideal.τ).loc Cert.Reference5Ideal.main_v85) = v2 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v82)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v82) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v79) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v1)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v1) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v12) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)) →
    ∃ (v0 : (c : Dev Cert.Kernel8Ideal.nD) → Buf (Elt Ideal) ((c.tc : Thread Cert.Kernel8Ideal.nD Cert.Kernel8Ideal.τ).loc Cert.Kernel8Ideal.main_v3_0)) (v1 : (c : Dev Cert.Kernel8Ideal.nD) → Buf (Elt Ideal) ((c.tc : Thread Cert.Kernel8Ideal.nD Cert.Kernel8Ideal.τ).loc Cert.Kernel8Ideal.main_v3_1)) (v2 : (c : Dev Cert.Kernel8Ideal.nD) → Buf (Elt Ideal) ((c.tc : Thread Cert.Kernel8Ideal.nD Cert.Kernel8Ideal.τ).loc Cert.Kernel8Ideal.main_v3_2)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v3_0) = v0 c
          ∧ r.2.mem ((c.tc : Thread Cert.Kernel8Ideal.nD Cert.Kernel8Ideal.τ).loc Cert.Kernel8Ideal.main_v3_1) = v1 c
          ∧ r.2.mem ((c.tc : Thread Cert.Kernel8Ideal.nD Cert.Kernel8Ideal.τ).loc Cert.Kernel8Ideal.main_v3_2) = v2 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v1) = v0 c
          ∧ r.2.mem ((c.tc : Thread Cert.Reference8Ideal.nD Cert.Reference8Ideal.τ).loc Cert.Reference8Ideal.main_v7) = v1 c
          ∧ r.2.mem ((c.tc : Thread Cert.Reference8Ideal.nD Cert.Reference8Ideal.τ).loc Cert.Reference8Ideal.main_v10) = v2 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)) →
    ∃ (v0 : (c : Dev Cert.Kernel9Ideal.nD) → Buf (Elt Ideal) ((c.tc : Thread Cert.Kernel9Ideal.nD Cert.Kernel9Ideal.τ).loc Cert.Kernel9Ideal.main_v2)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v2) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v3) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)
      ∧ m' ((c.tc : Thread Cert.Reference10Ideal.nD Cert.Reference10Ideal.τ).loc Cert.Reference10Ideal.main_arg4) = m ((c.tc : Thread Cert.Kernel10Ideal.nD Cert.Kernel10Ideal.τ).loc Cert.Kernel10Ideal.main_arg4)) →
    ∃ (v0 : (c : Dev Cert.Kernel10Ideal.nD) → Buf (Elt Ideal) ((c.tc : Thread Cert.Kernel10Ideal.nD Cert.Kernel10Ideal.τ).loc Cert.Kernel10Ideal.main_v8_0)) (v1 : (c : Dev Cert.Kernel10Ideal.nD) → Buf (Elt Ideal) ((c.tc : Thread Cert.Kernel10Ideal.nD Cert.Kernel10Ideal.τ).loc Cert.Kernel10Ideal.main_v8_1)) (v2 : (c : Dev Cert.Kernel10Ideal.nD) → Buf (Elt Ideal) ((c.tc : Thread Cert.Kernel10Ideal.nD Cert.Kernel10Ideal.τ).loc Cert.Kernel10Ideal.main_v8_2)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v8_0) = v0 c
          ∧ r.2.mem ((c.tc : Thread Cert.Kernel10Ideal.nD Cert.Kernel10Ideal.τ).loc Cert.Kernel10Ideal.main_v8_1) = v1 c
          ∧ r.2.mem ((c.tc : Thread Cert.Kernel10Ideal.nD Cert.Kernel10Ideal.τ).loc Cert.Kernel10Ideal.main_v8_2) = v2 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
          ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v18) = v0 c
          ∧ r.2.mem ((c.tc : Thread Cert.Reference10Ideal.nD Cert.Reference10Ideal.τ).loc Cert.Reference10Ideal.main_v21) = v1 c
          ∧ r.2.mem ((c.tc : Thread Cert.Reference10Ideal.nD Cert.Reference10Ideal.τ).loc Cert.Reference10Ideal.main_v24) = v2 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3)
          ∧ r.2.mem ((c.tc : Thread Cert.Reference10Ideal.nD Cert.Reference10Ideal.τ).loc Cert.Reference10Ideal.main_arg4) = m' ((c.tc : Thread Cert.Reference10Ideal.nD Cert.Reference10Ideal.τ).loc Cert.Reference10Ideal.main_arg4))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)) →
    ∃ (v0 : (c : Dev Cert.Kernel11Ideal.nD) → Buf (Elt Ideal) ((c.tc : Thread Cert.Kernel11Ideal.nD Cert.Kernel11Ideal.τ).loc Cert.Kernel11Ideal.main_v3_0)) (v1 : (c : Dev Cert.Kernel11Ideal.nD) → Buf (Elt Ideal) ((c.tc : Thread Cert.Kernel11Ideal.nD Cert.Kernel11Ideal.τ).loc Cert.Kernel11Ideal.main_v3_1)) (v2 : (c : Dev Cert.Kernel11Ideal.nD) → Buf (Elt Ideal) ((c.tc : Thread Cert.Kernel11Ideal.nD Cert.Kernel11Ideal.τ).loc Cert.Kernel11Ideal.main_v3_2)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v3_0) = v0 c
          ∧ r.2.mem ((c.tc : Thread Cert.Kernel11Ideal.nD Cert.Kernel11Ideal.τ).loc Cert.Kernel11Ideal.main_v3_1) = v1 c
          ∧ r.2.mem ((c.tc : Thread Cert.Kernel11Ideal.nD Cert.Kernel11Ideal.τ).loc Cert.Kernel11Ideal.main_v3_2) = v2 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v3) = v0 c
          ∧ r.2.mem ((c.tc : Thread Cert.Reference11Ideal.nD Cert.Reference11Ideal.τ).loc Cert.Reference11Ideal.main_v9) = v1 c
          ∧ r.2.mem ((c.tc : Thread Cert.Reference11Ideal.nD Cert.Reference11Ideal.τ).loc Cert.Reference11Ideal.main_v12) = v2 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)) →
    ∃ (v0 : (c : Dev Cert.Kernel12Ideal.nD) → Buf (Elt Ideal) ((c.tc : Thread Cert.Kernel12Ideal.nD Cert.Kernel12Ideal.τ).loc Cert.Kernel12Ideal.main_v1_0)) (v1 : (c : Dev Cert.Kernel12Ideal.nD) → Buf (Elt Ideal) ((c.tc : Thread Cert.Kernel12Ideal.nD Cert.Kernel12Ideal.τ).loc Cert.Kernel12Ideal.main_v1_1)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v1_0) = v0 c
          ∧ r.2.mem ((c.tc : Thread Cert.Kernel12Ideal.nD Cert.Kernel12Ideal.τ).loc Cert.Kernel12Ideal.main_v1_1) = v1 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v5) = v0 c
          ∧ r.2.mem ((c.tc : Thread Cert.Reference12Ideal.nD Cert.Reference12Ideal.τ).loc Cert.Reference12Ideal.main_v8) = v1 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hPre_finite_scores : Cert.Pre_finite_scores.Facts),
    quiescent_Kernel (hKernel := hKernel)
    ∧ quiescent_KernelIdeal (hKernelIdeal := hKernelIdeal)
    ∧ quiescent_KernelIdeal_pre_finite_scores (hKernelIdeal := hKernelIdeal) (hPre_finite_scores := hPre_finite_scores)
    ∧ quiescent_ReferenceIdeal (hReferenceIdeal := hReferenceIdeal)
    ∧ quiescent_ReferenceIdeal_pre_finite_scores (hReferenceIdeal := hReferenceIdeal) (hPre_finite_scores := hPre_finite_scores)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ preserves_Kernel_KernelIdeal
    ∧ algebraic_KernelIdeal_ReferenceIdeal_pre_finite_scores (hKernelIdeal := hKernelIdeal) (hReferenceIdeal := hReferenceIdeal) (hPre_finite_scores := hPre_finite_scores)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
-- ==== Pre_finite_scores.lean ====
abbrev S4x4096x16x128 : Shape := ⟨4, ![4, 4096, 16, 128]⟩
abbrev S4x4096x4x128 : Shape := ⟨4, ![4, 4096, 4, 128]⟩
abbrev S16384x3072 : Shape := ⟨2, ![16384, 3072]⟩
abbrev S16 : Shape := ⟨1, ![16]⟩
abbrev S4x4096x4x4x128 : Shape := ⟨5, ![4, 4096, 4, 4, 128]⟩
abbrev S4x4x1 : Shape := ⟨3, ![4, 4, 1]⟩
abbrev S_ : Shape := ⟨0, ![]⟩
abbrev S4x4096x4x1x128 : Shape := ⟨5, ![4, 4096, 4, 1, 128]⟩
abbrev S1x1x4x4x1 : Shape := ⟨5, ![1, 1, 4, 4, 1]⟩

class Facts : Prop where
  shapeCasts_S4x4096x16x128_S4x4096x4x4x128 : S4x4096x16x128.ShapeCasts S4x4096x4x4x128
  shapeCasts_S16_S4x4x1 : S16.ShapeCasts S4x4x1
  bcast_S_S4x4096x4x4x128 : S_.BroadcastsInDim S4x4096x4x4x128 (![] : Fin 0 → Fin S4x4096x4x4x128.rank)
  bcast_S4x4096x4x128_S4x4096x4x1x128_0_1_2_4 : S4x4096x4x128.BroadcastsInDim S4x4096x4x1x128 (![0, 1, 2, 4] : Fin 4 → Fin S4x4096x4x1x128.rank)
  bcast_S_S4x4096x4x1x128 : S_.BroadcastsInDim S4x4096x4x1x128 (![] : Fin 0 → Fin S4x4096x4x1x128.rank)
  bcast_S4x4096x4x1x128_S4x4096x4x4x128_0_1_2_3_4 : S4x4096x4x1x128.BroadcastsInDim S4x4096x4x4x128 (![0, 1, 2, 3, 4] : Fin 5 → Fin S4x4096x4x4x128.rank)
  bcast_S_S4x4x1 : S_.BroadcastsInDim S4x4x1 (![] : Fin 0 → Fin S4x4x1.rank)
  bcast_S4x4x1_S1x1x4x4x1_2_3_4 : S4x4x1.BroadcastsInDim S1x1x4x4x1 (![2, 3, 4] : Fin 3 → Fin S1x1x4x4x1.rank)
  bcast_S1x1x4x4x1_S4x4096x4x4x128_0_1_2_3_4 : S1x1x4x4x1.BroadcastsInDim S4x4096x4x4x128 (![0, 1, 2, 3, 4] : Fin 5 → Fin S4x4096x4x4x128.rank)

variable [Facts]

def fn {F : FTy → Type} [FloatOps F] (main_arg0 : FVec F S4x4096x16x128 .f32) (main_arg1 : FVec F S4x4096x4x128 .f32) (main_arg2 : FVec F S4x4096x4x128 .f32) (main_arg3 : FVec F S16384x3072 .f32) (main_arg4 : FVec F S16 .f32) : IVec S4x4096x4x4x128 1 :=
  let main_v0 : FVec F S4x4096x4x4x128 .f32 := shapeCast S4x4096x4x4x128 main_arg0 shapeCasts_S4x4096x16x128_S4x4096x4x4x128
  let main_v1 : FVec F S4x4x1 .f32 := shapeCast S4x4x1 main_arg4 shapeCasts_S16_S4x4x1
  let main_v2 : FVec F S4x4096x4x4x128 .f32 := Host.absf main_v0
  let main_cst : FVec F S_ .f32 := constant S_ .f32 0x7F800000#32
  let main_v3 : FVec F S4x4096x4x4x128 .f32 := broadcastInDim S4x4096x4x4x128 ![] bcast_S_S4x4096x4x4x128 main_cst
  let main_v4 : IVec S4x4096x4x4x128 1 := cmpf .olt main_v2 main_v3
  let main_v5 : FVec F S4x4096x4x1x128 .f32 := broadcastInDim S4x4096x4x1x128 ![0, 1, 2, 4] bcast_S4x4096x4x128_S4x4096x4x1x128_0_1_2_4 main_arg1
  let main_v6 : FVec F S4x4096x4x1x128 .f32 := Host.absf main_v5
  let main_cst_0 : FVec F S_ .f32 := constant S_ .f32 0x7F800000#32
  let main_v7 : FVec F S4x4096x4x1x128 .f32 := broadcastInDim S4x4096x4x1x128 ![] bcast_S_S4x4096x4x1x128 main_cst_0
  let main_v8 : IVec S4x4096x4x1x128 1 := cmpf .olt main_v6 main_v7
  let main_v9 : IVec S4x4096x4x4x128 1 := broadcastInDim S4x4096x4x4x128 ![0, 1, 2, 3, 4] bcast_S4x4096x4x1x128_S4x4096x4x4x128_0_1_2_3_4 main_v8
  let main_v10 : IVec S4x4096x4x4x128 1 := andi main_v4 main_v9
  let main_v11 : FVec F S4x4x1 .f32 := Host.absf main_v1
  let main_cst_1 : FVec F S_ .f32 := constant S_ .f32 0x7F800000#32
  let main_v12 : FVec F S4x4x1 .f32 := broadcastInDim S4x4x1 ![] bcast_S_S4x4x1 main_cst_1
  let main_v13 : IVec S4x4x1 1 := cmpf .olt main_v11 main_v12
  let main_v14 : IVec S1x1x4x4x1 1 := broadcastInDim S1x1x4x4x1 ![2, 3, 4] bcast_S4x4x1_S1x1x4x4x1_2_3_4 main_v13
  let main_v15 : IVec S4x4096x4x4x128 1 := broadcastInDim S4x4096x4x4x128 ![0, 1, 2, 3, 4] bcast_S1x1x4x4x1_S4x4096x4x4x128_0_1_2_3_4 main_v14
  let main_v16 : IVec S4x4096x4x4x128 1 := andi main_v10 main_v15
  main_v16
-- ==== Kernel.lean ====
abbrev S4x4096x16x128 : Shape := ⟨4, ![4, 4096, 16, 128]⟩
abbrev S4x4096x4x128 : Shape := ⟨4, ![4, 4096, 4, 128]⟩
abbrev S16384x3072 : Shape := ⟨2, ![16384, 3072]⟩
abbrev S16 : Shape := ⟨1, ![16]⟩
abbrev S16384x2048 : Shape := ⟨2, ![16384, 2048]⟩
abbrev S16384x512 : Shape := ⟨2, ![16384, 512]⟩
abbrev S16384x6144 : Shape := ⟨2, ![16384, 6144]⟩
abbrev S128x2048 : Shape := ⟨2, ![128, 2048]⟩
abbrev S128x512 : Shape := ⟨2, ![128, 512]⟩
abbrev S512x256 : Shape := ⟨2, ![512, 256]⟩
abbrev S512x1 : Shape := ⟨2, ![512, 1]⟩
abbrev S128x128 : Shape := ⟨2, ![128, 128]⟩
abbrev S512x128 : Shape := ⟨2, ![512, 128]⟩
abbrev S256x128 : Shape := ⟨2, ![256, 128]⟩
abbrev S1 : Shape := ⟨1, ![1]⟩
abbrev S512 : Shape := ⟨1, ![512]⟩

abbrev nBuf : Space → Nat
  | .hbm => 11
  | .vmem => 12
  | .smem => 1
  | _ => 0

abbrev bufTy : (tb : Table) → Fin (tcTables nBuf tb) → BufTy
  | .hbm, ⟨0, _⟩ => ⟨S4x4096x16x128, .f32⟩
  | .hbm, ⟨1, _⟩ => ⟨S4x4096x4x128, .f32⟩
  | .hbm, ⟨2, _⟩ => ⟨S4x4096x4x128, .f32⟩
  | .hbm, ⟨3, _⟩ => ⟨S16384x3072, .f32⟩
  | .hbm, ⟨4, _⟩ => ⟨S16, .f32⟩
  | .hbm, ⟨5, _⟩ => ⟨S16384x2048, .f32⟩
  | .hbm, ⟨6, _⟩ => ⟨S16384x512, .f32⟩
  | .hbm, ⟨7, _⟩ => ⟨S16384x512, .f32⟩
  | .hbm, ⟨8, _⟩ => ⟨S16384x6144, .f32⟩
  | .hbm, ⟨9, _⟩ => ⟨S16384x6144, .bf16⟩
  | .hbm, ⟨10, _⟩ => ⟨S16384x2048, .bf16⟩
  | .local _ .vmem, ⟨0, _⟩ => ⟨S128x2048, .bf16⟩
  | .local _ .vmem, ⟨1, _⟩ => ⟨S128x2048, .bf16⟩
  | .local _ .vmem, ⟨2, _⟩ => ⟨S128x512, .bf16⟩
  | .local _ .vmem, ⟨3, _⟩ => ⟨S128x512, .bf16⟩
  | .local _ .vmem, ⟨4, _⟩ => ⟨S128x512, .bf16⟩
  | .local _ .vmem, ⟨5, _⟩ => ⟨S128x512, .bf16⟩
  | .local _ .vmem, ⟨6, _⟩ => ⟨S128x512, .bf16⟩
  | .local _ .vmem, ⟨7, _⟩ => ⟨S128x512, .bf16⟩
  | .local _ .vmem, ⟨8, _⟩ => ⟨S128x512, .bf16⟩
  | .local _ .vmem, ⟨9, _⟩ => ⟨S128x512, .bf16⟩
  | .local _ .vmem, ⟨10, _⟩ => ⟨S128x2048, .bf16⟩
  | .local _ .vmem, ⟨11, _⟩ => ⟨S128x2048, .bf16⟩
  | .local _ .smem, ⟨0, _⟩ => ⟨S16, .f32⟩
  | _, _ => ⟨S4x4096x16x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .smem, ⟨0, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨2, ![4, 32], ![false, false]⟩

def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let c1_i32 : BitVec 32 := 1#32
  let v1 : BitVec 32 := Scalar.subi arg1 c1_i32
  let c0_i32 : BitVec 32 := 0#32
  let v2 : BitVec 32 := Scalar.maxsi v1 c0_i32
  let v3 : BitVec 32 := Scalar.addi v0 v2
  let c4_i32 : BitVec 32 := 4#32
  let c0_i32_0 : BitVec 32 := 0#32
  ![v3.toNat, c4_i32.toNat]

def cc0_transform_3 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c4_i32 : BitVec 32 := 4#32
  let c0_i32 : BitVec 32 := 0#32
  ![v1.toNat, c4_i32.toNat]

def cc0_transform_4 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let c1_i32 : BitVec 32 := 1#32
  let v1 : BitVec 32 := Scalar.subi arg1 c1_i32
  let c0_i32 : BitVec 32 := 0#32
  let v2 : BitVec 32 := Scalar.maxsi v1 c0_i32
  let v3 : BitVec 32 := Scalar.addi v0 v2
  let c5_i32 : BitVec 32 := 5#32
  let c0_i32_0 : BitVec 32 := 0#32
  ![v3.toNat, c5_i32.toNat]

def cc0_transform_5 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c5_i32 : BitVec 32 := 5#32
  let c0_i32 : BitVec 32 := 0#32
  ![v1.toNat, c5_i32.toNat]

def cc0_transform_6 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

abbrev stage0_0 : Fin 1 → Memref sig .tc .smem S16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S128x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S128x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S128x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S128x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S128x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== KernelIdeal.lean ====
variable {F : FTy → Type} [FloatOps F] [Named F]
def κ : String → Option EReal := fun
  | "log2e" => some (((Real.log 2)⁻¹ : ℝ) : EReal)
  | "mask" => some ⊥
  | "scale" => some ((((Real.log 2) * (Real.sqrt 128))⁻¹ : ℝ) : EReal)
  | _ => none
-- ==== ReferenceIdeal.lean ====
abbrev S4x4096x16x128 : Shape := ⟨4, ![4, 4096, 16, 128]⟩
abbrev S4x4096x4x128 : Shape := ⟨4, ![4, 4096, 4, 128]⟩
abbrev S16384x3072 : Shape := ⟨2, ![16384, 3072]⟩
abbrev S16 : Shape := ⟨1, ![16]⟩
abbrev S4x32x128x4x4x128 : Shape := ⟨6, ![4, 32, 128, 4, 4, 128]⟩
abbrev S4x32x128x4x128 : Shape := ⟨5, ![4, 32, 128, 4, 128]⟩
abbrev S_ : Shape := ⟨0, ![]⟩
abbrev S4x33x128x4x128 : Shape := ⟨5, ![4, 33, 128, 4, 128]⟩
abbrev S4x32x256x4x128 : Shape := ⟨5, ![4, 32, 256, 4, 128]⟩
abbrev S4x32x4x256x128x4 : Shape := ⟨6, ![4, 32, 4, 256, 128, 4]⟩
abbrev S4x32x4x4x128x256 : Shape := ⟨6, ![4, 32, 4, 4, 128, 256]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S32 : Shape := ⟨1, ![32]⟩
abbrev S32x1x1 : Shape := ⟨3, ![32, 1, 1]⟩
abbrev S1x1x256 : Shape := ⟨3, ![1, 1, 256]⟩
abbrev S32x1x256 : Shape := ⟨3, ![32, 1, 256]⟩
abbrev S1x128x256 : Shape := ⟨3, ![1, 128, 256]⟩
abbrev S32x128x256 : Shape := ⟨3, ![32, 128, 256]⟩
abbrev S1x32x1x1x128x256 : Shape := ⟨6, ![1, 32, 1, 1, 128, 256]⟩
abbrev S1x1x4x4x1x1 : Shape := ⟨6, ![1, 1, 4, 4, 1, 1]⟩
abbrev S4x32x4x4x128x1 : Shape := ⟨6, ![4, 32, 4, 4, 128, 1]⟩
abbrev S4x32x4x4x128x257 : Shape := ⟨6, ![4, 32, 4, 4, 128, 257]⟩
abbrev S4x32x4x4x128 : Shape := ⟨5, ![4, 32, 4, 4, 128]⟩
abbrev S4x32x4x128x4x128 : Shape := ⟨6, ![4, 32, 4, 128, 4, 128]⟩
abbrev S16384x2048 : Shape := ⟨2, ![16384, 2048]⟩

abbrev nBuf : Space → Nat
  | .hbm => 93
  | .vmem => 0
  | .smem => 0
  | _ => 0

abbrev bufTy : (tb : Table) → Fin (tcTables nBuf tb) → BufTy
  | .hbm, ⟨0, _⟩ => ⟨S4x4096x16x128, .f32⟩
  | .hbm, ⟨1, _⟩ => ⟨S4x4096x4x128, .f32⟩
  | .hbm, ⟨2, _⟩ => ⟨S4x4096x4x128, .f32⟩
  | .hbm, ⟨3, _⟩ => ⟨S16384x3072, .f32⟩
  | .hbm, ⟨4, _⟩ => ⟨S16, .f32⟩
  | .hbm, ⟨5, _⟩ => ⟨S4x32x128x4x4x128, .f32⟩
  | .hbm, ⟨6, _⟩ => ⟨S4x32x128x4x128, .f32⟩
  | .hbm, ⟨7, _⟩ => ⟨S_, .i32⟩
  | .hbm, ⟨8, _⟩ => ⟨S_, .f32⟩
  | .hbm, ⟨9, _⟩ => ⟨S4x33x128x4x128, .f32⟩
  | .hbm, ⟨10, _⟩ => ⟨S4x32x128x4x128, .f32⟩
  | .hbm, ⟨11, _⟩ => ⟨S4x32x128x4x128, .f32⟩
  | .hbm, ⟨12, _⟩ => ⟨S4x32x256x4x128, .f32⟩
  | .hbm, ⟨13, _⟩ => ⟨S4x32x128x4x128, .f32⟩
  | .hbm, ⟨14, _⟩ => ⟨S_, .i32⟩
  | .hbm, ⟨15, _⟩ => ⟨S_, .f32⟩
  | .hbm, ⟨16, _⟩ => ⟨S4x33x128x4x128, .f32⟩
  | .hbm, ⟨17, _⟩ => ⟨S4x32x128x4x128, .f32⟩
  | .hbm, ⟨18, _⟩ => ⟨S4x32x128x4x128, .f32⟩
  | .hbm, ⟨19, _⟩ => ⟨S4x32x256x4x128, .f32⟩
  | .hbm, ⟨20, _⟩ => ⟨S4x32x4x256x128x4, .f32⟩
  | .hbm, ⟨21, _⟩ => ⟨S4x32x4x4x128x256, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S4x32x4x4x128x256, .f32⟩
  | .hbm, ⟨27, _⟩ => ⟨S4x32x4x4x128x256, .f32⟩
  | .hbm, ⟨28, _⟩ => ⟨S128, .i32⟩
  | .hbm, ⟨29, _⟩ => ⟨S128x1, .i32⟩
  | .hbm, ⟨30, _⟩ => ⟨S256, .i32⟩
  | .hbm, ⟨31, _⟩ => ⟨S1x256, .i32⟩
  | .hbm, ⟨32, _⟩ => ⟨S128x256, .i32⟩
  | .hbm, ⟨33, _⟩ => ⟨S128x256, .i32⟩
  | .hbm, ⟨34, _⟩ => ⟨S128x256, .i32⟩
  | .hbm, ⟨35, _⟩ => ⟨S_, .i32⟩
  | .hbm, ⟨36, _⟩ => ⟨S128x256, .i32⟩
  | .hbm, ⟨37, _⟩ => ⟨S128x256, .i32⟩
  | .hbm, ⟨38, _⟩ => ⟨S32, .i32⟩
  | .hbm, ⟨39, _⟩ => ⟨S32x1x1, .i32⟩
  | .hbm, ⟨40, _⟩ => ⟨S_, .i32⟩
  | .hbm, ⟨41, _⟩ => ⟨S32x1x1, .i32⟩
  | .hbm, ⟨42, _⟩ => ⟨S32x1x1, .i32⟩
  | .hbm, ⟨43, _⟩ => ⟨S_, .i32⟩
  | .hbm, ⟨44, _⟩ => ⟨S32x1x1, .i32⟩
  | .hbm, ⟨45, _⟩ => ⟨S32x1x1, .i32⟩
  | .hbm, ⟨46, _⟩ => ⟨S1x1x256, .i32⟩
  | .hbm, ⟨47, _⟩ => ⟨S32x1x256, .i32⟩
  | .hbm, ⟨48, _⟩ => ⟨S32x1x256, .i32⟩
  | .hbm, ⟨49, _⟩ => ⟨S32x1x256, .i32⟩
  | .hbm, ⟨50, _⟩ => ⟨S_, .i32⟩
  | .hbm, ⟨51, _⟩ => ⟨S128x256, .i32⟩
  | .hbm, ⟨52, _⟩ => ⟨S128x256, .i1⟩
  | .hbm, ⟨53, _⟩ => ⟨S1x128x256, .i1⟩
  | .hbm, ⟨54, _⟩ => ⟨S_, .i32⟩
  | .hbm, ⟨55, _⟩ => ⟨S128x256, .i32⟩
  | .hbm, ⟨56, _⟩ => ⟨S128x256, .i1⟩
  | .hbm, ⟨57, _⟩ => ⟨S1x128x256, .i1⟩
  | .hbm, ⟨58, _⟩ => ⟨S1x128x256, .i1⟩
  | .hbm, ⟨59, _⟩ => ⟨S_, .i32⟩
  | .hbm, ⟨60, _⟩ => ⟨S32x1x256, .i32⟩
  | .hbm, ⟨61, _⟩ => ⟨S32x1x256, .i1⟩
  | .hbm, ⟨62, _⟩ => ⟨S32x128x256, .i1⟩
  | .hbm, ⟨63, _⟩ => ⟨S32x128x256, .i1⟩
  | .hbm, ⟨64, _⟩ => ⟨S32x128x256, .i1⟩
  | .hbm, ⟨65, _⟩ => ⟨S1x32x1x1x128x256, .i1⟩
  | .hbm, ⟨66, _⟩ => ⟨S_, .f32⟩
  | .hbm, ⟨67, _⟩ => ⟨S_, .f32⟩
  | .hbm, ⟨68, _⟩ => ⟨S4x32x4x4x128x256, .i1⟩
  | .hbm, ⟨69, _⟩ => ⟨S4x32x4x4x128x256, .f32⟩
  | .hbm, ⟨70, _⟩ => ⟨S4x32x4x4x128x256, .f32⟩
  | .hbm, ⟨71, _⟩ => ⟨S1x1x4x4x1x1, .f32⟩
  | .hbm, ⟨72, _⟩ => ⟨S4x32x4x4x128x1, .f32⟩
  | .hbm, ⟨73, _⟩ => ⟨S4x32x4x4x128x257, .f32⟩
  | .hbm, ⟨74, _⟩ => ⟨S_, .f32⟩
  | .hbm, ⟨75, _⟩ => ⟨S4x32x4x4x128, .f32⟩
  | .hbm, ⟨76, _⟩ => ⟨S_, .f32⟩
  | .hbm, ⟨77, _⟩ => ⟨S4x32x4x4x128, .f32⟩
  | .hbm, ⟨78, _⟩ => ⟨S4x32x4x4x128, .f32⟩
  | .hbm, ⟨79, _⟩ => ⟨S4x32x4x4x128x1, .f32⟩
  | .hbm, ⟨80, _⟩ => ⟨S4x32x4x4x128x257, .f32⟩
  | .hbm, ⟨81, _⟩ => ⟨S4x32x4x4x128x257, .f32⟩
  | .hbm, ⟨82, _⟩ => ⟨S4x32x4x4x128x257, .f32⟩
  | .hbm, ⟨83, _⟩ => ⟨S_, .f32⟩
  | .hbm, ⟨84, _⟩ => ⟨S4x32x4x4x128, .f32⟩
  | .hbm, ⟨85, _⟩ => ⟨S4x32x4x4x128x1, .f32⟩
  | .hbm, ⟨86, _⟩ => ⟨S4x32x4x4x128x257, .f32⟩
  | .hbm, ⟨87, _⟩ => ⟨S4x32x4x4x128x257, .f32⟩
  | .hbm, ⟨88, _⟩ => ⟨S4x32x4x4x128x256, .f32⟩
  | .hbm, ⟨89, _⟩ => ⟨S4x32x4x128x4x128, .f32⟩
  | .hbm, ⟨90, _⟩ => ⟨S4x32x128x4x4x128, .f32⟩
  | .hbm, ⟨91, _⟩ => ⟨S16384x2048, .f32⟩
  | .hbm, ⟨92, _⟩ => ⟨S16384x2048, .bf16⟩
  | _, _ => ⟨S4x4096x16x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_c : Ref sig .tc := ⟨.hbm, 7, rfl⟩
abbrev main_call0_v0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_c_0 : Ref sig .tc := ⟨.hbm, 14, rfl⟩
abbrev main_call1_v0 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst : Ref sig .tc := ⟨.hbm, 22, rfl⟩
abbrev main_v13 : Ref sig .tc := ⟨.hbm, 23, rfl⟩
abbrev main_cst_1 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_c_2 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_c_3 : Ref sig .tc := ⟨.hbm, 40, rfl⟩
abbrev main_v28 : Ref sig .tc := ⟨.hbm, 41, rfl⟩
abbrev main_v29 : Ref sig .tc := ⟨.hbm, 42, rfl⟩
abbrev main_c_4 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_c_5 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_c_6 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_c_7 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_cst_8 : Ref sig .tc := ⟨.hbm, 66, rfl⟩
abbrev main_call2_v0 : Ref sig .tc := ⟨.hbm, 67, rfl⟩
abbrev main_call2_v1 : Ref sig .tc := ⟨.hbm, 68, rfl⟩
abbrev main_call2_v2 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_cst_9 : Ref sig .tc := ⟨.hbm, 74, rfl⟩
abbrev main_v53 : Ref sig .tc := ⟨.hbm, 75, rfl⟩
abbrev main_cst_10 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_cst_11 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩

abbrev nD : Nat := 1
abbrev τ : Topo := Topo.v7x

variable {F : FTy → Type} [FloatOps F]
-- ==== Kernel2.lean ====
abbrev S16384x4096 : Shape := ⟨2, ![16384, 4096]⟩
abbrev S4096 : Shape := ⟨1, ![4096]⟩
abbrev S4096x12288 : Shape := ⟨2, ![4096, 12288]⟩
abbrev S16384x2048 : Shape := ⟨2, ![16384, 2048]⟩
abbrev S2048x4096 : Shape := ⟨2, ![2048, 4096]⟩
abbrev S16384x1024 : Shape := ⟨2, ![16384, 1024]⟩
abbrev S1024x4096 : Shape := ⟨2, ![1024, 4096]⟩
abbrev S4x4096x8192 : Shape := ⟨3, ![4, 4096, 8192]⟩
abbrev S4x4096x4096 : Shape := ⟨3, ![4, 4096, 4096]⟩
abbrev S1x4096 : Shape := ⟨2, ![1, 4096]⟩
abbrev S_ : Shape := ⟨0, ![]⟩
abbrev S16384 : Shape := ⟨1, ![16384]⟩
abbrev S16384x1 : Shape := ⟨2, ![16384, 1]⟩
abbrev S4096x8192 : Shape := ⟨2, ![4096, 8192]⟩
abbrev S4096x4096 : Shape := ⟨2, ![4096, 4096]⟩
abbrev S1024x1 : Shape := ⟨2, ![1024, 1]⟩
abbrev S1024x2048 : Shape := ⟨2, ![1024, 2048]⟩
abbrev S1024x1024 : Shape := ⟨2, ![1024, 1024]⟩
abbrev S4096x256 : Shape := ⟨2, ![4096, 256]⟩
abbrev S2048x256 : Shape := ⟨2, ![2048, 256]⟩
abbrev S1024x256 : Shape := ⟨2, ![1024, 256]⟩
abbrev S1x16x8192 : Shape := ⟨3, ![1, 16, 8192]⟩
abbrev S1x16x4096 : Shape := ⟨3, ![1, 16, 4096]⟩
abbrev S16x8192 : Shape := ⟨2, ![16, 8192]⟩
abbrev S16x4096 : Shape := ⟨2, ![16, 4096]⟩

abbrev nBuf : Space → Nat
  | .hbm => 29
  | .vmem => 27
  | .smem => 0
  | _ => 0

abbrev bufTy : (tb : Table) → Fin (tcTables nBuf tb) → BufTy
  | .hbm, ⟨0, _⟩ => ⟨S16384x4096, .f32⟩
  | .hbm, ⟨1, _⟩ => ⟨S4096, .f32⟩
  | .hbm, ⟨2, _⟩ => ⟨S4096x12288, .f32⟩
  | .hbm, ⟨3, _⟩ => ⟨S16384x2048, .f32⟩
  | .hbm, ⟨4, _⟩ => ⟨S2048x4096, .f32⟩
  | .hbm, ⟨5, _⟩ => ⟨S16384x1024, .f32⟩
  | .hbm, ⟨6, _⟩ => ⟨S1024x4096, .f32⟩
  | .hbm, ⟨7, _⟩ => ⟨S16384x1024, .f32⟩
  | .hbm, ⟨8, _⟩ => ⟨S1024x4096, .f32⟩
  | .hbm, ⟨9, _⟩ => ⟨S4x4096x8192, .f32⟩
  | .hbm, ⟨10, _⟩ => ⟨S4x4096x4096, .f32⟩
  | .hbm, ⟨11, _⟩ => ⟨S1x4096, .f32⟩
  | .hbm, ⟨12, _⟩ => ⟨S16384x4096, .f32⟩
  | .hbm, ⟨13, _⟩ => ⟨S16384x4096, .f32⟩
  | .hbm, ⟨14, _⟩ => ⟨S16384x4096, .bf16⟩
  | .hbm, ⟨15, _⟩ => ⟨S16384x4096, .f32⟩
  | .hbm, ⟨16, _⟩ => ⟨S_, .f32⟩
  | .hbm, ⟨17, _⟩ => ⟨S16384, .f32⟩
  | .hbm, ⟨18, _⟩ => ⟨S16384x1, .f32⟩
  | .hbm, ⟨19, _⟩ => ⟨S4096x12288, .bf16⟩
  | .hbm, ⟨20, _⟩ => ⟨S16384x2048, .bf16⟩
  | .hbm, ⟨21, _⟩ => ⟨S2048x4096, .bf16⟩
  | .hbm, ⟨22, _⟩ => ⟨S16384x1024, .bf16⟩
  | .hbm, ⟨23, _⟩ => ⟨S1024x4096, .bf16⟩
  | .hbm, ⟨24, _⟩ => ⟨S16384x1024, .bf16⟩
  | .hbm, ⟨25, _⟩ => ⟨S1024x4096, .bf16⟩
  | .hbm, ⟨26, _⟩ => ⟨S16384x4096, .bf16⟩
  | .hbm, ⟨27, _⟩ => ⟨S4096x8192, .bf16⟩
  | .hbm, ⟨28, _⟩ => ⟨S4096x4096, .bf16⟩
  | .local _ .vmem, ⟨0, _⟩ => ⟨S1024x4096, .bf16⟩
  | .local _ .vmem, ⟨1, _⟩ => ⟨S1024x1, .f32⟩
  | .local _ .vmem, ⟨2, _⟩ => ⟨S1024x2048, .bf16⟩
  | .local _ .vmem, ⟨3, _⟩ => ⟨S1024x1024, .bf16⟩
  | .local _ .vmem, ⟨4, _⟩ => ⟨S1024x1024, .bf16⟩
  | .local _ .vmem, ⟨5, _⟩ => ⟨S4096x256, .bf16⟩
  | .local _ .vmem, ⟨6, _⟩ => ⟨S4096x256, .bf16⟩
  | .local _ .vmem, ⟨7, _⟩ => ⟨S4096x256, .bf16⟩
  | .local _ .vmem, ⟨8, _⟩ => ⟨S4096x256, .bf16⟩
  | .local _ .vmem, ⟨9, _⟩ => ⟨S4096x256, .bf16⟩
  | .local _ .vmem, ⟨10, _⟩ => ⟨S4096x256, .bf16⟩
  | .local _ .vmem, ⟨11, _⟩ => ⟨S2048x256, .bf16⟩
  | .local _ .vmem, ⟨12, _⟩ => ⟨S2048x256, .bf16⟩
  | .local _ .vmem, ⟨13, _⟩ => ⟨S1024x256, .bf16⟩
  | .local _ .vmem, ⟨14, _⟩ => ⟨S1024x256, .bf16⟩
  | .local _ .vmem, ⟨15, _⟩ => ⟨S1024x256, .bf16⟩
  | .local _ .vmem, ⟨16, _⟩ => ⟨S1024x256, .bf16⟩
  | .local _ .vmem, ⟨17, _⟩ => ⟨S1x16x8192, .f32⟩
  | .local _ .vmem, ⟨18, _⟩ => ⟨S1x16x8192, .f32⟩
  | .local _ .vmem, ⟨19, _⟩ => ⟨S1x16x4096, .f32⟩
  | .local _ .vmem, ⟨20, _⟩ => ⟨S1x16x4096, .f32⟩
  | .local _ .vmem, ⟨21, _⟩ => ⟨S1024x256, .bf16⟩
  | .local _ .vmem, ⟨22, _⟩ => ⟨S1024x256, .bf16⟩
  | .local _ .vmem, ⟨23, _⟩ => ⟨S16x8192, .bf16⟩
  | .local _ .vmem, ⟨24, _⟩ => ⟨S16x8192, .bf16⟩
  | .local _ .vmem, ⟨25, _⟩ => ⟨S16x4096, .bf16⟩
  | .local _ .vmem, ⟨26, _⟩ => ⟨S16x4096, .bf16⟩
  | _, _ => ⟨S16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_cst : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14_0 : Ref sig .tc := ⟨.hbm, 26, rfl⟩
abbrev main_v14_1 : Ref sig .tc := ⟨.hbm, 27, rfl⟩
abbrev main_v14_2 : Ref sig .tc := ⟨.hbm, 28, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg5_1 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_stg14_0 : Ref sig .tc := ⟨.vmem, 23, rfl⟩
abbrev cc0_stg14_1 : Ref sig .tc := ⟨.vmem, 24, rfl⟩
abbrev cc0_stg15_0 : Ref sig .tc := ⟨.vmem, 25, rfl⟩
abbrev cc0_stg15_1 : Ref sig .tc := ⟨.vmem, 26, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem5_1 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem13_1 : DmaSem sig := 22
abbrev cc0_sem14_0 : DmaSem sig := 23
abbrev cc0_sem14_1 : DmaSem sig := 24
abbrev cc0_sem15_0 : DmaSem sig := 25
abbrev cc0_sem15_1 : DmaSem sig := 26

abbrev nD : Nat := 1
abbrev τ : Topo := Topo.v7x

variable {F : FTy → Type} [FloatOps F]

abbrev grid0 : Pipeline.Grid := ⟨2, ![16, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![c0_i32_0.toNat, v0.toNat]

def cc0_transform_6 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi arg1 c16_i32
  let c0_i32 : BitVec 32 := 0#32
  let c0_i32_0 : BitVec 32 := 0#32
  ![c0_i32.toNat, v0.toNat]

def cc0_transform_7 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.addi arg1 c32_i32
  let c0_i32 : BitVec 32 := 0#32
  let c0_i32_0 : BitVec 32 := 0#32
  ![c0_i32.toNat, v0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![c0_i32_0.toNat, v0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![c0_i32_0.toNat, v0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![c0_i32_0.toNat, v0.toNat]

def cc0_transform_11 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c255_i32 : BitVec 32 := 255#32
  let v2 : BitVec 32 := Scalar.minsi v1 c255_i32
  let c0_i32 : BitVec 32 := 0#32
  let c0_i32_0 : BitVec 32 := 0#32
  let c0_i32_1 : BitVec 32 := 0#32
  ![c0_i32.toNat, v2.toNat, c0_i32_0.toNat]

def cc0_transform_12 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c255_i32 : BitVec 32 := 255#32
  let v2 : BitVec 32 := Scalar.minsi v1 c255_i32
  let c0_i32 : BitVec 32 := 0#32
  let c0_i32_0 : BitVec 32 := 0#32
  let c0_i32_1 : BitVec 32 := 0#32
  ![c0_i32.toNat, v2.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_14 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c255_i32 : BitVec 32 := 255#32
  let v2 : BitVec 32 := Scalar.minsi v1 c255_i32
  let c0_i32 : BitVec 32 := 0#32
  let c0_i32_0 : BitVec 32 := 0#32
  ![v2.toNat, c0_i32.toNat]

def cc0_transform_15 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c255_i32 : BitVec 32 := 255#32
  let v2 : BitVec 32 := Scalar.minsi v1 c255_i32
  let c0_i32 : BitVec 32 := 0#32
  let c0_i32_0 : BitVec 32 := 0#32
  ![v2.toNat, c0_i32.toNat]

abbrev stage0_0 : Fin 1 → Memref sig .tc .vmem S1024x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S1024x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 1 → Memref sig .tc .vmem S1024x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, false]

abbrev stage0_5 : Fin 2 → Memref sig .tc .vmem S4096x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S4096x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S4096x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S2048x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S1024x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true]

abbrev stage0_10 : Fin 2 → Memref sig .tc .vmem S1024x256 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![false, true]

abbrev stage0_11 : Fin 2 → Memref sig .tc .vmem S1x16x8192 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x16x4096 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1024x256 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S16x8192 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S16x4096 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]
-- ==== Reference2Ideal.lean ====
abbrev S16384x4096 : Shape := ⟨2, ![16384, 4096]⟩
abbrev S4096 : Shape := ⟨1, ![4096]⟩
abbrev S4096x12288 : Shape := ⟨2, ![4096, 12288]⟩
abbrev S16384x2048 : Shape := ⟨2, ![16384, 2048]⟩
abbrev S2048x4096 : Shape := ⟨2, ![2048, 4096]⟩
abbrev S16384x1024 : Shape := ⟨2, ![16384, 1024]⟩
abbrev S1024x4096 : Shape := ⟨2, ![1024, 4096]⟩
abbrev S4x4096x8192 : Shape := ⟨3, ![4, 4096, 8192]⟩
abbrev S4x4096x4096 : Shape := ⟨3, ![4, 4096, 4096]⟩
abbrev S_ : Shape := ⟨0, ![]⟩
abbrev S16384 : Shape := ⟨1, ![16384]⟩
abbrev S16384x1 : Shape := ⟨2, ![16384, 1]⟩
abbrev S1x4096 : Shape := ⟨2, ![1, 4096]⟩
abbrev S16384x12288 : Shape := ⟨2, ![16384, 12288]⟩
abbrev S1x4096x8192 : Shape := ⟨3, ![1, 4096, 8192]⟩
abbrev S4096x8192 : Shape := ⟨2, ![4096, 8192]⟩
abbrev S1x4096x4096 : Shape := ⟨3, ![1, 4096, 4096]⟩
abbrev S4096x4096 : Shape := ⟨2, ![4096, 4096]⟩

abbrev nBuf : Space → Nat
  | .hbm => 54
  | .vmem => 0
  | .smem => 0
  | _ => 0

abbrev bufTy : (tb : Table) → Fin (tcTables nBuf tb) → BufTy
  | .hbm, ⟨0, _⟩ => ⟨S16384x4096, .f32⟩
  | .hbm, ⟨1, _⟩ => ⟨S4096, .f32⟩
  | .hbm, ⟨2, _⟩ => ⟨S4096x12288, .f32⟩
  | .hbm, ⟨3, _⟩ => ⟨S16384x2048, .f32⟩
  | .hbm, ⟨4, _⟩ => ⟨S2048x4096, .f32⟩
  | .hbm, ⟨5, _⟩ => ⟨S16384x1024, .f32⟩
  | .hbm, ⟨6, _⟩ => ⟨S1024x4096, .f32⟩
  | .hbm, ⟨7, _⟩ => ⟨S16384x1024, .f32⟩
  | .hbm, ⟨8, _⟩ => ⟨S1024x4096, .f32⟩
  | .hbm, ⟨9, _⟩ => ⟨S4x4096x8192, .f32⟩
  | .hbm, ⟨10, _⟩ => ⟨S4x4096x4096, .f32⟩
  | .hbm, ⟨11, _⟩ => ⟨S16384x4096, .f32⟩
  | .hbm, ⟨12, _⟩ => ⟨S_, .f32⟩
  | .hbm, ⟨13, _⟩ => ⟨S16384, .f32⟩
  | .hbm, ⟨14, _⟩ => ⟨S16384x1, .f32⟩
  | .hbm, ⟨15, _⟩ => ⟨S_, .f32⟩
  | .hbm, ⟨16, _⟩ => ⟨S16384x1, .f32⟩
  | .hbm, ⟨17, _⟩ => ⟨S16384x1, .f32⟩
  | .hbm, ⟨18, _⟩ => ⟨S_, .f32⟩
  | .hbm, ⟨19, _⟩ => ⟨S16384x1, .f32⟩
  | .hbm, ⟨20, _⟩ => ⟨S16384x1, .f32⟩
  | .hbm, ⟨21, _⟩ => ⟨S16384x1, .f32⟩
  | .hbm, ⟨22, _⟩ => ⟨S16384x4096, .f32⟩
  | .hbm, ⟨23, _⟩ => ⟨S16384x4096, .f32⟩
  | .hbm, ⟨24, _⟩ => ⟨S1x4096, .f32⟩
  | .hbm, ⟨25, _⟩ => ⟨S16384x4096, .f32⟩
  | .hbm, ⟨26, _⟩ => ⟨S16384x4096, .f32⟩
  | .hbm, ⟨27, _⟩ => ⟨S16384x12288, .f32⟩
  | .hbm, ⟨28, _⟩ => ⟨S16384x12288, .f32⟩
  | .hbm, ⟨29, _⟩ => ⟨S16384x12288, .f32⟩
  | .hbm, ⟨30, _⟩ => ⟨S_, .f32⟩
  | .hbm, ⟨31, _⟩ => ⟨S16384x12288, .f32⟩
  | .hbm, ⟨32, _⟩ => ⟨S16384x12288, .f32⟩
  | .hbm, ⟨33, _⟩ => ⟨S_, .f32⟩
  | .hbm, ⟨34, _⟩ => ⟨S16384x12288, .f32⟩
  | .hbm, ⟨35, _⟩ => ⟨S16384x12288, .f32⟩
  | .hbm, ⟨36, _⟩ => ⟨S16384x4096, .f32⟩
  | .hbm, ⟨37, _⟩ => ⟨S16384x4096, .f32⟩
  | .hbm, ⟨38, _⟩ => ⟨S16384x4096, .f32⟩
  | .hbm, ⟨39, _⟩ => ⟨S16384x4096, .f32⟩
  | .hbm, ⟨40, _⟩ => ⟨S16384x4096, .f32⟩
  | .hbm, ⟨41, _⟩ => ⟨S16384x4096, .f32⟩
  | .hbm, ⟨42, _⟩ => ⟨S16384x4096, .f32⟩
  | .hbm, ⟨43, _⟩ => ⟨S16384x4096, .f32⟩
  | .hbm, ⟨44, _⟩ => ⟨S16384x4096, .f32⟩
  | .hbm, ⟨45, _⟩ => ⟨S16384x4096, .f32⟩
  | .hbm, ⟨46, _⟩ => ⟨S16384x4096, .f32⟩
  | .hbm, ⟨47, _⟩ => ⟨S16384x4096, .bf16⟩
  | .hbm, ⟨48, _⟩ => ⟨S1x4096x8192, .f32⟩
  | .hbm, ⟨49, _⟩ => ⟨S4096x8192, .f32⟩
  | .hbm, ⟨50, _⟩ => ⟨S4096x8192, .bf16⟩
  | .hbm, ⟨51, _⟩ => ⟨S1x4096x4096, .f32⟩
  | .hbm, ⟨52, _⟩ => ⟨S4096x4096, .f32⟩
  | .hbm, ⟨53, _⟩ => ⟨S4096x4096, .bf16⟩
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_cst : Ref sig .tc := ⟨.hbm, 12, rfl⟩
abbrev main_v1 : Ref sig .tc := ⟨.hbm, 13, rfl⟩
abbrev main_v2 : Ref sig .tc := ⟨.hbm, 14, rfl⟩
abbrev main_cst_0 : Ref sig .tc := ⟨.hbm, 15, rfl⟩
abbrev main_v3 : Ref sig .tc := ⟨.hbm, 16, rfl⟩
abbrev main_v4 : Ref sig .tc := ⟨.hbm, 17, rfl⟩
abbrev main_cst_1 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_cst_2 : Ref sig .tc := ⟨.hbm, 30, rfl⟩
abbrev main_v16 : Ref sig .tc := ⟨.hbm, 31, rfl⟩
abbrev main_v17 : Ref sig .tc := ⟨.hbm, 32, rfl⟩
abbrev main_cst_3 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩

abbrev nD : Nat := 1
abbrev τ : Topo := Topo.v7x

variable {F : FTy → Type} [FloatOps F]
-- ==== Kernel3.lean ====
abbrev S16384x4096 : Shape := ⟨2, ![16384, 4096]⟩
abbrev S4096 : Shape := ⟨1, ![4096]⟩
abbrev S4096x8192 : Shape := ⟨2, ![4096, 8192]⟩
abbrev S4x4096x9216 : Shape := ⟨3, ![4, 4096, 9216]⟩
abbrev S1x4096 : Shape := ⟨2, ![1, 4096]⟩
abbrev S_ : Shape := ⟨0, ![]⟩
abbrev S16384 : Shape := ⟨1, ![16384]⟩
abbrev S16384x1 : Shape := ⟨2, ![16384, 1]⟩
abbrev S4096x9216 : Shape := ⟨2, ![4096, 9216]⟩
abbrev S1024x4096 : Shape := ⟨2, ![1024, 4096]⟩
abbrev S1024x1 : Shape := ⟨2, ![1024, 1]⟩
abbrev S4096x512 : Shape := ⟨2, ![4096, 512]⟩
abbrev S1x32x9216 : Shape := ⟨3, ![1, 32, 9216]⟩
abbrev S1024x512 : Shape := ⟨2, ![1024, 512]⟩
abbrev S32x9216 : Shape := ⟨2, ![32, 9216]⟩

abbrev nBuf : Space → Nat
  | .hbm => 15
  | .vmem => 14
  | .smem => 0
  | _ => 0

abbrev bufTy : (tb : Table) → Fin (tcTables nBuf tb) → BufTy
  | .hbm, ⟨0, _⟩ => ⟨S16384x4096, .f32⟩
  | .hbm, ⟨1, _⟩ => ⟨S4096, .f32⟩
  | .hbm, ⟨2, _⟩ => ⟨S4096x8192, .f32⟩
  | .hbm, ⟨3, _⟩ => ⟨S4x4096x9216, .f32⟩
  | .hbm, ⟨4, _⟩ => ⟨S1x4096, .f32⟩
  | .hbm, ⟨5, _⟩ => ⟨S16384x4096, .f32⟩
  | .hbm, ⟨6, _⟩ => ⟨S16384x4096, .f32⟩
  | .hbm, ⟨7, _⟩ => ⟨S16384x4096, .bf16⟩
  | .hbm, ⟨8, _⟩ => ⟨S16384x4096, .f32⟩
  | .hbm, ⟨9, _⟩ => ⟨S_, .f32⟩
  | .hbm, ⟨10, _⟩ => ⟨S16384, .f32⟩
  | .hbm, ⟨11, _⟩ => ⟨S16384x1, .f32⟩
  | .hbm, ⟨12, _⟩ => ⟨S4096x8192, .bf16⟩
  | .hbm, ⟨13, _⟩ => ⟨S16384x4096, .bf16⟩
  | .hbm, ⟨14, _⟩ => ⟨S4096x9216, .bf16⟩
  | .local _ .vmem, ⟨0, _⟩ => ⟨S1024x4096, .bf16⟩
  | .local _ .vmem, ⟨1, _⟩ => ⟨S1024x4096, .bf16⟩
  | .local _ .vmem, ⟨2, _⟩ => ⟨S1024x1, .f32⟩
  | .local _ .vmem, ⟨3, _⟩ => ⟨S1024x1, .f32⟩
  | .local _ .vmem, ⟨4, _⟩ => ⟨S4096x512, .bf16⟩
  | .local _ .vmem, ⟨5, _⟩ => ⟨S4096x512, .bf16⟩
  | .local _ .vmem, ⟨6, _⟩ => ⟨S4096x512, .bf16⟩
  | .local _ .vmem, ⟨7, _⟩ => ⟨S4096x512, .bf16⟩
  | .local _ .vmem, ⟨8, _⟩ => ⟨S1x32x9216, .f32⟩
  | .local _ .vmem, ⟨9, _⟩ => ⟨S1x32x9216, .f32⟩
  | .local _ .vmem, ⟨10, _⟩ => ⟨S1024x512, .bf16⟩
  | .local _ .vmem, ⟨11, _⟩ => ⟨S1024x512, .bf16⟩
  | .local _ .vmem, ⟨12, _⟩ => ⟨S32x9216, .bf16⟩
  | .local _ .vmem, ⟨13, _⟩ => ⟨S32x9216, .bf16⟩
  | _, _ => ⟨S16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8_0 : Ref sig .tc := ⟨.hbm, 13, rfl⟩
abbrev main_v8_1 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![16, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi arg1 c8_i32
  let c0_i32 : BitVec 32 := 0#32
  let c0_i32_0 : BitVec 32 := 0#32
  ![c0_i32.toNat, v0.toNat]

def cc0_transform_4 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c127_i32 : BitVec 32 := 127#32
  let v2 : BitVec 32 := Scalar.minsi v1 c127_i32
  let c0_i32 : BitVec 32 := 0#32
  let c0_i32_0 : BitVec 32 := 0#32
  let c0_i32_1 : BitVec 32 := 0#32
  ![c0_i32.toNat, v2.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c127_i32 : BitVec 32 := 127#32
  let v2 : BitVec 32 := Scalar.minsi v1 c127_i32
  let c0_i32 : BitVec 32 := 0#32
  let c0_i32_0 : BitVec 32 := 0#32
  ![v2.toNat, c0_i32.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S4096x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S4096x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x32x9216 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S32x9216 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference3Ideal.lean ====
abbrev S16384x4096 : Shape := ⟨2, ![16384, 4096]⟩
abbrev S4096 : Shape := ⟨1, ![4096]⟩
abbrev S4096x8192 : Shape := ⟨2, ![4096, 8192]⟩
abbrev S4x4096x9216 : Shape := ⟨3, ![4, 4096, 9216]⟩
abbrev S_ : Shape := ⟨0, ![]⟩
abbrev S16384 : Shape := ⟨1, ![16384]⟩
abbrev S16384x1 : Shape := ⟨2, ![16384, 1]⟩
abbrev S1x4096 : Shape := ⟨2, ![1, 4096]⟩
abbrev S16384x8192 : Shape := ⟨2, ![16384, 8192]⟩
abbrev S1x4096x9216 : Shape := ⟨3, ![1, 4096, 9216]⟩
abbrev S4096x9216 : Shape := ⟨2, ![4096, 9216]⟩

abbrev nBuf : Space → Nat
  | .hbm => 37
  | .vmem => 0
  | .smem => 0
  | _ => 0

abbrev bufTy : (tb : Table) → Fin (tcTables nBuf tb) → BufTy
  | .hbm, ⟨0, _⟩ => ⟨S16384x4096, .f32⟩
  | .hbm, ⟨1, _⟩ => ⟨S4096, .f32⟩
  | .hbm, ⟨2, _⟩ => ⟨S4096x8192, .f32⟩
  | .hbm, ⟨3, _⟩ => ⟨S4x4096x9216, .f32⟩
  | .hbm, ⟨4, _⟩ => ⟨S16384x4096, .f32⟩
  | .hbm, ⟨5, _⟩ => ⟨S_, .f32⟩
  | .hbm, ⟨6, _⟩ => ⟨S16384, .f32⟩
  | .hbm, ⟨7, _⟩ => ⟨S16384x1, .f32⟩
  | .hbm, ⟨8, _⟩ => ⟨S_, .f32⟩
  | .hbm, ⟨9, _⟩ => ⟨S16384x1, .f32⟩
  | .hbm, ⟨10, _⟩ => ⟨S16384x1, .f32⟩
  | .hbm, ⟨11, _⟩ => ⟨S_, .f32⟩
  | .hbm, ⟨12, _⟩ => ⟨S16384x1, .f32⟩
  | .hbm, ⟨13, _⟩ => ⟨S16384x1, .f32⟩
  | .hbm, ⟨14, _⟩ => ⟨S16384x1, .f32⟩
  | .hbm, ⟨15, _⟩ => ⟨S16384x4096, .f32⟩
  | .hbm, ⟨16, _⟩ => ⟨S16384x4096, .f32⟩
  | .hbm, ⟨17, _⟩ => ⟨S1x4096, .f32⟩
  | .hbm, ⟨18, _⟩ => ⟨S16384x4096, .f32⟩
  | .hbm, ⟨19, _⟩ => ⟨S16384x4096, .f32⟩
  | .hbm, ⟨20, _⟩ => ⟨S16384x8192, .f32⟩
  | .hbm, ⟨21, _⟩ => ⟨S16384x4096, .f32⟩
  | .hbm, ⟨22, _⟩ => ⟨S16384x4096, .f32⟩
  | .hbm, ⟨23, _⟩ => ⟨S16384x4096, .f32⟩
  | .hbm, ⟨24, _⟩ => ⟨S16384x4096, .f32⟩
  | .hbm, ⟨25, _⟩ => ⟨S_, .f32⟩
  | .hbm, ⟨26, _⟩ => ⟨S16384x4096, .f32⟩
  | .hbm, ⟨27, _⟩ => ⟨S16384x4096, .f32⟩
  | .hbm, ⟨28, _⟩ => ⟨S_, .f32⟩
  | .hbm, ⟨29, _⟩ => ⟨S16384x4096, .f32⟩
  | .hbm, ⟨30, _⟩ => ⟨S16384x4096, .f32⟩
  | .hbm, ⟨31, _⟩ => ⟨S16384x4096, .f32⟩
  | .hbm, ⟨32, _⟩ => ⟨S16384x4096, .f32⟩
  | .hbm, ⟨33, _⟩ => ⟨S16384x4096, .bf16⟩
  | .hbm, ⟨34, _⟩ => ⟨S1x4096x9216, .f32⟩
  | .hbm, ⟨35, _⟩ => ⟨S4096x9216, .f32⟩
  | .hbm, ⟨36, _⟩ => ⟨S4096x9216, .bf16⟩
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_call0_v0 : Ref sig .tc := ⟨.hbm, 23, rfl⟩
abbrev main_call0_v1 : Ref sig .tc := ⟨.hbm, 24, rfl⟩
abbrev main_call0_cst : Ref sig .tc := ⟨.hbm, 25, rfl⟩
abbrev main_call0_v2 : Ref sig .tc := ⟨.hbm, 26, rfl⟩
abbrev main_call0_v3 : Ref sig .tc := ⟨.hbm, 27, rfl⟩
abbrev main_call0_cst_0 : Ref sig .tc := ⟨.hbm, 28, rfl⟩
abbrev main_call0_v4 : Ref sig .tc := ⟨.hbm, 29, rfl⟩
abbrev main_call0_v5 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩

abbrev nD : Nat := 1
abbrev τ : Topo := Topo.v7x

variable {F : FTy → Type} [FloatOps F]
-- ==== Kernel4.lean ====
abbrev S16384x4096 : Shape := ⟨2, ![16384, 4096]⟩
abbrev S4096x4096 : Shape := ⟨2, ![4096, 4096]⟩
abbrev S4x4096 : Shape := ⟨2, ![4, 4096]⟩
abbrev S4x2048x4096 : Shape := ⟨3, ![4, 2048, 4096]⟩
abbrev S4x1024x4096 : Shape := ⟨3, ![4, 1024, 4096]⟩
abbrev S4x1x4096 : Shape := ⟨3, ![4, 1, 4096]⟩
abbrev S16384x1 : Shape := ⟨2, ![16384, 1]⟩
abbrev S2048x4096 : Shape := ⟨2, ![2048, 4096]⟩
abbrev S1024x4096 : Shape := ⟨2, ![1024, 4096]⟩
abbrev S4096x512 : Shape := ⟨2, ![4096, 512]⟩
abbrev S1024x512 : Shape := ⟨2, ![1024, 512]⟩
abbrev S1x1x512 : Shape := ⟨3, ![1, 1, 512]⟩
abbrev S1x16x4096 : Shape := ⟨3, ![1, 16, 4096]⟩
abbrev S1024x1 : Shape := ⟨2, ![1024, 1]⟩
abbrev S16x4096 : Shape := ⟨2, ![16, 4096]⟩
abbrev S1x512 : Shape := ⟨2, ![1, 512]⟩
abbrev S1024 : Shape := ⟨1, ![1024]⟩

abbrev nBuf : Space → Nat
  | .hbm => 16
  | .vmem => 26
  | .smem => 0
  | _ => 0

abbrev bufTy : (tb : Table) → Fin (tcTables nBuf tb) → BufTy
  | .hbm, ⟨0, _⟩ => ⟨S16384x4096, .f32⟩
  | .hbm, ⟨1, _⟩ => ⟨S4096x4096, .f32⟩
  | .hbm, ⟨2, _⟩ => ⟨S16384x4096, .f32⟩
  | .hbm, ⟨3, _⟩ => ⟨S4x4096, .f32⟩
  | .hbm, ⟨4, _⟩ => ⟨S4x2048x4096, .f32⟩
  | .hbm, ⟨5, _⟩ => ⟨S4x1024x4096, .f32⟩
  | .hbm, ⟨6, _⟩ => ⟨S4x1024x4096, .f32⟩
  | .hbm, ⟨7, _⟩ => ⟨S16384x4096, .bf16⟩
  | .hbm, ⟨8, _⟩ => ⟨S4096x4096, .bf16⟩
  | .hbm, ⟨9, _⟩ => ⟨S4x1x4096, .f32⟩
  | .hbm, ⟨10, _⟩ => ⟨S16384x4096, .f32⟩
  | .hbm, ⟨11, _⟩ => ⟨S16384x4096, .bf16⟩
  | .hbm, ⟨12, _⟩ => ⟨S16384x1, .f32⟩
  | .hbm, ⟨13, _⟩ => ⟨S2048x4096, .bf16⟩
  | .hbm, ⟨14, _⟩ => ⟨S1024x4096, .bf16⟩
  | .hbm, ⟨15, _⟩ => ⟨S1024x4096, .bf16⟩
  | .local _ .vmem, ⟨0, _⟩ => ⟨S1024x4096, .bf16⟩
  | .local _ .vmem, ⟨1, _⟩ => ⟨S1024x4096, .bf16⟩
  | .local _ .vmem, ⟨2, _⟩ => ⟨S4096x512, .bf16⟩
  | .local _ .vmem, ⟨3, _⟩ => ⟨S4096x512, .bf16⟩
  | .local _ .vmem, ⟨4, _⟩ => ⟨S1024x512, .f32⟩
  | .local _ .vmem, ⟨5, _⟩ => ⟨S1024x512, .f32⟩
  | .local _ .vmem, ⟨6, _⟩ => ⟨S1x1x512, .f32⟩
  | .local _ .vmem, ⟨7, _⟩ => ⟨S1x1x512, .f32⟩
  | .local _ .vmem, ⟨8, _⟩ => ⟨S1x16x4096, .f32⟩
  | .local _ .vmem, ⟨9, _⟩ => ⟨S1x16x4096, .f32⟩
  | .local _ .vmem, ⟨10, _⟩ => ⟨S1x16x4096, .f32⟩
  | .local _ .vmem, ⟨11, _⟩ => ⟨S1x16x4096, .f32⟩
  | .local _ .vmem, ⟨12, _⟩ => ⟨S1x16x4096, .f32⟩
  | .local _ .vmem, ⟨13, _⟩ => ⟨S1x16x4096, .f32⟩
  | .local _ .vmem, ⟨14, _⟩ => ⟨S1024x512, .f32⟩
  | .local _ .vmem, ⟨15, _⟩ => ⟨S1024x512, .f32⟩
  | .local _ .vmem, ⟨16, _⟩ => ⟨S1024x512, .bf16⟩
  | .local _ .vmem, ⟨17, _⟩ => ⟨S1024x512, .bf16⟩
  | .local _ .vmem, ⟨18, _⟩ => ⟨S1024x1, .f32⟩
  | .local _ .vmem, ⟨19, _⟩ => ⟨S1024x1, .f32⟩
  | .local _ .vmem, ⟨20, _⟩ => ⟨S16x4096, .bf16⟩
  | .local _ .vmem, ⟨21, _⟩ => ⟨S16x4096, .bf16⟩
  | .local _ .vmem, ⟨22, _⟩ => ⟨S16x4096, .bf16⟩
  | .local _ .vmem, ⟨23, _⟩ => ⟨S16x4096, .bf16⟩
  | .local _ .vmem, ⟨24, _⟩ => ⟨S16x4096, .bf16⟩
  | .local _ .vmem, ⟨25, _⟩ => ⟨S16x4096, .bf16⟩
  | _, _ => ⟨S16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3_0 : Ref sig .tc := ⟨.hbm, 10, rfl⟩
abbrev main_v3_1 : Ref sig .tc := ⟨.hbm, 11, rfl⟩
abbrev main_v3_2 : Ref sig .tc := ⟨.hbm, 12, rfl⟩
abbrev main_v3_3 : Ref sig .tc := ⟨.hbm, 13, rfl⟩
abbrev main_v3_4 : Ref sig .tc := ⟨.hbm, 14, rfl⟩
abbrev main_v3_5 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25

abbrev nD : Nat := 1
abbrev τ : Topo := Topo.v7x

variable {F : FTy → Type} [FloatOps F]

abbrev grid0 : Pipeline.Grid := ⟨2, ![16, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_4 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c127_i32 : BitVec 32 := 127#32
  let v2 : BitVec 32 := Scalar.minsi v1 c127_i32
  let c0_i32 : BitVec 32 := 0#32
  let c0_i32_0 : BitVec 32 := 0#32
  let c0_i32_1 : BitVec 32 := 0#32
  ![c0_i32.toNat, v2.toNat, c0_i32_0.toNat]

def cc0_transform_5 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c63_i32 : BitVec 32 := 63#32
  let v2 : BitVec 32 := Scalar.minsi v1 c63_i32
  let c0_i32 : BitVec 32 := 0#32
  let c0_i32_0 : BitVec 32 := 0#32
  let c0_i32_1 : BitVec 32 := 0#32
  ![c0_i32.toNat, v2.toNat, c0_i32_0.toNat]

def cc0_transform_6 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c63_i32 : BitVec 32 := 63#32
  let v2 : BitVec 32 := Scalar.minsi v1 c63_i32
  let c0_i32 : BitVec 32 := 0#32
  let c0_i32_0 : BitVec 32 := 0#32
  let c0_i32_1 : BitVec 32 := 0#32
  ![c0_i32.toNat, v2.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c127_i32 : BitVec 32 := 127#32
  let v2 : BitVec 32 := Scalar.minsi v1 c127_i32
  let c0_i32 : BitVec 32 := 0#32
  let c0_i32_0 : BitVec 32 := 0#32
  ![v2.toNat, c0_i32.toNat]

def cc0_transform_11 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c63_i32 : BitVec 32 := 63#32
  let v2 : BitVec 32 := Scalar.minsi v1 c63_i32
  let c0_i32 : BitVec 32 := 0#32
  let c0_i32_0 : BitVec 32 := 0#32
  ![v2.toNat, c0_i32.toNat]

def cc0_transform_12 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c63_i32 : BitVec 32 := 63#32
  let v2 : BitVec 32 := Scalar.minsi v1 c63_i32
  let c0_i32 : BitVec 32 := 0#32
  let c0_i32_0 : BitVec 32 := 0#32
  ![v2.toNat, c0_i32.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x16x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x16x4096 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x16x4096 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1024x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1024x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1024x1 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S16x4096 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S16x4096 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S16x4096 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]
-- ==== Reference4Ideal.lean ====
abbrev S16384x4096 : Shape := ⟨2, ![16384, 4096]⟩
abbrev S4096x4096 : Shape := ⟨2, ![4096, 4096]⟩
abbrev S4x4096 : Shape := ⟨2, ![4, 4096]⟩
abbrev S4x2048x4096 : Shape := ⟨3, ![4, 2048, 4096]⟩
abbrev S4x1024x4096 : Shape := ⟨3, ![4, 1024, 4096]⟩
abbrev S_ : Shape := ⟨0, ![]⟩
abbrev S1x4096 : Shape := ⟨2, ![1, 4096]⟩
abbrev S4096 : Shape := ⟨1, ![4096]⟩
abbrev S16384 : Shape := ⟨1, ![16384]⟩
abbrev S16384x1 : Shape := ⟨2, ![16384, 1]⟩
abbrev S1x2048x4096 : Shape := ⟨3, ![1, 2048, 4096]⟩
abbrev S2048x4096 : Shape := ⟨2, ![2048, 4096]⟩
abbrev S1x1024x4096 : Shape := ⟨3, ![1, 1024, 4096]⟩
abbrev S1024x4096 : Shape := ⟨2, ![1024, 4096]⟩

abbrev nBuf : Space → Nat
  | .hbm => 31
  | .vmem => 0
  | .smem => 0
  | _ => 0

abbrev bufTy : (tb : Table) → Fin (tcTables nBuf tb) → BufTy
  | .hbm, ⟨0, _⟩ => ⟨S16384x4096, .f32⟩
  | .hbm, ⟨1, _⟩ => ⟨S4096x4096, .f32⟩
  | .hbm, ⟨2, _⟩ => ⟨S16384x4096, .f32⟩
  | .hbm, ⟨3, _⟩ => ⟨S4x4096, .f32⟩
  | .hbm, ⟨4, _⟩ => ⟨S4x2048x4096, .f32⟩
  | .hbm, ⟨5, _⟩ => ⟨S4x1024x4096, .f32⟩
  | .hbm, ⟨6, _⟩ => ⟨S4x1024x4096, .f32⟩
  | .hbm, ⟨7, _⟩ => ⟨S16384x4096, .f32⟩
  | .hbm, ⟨8, _⟩ => ⟨S_, .f32⟩
  | .hbm, ⟨9, _⟩ => ⟨S16384x4096, .f32⟩
  | .hbm, ⟨10, _⟩ => ⟨S16384x4096, .f32⟩
  | .hbm, ⟨11, _⟩ => ⟨S16384x4096, .f32⟩
  | .hbm, ⟨12, _⟩ => ⟨S1x4096, .f32⟩
  | .hbm, ⟨13, _⟩ => ⟨S4096, .f32⟩
  | .hbm, ⟨14, _⟩ => ⟨S1x4096, .f32⟩
  | .hbm, ⟨15, _⟩ => ⟨S16384x4096, .f32⟩
  | .hbm, ⟨16, _⟩ => ⟨S16384x4096, .f32⟩
  | .hbm, ⟨17, _⟩ => ⟨S16384x4096, .bf16⟩
  | .hbm, ⟨18, _⟩ => ⟨S16384x4096, .f32⟩
  | .hbm, ⟨19, _⟩ => ⟨S_, .f32⟩
  | .hbm, ⟨20, _⟩ => ⟨S16384, .f32⟩
  | .hbm, ⟨21, _⟩ => ⟨S16384x1, .f32⟩
  | .hbm, ⟨22, _⟩ => ⟨S1x2048x4096, .f32⟩
  | .hbm, ⟨23, _⟩ => ⟨S2048x4096, .f32⟩
  | .hbm, ⟨24, _⟩ => ⟨S2048x4096, .bf16⟩
  | .hbm, ⟨25, _⟩ => ⟨S1x1024x4096, .f32⟩
  | .hbm, ⟨26, _⟩ => ⟨S1024x4096, .f32⟩
  | .hbm, ⟨27, _⟩ => ⟨S1024x4096, .bf16⟩
  | .hbm, ⟨28, _⟩ => ⟨S1x1024x4096, .f32⟩
  | .hbm, ⟨29, _⟩ => ⟨S1024x4096, .f32⟩
  | .hbm, ⟨30, _⟩ => ⟨S1024x4096, .bf16⟩
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_0 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩

abbrev nD : Nat := 1
abbrev τ : Topo := Topo.v7x

variable {F : FTy → Type} [FloatOps F]
-- ==== Kernel5.lean ====
abbrev S16384x4096 : Shape := ⟨2, ![16384, 4096]⟩
abbrev S4096 : Shape := ⟨1, ![4096]⟩
abbrev S4096x9216 : Shape := ⟨2, ![4096, 9216]⟩
abbrev S4x4096x12288 : Shape := ⟨3, ![4, 4096, 12288]⟩
abbrev S4x4096x4096 : Shape := ⟨3, ![4, 4096, 4096]⟩
abbrev S1x4096 : Shape := ⟨2, ![1, 4096]⟩
abbrev S_ : Shape := ⟨0, ![]⟩
abbrev S16384 : Shape := ⟨1, ![16384]⟩
abbrev S16384x1 : Shape := ⟨2, ![16384, 1]⟩
abbrev S64 : Shape := ⟨1, ![64]⟩
abbrev S4096x1 : Shape := ⟨2, ![4096, 1]⟩
abbrev S1x64 : Shape := ⟨2, ![1, 64]⟩
abbrev S4096x64 : Shape := ⟨2, ![4096, 64]⟩
abbrev S4096x128 : Shape := ⟨2, ![4096, 128]⟩
abbrev S1x4096x1x128 : Shape := ⟨4, ![1, 4096, 1, 128]⟩
abbrev S1x4096x128 : Shape := ⟨3, ![1, 4096, 128]⟩
abbrev S5x4096x128 : Shape := ⟨3, ![5, 4096, 128]⟩
abbrev S16384x6144 : Shape := ⟨2, ![16384, 6144]⟩
abbrev S4096x12288 : Shape := ⟨2, ![4096, 12288]⟩
abbrev S4096x4096 : Shape := ⟨2, ![4096, 4096]⟩
abbrev S1024x4096 : Shape := ⟨2, ![1024, 4096]⟩
abbrev S1024x1 : Shape := ⟨2, ![1024, 1]⟩
abbrev S4096x512 : Shape := ⟨2, ![4096, 512]⟩
abbrev S1x1024x128 : Shape := ⟨3, ![1, 1024, 128]⟩
abbrev S1x32x12288 : Shape := ⟨3, ![1, 32, 12288]⟩
abbrev S1x32x4096 : Shape := ⟨3, ![1, 32, 4096]⟩
abbrev S1024x512 : Shape := ⟨2, ![1024, 512]⟩
abbrev S32x12288 : Shape := ⟨2, ![32, 12288]⟩
abbrev S32x4096 : Shape := ⟨2, ![32, 4096]⟩
abbrev S1024x128 : Shape := ⟨2, ![1024, 128]⟩

abbrev nBuf : Space → Nat
  | .hbm => 119
  | .vmem => 20
  | .smem => 0
  | _ => 0

abbrev bufTy : (tb : Table) → Fin (tcTables nBuf tb) → BufTy
  | .hbm, ⟨0, _⟩ => ⟨S16384x4096, .f32⟩
  | .hbm, ⟨1, _⟩ => ⟨S4096, .f32⟩
  | .hbm, ⟨2, _⟩ => ⟨S4096x9216, .f32⟩
  | .hbm, ⟨3, _⟩ => ⟨S4x4096x12288, .f32⟩
  | .hbm, ⟨4, _⟩ => ⟨S4x4096x4096, .f32⟩
  | .hbm, ⟨5, _⟩ => ⟨S1x4096, .f32⟩
  | .hbm, ⟨6, _⟩ => ⟨S16384x4096, .f32⟩
  | .hbm, ⟨7, _⟩ => ⟨S16384x4096, .f32⟩
  | .hbm, ⟨8, _⟩ => ⟨S16384x4096, .bf16⟩
  | .hbm, ⟨9, _⟩ => ⟨S16384x4096, .f32⟩
  | .hbm, ⟨10, _⟩ => ⟨S_, .f32⟩
  | .hbm, ⟨11, _⟩ => ⟨S16384, .f32⟩
  | .hbm, ⟨12, _⟩ => ⟨S16384x1, .f32⟩
  | .hbm, ⟨13, _⟩ => ⟨S4096x9216, .bf16⟩
  | .hbm, ⟨14, _⟩ => ⟨S64, .f32⟩
  | .hbm, ⟨15, _⟩ => ⟨S_, .f32⟩
  | .hbm, ⟨16, _⟩ => ⟨S64, .f32⟩
  | .hbm, ⟨17, _⟩ => ⟨S64, .f32⟩
  | .hbm, ⟨18, _⟩ => ⟨S_, .f32⟩
  | .hbm, ⟨19, _⟩ => ⟨S64, .f32⟩
  | .hbm, ⟨20, _⟩ => ⟨S64, .f32⟩
  | .hbm, ⟨21, _⟩ => ⟨S_, .f32⟩
  | .hbm, ⟨22, _⟩ => ⟨S64, .f32⟩
  | .hbm, ⟨23, _⟩ => ⟨S64, .f32⟩
  | .hbm, ⟨24, _⟩ => ⟨S_, .f32⟩
  | .hbm, ⟨25, _⟩ => ⟨S64, .f32⟩
  | .hbm, ⟨26, _⟩ => ⟨S64, .f32⟩
  | .hbm, ⟨27, _⟩ => ⟨S_, .f32⟩
  | .hbm, ⟨28, _⟩ => ⟨S64, .f32⟩
  | .hbm, ⟨29, _⟩ => ⟨S64, .f32⟩
  | .hbm, ⟨30, _⟩ => ⟨S4096, .f32⟩
  | .hbm, ⟨31, _⟩ => ⟨S4096x1, .f32⟩
  | .hbm, ⟨32, _⟩ => ⟨S1x64, .f32⟩
  | .hbm, ⟨33, _⟩ => ⟨S4096x64, .f32⟩
  | .hbm, ⟨34, _⟩ => ⟨S4096x64, .f32⟩
  | .hbm, ⟨35, _⟩ => ⟨S4096x64, .f32⟩
  | .hbm, ⟨36, _⟩ => ⟨S4096x64, .f32⟩
  | .hbm, ⟨37, _⟩ => ⟨S4096x64, .f32⟩
  | .hbm, ⟨38, _⟩ => ⟨S4096x128, .f32⟩
  | .hbm, ⟨39, _⟩ => ⟨S1x4096x1x128, .f32⟩
  | .hbm, ⟨40, _⟩ => ⟨S1x4096x1x128, .f32⟩
  | .hbm, ⟨41, _⟩ => ⟨S4096x128, .f32⟩
  | .hbm, ⟨42, _⟩ => ⟨S_, .f32⟩
  | .hbm, ⟨43, _⟩ => ⟨S4096x128, .f32⟩
  | .hbm, ⟨44, _⟩ => ⟨S4096x128, .f32⟩
  | .hbm, ⟨45, _⟩ => ⟨S4096x64, .f32⟩
  | .hbm, ⟨46, _⟩ => ⟨S4096x128, .f32⟩
  | .hbm, ⟨47, _⟩ => ⟨S1x4096x1x128, .f32⟩
  | .hbm, ⟨48, _⟩ => ⟨S1x4096x1x128, .f32⟩
  | .hbm, ⟨49, _⟩ => ⟨S4096x128, .f32⟩
  | .hbm, ⟨50, _⟩ => ⟨S_, .f32⟩
  | .hbm, ⟨51, _⟩ => ⟨S4096x128, .f32⟩
  | .hbm, ⟨52, _⟩ => ⟨S4096x128, .f32⟩
  | .hbm, ⟨53, _⟩ => ⟨S64, .f32⟩
  | .hbm, ⟨54, _⟩ => ⟨S_, .f32⟩
  | .hbm, ⟨55, _⟩ => ⟨S64, .f32⟩
  | .hbm, ⟨56, _⟩ => ⟨S64, .f32⟩
  | .hbm, ⟨57, _⟩ => ⟨S_, .f32⟩
  | .hbm, ⟨58, _⟩ => ⟨S64, .f32⟩
  | .hbm, ⟨59, _⟩ => ⟨S64, .f32⟩
  | .hbm, ⟨60, _⟩ => ⟨S_, .f32⟩
  | .hbm, ⟨61, _⟩ => ⟨S64, .f32⟩
  | .hbm, ⟨62, _⟩ => ⟨S64, .f32⟩
  | .hbm, ⟨63, _⟩ => ⟨S_, .f32⟩
  | .hbm, ⟨64, _⟩ => ⟨S64, .f32⟩
  | .hbm, ⟨65, _⟩ => ⟨S64, .f32⟩
  | .hbm, ⟨66, _⟩ => ⟨S_, .f32⟩
  | .hbm, ⟨67, _⟩ => ⟨S64, .f32⟩
  | .hbm, ⟨68, _⟩ => ⟨S64, .f32⟩
  | .hbm, ⟨69, _⟩ => ⟨S4096, .f32⟩
  | .hbm, ⟨70, _⟩ => ⟨S4096x1, .f32⟩
  | .hbm, ⟨71, _⟩ => ⟨S1x64, .f32⟩
  | .hbm, ⟨72, _⟩ => ⟨S4096x64, .f32⟩
  | .hbm, ⟨73, _⟩ => ⟨S4096x64, .f32⟩
  | .hbm, ⟨74, _⟩ => ⟨S4096x64, .f32⟩
  | .hbm, ⟨75, _⟩ => ⟨S4096x64, .f32⟩
  | .hbm, ⟨76, _⟩ => ⟨S4096x64, .f32⟩
  | .hbm, ⟨77, _⟩ => ⟨S4096x128, .f32⟩
  | .hbm, ⟨78, _⟩ => ⟨S1x4096x1x128, .f32⟩
  | .hbm, ⟨79, _⟩ => ⟨S1x4096x1x128, .f32⟩
  | .hbm, ⟨80, _⟩ => ⟨S4096x128, .f32⟩
  | .hbm, ⟨81, _⟩ => ⟨S_, .f32⟩
  | .hbm, ⟨82, _⟩ => ⟨S4096x128, .f32⟩
  | .hbm, ⟨83, _⟩ => ⟨S4096x128, .f32⟩
  | .hbm, ⟨84, _⟩ => ⟨S4096x64, .f32⟩
  | .hbm, ⟨85, _⟩ => ⟨S4096x128, .f32⟩
  | .hbm, ⟨86, _⟩ => ⟨S1x4096x1x128, .f32⟩
  | .hbm, ⟨87, _⟩ => ⟨S1x4096x1x128, .f32⟩
  | .hbm, ⟨88, _⟩ => ⟨S4096x128, .f32⟩
  | .hbm, ⟨89, _⟩ => ⟨S_, .f32⟩
  | .hbm, ⟨90, _⟩ => ⟨S4096x128, .f32⟩
  | .hbm, ⟨91, _⟩ => ⟨S4096x128, .f32⟩
  | .hbm, ⟨92, _⟩ => ⟨S_, .f32⟩
  | .hbm, ⟨93, _⟩ => ⟨S4096x128, .f32⟩
  | .hbm, ⟨94, _⟩ => ⟨S_, .f32⟩
  | .hbm, ⟨95, _⟩ => ⟨S4096x128, .f32⟩
  | .hbm, ⟨96, _⟩ => ⟨S_, .f32⟩
  | .hbm, ⟨97, _⟩ => ⟨S4096x128, .f32⟩
  | .hbm, ⟨98, _⟩ => ⟨S_, .f32⟩
  | .hbm, ⟨99, _⟩ => ⟨S4096x128, .f32⟩
  | .hbm, ⟨100, _⟩ => ⟨S_, .f32⟩
  | .hbm, ⟨101, _⟩ => ⟨S4096x128, .f32⟩
  | .hbm, ⟨102, _⟩ => ⟨S_, .f32⟩
  | .hbm, ⟨103, _⟩ => ⟨S4096x128, .f32⟩
  | .hbm, ⟨104, _⟩ => ⟨S1x4096x128, .f32⟩
  | .hbm, ⟨105, _⟩ => ⟨S1x4096x128, .f32⟩
  | .hbm, ⟨106, _⟩ => ⟨S1x4096x128, .f32⟩
  | .hbm, ⟨107, _⟩ => ⟨S1x4096x128, .f32⟩
  | .hbm, ⟨108, _⟩ => ⟨S1x4096x128, .f32⟩
  | .hbm, ⟨109, _⟩ => ⟨S5x4096x128, .f32⟩
  | .hbm, ⟨110, _⟩ => ⟨S1x4096x128, .f32⟩
  | .hbm, ⟨111, _⟩ => ⟨S1x4096x128, .f32⟩
  | .hbm, ⟨112, _⟩ => ⟨S1x4096x128, .f32⟩
  | .hbm, ⟨113, _⟩ => ⟨S1x4096x128, .f32⟩
  | .hbm, ⟨114, _⟩ => ⟨S1x4096x128, .f32⟩
  | .hbm, ⟨115, _⟩ => ⟨S5x4096x128, .f32⟩
  | .hbm, ⟨116, _⟩ => ⟨S16384x6144, .bf16⟩
  | .hbm, ⟨117, _⟩ => ⟨S4096x12288, .bf16⟩
  | .hbm, ⟨118, _⟩ => ⟨S4096x4096, .bf16⟩
  | .local _ .vmem, ⟨0, _⟩ => ⟨S1024x4096, .bf16⟩
  | .local _ .vmem, ⟨1, _⟩ => ⟨S1024x4096, .bf16⟩
  | .local _ .vmem, ⟨2, _⟩ => ⟨S1024x1, .f32⟩
  | .local _ .vmem, ⟨3, _⟩ => ⟨S1024x1, .f32⟩
  | .local _ .vmem, ⟨4, _⟩ => ⟨S4096x512, .bf16⟩
  | .local _ .vmem, ⟨5, _⟩ => ⟨S4096x512, .bf16⟩
  | .local _ .vmem, ⟨6, _⟩ => ⟨S1x1024x128, .f32⟩
  | .local _ .vmem, ⟨7, _⟩ => ⟨S1x1024x128, .f32⟩
  | .local _ .vmem, ⟨8, _⟩ => ⟨S1x1024x128, .f32⟩
  | .local _ .vmem, ⟨9, _⟩ => ⟨S1x1024x128, .f32⟩
  | .local _ .vmem, ⟨10, _⟩ => ⟨S1x32x12288, .f32⟩
  | .local _ .vmem, ⟨11, _⟩ => ⟨S1x32x12288, .f32⟩
  | .local _ .vmem, ⟨12, _⟩ => ⟨S1x32x4096, .f32⟩
  | .local _ .vmem, ⟨13, _⟩ => ⟨S1x32x4096, .f32⟩
  | .local _ .vmem, ⟨14, _⟩ => ⟨S1024x512, .bf16⟩
  | .local _ .vmem, ⟨15, _⟩ => ⟨S1024x512, .bf16⟩
  | .local _ .vmem, ⟨16, _⟩ => ⟨S32x12288, .bf16⟩
  | .local _ .vmem, ⟨17, _⟩ => ⟨S32x12288, .bf16⟩
  | .local _ .vmem, ⟨18, _⟩ => ⟨S32x4096, .bf16⟩
  | .local _ .vmem, ⟨19, _⟩ => ⟨S32x4096, .bf16⟩
  | _, _ => ⟨S16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_v10 : Ref sig .tc := ⟨.hbm, 17, rfl⟩
abbrev main_cst_1 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_cst_3 : Ref sig .tc := ⟨.hbm, 24, rfl⟩
abbrev main_v15 : Ref sig .tc := ⟨.hbm, 25, rfl⟩
abbrev main_v16 : Ref sig .tc := ⟨.hbm, 26, rfl⟩
abbrev main_cst_4 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst_5 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_cst_6 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_cst_7 : Ref sig .tc := ⟨.hbm, 54, rfl⟩
abbrev main_v41 : Ref sig .tc := ⟨.hbm, 55, rfl⟩
abbrev main_v42 : Ref sig .tc := ⟨.hbm, 56, rfl⟩
abbrev main_cst_8 : Ref sig .tc := ⟨.hbm, 57, rfl⟩
abbrev main_v43 : Ref sig .tc := ⟨.hbm, 58, rfl⟩
abbrev main_v44 : Ref sig .tc := ⟨.hbm, 59, rfl⟩
abbrev main_cst_9 : Ref sig .tc := ⟨.hbm, 60, rfl⟩
abbrev main_v45 : Ref sig .tc := ⟨.hbm, 61, rfl⟩
abbrev main_v46 : Ref sig .tc := ⟨.hbm, 62, rfl⟩
abbrev main_cst_10 : Ref sig .tc := ⟨.hbm, 63, rfl⟩
abbrev main_v47 : Ref sig .tc := ⟨.hbm, 64, rfl⟩
abbrev main_v48 : Ref sig .tc := ⟨.hbm, 65, rfl⟩
abbrev main_cst_11 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_cst_12 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_cst_13 : Ref sig .tc := ⟨.hbm, 89, rfl⟩
abbrev main_v70 : Ref sig .tc := ⟨.hbm, 90, rfl⟩
abbrev main_v71 : Ref sig .tc := ⟨.hbm, 91, rfl⟩
abbrev main_cst_14 : Ref sig .tc := ⟨.hbm, 92, rfl⟩
abbrev main_v72 : Ref sig .tc := ⟨.hbm, 93, rfl⟩
abbrev main_cst_15 : Ref sig .tc := ⟨.hbm, 94, rfl⟩
abbrev main_v73 : Ref sig .tc := ⟨.hbm, 95, rfl⟩
abbrev main_cst_16 : Ref sig .tc := ⟨.hbm, 96, rfl⟩
abbrev main_v74 : Ref sig .tc := ⟨.hbm, 97, rfl⟩
abbrev main_cst_17 : Ref sig .tc := ⟨.hbm, 98, rfl⟩
abbrev main_v75 : Ref sig .tc := ⟨.hbm, 99, rfl⟩
abbrev main_cst_18 : Ref sig .tc := ⟨.hbm, 100, rfl⟩
abbrev main_v76 : Ref sig .tc := ⟨.hbm, 101, rfl⟩
abbrev main_cst_19 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩
abbrev main_v84 : Ref sig .tc := ⟨.hbm, 110, rfl⟩
abbrev main_v85 : Ref sig .tc := ⟨.hbm, 111, rfl⟩
abbrev main_v86 : Ref sig .tc := ⟨.hbm, 112, rfl⟩
abbrev main_v87 : Ref sig .tc := ⟨.hbm, 113, rfl⟩
abbrev main_v88 : Ref sig .tc := ⟨.hbm, 114, rfl⟩
abbrev main_v89 : Ref sig .tc := ⟨.hbm, 115, rfl⟩
abbrev main_v90_0 : Ref sig .tc := ⟨.hbm, 116, rfl⟩
abbrev main_v90_1 : Ref sig .tc := ⟨.hbm, 117, rfl⟩
abbrev main_v90_2 : Ref sig .tc := ⟨.hbm, 118, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨2, ![16, 12], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![c0_i32_0.toNat, v0.toNat]

def cc0_transform_3 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 1 := Scalar.cmpi .eq arg1 c4_i32
  let c1_i32 : BitVec 32 := 1#32
  let c0_i32 : BitVec 32 := 0#32
  let v1 : BitVec 32 := Scalar.select v0 c1_i32 c0_i32
  let c0_i32_0 : BitVec 32 := 0#32
  let v2 : BitVec 32 := Scalar.addi c0_i32_0 v1
  let c5_i32 : BitVec 32 := 5#32
  let v3 : BitVec 1 := Scalar.cmpi .eq arg1 c5_i32
  let c2_i32 : BitVec 32 := 2#32
  let c0_i32_1 : BitVec 32 := 0#32
  let v4 : BitVec 32 := Scalar.select v3 c2_i32 c0_i32_1
  let v5 : BitVec 32 := Scalar.addi v2 v4
  let c6_i32 : BitVec 32 := 6#32
  let v6 : BitVec 1 := Scalar.cmpi .eq arg1 c6_i32
  let c3_i32 : BitVec 32 := 3#32
  let c0_i32_2 : BitVec 32 := 0#32
  let v7 : BitVec 32 := Scalar.select v6 c3_i32 c0_i32_2
  let v8 : BitVec 32 := Scalar.addi v5 v7
  let c7_i32 : BitVec 32 := 7#32
  let v9 : BitVec 1 := Scalar.cmpi .eq arg1 c7_i32
  let c3_i32_3 : BitVec 32 := 3#32
  let c0_i32_4 : BitVec 32 := 0#32
  let v10 : BitVec 32 := Scalar.select v9 c3_i32_3 c0_i32_4
  let v11 : BitVec 32 := Scalar.addi v8 v10
  let c8_i32 : BitVec 32 := 8#32
  let v12 : BitVec 1 := Scalar.cmpi .eq arg1 c8_i32
  let c4_i32_5 : BitVec 32 := 4#32
  let c0_i32_6 : BitVec 32 := 0#32
  let v13 : BitVec 32 := Scalar.select v12 c4_i32_5 c0_i32_6
  let v14 : BitVec 32 := Scalar.addi v11 v13
  let c9_i32 : BitVec 32 := 9#32
  let v15 : BitVec 1 := Scalar.cmpi .eq arg1 c9_i32
  let c4_i32_7 : BitVec 32 := 4#32
  let c0_i32_8 : BitVec 32 := 0#32
  let v16 : BitVec 32 := Scalar.select v15 c4_i32_7 c0_i32_8
  let v17 : BitVec 32 := Scalar.addi v14 v16
  let c10_i32 : BitVec 32 := 10#32
  let v18 : BitVec 1 := Scalar.cmpi .eq arg1 c10_i32
  let c4_i32_9 : BitVec 32 := 4#32
  let c0_i32_10 : BitVec 32 := 0#32
  let v19 : BitVec 32 := Scalar.select v18 c4_i32_9 c0_i32_10
  let v20 : BitVec 32 := Scalar.addi v17 v19
  let c11_i32 : BitVec 32 := 11#32
  let v21 : BitVec 1 := Scalar.cmpi .eq arg1 c11_i32
  let c4_i32_11 : BitVec 32 := 4#32
  let c0_i32_12 : BitVec 32 := 0#32
  let v22 : BitVec 32 := Scalar.select v21 c4_i32_11 c0_i32_12
  let v23 : BitVec 32 := Scalar.addi v20 v22
  let c4_i32_13 : BitVec 32 := 4#32
  let c0_i32_14 : BitVec 32 := 0#32
  let v24 : BitVec 1 := Scalar.cmpi .eq c4_i32_13 c0_i32_14
  let c1_i32_15 : BitVec 32 := 1#32
  let v25 : BitVec 32 := Scalar.select v24 c1_i32_15 c4_i32_13
  let v26 : BitVec 32 := Scalar.remsi arg0 v25
  let c0_i32_16 : BitVec 32 := 0#32
  let v27 : BitVec 1 := Scalar.cmpi .ne v26 c0_i32_16
  let c0_i32_17 : BitVec 32 := 0#32
  let v28 : BitVec 1 := Scalar.cmpi .slt v26 c0_i32_17
  let c0_i32_18 : BitVec 32 := 0#32
  let v29 : BitVec 1 := Scalar.cmpi .slt v25 c0_i32_18
  let v30 : BitVec 1 := Scalar.xori v28 v29
  let v31 : BitVec 1 := Scalar.andi v30 v27
  let v32 : BitVec 32 := Scalar.addi v26 v25
  let v33 : BitVec 32 := Scalar.select v31 v32 v26
  let c0_i32_19 : BitVec 32 := 0#32
  let c0_i32_20 : BitVec 32 := 0#32
  ![v23.toNat, v33.toNat, c0_i32_19.toNat]

def cc0_transform_4 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 1 := Scalar.cmpi .eq arg1 c4_i32
  let c1_i32 : BitVec 32 := 1#32
  let c0_i32 : BitVec 32 := 0#32
  let v1 : BitVec 32 := Scalar.select v0 c1_i32 c0_i32
  let c0_i32_0 : BitVec 32 := 0#32
  let v2 : BitVec 32 := Scalar.addi c0_i32_0 v1
  let c5_i32 : BitVec 32 := 5#32
  let v3 : BitVec 1 := Scalar.cmpi .eq arg1 c5_i32
  let c2_i32 : BitVec 32 := 2#32
  let c0_i32_1 : BitVec 32 := 0#32
  let v4 : BitVec 32 := Scalar.select v3 c2_i32 c0_i32_1
  let v5 : BitVec 32 := Scalar.addi v2 v4
  let c6_i32 : BitVec 32 := 6#32
  let v6 : BitVec 1 := Scalar.cmpi .eq arg1 c6_i32
  let c3_i32 : BitVec 32 := 3#32
  let c0_i32_2 : BitVec 32 := 0#32
  let v7 : BitVec 32 := Scalar.select v6 c3_i32 c0_i32_2
  let v8 : BitVec 32 := Scalar.addi v5 v7
  let c7_i32 : BitVec 32 := 7#32
  let v9 : BitVec 1 := Scalar.cmpi .eq arg1 c7_i32
  let c3_i32_3 : BitVec 32 := 3#32
  let c0_i32_4 : BitVec 32 := 0#32
  let v10 : BitVec 32 := Scalar.select v9 c3_i32_3 c0_i32_4
  let v11 : BitVec 32 := Scalar.addi v8 v10
  let c8_i32 : BitVec 32 := 8#32
  let v12 : BitVec 1 := Scalar.cmpi .eq arg1 c8_i32
  let c4_i32_5 : BitVec 32 := 4#32
  let c0_i32_6 : BitVec 32 := 0#32
  let v13 : BitVec 32 := Scalar.select v12 c4_i32_5 c0_i32_6
  let v14 : BitVec 32 := Scalar.addi v11 v13
  let c9_i32 : BitVec 32 := 9#32
  let v15 : BitVec 1 := Scalar.cmpi .eq arg1 c9_i32
  let c4_i32_7 : BitVec 32 := 4#32
  let c0_i32_8 : BitVec 32 := 0#32
  let v16 : BitVec 32 := Scalar.select v15 c4_i32_7 c0_i32_8
  let v17 : BitVec 32 := Scalar.addi v14 v16
  let c10_i32 : BitVec 32 := 10#32
  let v18 : BitVec 1 := Scalar.cmpi .eq arg1 c10_i32
  let c4_i32_9 : BitVec 32 := 4#32
  let c0_i32_10 : BitVec 32 := 0#32
  let v19 : BitVec 32 := Scalar.select v18 c4_i32_9 c0_i32_10
  let v20 : BitVec 32 := Scalar.addi v17 v19
  let c11_i32 : BitVec 32 := 11#32
  let v21 : BitVec 1 := Scalar.cmpi .eq arg1 c11_i32
  let c4_i32_11 : BitVec 32 := 4#32
  let c0_i32_12 : BitVec 32 := 0#32
  let v22 : BitVec 32 := Scalar.select v21 c4_i32_11 c0_i32_12
  let v23 : BitVec 32 := Scalar.addi v20 v22
  let c4_i32_13 : BitVec 32 := 4#32
  let c0_i32_14 : BitVec 32 := 0#32
  let v24 : BitVec 1 := Scalar.cmpi .eq c4_i32_13 c0_i32_14
  let c1_i32_15 : BitVec 32 := 1#32
  let v25 : BitVec 32 := Scalar.select v24 c1_i32_15 c4_i32_13
  let v26 : BitVec 32 := Scalar.remsi arg0 v25
  let c0_i32_16 : BitVec 32 := 0#32
  let v27 : BitVec 1 := Scalar.cmpi .ne v26 c0_i32_16
  let c0_i32_17 : BitVec 32 := 0#32
  let v28 : BitVec 1 := Scalar.cmpi .slt v26 c0_i32_17
  let c0_i32_18 : BitVec 32 := 0#32
  let v29 : BitVec 1 := Scalar.cmpi .slt v25 c0_i32_18
  let v30 : BitVec 1 := Scalar.xori v28 v29
  let v31 : BitVec 1 := Scalar.andi v30 v27
  let v32 : BitVec 32 := Scalar.addi v26 v25
  let v33 : BitVec 32 := Scalar.select v31 v32 v26
  let c0_i32_19 : BitVec 32 := 0#32
  let c0_i32_20 : BitVec 32 := 0#32
  ![v23.toNat, v33.toNat, c0_i32_19.toNat]

def cc0_transform_5 (i : grid0.Coords) : Fin 3 → Nat :=
  let arg0 : BitVec 32 := BitVec.ofNat 32 (i 0).val
  let arg1 : BitVec 32 := BitVec.ofNat 32 (i 1).val
  let c12_i32 : BitVec 32 := 12#32
  let v0 : BitVec 32 := Scalar.muli arg0 c12_i32
  let v1 : BitVec 32 := Scalar.addi v0 arg1
  let c127_i32 : BitVec 32 := 127#32
  let v2 : BitVec 32 := Scalar.minsi v1 c127_i32
  let c0_i32 : BitVec 32 := 0#32
  let c0_i32_0 : BitVec 32 := 0#32
  let c0_i32_1 : BitVec 32 := 0#32
  ![c0_i32.toNat, v2.toNat, c0_i32_0.toNat]

def cc0_transform_6 (i : grid0.Coords) : Fin 3 → Nat :=
  let arg0 : BitVec 32 := BitVec.ofNat 32 (i 0).val
  let arg1 : BitVec 32 := BitVec.ofNat 32 (i 1).val
  let c12_i32 : BitVec 32 := 12#32
  let v0 : BitVec 32 := Scalar.muli arg0 c12_i32
  let v1 : BitVec 32 := Scalar.addi v0 arg1
  let c127_i32 : BitVec 32 := 127#32
  let v2 : BitVec 32 := Scalar.minsi v1 c127_i32
  let c0_i32 : BitVec 32 := 0#32
  let c0_i32_0 : BitVec 32 := 0#32
  let c0_i32_1 : BitVec 32 := 0#32
  ![c0_i32.toNat, v2.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let c12_i32 : BitVec 32 := 12#32
  let v0 : BitVec 32 := Scalar.muli arg0 c12_i32
  let v1 : BitVec 32 := Scalar.addi v0 arg1
  let c127_i32 : BitVec 32 := 127#32
  let v2 : BitVec 32 := Scalar.minsi v1 c127_i32
  let c0_i32 : BitVec 32 := 0#32
  let c0_i32_0 : BitVec 32 := 0#32
  ![v2.toNat, c0_i32.toNat]

def cc0_transform_9 (i : grid0.Coords) : Fin 2 → Nat :=
  let arg0 : BitVec 32 := BitVec.ofNat 32 (i 0).val
  let arg1 : BitVec 32 := BitVec.ofNat 32 (i 1).val
  let c12_i32 : BitVec 32 := 12#32
  let v0 : BitVec 32 := Scalar.muli arg0 c12_i32
  let v1 : BitVec 32 := Scalar.addi v0 arg1
  let c127_i32 : BitVec 32 := 127#32
  let v2 : BitVec 32 := Scalar.minsi v1 c127_i32
  let c0_i32 : BitVec 32 := 0#32
  let c0_i32_0 : BitVec 32 := 0#32
  ![v2.toNat, c0_i32.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S4096x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x32x12288 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x32x4096 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1024x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S32x12288 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S32x4096 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== Reference5Ideal.lean ====
abbrev S16384x4096 : Shape := ⟨2, ![16384, 4096]⟩
abbrev S4096 : Shape := ⟨1, ![4096]⟩
abbrev S4096x9216 : Shape := ⟨2, ![4096, 9216]⟩
abbrev S4x4096x12288 : Shape := ⟨3, ![4, 4096, 12288]⟩
abbrev S4x4096x4096 : Shape := ⟨3, ![4, 4096, 4096]⟩
abbrev S_ : Shape := ⟨0, ![]⟩
abbrev S16384 : Shape := ⟨1, ![16384]⟩
abbrev S16384x1 : Shape := ⟨2, ![16384, 1]⟩
abbrev S1x4096 : Shape := ⟨2, ![1, 4096]⟩
abbrev S16384x9216 : Shape := ⟨2, ![16384, 9216]⟩
abbrev S16384x2048 : Shape := ⟨2, ![16384, 2048]⟩
abbrev S16384x512 : Shape := ⟨2, ![16384, 512]⟩
abbrev S16384x3584 : Shape := ⟨2, ![16384, 3584]⟩
abbrev S64 : Shape := ⟨1, ![64]⟩
abbrev S4096x1 : Shape := ⟨2, ![4096, 1]⟩
abbrev S1x64 : Shape := ⟨2, ![1, 64]⟩
abbrev S4096x64 : Shape := ⟨2, ![4096, 64]⟩
abbrev S4x4096x16x128 : Shape := ⟨4, ![4, 4096, 16, 128]⟩
abbrev S4x4096x16x64 : Shape := ⟨4, ![4, 4096, 16, 64]⟩
abbrev S4096x1x64 : Shape := ⟨3, ![4096, 1, 64]⟩
abbrev S1x4096x1x64 : Shape := ⟨4, ![1, 4096, 1, 64]⟩
abbrev S4x4096x4x128 : Shape := ⟨4, ![4, 4096, 4, 128]⟩
abbrev S4x4096x4x64 : Shape := ⟨4, ![4, 4096, 4, 64]⟩
abbrev S16384x6144 : Shape := ⟨2, ![16384, 6144]⟩
abbrev S1x4096x12288 : Shape := ⟨3, ![1, 4096, 12288]⟩
abbrev S4096x12288 : Shape := ⟨2, ![4096, 12288]⟩
abbrev S1x4096x4096 : Shape := ⟨3, ![1, 4096, 4096]⟩
abbrev S4096x4096 : Shape := ⟨2, ![4096, 4096]⟩

abbrev nBuf : Space → Nat
  | .hbm => 99
  | .vmem => 0
  | .smem => 0
  | _ => 0

abbrev bufTy : (tb : Table) → Fin (tcTables nBuf tb) → BufTy
  | .hbm, ⟨0, _⟩ => ⟨S16384x4096, .f32⟩
  | .hbm, ⟨1, _⟩ => ⟨S4096, .f32⟩
  | .hbm, ⟨2, _⟩ => ⟨S4096x9216, .f32⟩
  | .hbm, ⟨3, _⟩ => ⟨S4x4096x12288, .f32⟩
  | .hbm, ⟨4, _⟩ => ⟨S4x4096x4096, .f32⟩
  | .hbm, ⟨5, _⟩ => ⟨S16384x4096, .f32⟩
  | .hbm, ⟨6, _⟩ => ⟨S_, .f32⟩
  | .hbm, ⟨7, _⟩ => ⟨S16384, .f32⟩
  | .hbm, ⟨8, _⟩ => ⟨S16384x1, .f32⟩
  | .hbm, ⟨9, _⟩ => ⟨S_, .f32⟩
  | .hbm, ⟨10, _⟩ => ⟨S16384x1, .f32⟩
  | .hbm, ⟨11, _⟩ => ⟨S16384x1, .f32⟩
  | .hbm, ⟨12, _⟩ => ⟨S_, .f32⟩
  | .hbm, ⟨13, _⟩ => ⟨S16384x1, .f32⟩
  | .hbm, ⟨14, _⟩ => ⟨S16384x1, .f32⟩
  | .hbm, ⟨15, _⟩ => ⟨S16384x1, .f32⟩
  | .hbm, ⟨16, _⟩ => ⟨S16384x4096, .f32⟩
  | .hbm, ⟨17, _⟩ => ⟨S16384x4096, .f32⟩
  | .hbm, ⟨18, _⟩ => ⟨S1x4096, .f32⟩
  | .hbm, ⟨19, _⟩ => ⟨S16384x4096, .f32⟩
  | .hbm, ⟨20, _⟩ => ⟨S16384x4096, .f32⟩
  | .hbm, ⟨21, _⟩ => ⟨S16384x9216, .f32⟩
  | .hbm, ⟨22, _⟩ => ⟨S16384x2048, .f32⟩
  | .hbm, ⟨23, _⟩ => ⟨S16384x512, .f32⟩
  | .hbm, ⟨24, _⟩ => ⟨S16384x3584, .f32⟩
  | .hbm, ⟨25, _⟩ => ⟨S64, .f32⟩
  | .hbm, ⟨26, _⟩ => ⟨S_, .f32⟩
  | .hbm, ⟨27, _⟩ => ⟨S64, .f32⟩
  | .hbm, ⟨28, _⟩ => ⟨S64, .f32⟩
  | .hbm, ⟨29, _⟩ => ⟨S_, .f32⟩
  | .hbm, ⟨30, _⟩ => ⟨S64, .f32⟩
  | .hbm, ⟨31, _⟩ => ⟨S64, .f32⟩
  | .hbm, ⟨32, _⟩ => ⟨S_, .f32⟩
  | .hbm, ⟨33, _⟩ => ⟨S64, .f32⟩
  | .hbm, ⟨34, _⟩ => ⟨S64, .f32⟩
  | .hbm, ⟨35, _⟩ => ⟨S_, .f32⟩
  | .hbm, ⟨36, _⟩ => ⟨S64, .f32⟩
  | .hbm, ⟨37, _⟩ => ⟨S64, .f32⟩
  | .hbm, ⟨38, _⟩ => ⟨S_, .f32⟩
  | .hbm, ⟨39, _⟩ => ⟨S64, .f32⟩
  | .hbm, ⟨40, _⟩ => ⟨S64, .f32⟩
  | .hbm, ⟨41, _⟩ => ⟨S4096, .f32⟩
  | .hbm, ⟨42, _⟩ => ⟨S4096x1, .f32⟩
  | .hbm, ⟨43, _⟩ => ⟨S1x64, .f32⟩
  | .hbm, ⟨44, _⟩ => ⟨S4096x64, .f32⟩
  | .hbm, ⟨45, _⟩ => ⟨S4096x64, .f32⟩
  | .hbm, ⟨46, _⟩ => ⟨S4096x64, .f32⟩
  | .hbm, ⟨47, _⟩ => ⟨S4096x64, .f32⟩
  | .hbm, ⟨48, _⟩ => ⟨S4096x64, .f32⟩
  | .hbm, ⟨49, _⟩ => ⟨S4x4096x16x128, .f32⟩
  | .hbm, ⟨50, _⟩ => ⟨S4x4096x16x64, .f32⟩
  | .hbm, ⟨51, _⟩ => ⟨S4x4096x16x64, .f32⟩
  | .hbm, ⟨52, _⟩ => ⟨S4096x1x64, .f32⟩
  | .hbm, ⟨53, _⟩ => ⟨S4096x1x64, .f32⟩
  | .hbm, ⟨54, _⟩ => ⟨S1x4096x1x64, .f32⟩
  | .hbm, ⟨55, _⟩ => ⟨S4x4096x16x64, .f32⟩
  | .hbm, ⟨56, _⟩ => ⟨S4x4096x16x64, .f32⟩
  | .hbm, ⟨57, _⟩ => ⟨S1x4096x1x64, .f32⟩
  | .hbm, ⟨58, _⟩ => ⟨S4x4096x16x64, .f32⟩
  | .hbm, ⟨59, _⟩ => ⟨S4x4096x16x64, .f32⟩
  | .hbm, ⟨60, _⟩ => ⟨S4x4096x16x64, .f32⟩
  | .hbm, ⟨61, _⟩ => ⟨S1x4096x1x64, .f32⟩
  | .hbm, ⟨62, _⟩ => ⟨S4x4096x16x64, .f32⟩
  | .hbm, ⟨63, _⟩ => ⟨S4x4096x16x64, .f32⟩
  | .hbm, ⟨64, _⟩ => ⟨S1x4096x1x64, .f32⟩
  | .hbm, ⟨65, _⟩ => ⟨S4x4096x16x64, .f32⟩
  | .hbm, ⟨66, _⟩ => ⟨S4x4096x16x64, .f32⟩
  | .hbm, ⟨67, _⟩ => ⟨S4x4096x16x64, .f32⟩
  | .hbm, ⟨68, _⟩ => ⟨S4x4096x16x128, .f32⟩
  | .hbm, ⟨69, _⟩ => ⟨S4x4096x4x128, .f32⟩
  | .hbm, ⟨70, _⟩ => ⟨S4x4096x4x64, .f32⟩
  | .hbm, ⟨71, _⟩ => ⟨S4x4096x4x64, .f32⟩
  | .hbm, ⟨72, _⟩ => ⟨S4096x1x64, .f32⟩
  | .hbm, ⟨73, _⟩ => ⟨S4096x1x64, .f32⟩
  | .hbm, ⟨74, _⟩ => ⟨S1x4096x1x64, .f32⟩
  | .hbm, ⟨75, _⟩ => ⟨S4x4096x4x64, .f32⟩
  | .hbm, ⟨76, _⟩ => ⟨S4x4096x4x64, .f32⟩
  | .hbm, ⟨77, _⟩ => ⟨S1x4096x1x64, .f32⟩
  | .hbm, ⟨78, _⟩ => ⟨S4x4096x4x64, .f32⟩
  | .hbm, ⟨79, _⟩ => ⟨S4x4096x4x64, .f32⟩
  | .hbm, ⟨80, _⟩ => ⟨S4x4096x4x64, .f32⟩
  | .hbm, ⟨81, _⟩ => ⟨S1x4096x1x64, .f32⟩
  | .hbm, ⟨82, _⟩ => ⟨S4x4096x4x64, .f32⟩
  | .hbm, ⟨83, _⟩ => ⟨S4x4096x4x64, .f32⟩
  | .hbm, ⟨84, _⟩ => ⟨S1x4096x1x64, .f32⟩
  | .hbm, ⟨85, _⟩ => ⟨S4x4096x4x64, .f32⟩
  | .hbm, ⟨86, _⟩ => ⟨S4x4096x4x64, .f32⟩
  | .hbm, ⟨87, _⟩ => ⟨S4x4096x4x64, .f32⟩
  | .hbm, ⟨88, _⟩ => ⟨S4x4096x4x128, .f32⟩
  | .hbm, ⟨89, _⟩ => ⟨S16384x2048, .f32⟩
  | .hbm, ⟨90, _⟩ => ⟨S16384x512, .f32⟩
  | .hbm, ⟨91, _⟩ => ⟨S16384x6144, .f32⟩
  | .hbm, ⟨92, _⟩ => ⟨S16384x6144, .bf16⟩
  | .hbm, ⟨93, _⟩ => ⟨S1x4096x12288, .f32⟩
  | .hbm, ⟨94, _⟩ => ⟨S4096x12288, .f32⟩
  | .hbm, ⟨95, _⟩ => ⟨S4096x12288, .bf16⟩
  | .hbm, ⟨96, _⟩ => ⟨S1x4096x4096, .f32⟩
  | .hbm, ⟨97, _⟩ => ⟨S4096x4096, .f32⟩
  | .hbm, ⟨98, _⟩ => ⟨S4096x4096, .bf16⟩
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_2 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_v21 : Ref sig .tc := ⟨.hbm, 31, rfl⟩
abbrev main_cst_4 : Ref sig .tc := ⟨.hbm, 32, rfl⟩
abbrev main_v22 : Ref sig .tc := ⟨.hbm, 33, rfl⟩
abbrev main_v23 : Ref sig .tc := ⟨.hbm, 34, rfl⟩
abbrev main_cst_5 : Ref sig .tc := ⟨.hbm, 35, rfl⟩
abbrev main_v24 : Ref sig .tc := ⟨.hbm, 36, rfl⟩
abbrev main_v25 : Ref sig .tc := ⟨.hbm, 37, rfl⟩
abbrev main_cst_6 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_v63 : Ref sig .tc := ⟨.hbm, 76, rfl⟩
abbrev main_v64 : Ref sig .tc := ⟨.hbm, 77, rfl⟩
abbrev main_v65 : Ref sig .tc := ⟨.hbm, 78, rfl⟩
abbrev main_v66 : Ref sig .tc := ⟨.hbm, 79, rfl⟩
abbrev main_v67 : Ref sig .tc := ⟨.hbm, 80, rfl⟩
abbrev main_v68 : Ref sig .tc := ⟨.hbm, 81, rfl⟩
abbrev main_v69 : Ref sig .tc := ⟨.hbm, 82, rfl⟩
abbrev main_v70 : Ref sig .tc := ⟨.hbm, 83, rfl⟩
abbrev main_v71 : Ref sig .tc := ⟨.hbm, 84, rfl⟩
abbrev main_v72 : Ref sig .tc := ⟨.hbm, 85, rfl⟩
abbrev main_v73 : Ref sig .tc := ⟨.hbm, 86, rfl⟩
abbrev main_v74 : Ref sig .tc := ⟨.hbm, 87, rfl⟩
abbrev main_v75 : Ref sig .tc := ⟨.hbm, 88, rfl⟩
abbrev main_v76 : Ref sig .tc := ⟨.hbm, 89, rfl⟩
abbrev main_v77 : Ref sig .tc := ⟨.hbm, 90, rfl⟩
abbrev main_v78 : Ref sig .tc := ⟨.hbm, 91, rfl⟩
abbrev main_v79 : Ref sig .tc := ⟨.hbm, 92, rfl⟩
abbrev main_v80 : Ref sig .tc := ⟨.hbm, 93, rfl⟩
abbrev main_v81 : Ref sig .tc := ⟨.hbm, 94, rfl⟩
abbrev main_v82 : Ref sig .tc := ⟨.hbm, 95, rfl⟩
abbrev main_v83 : Ref sig .tc := ⟨.hbm, 96, rfl⟩
abbrev main_v84 : Ref sig .tc := ⟨.hbm, 97, rfl⟩
abbrev main_v85 : Ref sig .tc := ⟨.hbm, 98, rfl⟩

abbrev nD : Nat := 1
abbrev τ : Topo := Topo.v7x

variable {F : FTy → Type} [FloatOps F]
-- ==== Kernel6.lean ====
abbrev S16384x4096 : Shape := ⟨2, ![16384, 4096]⟩
abbrev S4096 : Shape := ⟨1, ![4096]⟩
abbrev S4096x9216 : Shape := ⟨2, ![4096, 9216]⟩
abbrev S1x4096 : Shape := ⟨2, ![1, 4096]⟩
abbrev S_ : Shape := ⟨0, ![]⟩
abbrev S16384 : Shape := ⟨1, ![16384]⟩
abbrev S16384x1 : Shape := ⟨2, ![16384, 1]⟩
abbrev S32 : Shape := ⟨1, ![32]⟩
abbrev S4096x1 : Shape := ⟨2, ![4096, 1]⟩
abbrev S1x32 : Shape := ⟨2, ![1, 32]⟩
abbrev S4096x32 : Shape := ⟨2, ![4096, 32]⟩
abbrev S4096x64 : Shape := ⟨2, ![4096, 64]⟩
abbrev S1x4096x1x64 : Shape := ⟨4, ![1, 4096, 1, 64]⟩
abbrev S1x4096x2x64 : Shape := ⟨4, ![1, 4096, 2, 64]⟩
abbrev S4096x128 : Shape := ⟨2, ![4096, 128]⟩
abbrev S1x4096x128 : Shape := ⟨3, ![1, 4096, 128]⟩
abbrev S3x4096x128 : Shape := ⟨3, ![3, 4096, 128]⟩
abbrev S16384x3072 : Shape := ⟨2, ![16384, 3072]⟩
abbrev S1024x4096 : Shape := ⟨2, ![1024, 4096]⟩
abbrev S1024x1 : Shape := ⟨2, ![1024, 1]⟩
abbrev S4096x1024 : Shape := ⟨2, ![4096, 1024]⟩
abbrev S1x1024x128 : Shape := ⟨3, ![1, 1024, 128]⟩
abbrev S1024x1024 : Shape := ⟨2, ![1024, 1024]⟩
abbrev S1024x128 : Shape := ⟨2, ![1024, 128]⟩

abbrev nBuf : Space → Nat
  | .hbm => 103
  | .vmem => 12
  | .smem => 0
  | _ => 0

abbrev bufTy : (tb : Table) → Fin (tcTables nBuf tb) → BufTy
  | .hbm, ⟨0, _⟩ => ⟨S16384x4096, .f32⟩
  | .hbm, ⟨1, _⟩ => ⟨S4096, .f32⟩
  | .hbm, ⟨2, _⟩ => ⟨S4096x9216, .f32⟩
  | .hbm, ⟨3, _⟩ => ⟨S1x4096, .f32⟩
  | .hbm, ⟨4, _⟩ => ⟨S16384x4096, .f32⟩
  | .hbm, ⟨5, _⟩ => ⟨S16384x4096, .f32⟩
  | .hbm, ⟨6, _⟩ => ⟨S16384x4096, .bf16⟩
  | .hbm, ⟨7, _⟩ => ⟨S16384x4096, .f32⟩
  | .hbm, ⟨8, _⟩ => ⟨S_, .f32⟩
  | .hbm, ⟨9, _⟩ => ⟨S16384, .f32⟩
  | .hbm, ⟨10, _⟩ => ⟨S16384x1, .f32⟩
  | .hbm, ⟨11, _⟩ => ⟨S4096x9216, .bf16⟩
  | .hbm, ⟨12, _⟩ => ⟨S32, .f32⟩
  | .hbm, ⟨13, _⟩ => ⟨S_, .f32⟩
  | .hbm, ⟨14, _⟩ => ⟨S32, .f32⟩
  | .hbm, ⟨15, _⟩ => ⟨S32, .f32⟩
  | .hbm, ⟨16, _⟩ => ⟨S_, .f32⟩
  | .hbm, ⟨17, _⟩ => ⟨S32, .f32⟩
  | .hbm, ⟨18, _⟩ => ⟨S32, .f32⟩
  | .hbm, ⟨19, _⟩ => ⟨S_, .f32⟩
  | .hbm, ⟨20, _⟩ => ⟨S32, .f32⟩
  | .hbm, ⟨21, _⟩ => ⟨S32, .f32⟩
  | .hbm, ⟨22, _⟩ => ⟨S_, .f32⟩
  | .hbm, ⟨23, _⟩ => ⟨S32, .f32⟩
  | .hbm, ⟨24, _⟩ => ⟨S32, .f32⟩
  | .hbm, ⟨25, _⟩ => ⟨S_, .f32⟩
  | .hbm, ⟨26, _⟩ => ⟨S32, .f32⟩
  | .hbm, ⟨27, _⟩ => ⟨S32, .f32⟩
  | .hbm, ⟨28, _⟩ => ⟨S4096, .f32⟩
  | .hbm, ⟨29, _⟩ => ⟨S4096x1, .f32⟩
  | .hbm, ⟨30, _⟩ => ⟨S1x32, .f32⟩
  | .hbm, ⟨31, _⟩ => ⟨S4096x32, .f32⟩
  | .hbm, ⟨32, _⟩ => ⟨S4096x32, .f32⟩
  | .hbm, ⟨33, _⟩ => ⟨S4096x32, .f32⟩
  | .hbm, ⟨34, _⟩ => ⟨S4096x32, .f32⟩
  | .hbm, ⟨35, _⟩ => ⟨S4096x32, .f32⟩
  | .hbm, ⟨36, _⟩ => ⟨S4096x64, .f32⟩
  | .hbm, ⟨37, _⟩ => ⟨S1x4096x1x64, .f32⟩
  | .hbm, ⟨38, _⟩ => ⟨S1x4096x2x64, .f32⟩
  | .hbm, ⟨39, _⟩ => ⟨S4096x128, .f32⟩
  | .hbm, ⟨40, _⟩ => ⟨S_, .f32⟩
  | .hbm, ⟨41, _⟩ => ⟨S4096x128, .f32⟩
  | .hbm, ⟨42, _⟩ => ⟨S4096x128, .f32⟩
  | .hbm, ⟨43, _⟩ => ⟨S4096x32, .f32⟩
  | .hbm, ⟨44, _⟩ => ⟨S4096x64, .f32⟩
  | .hbm, ⟨45, _⟩ => ⟨S1x4096x1x64, .f32⟩
  | .hbm, ⟨46, _⟩ => ⟨S1x4096x2x64, .f32⟩
  | .hbm, ⟨47, _⟩ => ⟨S4096x128, .f32⟩
  | .hbm, ⟨48, _⟩ => ⟨S_, .f32⟩
  | .hbm, ⟨49, _⟩ => ⟨S4096x128, .f32⟩
  | .hbm, ⟨50, _⟩ => ⟨S4096x128, .f32⟩
  | .hbm, ⟨51, _⟩ => ⟨S32, .f32⟩
  | .hbm, ⟨52, _⟩ => ⟨S_, .f32⟩
  | .hbm, ⟨53, _⟩ => ⟨S32, .f32⟩
  | .hbm, ⟨54, _⟩ => ⟨S32, .f32⟩
  | .hbm, ⟨55, _⟩ => ⟨S_, .f32⟩
  | .hbm, ⟨56, _⟩ => ⟨S32, .f32⟩
  | .hbm, ⟨57, _⟩ => ⟨S32, .f32⟩
  | .hbm, ⟨58, _⟩ => ⟨S_, .f32⟩
  | .hbm, ⟨59, _⟩ => ⟨S32, .f32⟩
  | .hbm, ⟨60, _⟩ => ⟨S32, .f32⟩
  | .hbm, ⟨61, _⟩ => ⟨S_, .f32⟩
  | .hbm, ⟨62, _⟩ => ⟨S32, .f32⟩
  | .hbm, ⟨63, _⟩ => ⟨S32, .f32⟩
  | .hbm, ⟨64, _⟩ => ⟨S_, .f32⟩
  | .hbm, ⟨65, _⟩ => ⟨S32, .f32⟩
  | .hbm, ⟨66, _⟩ => ⟨S32, .f32⟩
  | .hbm, ⟨67, _⟩ => ⟨S4096, .f32⟩
  | .hbm, ⟨68, _⟩ => ⟨S4096x1, .f32⟩
  | .hbm, ⟨69, _⟩ => ⟨S1x32, .f32⟩
  | .hbm, ⟨70, _⟩ => ⟨S4096x32, .f32⟩
  | .hbm, ⟨71, _⟩ => ⟨S4096x32, .f32⟩
  | .hbm, ⟨72, _⟩ => ⟨S4096x32, .f32⟩
  | .hbm, ⟨73, _⟩ => ⟨S4096x32, .f32⟩
  | .hbm, ⟨74, _⟩ => ⟨S4096x32, .f32⟩
  | .hbm, ⟨75, _⟩ => ⟨S4096x64, .f32⟩
  | .hbm, ⟨76, _⟩ => ⟨S1x4096x1x64, .f32⟩
  | .hbm, ⟨77, _⟩ => ⟨S1x4096x2x64, .f32⟩
  | .hbm, ⟨78, _⟩ => ⟨S4096x128, .f32⟩
  | .hbm, ⟨79, _⟩ => ⟨S_, .f32⟩
  | .hbm, ⟨80, _⟩ => ⟨S4096x128, .f32⟩
  | .hbm, ⟨81, _⟩ => ⟨S4096x128, .f32⟩
  | .hbm, ⟨82, _⟩ => ⟨S4096x32, .f32⟩
  | .hbm, ⟨83, _⟩ => ⟨S4096x64, .f32⟩
  | .hbm, ⟨84, _⟩ => ⟨S1x4096x1x64, .f32⟩
  | .hbm, ⟨85, _⟩ => ⟨S1x4096x2x64, .f32⟩
  | .hbm, ⟨86, _⟩ => ⟨S4096x128, .f32⟩
  | .hbm, ⟨87, _⟩ => ⟨S_, .f32⟩
  | .hbm, ⟨88, _⟩ => ⟨S4096x128, .f32⟩
  | .hbm, ⟨89, _⟩ => ⟨S4096x128, .f32⟩
  | .hbm, ⟨90, _⟩ => ⟨S_, .f32⟩
  | .hbm, ⟨91, _⟩ => ⟨S4096x128, .f32⟩
  | .hbm, ⟨92, _⟩ => ⟨S_, .f32⟩
  | .hbm, ⟨93, _⟩ => ⟨S4096x128, .f32⟩
  | .hbm, ⟨94, _⟩ => ⟨S1x4096x128, .f32⟩
  | .hbm, ⟨95, _⟩ => ⟨S1x4096x128, .f32⟩
  | .hbm, ⟨96, _⟩ => ⟨S1x4096x128, .f32⟩
  | .hbm, ⟨97, _⟩ => ⟨S3x4096x128, .f32⟩
  | .hbm, ⟨98, _⟩ => ⟨S1x4096x128, .f32⟩
  | .hbm, ⟨99, _⟩ => ⟨S1x4096x128, .f32⟩
  | .hbm, ⟨100, _⟩ => ⟨S1x4096x128, .f32⟩
  | .hbm, ⟨101, _⟩ => ⟨S3x4096x128, .f32⟩
  | .hbm, ⟨102, _⟩ => ⟨S16384x3072, .bf16⟩
  | .local _ .vmem, ⟨0, _⟩ => ⟨S1024x4096, .bf16⟩
  | .local _ .vmem, ⟨1, _⟩ => ⟨S1024x4096, .bf16⟩
  | .local _ .vmem, ⟨2, _⟩ => ⟨S1024x1, .f32⟩
  | .local _ .vmem, ⟨3, _⟩ => ⟨S1024x1, .f32⟩
  | .local _ .vmem, ⟨4, _⟩ => ⟨S4096x1024, .bf16⟩
  | .local _ .vmem, ⟨5, _⟩ => ⟨S4096x1024, .bf16⟩
  | .local _ .vmem, ⟨6, _⟩ => ⟨S1x1024x128, .f32⟩
  | .local _ .vmem, ⟨7, _⟩ => ⟨S1x1024x128, .f32⟩
  | .local _ .vmem, ⟨8, _⟩ => ⟨S1x1024x128, .f32⟩
  | .local _ .vmem, ⟨9, _⟩ => ⟨S1x1024x128, .f32⟩
  | .local _ .vmem, ⟨10, _⟩ => ⟨S1024x1024, .bf16⟩
  | .local _ .vmem, ⟨11, _⟩ => ⟨S1024x1024, .bf16⟩
  | _, _ => ⟨S16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst_0 : Ref sig .tc := ⟨.hbm, 13, rfl⟩
abbrev main_v9 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_v12 : Ref sig .tc := ⟨.hbm, 18, rfl⟩
abbrev main_cst_2 : Ref sig .tc := ⟨.hbm, 19, rfl⟩
abbrev main_v13 : Ref sig .tc := ⟨.hbm, 20, rfl⟩
abbrev main_v14 : Ref sig .tc := ⟨.hbm, 21, rfl⟩
abbrev main_cst_3 : Ref sig .tc := ⟨.hbm, 22, rfl⟩
abbrev main_v15 : Ref sig .tc := ⟨.hbm, 23, rfl⟩
abbrev main_v16 : Ref sig .tc := ⟨.hbm, 24, rfl⟩
abbrev main_cst_4 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_cst_5 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_cst_6 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_cst_7 : Ref sig .tc := ⟨.hbm, 52, rfl⟩
abbrev main_v41 : Ref sig .tc := ⟨.hbm, 53, rfl⟩
abbrev main_v42 : Ref sig .tc := ⟨.hbm, 54, rfl⟩
abbrev main_cst_8 : Ref sig .tc := ⟨.hbm, 55, rfl⟩
abbrev main_v43 : Ref sig .tc := ⟨.hbm, 56, rfl⟩
abbrev main_v44 : Ref sig .tc := ⟨.hbm, 57, rfl⟩
abbrev main_cst_9 : Ref sig .tc := ⟨.hbm, 58, rfl⟩
abbrev main_v45 : Ref sig .tc := ⟨.hbm, 59, rfl⟩
abbrev main_v46 : Ref sig .tc := ⟨.hbm, 60, rfl⟩
abbrev main_cst_10 : Ref sig .tc := ⟨.hbm, 61, rfl⟩
abbrev main_v47 : Ref sig .tc := ⟨.hbm, 62, rfl⟩
abbrev main_v48 : Ref sig .tc := ⟨.hbm, 63, rfl⟩
abbrev main_cst_11 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_cst_12 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_cst_13 : Ref sig .tc := ⟨.hbm, 87, rfl⟩
abbrev main_v70 : Ref sig .tc := ⟨.hbm, 88, rfl⟩
abbrev main_v71 : Ref sig .tc := ⟨.hbm, 89, rfl⟩
abbrev main_cst_14 : Ref sig .tc := ⟨.hbm, 90, rfl⟩
abbrev main_v72 : Ref sig .tc := ⟨.hbm, 91, rfl⟩
abbrev main_cst_15 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_v76 : Ref sig .tc := ⟨.hbm, 96, rfl⟩
abbrev main_v77 : Ref sig .tc := ⟨.hbm, 97, rfl⟩
abbrev main_v78 : Ref sig .tc := ⟨.hbm, 98, rfl⟩
abbrev main_v79 : Ref sig .tc := ⟨.hbm, 99, rfl⟩
abbrev main_v80 : Ref sig .tc := ⟨.hbm, 100, rfl⟩
abbrev main_v81 : Ref sig .tc := ⟨.hbm, 101, rfl⟩
abbrev main_v82 : Ref sig .tc := ⟨.hbm, 102, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![16, 3], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c6_i32 : BitVec 32 := 6#32
  let v0 : BitVec 32 := Scalar.addi c6_i32 arg1
  let c0_i32 : BitVec 32 := 0#32
  let c0_i32_0 : BitVec 32 := 0#32
  ![c0_i32.toNat, v0.toNat]

def cc0_transform_3 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg1 c1_i32
  let c1_i32_0 : BitVec 32 := 1#32
  let c0_i32 : BitVec 32 := 0#32
  let v1 : BitVec 32 := Scalar.select v0 c1_i32_0 c0_i32
  let c0_i32_1 : BitVec 32 := 0#32
  let v2 : BitVec 32 := Scalar.addi c0_i32_1 v1
  let c2_i32 : BitVec 32 := 2#32
  let v3 : BitVec 1 := Scalar.cmpi .eq arg1 c2_i32
  let c2_i32_2 : BitVec 32 := 2#32
  let c0_i32_3 : BitVec 32 := 0#32
  let v4 : BitVec 32 := Scalar.select v3 c2_i32_2 c0_i32_3
  let v5 : BitVec 32 := Scalar.addi v2 v4
  let c4_i32 : BitVec 32 := 4#32
  let c0_i32_4 : BitVec 32 := 0#32
  let v6 : BitVec 1 := Scalar.cmpi .eq c4_i32 c0_i32_4
  let c1_i32_5 : BitVec 32 := 1#32
  let v7 : BitVec 32 := Scalar.select v6 c1_i32_5 c4_i32
  let v8 : BitVec 32 := Scalar.remsi arg0 v7
  let c0_i32_6 : BitVec 32 := 0#32
  let v9 : BitVec 1 := Scalar.cmpi .ne v8 c0_i32_6
  let c0_i32_7 : BitVec 32 := 0#32
  let v10 : BitVec 1 := Scalar.cmpi .slt v8 c0_i32_7
  let c0_i32_8 : BitVec 32 := 0#32
  let v11 : BitVec 1 := Scalar.cmpi .slt v7 c0_i32_8
  let v12 : BitVec 1 := Scalar.xori v10 v11
  let v13 : BitVec 1 := Scalar.andi v12 v9
  let v14 : BitVec 32 := Scalar.addi v8 v7
  let v15 : BitVec 32 := Scalar.select v13 v14 v8
  let c0_i32_9 : BitVec 32 := 0#32
  let c0_i32_10 : BitVec 32 := 0#32
  ![v5.toNat, v15.toNat, c0_i32_9.toNat]

def cc0_transform_4 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg1 c1_i32
  let c1_i32_0 : BitVec 32 := 1#32
  let c0_i32 : BitVec 32 := 0#32
  let v1 : BitVec 32 := Scalar.select v0 c1_i32_0 c0_i32
  let c0_i32_1 : BitVec 32 := 0#32
  let v2 : BitVec 32 := Scalar.addi c0_i32_1 v1
  let c2_i32 : BitVec 32 := 2#32
  let v3 : BitVec 1 := Scalar.cmpi .eq arg1 c2_i32
  let c2_i32_2 : BitVec 32 := 2#32
  let c0_i32_3 : BitVec 32 := 0#32
  let v4 : BitVec 32 := Scalar.select v3 c2_i32_2 c0_i32_3
  let v5 : BitVec 32 := Scalar.addi v2 v4
  let c4_i32 : BitVec 32 := 4#32
  let c0_i32_4 : BitVec 32 := 0#32
  let v6 : BitVec 1 := Scalar.cmpi .eq c4_i32 c0_i32_4
  let c1_i32_5 : BitVec 32 := 1#32
  let v7 : BitVec 32 := Scalar.select v6 c1_i32_5 c4_i32
  let v8 : BitVec 32 := Scalar.remsi arg0 v7
  let c0_i32_6 : BitVec 32 := 0#32
  let v9 : BitVec 1 := Scalar.cmpi .ne v8 c0_i32_6
  let c0_i32_7 : BitVec 32 := 0#32
  let v10 : BitVec 1 := Scalar.cmpi .slt v8 c0_i32_7
  let c0_i32_8 : BitVec 32 := 0#32
  let v11 : BitVec 1 := Scalar.cmpi .slt v7 c0_i32_8
  let v12 : BitVec 1 := Scalar.xori v10 v11
  let v13 : BitVec 1 := Scalar.andi v12 v9
  let v14 : BitVec 32 := Scalar.addi v8 v7
  let v15 : BitVec 32 := Scalar.select v13 v14 v8
  let c0_i32_9 : BitVec 32 := 0#32
  let c0_i32_10 : BitVec 32 := 0#32
  ![v5.toNat, v15.toNat, c0_i32_9.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S4096x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference6Ideal.lean ====
abbrev S16384x4096 : Shape := ⟨2, ![16384, 4096]⟩
abbrev S4096 : Shape := ⟨1, ![4096]⟩
abbrev S4096x9216 : Shape := ⟨2, ![4096, 9216]⟩
abbrev S_ : Shape := ⟨0, ![]⟩
abbrev S16384 : Shape := ⟨1, ![16384]⟩
abbrev S16384x1 : Shape := ⟨2, ![16384, 1]⟩
abbrev S1x4096 : Shape := ⟨2, ![1, 4096]⟩
abbrev S16384x9216 : Shape := ⟨2, ![16384, 9216]⟩
abbrev S16384x1024 : Shape := ⟨2, ![16384, 1024]⟩
abbrev S32 : Shape := ⟨1, ![32]⟩
abbrev S4096x1 : Shape := ⟨2, ![4096, 1]⟩
abbrev S1x32 : Shape := ⟨2, ![1, 32]⟩
abbrev S4096x32 : Shape := ⟨2, ![4096, 32]⟩
abbrev S4x4096x16x64 : Shape := ⟨4, ![4, 4096, 16, 64]⟩
abbrev S4x4096x16x32 : Shape := ⟨4, ![4, 4096, 16, 32]⟩
abbrev S4096x1x32 : Shape := ⟨3, ![4096, 1, 32]⟩
abbrev S1x4096x1x32 : Shape := ⟨4, ![1, 4096, 1, 32]⟩
abbrev S16384x3072 : Shape := ⟨2, ![16384, 3072]⟩

abbrev nBuf : Space → Nat
  | .hbm => 91
  | .vmem => 0
  | .smem => 0
  | _ => 0

abbrev bufTy : (tb : Table) → Fin (tcTables nBuf tb) → BufTy
  | .hbm, ⟨0, _⟩ => ⟨S16384x4096, .f32⟩
  | .hbm, ⟨1, _⟩ => ⟨S4096, .f32⟩
  | .hbm, ⟨2, _⟩ => ⟨S4096x9216, .f32⟩
  | .hbm, ⟨3, _⟩ => ⟨S16384x4096, .f32⟩
  | .hbm, ⟨4, _⟩ => ⟨S_, .f32⟩
  | .hbm, ⟨5, _⟩ => ⟨S16384, .f32⟩
  | .hbm, ⟨6, _⟩ => ⟨S16384x1, .f32⟩
  | .hbm, ⟨7, _⟩ => ⟨S_, .f32⟩
  | .hbm, ⟨8, _⟩ => ⟨S16384x1, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S16384x1, .f32⟩
  | .hbm, ⟨14, _⟩ => ⟨S16384x4096, .f32⟩
  | .hbm, ⟨15, _⟩ => ⟨S16384x4096, .f32⟩
  | .hbm, ⟨16, _⟩ => ⟨S1x4096, .f32⟩
  | .hbm, ⟨17, _⟩ => ⟨S16384x4096, .f32⟩
  | .hbm, ⟨18, _⟩ => ⟨S16384x4096, .f32⟩
  | .hbm, ⟨19, _⟩ => ⟨S16384x9216, .f32⟩
  | .hbm, ⟨20, _⟩ => ⟨S16384x1024, .f32⟩
  | .hbm, ⟨21, _⟩ => ⟨S16384x1024, .f32⟩
  | .hbm, ⟨22, _⟩ => ⟨S16384x1024, .f32⟩
  | .hbm, ⟨23, _⟩ => ⟨S32, .f32⟩
  | .hbm, ⟨24, _⟩ => ⟨S_, .f32⟩
  | .hbm, ⟨25, _⟩ => ⟨S32, .f32⟩
  | .hbm, ⟨26, _⟩ => ⟨S32, .f32⟩
  | .hbm, ⟨27, _⟩ => ⟨S_, .f32⟩
  | .hbm, ⟨28, _⟩ => ⟨S32, .f32⟩
  | .hbm, ⟨29, _⟩ => ⟨S32, .f32⟩
  | .hbm, ⟨30, _⟩ => ⟨S_, .f32⟩
  | .hbm, ⟨31, _⟩ => ⟨S32, .f32⟩
  | .hbm, ⟨32, _⟩ => ⟨S32, .f32⟩
  | .hbm, ⟨33, _⟩ => ⟨S_, .f32⟩
  | .hbm, ⟨34, _⟩ => ⟨S32, .f32⟩
  | .hbm, ⟨35, _⟩ => ⟨S32, .f32⟩
  | .hbm, ⟨36, _⟩ => ⟨S_, .f32⟩
  | .hbm, ⟨37, _⟩ => ⟨S32, .f32⟩
  | .hbm, ⟨38, _⟩ => ⟨S32, .f32⟩
  | .hbm, ⟨39, _⟩ => ⟨S4096, .f32⟩
  | .hbm, ⟨40, _⟩ => ⟨S4096x1, .f32⟩
  | .hbm, ⟨41, _⟩ => ⟨S1x32, .f32⟩
  | .hbm, ⟨42, _⟩ => ⟨S4096x32, .f32⟩
  | .hbm, ⟨43, _⟩ => ⟨S4096x32, .f32⟩
  | .hbm, ⟨44, _⟩ => ⟨S4096x32, .f32⟩
  | .hbm, ⟨45, _⟩ => ⟨S4096x32, .f32⟩
  | .hbm, ⟨46, _⟩ => ⟨S4096x32, .f32⟩
  | .hbm, ⟨47, _⟩ => ⟨S4x4096x16x64, .f32⟩
  | .hbm, ⟨48, _⟩ => ⟨S4x4096x16x32, .f32⟩
  | .hbm, ⟨49, _⟩ => ⟨S4x4096x16x32, .f32⟩
  | .hbm, ⟨50, _⟩ => ⟨S4096x1x32, .f32⟩
  | .hbm, ⟨51, _⟩ => ⟨S4096x1x32, .f32⟩
  | .hbm, ⟨52, _⟩ => ⟨S1x4096x1x32, .f32⟩
  | .hbm, ⟨53, _⟩ => ⟨S4x4096x16x32, .f32⟩
  | .hbm, ⟨54, _⟩ => ⟨S4x4096x16x32, .f32⟩
  | .hbm, ⟨55, _⟩ => ⟨S1x4096x1x32, .f32⟩
  | .hbm, ⟨56, _⟩ => ⟨S4x4096x16x32, .f32⟩
  | .hbm, ⟨57, _⟩ => ⟨S4x4096x16x32, .f32⟩
  | .hbm, ⟨58, _⟩ => ⟨S4x4096x16x32, .f32⟩
  | .hbm, ⟨59, _⟩ => ⟨S1x4096x1x32, .f32⟩
  | .hbm, ⟨60, _⟩ => ⟨S4x4096x16x32, .f32⟩
  | .hbm, ⟨61, _⟩ => ⟨S4x4096x16x32, .f32⟩
  | .hbm, ⟨62, _⟩ => ⟨S1x4096x1x32, .f32⟩
  | .hbm, ⟨63, _⟩ => ⟨S4x4096x16x32, .f32⟩
  | .hbm, ⟨64, _⟩ => ⟨S4x4096x16x32, .f32⟩
  | .hbm, ⟨65, _⟩ => ⟨S4x4096x16x32, .f32⟩
  | .hbm, ⟨66, _⟩ => ⟨S4x4096x16x64, .f32⟩
  | .hbm, ⟨67, _⟩ => ⟨S4x4096x16x64, .f32⟩
  | .hbm, ⟨68, _⟩ => ⟨S4x4096x16x32, .f32⟩
  | .hbm, ⟨69, _⟩ => ⟨S4x4096x16x32, .f32⟩
  | .hbm, ⟨70, _⟩ => ⟨S4096x1x32, .f32⟩
  | .hbm, ⟨71, _⟩ => ⟨S4096x1x32, .f32⟩
  | .hbm, ⟨72, _⟩ => ⟨S1x4096x1x32, .f32⟩
  | .hbm, ⟨73, _⟩ => ⟨S4x4096x16x32, .f32⟩
  | .hbm, ⟨74, _⟩ => ⟨S4x4096x16x32, .f32⟩
  | .hbm, ⟨75, _⟩ => ⟨S1x4096x1x32, .f32⟩
  | .hbm, ⟨76, _⟩ => ⟨S4x4096x16x32, .f32⟩
  | .hbm, ⟨77, _⟩ => ⟨S4x4096x16x32, .f32⟩
  | .hbm, ⟨78, _⟩ => ⟨S4x4096x16x32, .f32⟩
  | .hbm, ⟨79, _⟩ => ⟨S1x4096x1x32, .f32⟩
  | .hbm, ⟨80, _⟩ => ⟨S4x4096x16x32, .f32⟩
  | .hbm, ⟨81, _⟩ => ⟨S4x4096x16x32, .f32⟩
  | .hbm, ⟨82, _⟩ => ⟨S1x4096x1x32, .f32⟩
  | .hbm, ⟨83, _⟩ => ⟨S4x4096x16x32, .f32⟩
  | .hbm, ⟨84, _⟩ => ⟨S4x4096x16x32, .f32⟩
  | .hbm, ⟨85, _⟩ => ⟨S4x4096x16x32, .f32⟩
  | .hbm, ⟨86, _⟩ => ⟨S4x4096x16x64, .f32⟩
  | .hbm, ⟨87, _⟩ => ⟨S16384x1024, .f32⟩
  | .hbm, ⟨88, _⟩ => ⟨S16384x1024, .f32⟩
  | .hbm, ⟨89, _⟩ => ⟨S16384x3072, .f32⟩
  | .hbm, ⟨90, _⟩ => ⟨S16384x3072, .bf16⟩
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst_2 : Ref sig .tc := ⟨.hbm, 24, rfl⟩
abbrev main_v18 : Ref sig .tc := ⟨.hbm, 25, rfl⟩
abbrev main_v19 : Ref sig .tc := ⟨.hbm, 26, rfl⟩
abbrev main_cst_3 : Ref sig .tc := ⟨.hbm, 27, rfl⟩
abbrev main_v20 : Ref sig .tc := ⟨.hbm, 28, rfl⟩
abbrev main_v21 : Ref sig .tc := ⟨.hbm, 29, rfl⟩
abbrev main_cst_4 : Ref sig .tc := ⟨.hbm, 30, rfl⟩
abbrev main_v22 : Ref sig .tc := ⟨.hbm, 31, rfl⟩
abbrev main_v23 : Ref sig .tc := ⟨.hbm, 32, rfl⟩
abbrev main_cst_5 : Ref sig .tc := ⟨.hbm, 33, rfl⟩
abbrev main_v24 : Ref sig .tc := ⟨.hbm, 34, rfl⟩
abbrev main_v25 : Ref sig .tc := ⟨.hbm, 35, rfl⟩
abbrev main_cst_6 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_v57 : Ref sig .tc := ⟨.hbm, 68, rfl⟩
abbrev main_v58 : Ref sig .tc := ⟨.hbm, 69, rfl⟩
abbrev main_v59 : Ref sig .tc := ⟨.hbm, 70, rfl⟩
abbrev main_v60 : Ref sig .tc := ⟨.hbm, 71, rfl⟩
abbrev main_v61 : Ref sig .tc := ⟨.hbm, 72, rfl⟩
abbrev main_v62 : Ref sig .tc := ⟨.hbm, 73, rfl⟩
abbrev main_v63 : Ref sig .tc := ⟨.hbm, 74, rfl⟩
abbrev main_v64 : Ref sig .tc := ⟨.hbm, 75, rfl⟩
abbrev main_v65 : Ref sig .tc := ⟨.hbm, 76, rfl⟩
abbrev main_v66 : Ref sig .tc := ⟨.hbm, 77, rfl⟩
abbrev main_v67 : Ref sig .tc := ⟨.hbm, 78, rfl⟩
abbrev main_v68 : Ref sig .tc := ⟨.hbm, 79, rfl⟩
abbrev main_v69 : Ref sig .tc := ⟨.hbm, 80, rfl⟩
abbrev main_v70 : Ref sig .tc := ⟨.hbm, 81, rfl⟩
abbrev main_v71 : Ref sig .tc := ⟨.hbm, 82, rfl⟩
abbrev main_v72 : Ref sig .tc := ⟨.hbm, 83, rfl⟩
abbrev main_v73 : Ref sig .tc := ⟨.hbm, 84, rfl⟩
abbrev main_v74 : Ref sig .tc := ⟨.hbm, 85, rfl⟩
abbrev main_v75 : Ref sig .tc := ⟨.hbm, 86, rfl⟩
abbrev main_v76 : Ref sig .tc := ⟨.hbm, 87, rfl⟩
abbrev main_v77 : Ref sig .tc := ⟨.hbm, 88, rfl⟩
abbrev main_v78 : Ref sig .tc := ⟨.hbm, 89, rfl⟩
abbrev main_v79 : Ref sig .tc := ⟨.hbm, 90, rfl⟩

abbrev nD : Nat := 1
abbrev τ : Topo := Topo.v7x

variable {F : FTy → Type} [FloatOps F]
-- ==== Kernel7.lean ====
abbrev S16384x4096 : Shape := ⟨2, ![16384, 4096]⟩
abbrev S4096 : Shape := ⟨1, ![4096]⟩
abbrev S1x4096 : Shape := ⟨2, ![1, 4096]⟩
abbrev S256x4096 : Shape := ⟨2, ![256, 4096]⟩
abbrev S256 : Shape := ⟨1, ![256]⟩
abbrev S256x1 : Shape := ⟨2, ![256, 1]⟩

abbrev nBuf : Space → Nat
  | .hbm => 4
  | .vmem => 5
  | .smem => 0
  | _ => 0

abbrev bufTy : (tb : Table) → Fin (tcTables nBuf tb) → BufTy
  | .hbm, ⟨0, _⟩ => ⟨S16384x4096, .f32⟩
  | .hbm, ⟨1, _⟩ => ⟨S4096, .f32⟩
  | .hbm, ⟨2, _⟩ => ⟨S1x4096, .f32⟩
  | .hbm, ⟨3, _⟩ => ⟨S16384x4096, .f32⟩
  | .local _ .vmem, ⟨0, _⟩ => ⟨S256x4096, .f32⟩
  | .local _ .vmem, ⟨1, _⟩ => ⟨S256x4096, .f32⟩
  | .local _ .vmem, ⟨2, _⟩ => ⟨S1x4096, .f32⟩
  | .local _ .vmem, ⟨3, _⟩ => ⟨S256x4096, .f32⟩
  | .local _ .vmem, ⟨4, _⟩ => ⟨S256x4096, .f32⟩
  | _, _ => ⟨S16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference7Ideal.lean ====
abbrev S16384x4096 : Shape := ⟨2, ![16384, 4096]⟩
abbrev S4096 : Shape := ⟨1, ![4096]⟩
abbrev S_ : Shape := ⟨0, ![]⟩
abbrev S16384 : Shape := ⟨1, ![16384]⟩
abbrev S16384x1 : Shape := ⟨2, ![16384, 1]⟩
abbrev S1x4096 : Shape := ⟨2, ![1, 4096]⟩

abbrev nBuf : Space → Nat
  | .hbm => 18
  | .vmem => 0
  | .smem => 0
  | _ => 0

abbrev bufTy : (tb : Table) → Fin (tcTables nBuf tb) → BufTy
  | .hbm, ⟨0, _⟩ => ⟨S16384x4096, .f32⟩
  | .hbm, ⟨1, _⟩ => ⟨S4096, .f32⟩
  | .hbm, ⟨2, _⟩ => ⟨S16384x4096, .f32⟩
  | .hbm, ⟨3, _⟩ => ⟨S_, .f32⟩
  | .hbm, ⟨4, _⟩ => ⟨S16384, .f32⟩
  | .hbm, ⟨5, _⟩ => ⟨S16384x1, .f32⟩
  | .hbm, ⟨6, _⟩ => ⟨S_, .f32⟩
  | .hbm, ⟨7, _⟩ => ⟨S16384x1, .f32⟩
  | .hbm, ⟨8, _⟩ => ⟨S16384x1, .f32⟩
  | .hbm, ⟨9, _⟩ => ⟨S_, .f32⟩
  | .hbm, ⟨10, _⟩ => ⟨S16384x1, .f32⟩
  | .hbm, ⟨11, _⟩ => ⟨S16384x1, .f32⟩
  | .hbm, ⟨12, _⟩ => ⟨S16384x1, .f32⟩
  | .hbm, ⟨13, _⟩ => ⟨S16384x4096, .f32⟩
  | .hbm, ⟨14, _⟩ => ⟨S16384x4096, .f32⟩
  | .hbm, ⟨15, _⟩ => ⟨S1x4096, .f32⟩
  | .hbm, ⟨16, _⟩ => ⟨S16384x4096, .f32⟩
  | .hbm, ⟨17, _⟩ => ⟨S16384x4096, .f32⟩
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== Kernel8.lean ====
abbrev S16384x4096 : Shape := ⟨2, ![16384, 4096]⟩
abbrev S4096x4096 : Shape := ⟨2, ![4096, 4096]⟩
abbrev S4x4096 : Shape := ⟨2, ![4, 4096]⟩
abbrev S4x1x4096 : Shape := ⟨3, ![4, 1, 4096]⟩
abbrev S16384x1 : Shape := ⟨2, ![16384, 1]⟩
abbrev S1024x4096 : Shape := ⟨2, ![1024, 4096]⟩
abbrev S4096x512 : Shape := ⟨2, ![4096, 512]⟩
abbrev S1024x512 : Shape := ⟨2, ![1024, 512]⟩
abbrev S1x1x512 : Shape := ⟨3, ![1, 1, 512]⟩
abbrev S1024x1 : Shape := ⟨2, ![1024, 1]⟩
abbrev S1x512 : Shape := ⟨2, ![1, 512]⟩
abbrev S1024 : Shape := ⟨1, ![1024]⟩

abbrev nBuf : Space → Nat
  | .hbm => 10
  | .vmem => 14
  | .smem => 0
  | _ => 0

abbrev bufTy : (tb : Table) → Fin (tcTables nBuf tb) → BufTy
  | .hbm, ⟨0, _⟩ => ⟨S16384x4096, .f32⟩
  | .hbm, ⟨1, _⟩ => ⟨S4096x4096, .f32⟩
  | .hbm, ⟨2, _⟩ => ⟨S16384x4096, .f32⟩
  | .hbm, ⟨3, _⟩ => ⟨S4x4096, .f32⟩
  | .hbm, ⟨4, _⟩ => ⟨S16384x4096, .bf16⟩
  | .hbm, ⟨5, _⟩ => ⟨S4096x4096, .bf16⟩
  | .hbm, ⟨6, _⟩ => ⟨S4x1x4096, .f32⟩
  | .hbm, ⟨7, _⟩ => ⟨S16384x4096, .f32⟩
  | .hbm, ⟨8, _⟩ => ⟨S16384x4096, .bf16⟩
  | .hbm, ⟨9, _⟩ => ⟨S16384x1, .f32⟩
  | .local _ .vmem, ⟨0, _⟩ => ⟨S1024x4096, .bf16⟩
  | .local _ .vmem, ⟨1, _⟩ => ⟨S1024x4096, .bf16⟩
  | .local _ .vmem, ⟨2, _⟩ => ⟨S4096x512, .bf16⟩
  | .local _ .vmem, ⟨3, _⟩ => ⟨S4096x512, .bf16⟩
  | .local _ .vmem, ⟨4, _⟩ => ⟨S1024x512, .f32⟩
  | .local _ .vmem, ⟨5, _⟩ => ⟨S1024x512, .f32⟩
  | .local _ .vmem, ⟨6, _⟩ => ⟨S1x1x512, .f32⟩
  | .local _ .vmem, ⟨7, _⟩ => ⟨S1x1x512, .f32⟩
  | .local _ .vmem, ⟨8, _⟩ => ⟨S1024x512, .f32⟩
  | .local _ .vmem, ⟨9, _⟩ => ⟨S1024x512, .f32⟩
  | .local _ .vmem, ⟨10, _⟩ => ⟨S1024x512, .bf16⟩
  | .local _ .vmem, ⟨11, _⟩ => ⟨S1024x512, .bf16⟩
  | .local _ .vmem, ⟨12, _⟩ => ⟨S1024x1, .f32⟩
  | .local _ .vmem, ⟨13, _⟩ => ⟨S1024x1, .f32⟩
  | _, _ => ⟨S16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![16, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== Reference8Ideal.lean ====
abbrev S16384x4096 : Shape := ⟨2, ![16384, 4096]⟩
abbrev S4096x4096 : Shape := ⟨2, ![4096, 4096]⟩
abbrev S4x4096 : Shape := ⟨2, ![4, 4096]⟩
abbrev S1x4096 : Shape := ⟨2, ![1, 4096]⟩
abbrev S4096 : Shape := ⟨1, ![4096]⟩
abbrev S_ : Shape := ⟨0, ![]⟩
abbrev S16384 : Shape := ⟨1, ![16384]⟩
abbrev S16384x1 : Shape := ⟨2, ![16384, 1]⟩

abbrev nBuf : Space → Nat
  | .hbm => 16
  | .vmem => 0
  | .smem => 0
  | _ => 0

abbrev bufTy : (tb : Table) → Fin (tcTables nBuf tb) → BufTy
  | .hbm, ⟨0, _⟩ => ⟨S16384x4096, .f32⟩
  | .hbm, ⟨1, _⟩ => ⟨S4096x4096, .f32⟩
  | .hbm, ⟨2, _⟩ => ⟨S16384x4096, .f32⟩
  | .hbm, ⟨3, _⟩ => ⟨S4x4096, .f32⟩
  | .hbm, ⟨4, _⟩ => ⟨S16384x4096, .f32⟩
  | .hbm, ⟨5, _⟩ => ⟨S16384x4096, .f32⟩
  | .hbm, ⟨6, _⟩ => ⟨S1x4096, .f32⟩
  | .hbm, ⟨7, _⟩ => ⟨S4096, .f32⟩
  | .hbm, ⟨8, _⟩ => ⟨S1x4096, .f32⟩
  | .hbm, ⟨9, _⟩ => ⟨S16384x4096, .f32⟩
  | .hbm, ⟨10, _⟩ => ⟨S16384x4096, .f32⟩
  | .hbm, ⟨11, _⟩ => ⟨S16384x4096, .bf16⟩
  | .hbm, ⟨12, _⟩ => ⟨S16384x4096, .f32⟩
  | .hbm, ⟨13, _⟩ => ⟨S_, .f32⟩
  | .hbm, ⟨14, _⟩ => ⟨S16384, .f32⟩
  | .hbm, ⟨15, _⟩ => ⟨S16384x1, .f32⟩
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst : Ref sig .tc := ⟨.hbm, 13, rfl⟩
abbrev main_v9 : Ref sig .tc := ⟨.hbm, 14, rfl⟩
abbrev main_v10 : Ref sig .tc := ⟨.hbm, 15, rfl⟩

abbrev nD : Nat := 1
abbrev τ : Topo := Topo.v7x

variable {F : FTy → Type} [FloatOps F]
-- ==== Kernel9.lean ====
abbrev S16384x4096 : Shape := ⟨2, ![16384, 4096]⟩
abbrev S4096x4096 : Shape := ⟨2, ![4096, 4096]⟩
abbrev S1024x4096 : Shape := ⟨2, ![1024, 4096]⟩
abbrev S4096x512 : Shape := ⟨2, ![4096, 512]⟩
abbrev S1024x512 : Shape := ⟨2, ![1024, 512]⟩

abbrev nBuf : Space → Nat
  | .hbm => 6
  | .vmem => 8
  | .smem => 0
  | _ => 0

abbrev bufTy : (tb : Table) → Fin (tcTables nBuf tb) → BufTy
  | .hbm, ⟨0, _⟩ => ⟨S16384x4096, .f32⟩
  | .hbm, ⟨1, _⟩ => ⟨S4096x4096, .f32⟩
  | .hbm, ⟨2, _⟩ => ⟨S16384x4096, .f32⟩
  | .hbm, ⟨3, _⟩ => ⟨S16384x4096, .bf16⟩
  | .hbm, ⟨4, _⟩ => ⟨S4096x4096, .bf16⟩
  | .hbm, ⟨5, _⟩ => ⟨S16384x4096, .f32⟩
  | .local _ .vmem, ⟨0, _⟩ => ⟨S1024x4096, .bf16⟩
  | .local _ .vmem, ⟨1, _⟩ => ⟨S1024x4096, .bf16⟩
  | .local _ .vmem, ⟨2, _⟩ => ⟨S4096x512, .bf16⟩
  | .local _ .vmem, ⟨3, _⟩ => ⟨S4096x512, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S1024x512, .f32⟩
  | _, _ => ⟨S16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![16, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference9Ideal.lean ====
abbrev S16384x4096 : Shape := ⟨2, ![16384, 4096]⟩
abbrev S4096x4096 : Shape := ⟨2, ![4096, 4096]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S16384x4096, .f32⟩
  | .hbm, ⟨1, _⟩ => ⟨S4096x4096, .f32⟩
  | .hbm, ⟨2, _⟩ => ⟨S16384x4096, .f32⟩
  | .hbm, ⟨3, _⟩ => ⟨S16384x4096, .f32⟩
  | .hbm, ⟨4, _⟩ => ⟨S_, .f32⟩
  | .hbm, ⟨5, _⟩ => ⟨S16384x4096, .f32⟩
  | .hbm, ⟨6, _⟩ => ⟨S16384x4096, .f32⟩
  | .hbm, ⟨7, _⟩ => ⟨S16384x4096, .f32⟩
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩

abbrev nD : Nat := 1
abbrev τ : Topo := Topo.v7x

variable {F : FTy → Type} [FloatOps F]
-- ==== Kernel10.lean ====
abbrev S16384x4096 : Shape := ⟨2, ![16384, 4096]⟩
abbrev S4096 : Shape := ⟨1, ![4096]⟩
abbrev S4096x8192 : Shape := ⟨2, ![4096, 8192]⟩
abbrev S4x4096x8192 : Shape := ⟨3, ![4, 4096, 8192]⟩
abbrev S4x4096x4096 : Shape := ⟨3, ![4, 4096, 4096]⟩
abbrev S1x4096 : Shape := ⟨2, ![1, 4096]⟩
abbrev S_ : Shape := ⟨0, ![]⟩
abbrev S16384 : Shape := ⟨1, ![16384]⟩
abbrev S16384x1 : Shape := ⟨2, ![16384, 1]⟩
abbrev S4096x4096 : Shape := ⟨2, ![4096, 4096]⟩
abbrev S1024x4096 : Shape := ⟨2, ![1024, 4096]⟩
abbrev S1024x1 : Shape := ⟨2, ![1024, 1]⟩
abbrev S4096x512 : Shape := ⟨2, ![4096, 512]⟩
abbrev S1x32x8192 : Shape := ⟨3, ![1, 32, 8192]⟩
abbrev S1x32x4096 : Shape := ⟨3, ![1, 32, 4096]⟩
abbrev S1024x512 : Shape := ⟨2, ![1024, 512]⟩
abbrev S32x8192 : Shape := ⟨2, ![32, 8192]⟩
abbrev S32x4096 : Shape := ⟨2, ![32, 4096]⟩

abbrev nBuf : Space → Nat
  | .hbm => 17
  | .vmem => 18
  | .smem => 0
  | _ => 0

abbrev bufTy : (tb : Table) → Fin (tcTables nBuf tb) → BufTy
  | .hbm, ⟨0, _⟩ => ⟨S16384x4096, .f32⟩
  | .hbm, ⟨1, _⟩ => ⟨S4096, .f32⟩
  | .hbm, ⟨2, _⟩ => ⟨S4096x8192, .f32⟩
  | .hbm, ⟨3, _⟩ => ⟨S4x4096x8192, .f32⟩
  | .hbm, ⟨4, _⟩ => ⟨S4x4096x4096, .f32⟩
  | .hbm, ⟨5, _⟩ => ⟨S1x4096, .f32⟩
  | .hbm, ⟨6, _⟩ => ⟨S16384x4096, .f32⟩
  | .hbm, ⟨7, _⟩ => ⟨S16384x4096, .f32⟩
  | .hbm, ⟨8, _⟩ => ⟨S16384x4096, .bf16⟩
  | .hbm, ⟨9, _⟩ => ⟨S16384x4096, .f32⟩
  | .hbm, ⟨10, _⟩ => ⟨S_, .f32⟩
  | .hbm, ⟨11, _⟩ => ⟨S16384, .f32⟩
  | .hbm, ⟨12, _⟩ => ⟨S16384x1, .f32⟩
  | .hbm, ⟨13, _⟩ => ⟨S4096x8192, .bf16⟩
  | .hbm, ⟨14, _⟩ => ⟨S16384x4096, .bf16⟩
  | .hbm, ⟨15, _⟩ => ⟨S4096x8192, .bf16⟩
  | .hbm, ⟨16, _⟩ => ⟨S4096x4096, .bf16⟩
  | .local _ .vmem, ⟨0, _⟩ => ⟨S1024x4096, .bf16⟩
  | .local _ .vmem, ⟨1, _⟩ => ⟨S1024x4096, .bf16⟩
  | .local _ .vmem, ⟨2, _⟩ => ⟨S1024x1, .f32⟩
  | .local _ .vmem, ⟨3, _⟩ => ⟨S1024x1, .f32⟩
  | .local _ .vmem, ⟨4, _⟩ => ⟨S4096x512, .bf16⟩
  | .local _ .vmem, ⟨5, _⟩ => ⟨S4096x512, .bf16⟩
  | .local _ .vmem, ⟨6, _⟩ => ⟨S4096x512, .bf16⟩
  | .local _ .vmem, ⟨7, _⟩ => ⟨S4096x512, .bf16⟩
  | .local _ .vmem, ⟨8, _⟩ => ⟨S1x32x8192, .f32⟩
  | .local _ .vmem, ⟨9, _⟩ => ⟨S1x32x8192, .f32⟩
  | .local _ .vmem, ⟨10, _⟩ => ⟨S1x32x4096, .f32⟩
  | .local _ .vmem, ⟨11, _⟩ => ⟨S1x32x4096, .f32⟩
  | .local _ .vmem, ⟨12, _⟩ => ⟨S1024x512, .bf16⟩
  | .local _ .vmem, ⟨13, _⟩ => ⟨S1024x512, .bf16⟩
  | .local _ .vmem, ⟨14, _⟩ => ⟨S32x8192, .bf16⟩
  | .local _ .vmem, ⟨15, _⟩ => ⟨S32x8192, .bf16⟩
  | .local _ .vmem, ⟨16, _⟩ => ⟨S32x4096, .bf16⟩
  | .local _ .vmem, ⟨17, _⟩ => ⟨S32x4096, .bf16⟩
  | _, _ => ⟨S16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8_0 : Ref sig .tc := ⟨.hbm, 14, rfl⟩
abbrev main_v8_1 : Ref sig .tc := ⟨.hbm, 15, rfl⟩
abbrev main_v8_2 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![16, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi arg1 c8_i32
  let c0_i32 : BitVec 32 := 0#32
  let c0_i32_0 : BitVec 32 := 0#32
  ![c0_i32.toNat, v0.toNat]

def cc0_transform_4 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c127_i32 : BitVec 32 := 127#32
  let v2 : BitVec 32 := Scalar.minsi v1 c127_i32
  let c1_i32 : BitVec 32 := 1#32
  let c0_i32 : BitVec 32 := 0#32
  let c0_i32_0 : BitVec 32 := 0#32
  ![c1_i32.toNat, v2.toNat, c0_i32.toNat]

def cc0_transform_5 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c127_i32 : BitVec 32 := 127#32
  let v2 : BitVec 32 := Scalar.minsi v1 c127_i32
  let c1_i32 : BitVec 32 := 1#32
  let c0_i32 : BitVec 32 := 0#32
  let c0_i32_0 : BitVec 32 := 0#32
  ![c1_i32.toNat, v2.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c127_i32 : BitVec 32 := 127#32
  let v2 : BitVec 32 := Scalar.minsi v1 c127_i32
  let c0_i32 : BitVec 32 := 0#32
  let c0_i32_0 : BitVec 32 := 0#32
  ![v2.toNat, c0_i32.toNat]

def cc0_transform_8 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c127_i32 : BitVec 32 := 127#32
  let v2 : BitVec 32 := Scalar.minsi v1 c127_i32
  let c0_i32 : BitVec 32 := 0#32
  let c0_i32_0 : BitVec 32 := 0#32
  ![v2.toNat, c0_i32.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S4096x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S4096x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x32x8192 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x32x4096 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S32x8192 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S32x4096 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Reference10Ideal.lean ====
abbrev S16384x4096 : Shape := ⟨2, ![16384, 4096]⟩
abbrev S4096 : Shape := ⟨1, ![4096]⟩
abbrev S4096x8192 : Shape := ⟨2, ![4096, 8192]⟩
abbrev S4x4096x8192 : Shape := ⟨3, ![4, 4096, 8192]⟩
abbrev S4x4096x4096 : Shape := ⟨3, ![4, 4096, 4096]⟩
abbrev S_ : Shape := ⟨0, ![]⟩
abbrev S16384 : Shape := ⟨1, ![16384]⟩
abbrev S16384x1 : Shape := ⟨2, ![16384, 1]⟩
abbrev S1x4096 : Shape := ⟨2, ![1, 4096]⟩
abbrev S16384x8192 : Shape := ⟨2, ![16384, 8192]⟩
abbrev S1x4096x8192 : Shape := ⟨3, ![1, 4096, 8192]⟩
abbrev S1x4096x4096 : Shape := ⟨3, ![1, 4096, 4096]⟩
abbrev S4096x4096 : Shape := ⟨2, ![4096, 4096]⟩

abbrev nBuf : Space → Nat
  | .hbm => 41
  | .vmem => 0
  | .smem => 0
  | _ => 0

abbrev bufTy : (tb : Table) → Fin (tcTables nBuf tb) → BufTy
  | .hbm, ⟨0, _⟩ => ⟨S16384x4096, .f32⟩
  | .hbm, ⟨1, _⟩ => ⟨S4096, .f32⟩
  | .hbm, ⟨2, _⟩ => ⟨S4096x8192, .f32⟩
  | .hbm, ⟨3, _⟩ => ⟨S4x4096x8192, .f32⟩
  | .hbm, ⟨4, _⟩ => ⟨S4x4096x4096, .f32⟩
  | .hbm, ⟨5, _⟩ => ⟨S16384x4096, .f32⟩
  | .hbm, ⟨6, _⟩ => ⟨S_, .f32⟩
  | .hbm, ⟨7, _⟩ => ⟨S16384, .f32⟩
  | .hbm, ⟨8, _⟩ => ⟨S16384x1, .f32⟩
  | .hbm, ⟨9, _⟩ => ⟨S_, .f32⟩
  | .hbm, ⟨10, _⟩ => ⟨S16384x1, .f32⟩
  | .hbm, ⟨11, _⟩ => ⟨S16384x1, .f32⟩
  | .hbm, ⟨12, _⟩ => ⟨S_, .f32⟩
  | .hbm, ⟨13, _⟩ => ⟨S16384x1, .f32⟩
  | .hbm, ⟨14, _⟩ => ⟨S16384x1, .f32⟩
  | .hbm, ⟨15, _⟩ => ⟨S16384x1, .f32⟩
  | .hbm, ⟨16, _⟩ => ⟨S16384x4096, .f32⟩
  | .hbm, ⟨17, _⟩ => ⟨S16384x4096, .f32⟩
  | .hbm, ⟨18, _⟩ => ⟨S1x4096, .f32⟩
  | .hbm, ⟨19, _⟩ => ⟨S16384x4096, .f32⟩
  | .hbm, ⟨20, _⟩ => ⟨S16384x4096, .f32⟩
  | .hbm, ⟨21, _⟩ => ⟨S16384x8192, .f32⟩
  | .hbm, ⟨22, _⟩ => ⟨S16384x4096, .f32⟩
  | .hbm, ⟨23, _⟩ => ⟨S16384x4096, .f32⟩
  | .hbm, ⟨24, _⟩ => ⟨S16384x4096, .f32⟩
  | .hbm, ⟨25, _⟩ => ⟨S16384x4096, .f32⟩
  | .hbm, ⟨26, _⟩ => ⟨S_, .f32⟩
  | .hbm, ⟨27, _⟩ => ⟨S16384x4096, .f32⟩
  | .hbm, ⟨28, _⟩ => ⟨S16384x4096, .f32⟩
  | .hbm, ⟨29, _⟩ => ⟨S_, .f32⟩
  | .hbm, ⟨30, _⟩ => ⟨S16384x4096, .f32⟩
  | .hbm, ⟨31, _⟩ => ⟨S16384x4096, .f32⟩
  | .hbm, ⟨32, _⟩ => ⟨S16384x4096, .f32⟩
  | .hbm, ⟨33, _⟩ => ⟨S16384x4096, .f32⟩
  | .hbm, ⟨34, _⟩ => ⟨S16384x4096, .bf16⟩
  | .hbm, ⟨35, _⟩ => ⟨S1x4096x8192, .f32⟩
  | .hbm, ⟨36, _⟩ => ⟨S4096x8192, .f32⟩
  | .hbm, ⟨37, _⟩ => ⟨S4096x8192, .bf16⟩
  | .hbm, ⟨38, _⟩ => ⟨S1x4096x4096, .f32⟩
  | .hbm, ⟨39, _⟩ => ⟨S4096x4096, .f32⟩
  | .hbm, ⟨40, _⟩ => ⟨S4096x4096, .bf16⟩
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_call0_v0 : Ref sig .tc := ⟨.hbm, 24, rfl⟩
abbrev main_call0_v1 : Ref sig .tc := ⟨.hbm, 25, rfl⟩
abbrev main_call0_cst : Ref sig .tc := ⟨.hbm, 26, rfl⟩
abbrev main_call0_v2 : Ref sig .tc := ⟨.hbm, 27, rfl⟩
abbrev main_call0_v3 : Ref sig .tc := ⟨.hbm, 28, rfl⟩
abbrev main_call0_cst_0 : Ref sig .tc := ⟨.hbm, 29, rfl⟩
abbrev main_call0_v4 : Ref sig .tc := ⟨.hbm, 30, rfl⟩
abbrev main_call0_v5 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩

abbrev nD : Nat := 1
abbrev τ : Topo := Topo.v7x

variable {F : FTy → Type} [FloatOps F]
-- ==== Kernel11.lean ====
abbrev S16384x4096 : Shape := ⟨2, ![16384, 4096]⟩
abbrev S4096x4096 : Shape := ⟨2, ![4096, 4096]⟩
abbrev S4x4096 : Shape := ⟨2, ![4, 4096]⟩
abbrev S4x1x4096 : Shape := ⟨3, ![4, 1, 4096]⟩
abbrev S16384x1 : Shape := ⟨2, ![16384, 1]⟩
abbrev S1024x4096 : Shape := ⟨2, ![1024, 4096]⟩
abbrev S4096x512 : Shape := ⟨2, ![4096, 512]⟩
abbrev S1024x512 : Shape := ⟨2, ![1024, 512]⟩
abbrev S1x1x512 : Shape := ⟨3, ![1, 1, 512]⟩
abbrev S1024x1 : Shape := ⟨2, ![1024, 1]⟩
abbrev S1x512 : Shape := ⟨2, ![1, 512]⟩
abbrev S1024 : Shape := ⟨1, ![1024]⟩

abbrev nBuf : Space → Nat
  | .hbm => 10
  | .vmem => 14
  | .smem => 0
  | _ => 0

abbrev bufTy : (tb : Table) → Fin (tcTables nBuf tb) → BufTy
  | .hbm, ⟨0, _⟩ => ⟨S16384x4096, .f32⟩
  | .hbm, ⟨1, _⟩ => ⟨S4096x4096, .f32⟩
  | .hbm, ⟨2, _⟩ => ⟨S16384x4096, .f32⟩
  | .hbm, ⟨3, _⟩ => ⟨S4x4096, .f32⟩
  | .hbm, ⟨4, _⟩ => ⟨S16384x4096, .bf16⟩
  | .hbm, ⟨5, _⟩ => ⟨S4096x4096, .bf16⟩
  | .hbm, ⟨6, _⟩ => ⟨S4x1x4096, .f32⟩
  | .hbm, ⟨7, _⟩ => ⟨S16384x4096, .f32⟩
  | .hbm, ⟨8, _⟩ => ⟨S16384x4096, .bf16⟩
  | .hbm, ⟨9, _⟩ => ⟨S16384x1, .f32⟩
  | .local _ .vmem, ⟨0, _⟩ => ⟨S1024x4096, .bf16⟩
  | .local _ .vmem, ⟨1, _⟩ => ⟨S1024x4096, .bf16⟩
  | .local _ .vmem, ⟨2, _⟩ => ⟨S4096x512, .bf16⟩
  | .local _ .vmem, ⟨3, _⟩ => ⟨S4096x512, .bf16⟩
  | .local _ .vmem, ⟨4, _⟩ => ⟨S1024x512, .f32⟩
  | .local _ .vmem, ⟨5, _⟩ => ⟨S1024x512, .f32⟩
  | .local _ .vmem, ⟨6, _⟩ => ⟨S1x1x512, .f32⟩
  | .local _ .vmem, ⟨7, _⟩ => ⟨S1x1x512, .f32⟩
  | .local _ .vmem, ⟨8, _⟩ => ⟨S1024x512, .f32⟩
  | .local _ .vmem, ⟨9, _⟩ => ⟨S1024x512, .f32⟩
  | .local _ .vmem, ⟨10, _⟩ => ⟨S1024x512, .bf16⟩
  | .local _ .vmem, ⟨11, _⟩ => ⟨S1024x512, .bf16⟩
  | .local _ .vmem, ⟨12, _⟩ => ⟨S1024x1, .f32⟩
  | .local _ .vmem, ⟨13, _⟩ => ⟨S1024x1, .f32⟩
  | _, _ => ⟨S16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![16, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== Reference11Ideal.lean ====
abbrev S16384x4096 : Shape := ⟨2, ![16384, 4096]⟩
abbrev S4096x4096 : Shape := ⟨2, ![4096, 4096]⟩
abbrev S4x4096 : Shape := ⟨2, ![4, 4096]⟩
abbrev S_ : Shape := ⟨0, ![]⟩
abbrev S1x4096 : Shape := ⟨2, ![1, 4096]⟩
abbrev S4096 : Shape := ⟨1, ![4096]⟩
abbrev S16384 : Shape := ⟨1, ![16384]⟩
abbrev S16384x1 : Shape := ⟨2, ![16384, 1]⟩

abbrev nBuf : Space → Nat
  | .hbm => 19
  | .vmem => 0
  | .smem => 0
  | _ => 0

abbrev bufTy : (tb : Table) → Fin (tcTables nBuf tb) → BufTy
  | .hbm, ⟨0, _⟩ => ⟨S16384x4096, .f32⟩
  | .hbm, ⟨1, _⟩ => ⟨S4096x4096, .f32⟩
  | .hbm, ⟨2, _⟩ => ⟨S16384x4096, .f32⟩
  | .hbm, ⟨3, _⟩ => ⟨S4x4096, .f32⟩
  | .hbm, ⟨4, _⟩ => ⟨S16384x4096, .f32⟩
  | .hbm, ⟨5, _⟩ => ⟨S_, .f32⟩
  | .hbm, ⟨6, _⟩ => ⟨S16384x4096, .f32⟩
  | .hbm, ⟨7, _⟩ => ⟨S16384x4096, .f32⟩
  | .hbm, ⟨8, _⟩ => ⟨S16384x4096, .f32⟩
  | .hbm, ⟨9, _⟩ => ⟨S1x4096, .f32⟩
  | .hbm, ⟨10, _⟩ => ⟨S4096, .f32⟩
  | .hbm, ⟨11, _⟩ => ⟨S1x4096, .f32⟩
  | .hbm, ⟨12, _⟩ => ⟨S16384x4096, .f32⟩
  | .hbm, ⟨13, _⟩ => ⟨S16384x4096, .f32⟩
  | .hbm, ⟨14, _⟩ => ⟨S16384x4096, .bf16⟩
  | .hbm, ⟨15, _⟩ => ⟨S16384x4096, .f32⟩
  | .hbm, ⟨16, _⟩ => ⟨S_, .f32⟩
  | .hbm, ⟨17, _⟩ => ⟨S16384, .f32⟩
  | .hbm, ⟨18, _⟩ => ⟨S16384x1, .f32⟩
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_0 : Ref sig .tc := ⟨.hbm, 16, rfl⟩
abbrev main_v11 : Ref sig .tc := ⟨.hbm, 17, rfl⟩
abbrev main_v12 : Ref sig .tc := ⟨.hbm, 18, rfl⟩

abbrev nD : Nat := 1
abbrev τ : Topo := Topo.v7x

variable {F : FTy → Type} [FloatOps F]
-- ==== Kernel12.lean ====
abbrev S16384x4096 : Shape := ⟨2, ![16384, 4096]⟩
abbrev S4x4096 : Shape := ⟨2, ![4, 4096]⟩
abbrev S4x1x4096 : Shape := ⟨3, ![4, 1, 4096]⟩
abbrev S16384x1 : Shape := ⟨2, ![16384, 1]⟩
abbrev S256x4096 : Shape := ⟨2, ![256, 4096]⟩
abbrev S1x1x4096 : Shape := ⟨3, ![1, 1, 4096]⟩
abbrev S256x1 : Shape := ⟨2, ![256, 1]⟩
abbrev S1x4096 : Shape := ⟨2, ![1, 4096]⟩
abbrev S256 : Shape := ⟨1, ![256]⟩

abbrev nBuf : Space → Nat
  | .hbm => 5
  | .vmem => 7
  | .smem => 0
  | _ => 0

abbrev bufTy : (tb : Table) → Fin (tcTables nBuf tb) → BufTy
  | .hbm, ⟨0, _⟩ => ⟨S16384x4096, .f32⟩
  | .hbm, ⟨1, _⟩ => ⟨S4x4096, .f32⟩
  | .hbm, ⟨2, _⟩ => ⟨S4x1x4096, .f32⟩
  | .hbm, ⟨3, _⟩ => ⟨S16384x4096, .bf16⟩
  | .hbm, ⟨4, _⟩ => ⟨S16384x1, .f32⟩
  | .local _ .vmem, ⟨0, _⟩ => ⟨S256x4096, .f32⟩
  | .local _ .vmem, ⟨1, _⟩ => ⟨S256x4096, .f32⟩
  | .local _ .vmem, ⟨2, _⟩ => ⟨S1x1x4096, .f32⟩
  | .local _ .vmem, ⟨3, _⟩ => ⟨S256x4096, .bf16⟩
  | .local _ .vmem, ⟨4, _⟩ => ⟨S256x4096, .bf16⟩
  | .local _ .vmem, ⟨5, _⟩ => ⟨S256x1, .f32⟩
  | .local _ .vmem, ⟨6, _⟩ => ⟨S256x1, .f32⟩
  | _, _ => ⟨S16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference12Ideal.lean ====
abbrev S16384x4096 : Shape := ⟨2, ![16384, 4096]⟩
abbrev S4x4096 : Shape := ⟨2, ![4, 4096]⟩
abbrev S1x4096 : Shape := ⟨2, ![1, 4096]⟩
abbrev S4096 : Shape := ⟨1, ![4096]⟩
abbrev S_ : Shape := ⟨0, ![]⟩
abbrev S16384 : Shape := ⟨1, ![16384]⟩
abbrev S16384x1 : Shape := ⟨2, ![16384, 1]⟩

abbrev nBuf : Space → Nat
  | .hbm => 12
  | .vmem => 0
  | .smem => 0
  | _ => 0

abbrev bufTy : (tb : Table) → Fin (tcTables nBuf tb) → BufTy
  | .hbm, ⟨0, _⟩ => ⟨S16384x4096, .f32⟩
  | .hbm, ⟨1, _⟩ => ⟨S4x4096, .f32⟩
  | .hbm, ⟨2, _⟩ => ⟨S1x4096, .f32⟩
  | .hbm, ⟨3, _⟩ => ⟨S4096, .f32⟩
  | .hbm, ⟨4, _⟩ => ⟨S1x4096, .f32⟩
  | .hbm, ⟨5, _⟩ => ⟨S16384x4096, .f32⟩
  | .hbm, ⟨6, _⟩ => ⟨S16384x4096, .f32⟩
  | .hbm, ⟨7, _⟩ => ⟨S16384x4096, .bf16⟩
  | .hbm, ⟨8, _⟩ => ⟨S16384x4096, .f32⟩
  | .hbm, ⟨9, _⟩ => ⟨S_, .f32⟩
  | .hbm, ⟨10, _⟩ => ⟨S16384, .f32⟩
  | .hbm, ⟨11, _⟩ => ⟨S16384x1, .f32⟩
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_cst : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Proof.Head.lean ====
/- What the attention body computes for one key head, read at one row and one column. -/
module

public import proofs.«01_k».proof.Proof.Gen.KernelIdeal.Skeleton
public import Idealize.ShloMosaic.Lib.Pointwise

@[expose] public section

set_option maxRecDepth 16384
noncomputable section
open Idealize.ShloMosaic Idealize.ShloMosaic.TcCoe Idealize.SL.Sem

namespace Cert.KernelIdeal.Head
open Cert.KernelIdeal Cert.KernelIdeal.Gen

/-- Two blocks of keys (or values), one after the other. -/
def two (a b : FVec Ideal S128x128 .bf16) (k : Fin 256) (e : Fin 128) : EReal :=
  if h : k.val < 128 then a (ix2 ⟨k.val, h⟩ e) else b (ix2 ⟨k.val - 128, by omega⟩ e)

/-- The four query heads of a key head, one after the other. -/
def four (q0 q1 q2 q3 : FVec Ideal S128x128 .bf16) (r : Fin 512) (e : Fin 128) : EReal :=
  if h : r.val < 128 then q0 (ix2 ⟨r.val, h⟩ e)
  else if h : r.val - 128 < 128 then q1 (ix2 ⟨r.val - 128, h⟩ e)
  else if h : r.val - 128 - 128 < 128 then q2 (ix2 ⟨r.val - 128 - 128, h⟩ e)
  else q3 (ix2 ⟨r.val - 128 - 128 - 128, by omega⟩ e)

/-- The scale that the kernel names, as a real. -/
abbrev sc : ℝ := (Real.log 2 * Real.sqrt 128)⁻¹

/-- The logarithm of e to base two, as a real. -/
abbrev l2 : ℝ := (Real.log 2)⁻¹

/-- The scaled score of row `r` and key `k`. -/
def score (q0 q1 q2 q3 kp kc : FVec Ideal S128x128 .bf16) (r : Fin 512) (k : Fin 256) : EReal :=
  ∑ e : Fin 128, four q0 q1 q2 q3 r e * (sc : EReal) * two kp kc k e

/-- The softmax row to base two. -/
def row (S : Fin 256 → EReal) (z : EReal) (V : Fin 256 → EReal) : EReal :=
  Ideal.div (∑ k, Ideal.exp2 (S k - max (Finset.univ.fold max (⊥ : EReal) S) z) * V k)
    ((∑ k, Ideal.exp2 (S k - max (Finset.univ.fold max (⊥ : EReal) S) z))
      + Ideal.exp2 (z - max (Finset.univ.fold max (⊥ : EReal) S) z))

theorem named_scale : Named.named (F := Ideal) (φ := .f32) κ "scale" 0x3E0293EE#32 = (sc : EReal) :=
  IdealRules.named_const.ideal_named_scalar _ _ _ _ rfl
theorem named_log2e : Named.named (F := Ideal) (φ := .f32) κ "log2e" 0x3FB8AA3B#32 = (l2 : EReal) :=
  IdealRules.named_const.ideal_named_scalar _ _ _ _ rfl
theorem named_mask : Named.named (F := Ideal) (φ := .f32) κ "mask" 0xF149F2CA#32 = (⊥ : EReal) :=
  IdealRules.named_const.ideal_named_scalar _ _ _ _ rfl

/-- The pattern of minus infinity. -/
theorem bits_neg_inf : Ideal.ofBits .f32 0xFF800000#32 = (⊥ : EReal) := by
  simp [Ideal.ofBits, Ideal.ieee]

/-- The group of a row: which of the four query heads it belongs to. -/
abbrev grp : IVec S512x1 32 := k0_pay9 (iota Kind.tc S512x1 32 [0] iota_S512x1_d0_w32) (128#32) k0_pay7 k0_pay8 1#32

/-- The sink of a row, as the body selects it. -/
def sink (s0 s1 s2 s3 : EReal) (w : BitVec 32) : EReal :=
  Scalar.select (IntOp.cmpi CmpIPredicate.eq w 3#32) (s3 * (l2 : EReal))
    (Scalar.select (IntOp.cmpi CmpIPredicate.eq w 2#32) (s2 * (l2 : EReal))
      (Scalar.select (IntOp.cmpi CmpIPredicate.eq w 1#32) (s1 * (l2 : EReal))
        (Scalar.select (IntOp.cmpi CmpIPredicate.eq w 0#32) (s0 * (l2 : EReal)) 0)))

section Scores
variable (q0 q1 q2 q3 kp kc : FVec Ideal S128x128 .bf16) (r : Fin 512) (k : Fin 256)

theorem scoreA : k0_pay10 (F := Ideal) q0 q1 q2 q3 kp kc (ix2 r k) = score q0 q1 q2 q3 kp kc r k := by
  pointwise [k0_pay10, score, four, two]
  simp only [named_scale]
  refine Finset.sum_congr rfl fun e _ => ?_
  congr 1
  split_ifs <;> rfl
theorem scoreB : k0_pay11 (F := Ideal) q0 q1 q2 q3 kp kc (ix2 r k) = score q0 q1 q2 q3 kp kc r k := by
  pointwise [k0_pay11, score, four, two]
  simp only [named_scale]
  refine Finset.sum_congr rfl fun e _ => ?_
  congr 1
  split_ifs <;> rfl
theorem scoreC : k0_pay13 (F := Ideal) (k0_pay12 q0) q1 q2 q3 kp kc (ix2 r k) = score q0 q1 q2 q3 kp kc r k := by
  pointwise [k0_pay12, k0_pay13, score, four, two]
  simp only [named_scale]
  refine Finset.sum_congr rfl fun e _ => ?_
  congr 1
  split_ifs <;> rfl
theorem scoreD : k0_pay17 (F := Ideal) (k0_pay14 q0) (k0_pay15 q1) (k0_pay16 q2) (Named.named (φ := .f32) κ "scale" 0x3E0293EE#32) q3 kp kc (ix2 r k)
    = score q0 q1 q2 q3 kp kc r k := by
  pointwise [k0_pay14, k0_pay15, k0_pay16, k0_pay17, score, four, two]
  simp only [named_scale]
  refine Finset.sum_congr rfl fun e _ => ?_
  congr 1
  split_ifs <;> rfl
end Scores

section Out
variable (msk : IVec S512x256 1) (S : FVec Ideal S512x256 .f32) (w : IVec S512x1 32) (s0 s1 s2 s3 : Ideal .f32)
  (vp vc : FVec Ideal S128x128 .bf16) (r : Fin 512) (d : Fin 128)

theorem outA : k0_pay21 (F := Ideal) (k0_pay18 msk S) (k0_pay19 w s0 s1 s2) (k0_pay20 w) s3 vp vc (ix2 r d)
    = row (fun k => Scalar.select (msk (ix2 r k)) (S (ix2 r k)) ⊥) (sink s0 s1 s2 s3 (w (ix2 r 0))) (fun k => two vp vc k d) := by
  have hv : ∀ k : Fin 256, concatenate S256x128 0 [⟨S128x128, shapeCast S128x128 vp shapeCasts_S128x128_S128x128⟩, ⟨S128x128, shapeCast S128x128 vc shapeCasts_S128x128_S128x128⟩]
      concatenates_S128x128_S128x128_S256x128_d0 (ix2 k d) = two vp vc k d := fun k => by pointwise [two]
  unfold k0_pay21
  simp only []
  generalize concatenate S256x128 0 _ _ = W at hv ⊢
  pointwise [k0_pay18, k0_pay19, k0_pay20, row, sink]
  simp only [named_log2e, named_mask, bits_neg_inf, hv]
  rfl

theorem outB : k0_pay33 (F := Ideal) (k0_pay30 w (k0_pay26 msk S) (Scalar.ofBits .f32 0x00000000#32) s0 s1 s2 s3) (k0_pay31 vp vc)
      (k0_pay32 w (k0_pay26 msk S) (Scalar.ofBits .f32 0x00000000#32) s0 s1 s2 s3) (ix2 r d)
    = row (fun k => Scalar.select (msk (ix2 r k)) (S (ix2 r k)) ⊥) (sink s0 s1 s2 s3 (w (ix2 r 0))) (fun k => two vp vc k d) := by
  have hv : ∀ k : Fin 256, k0_pay31 (F := Ideal) vp vc (ix2 k d) = two vp vc k d := fun k => by pointwise [k0_pay31, two]
  generalize k0_pay31 (F := Ideal) vp vc = W at hv ⊢
  pointwise [k0_pay33, k0_pay32, k0_pay30, k0_pay29, k0_pay28, k0_pay27, k0_pay26, row, sink]
  simp only [named_log2e, named_mask, bits_neg_inf, hv]
  rfl

theorem outC : k0_pay40 (F := Ideal) w (k0_pay38 msk S) (k0_pay39 w s0 s1 s2) s3 vp vc (ix2 r d)
    = row (fun k => Scalar.select (msk (ix2 r k)) (S (ix2 r k)) ⊥) (sink s0 s1 s2 s3 (w (ix2 r 0))) (fun k => two vp vc k d) := by
  have hv : ∀ k : Fin 256, concatenate S256x128 0 [⟨S128x128, shapeCast S128x128 vp shapeCasts_S128x128_S128x128⟩, ⟨S128x128, shapeCast S128x128 vc shapeCasts_S128x128_S128x128⟩]
      concatenates_S128x128_S128x128_S256x128_d0 (ix2 k d) = two vp vc k d := fun k => by pointwise [two]
  unfold k0_pay40
  simp only []
  generalize concatenate S256x128 0 _ _ = W at hv ⊢
  pointwise [k0_pay38, k0_pay39, row, sink]
  simp only [named_log2e, named_mask, bits_neg_inf, hv]
  rfl

theorem outD : k0_pay1 (F := Ideal) (k0_pay48 msk w S s0 s1 s2 s3) (k0_pay49 msk w S s0 s1 s2 s3) (k0_pay50 vp) vc (ix2 r d)
    = row (fun k => Scalar.select (msk (ix2 r k)) (S (ix2 r k)) ⊥) (sink s0 s1 s2 s3 (w (ix2 r 0))) (fun k => two vp vc k d) := by
  have hv : ∀ k : Fin 256, concatenate S256x128 0 [⟨S128x128, k0_pay50 vp⟩, ⟨S128x128, shapeCast S128x128 vc shapeCasts_S128x128_S128x128⟩]
      concatenates_S128x128_S128x128_S256x128_d0 (ix2 k d) = two vp vc k d := fun k => by pointwise [k0_pay50, two]
  unfold k0_pay1
  generalize concatenate S256x128 0 _ _ = W at hv ⊢
  pointwise [k0_pay45, k0_pay46, k0_pay47, k0_pay48, k0_pay49, row, sink]
  simp only [named_log2e, named_mask, bits_neg_inf, hv]
  rfl
end Out

/-- The row number over 128, as a word. -/
theorem grp_at : ∀ r : Fin 512, grp (ix2 r 0) = BitVec.ofNat 32 (r.val / 128) := by
  decide +kernel

/-- The sink of a row of query head `g`. -/
theorem sink_at (s : Fin 4 → EReal) (g : Fin 4) : sink (s 0) (s 1) (s 2) (s 3) (BitVec.ofNat 32 g.val) = s g * (l2 : EReal) := by
  fin_cases g <;> rfl
/-- A row of query head `g` reads that head's block. -/
theorem four_at (q : Fin 4 → FVec Ideal S128x128 .bf16) (g : Fin 4) (t : Fin 128) (e : Fin 128) :
    four (q 0) (q 1) (q 2) (q 3) ⟨g.val * 128 + t.val, by omega⟩ e = q g (ix2 t e) := by
  unfold four
  fin_cases g
  · rw [dif_pos (show 0 * 128 + t.val < 128 by omega)]; congr 2; exact Fin.ext (by show 0 * 128 + t.val = t.val; omega)
  · rw [dif_neg (show ¬ 1 * 128 + t.val < 128 by omega), dif_pos (show 1 * 128 + t.val - 128 < 128 by omega)]
    congr 2; exact Fin.ext (by show 1 * 128 + t.val - 128 = t.val; omega)
  · rw [dif_neg (show ¬ 2 * 128 + t.val < 128 by omega), dif_neg (show ¬ 2 * 128 + t.val - 128 < 128 by omega),
      dif_pos (show 2 * 128 + t.val - 128 - 128 < 128 by omega)]
    congr 2; exact Fin.ext (by show 2 * 128 + t.val - 128 - 128 = t.val; omega)
  · rw [dif_neg (show ¬ 3 * 128 + t.val < 128 by omega), dif_neg (show ¬ 3 * 128 + t.val - 128 < 128 by omega),
      dif_neg (show ¬ 3 * 128 + t.val - 128 - 128 < 128 by omega)]
    congr 2; exact Fin.ext (by show 3 * 128 + t.val - 128 - 128 - 128 = t.val; omega)

/-- Which keys a query sees: those of the last 128 positions, and none before the start of the sequence. -/
def Seen (n : ℕ) (t : Fin 128) (k : Fin 256) : Prop := t.val < k.val ∧ k.val ≤ t.val + 128 ∧ (128 ≤ k.val ∨ 0 < n)

instance (n : ℕ) (t : Fin 128) (k : Fin 256) : Decidable (Seen n t k) := by unfold Seen; infer_instance

end Cert.KernelIdeal.Head

end
-- ==== Proof.Mask.lean ====
/- The mask of the attention body, read at one row and one key. -/
module

public import proofs.«01_k».proof.Proof.Head

@[expose] public section

set_option maxRecDepth 16384
noncomputable section
open Idealize.ShloMosaic Idealize.ShloMosaic.TcCoe Idealize.SL.Sem

namespace Cert.KernelIdeal.Head
open Cert.KernelIdeal Cert.KernelIdeal.Gen

/-- The remainder of a row number by 128, as the body computes it. -/
def remWord (w : BitVec 32) : BitVec 32 :=
  Scalar.select
    (IntOp.andi
      (IntOp.xori
        (IntOp.cmpi CmpIPredicate.slt (IntOp.remsi ArithUnit.vector w (Scalar.select (Scalar.cmpi CmpIPredicate.eq 128#32 0#32) 1#32 128#32)) 0#32)
        (Scalar.cmpi CmpIPredicate.slt (Scalar.select (Scalar.cmpi CmpIPredicate.eq 128#32 0#32) 1#32 128#32) 0#32))
      (IntOp.cmpi CmpIPredicate.ne (IntOp.remsi ArithUnit.vector w (Scalar.select (Scalar.cmpi CmpIPredicate.eq 128#32 0#32) 1#32 128#32)) 0#32))
    (IntOp.addi (IntOp.remsi ArithUnit.vector w (Scalar.select (Scalar.cmpi CmpIPredicate.eq 128#32 0#32) 1#32 128#32))
      (Scalar.select (Scalar.cmpi CmpIPredicate.eq 128#32 0#32) 1#32 128#32))
    (IntOp.remsi ArithUnit.vector w (Scalar.select (Scalar.cmpi CmpIPredicate.eq 128#32 0#32) 1#32 128#32))

theorem rem_at : ∀ (g : Fin 4) (t : Fin 128), remWord (BitVec.ofNat 32 (g.val * 128 + t.val)) = BitVec.ofNat 32 t.val := by
  decide +kernel

theorem after_at : ∀ (k : Fin 256) (t : Fin 128), IntOp.cmpi CmpIPredicate.sgt (BitVec.ofNat 32 k.val) (BitVec.ofNat 32 t.val) = if t.val < k.val then 1#1 else 0#1 := by
  decide +kernel

theorem upto_at : ∀ (k : Fin 256) (t : Fin 128), IntOp.cmpi CmpIPredicate.sle (BitVec.ofNat 32 k.val) (IntOp.addi (BitVec.ofNat 32 t.val) 128#32)
    = if k.val ≤ t.val + 128 then 1#1 else 0#1 := by
  decide +kernel

theorem cur_at : ∀ k : Fin 256, IntOp.cmpi CmpIPredicate.sge (BitVec.ofNat 32 k.val) 128#32 = if 128 ≤ k.val then 1#1 else 0#1 := by
  decide +kernel

theorem later_at : ∀ n : Fin 32, Scalar.cmpi CmpIPredicate.sgt (BitVec.ofNat 32 n.val) 0#32 = if 0 < n.val then 1#1 else 0#1 := by
  decide +kernel

/-- The body's mask keeps a score exactly where the query sees the key. -/
theorem mask_at (i : grid0.Coords) (g : Fin 4) (t : Fin 128) (k : Fin 256) (x : EReal) :
    Scalar.select (k0_pay6 i (ix2 ⟨g.val * 128 + t.val, by omega⟩ k)) x ⊥ = if Seen (i 1).val t k then x else ⊥ := by
  have hw : k0_pay6 i (ix2 ⟨g.val * 128 + t.val, by omega⟩ k)
      = IntOp.andi
        (IntOp.andi (IntOp.cmpi CmpIPredicate.sgt (BitVec.ofNat 32 k.val) (remWord (BitVec.ofNat 32 (g.val * 128 + t.val))))
          (IntOp.cmpi CmpIPredicate.sle (BitVec.ofNat 32 k.val) (IntOp.addi (remWord (BitVec.ofNat 32 (g.val * 128 + t.val))) 128#32)))
        (IntOp.ori (IntOp.cmpi CmpIPredicate.sge (BitVec.ofNat 32 k.val) 128#32) (Scalar.cmpi CmpIPredicate.sgt (BitVec.ofNat 32 (i 1).val) 0#32)) := by
    pointwise [k0_pay6, remWord]
  rw [hw, rem_at, after_at, upto_at, cur_at, later_at (i 1)]
  unfold Seen
  by_cases h1 : t.val < k.val <;> by_cases h2 : k.val ≤ t.val + 128 <;> by_cases h3 : 128 ≤ k.val <;> by_cases h4 : 0 < (i 1).val <;>
    simp [h1, h2, h3, h4, IntOp.andi, IntOp.ori, Scalar.select]

end Cert.KernelIdeal.Head

end
-- ==== Proof.Pieces.lean ====
/- One head's block of the output: each of the sixteen stores of the body, read at one row and one column. -/
module

public import proofs.«01_k».proof.Proof.Mask

@[expose] public section

set_option maxRecDepth 16384
noncomputable section
open Idealize.ShloMosaic Idealize.ShloMosaic.TcCoe Idealize.SL.Sem

namespace Cert.KernelIdeal.Head
open Cert.KernelIdeal Cert.KernelIdeal.Gen

/-- One query head's output at row `t` and column `d`, from its block of queries, the two blocks of keys and values, and its sink. -/
def blockOut (n : ℕ) (q kp kc vp vc : FVec Ideal S128x128 .bf16) (s : EReal) (t d : Fin 128) : EReal :=
  row (fun k => if Seen n t k then ∑ e : Fin 128, q (ix2 t e) * (sc : EReal) * two kp kc k e else ⊥) (s * (l2 : EReal)) (fun k => two vp vc k d)

/-- A row of the four stacked heads is that head's block. -/
theorem row_block (i : grid0.Coords) (q : Fin 4 → FVec Ideal S128x128 .bf16) (kp kc vp vc : FVec Ideal S128x128 .bf16) (s : Fin 4 → EReal)
    (g : Fin 4) (t d : Fin 128) (S : FVec Ideal S512x256 .f32) (hS : ∀ r k, S (ix2 r k) = score (q 0) (q 1) (q 2) (q 3) kp kc r k) :
    row (fun k => Scalar.select (k0_pay6 i (ix2 ⟨g.val * 128 + t.val, by omega⟩ k)) (S (ix2 ⟨g.val * 128 + t.val, by omega⟩ k)) ⊥)
      (sink (s 0) (s 1) (s 2) (s 3) (grp (ix2 ⟨g.val * 128 + t.val, by omega⟩ 0))) (fun k => two vp vc k d)
    = blockOut (i 1).val (q g) kp kc vp vc (s g) t d := by
  have h1 : (⟨g.val * 128 + t.val, by omega⟩ : Fin 512).val / 128 = g.val := by show (g.val * 128 + t.val) / 128 = g.val; omega
  rw [grp_at, h1, sink_at]
  unfold blockOut
  congr 1
  funext k
  rw [mask_at, hS]
  unfold score
  simp only [four_at]

section Pieces
variable (i : grid0.Coords) (q0 q1 q2 q3 kp kc vp vc : FVec Ideal S128x128 .bf16) (s0 s1 s2 s3 : Ideal .f32) (t d : Fin 128)

/-- The scores of the first key head's four query heads. -/
abbrev SA : FVec Ideal S512x256 .f32 := k0_pay10 (F := Ideal) q0 q1 q2 q3 kp kc
/-- The scores of the second key head's. -/
abbrev SB : FVec Ideal S512x256 .f32 := k0_pay11 (F := Ideal) q0 q1 q2 q3 kp kc
/-- The scores of the third key head's. -/
abbrev SC : FVec Ideal S512x256 .f32 := k0_pay13 (F := Ideal) (k0_pay12 q0) q1 q2 q3 kp kc
/-- The scores of the last key head's. -/
abbrev SD : FVec Ideal S512x256 .f32 :=
  k0_pay17 (F := Ideal) (k0_pay14 q0) (k0_pay15 q1) (k0_pay16 q2) (Named.named (φ := .f32) κ "scale" 0x3E0293EE#32) q3 kp kc

theorem pieceA0 : k0_pay22 (F := Ideal) (k0_pay18 (k0_pay6 i) (SA q0 q1 q2 q3 kp kc)) (k0_pay19 grp s0 s1 s2) (k0_pay20 grp) s3 vp vc (ix2 t d) = blockOut (i 1).val q0 kp kc vp vc s0 t d := by
  refine Eq.trans ?_ ((outA (k0_pay6 i) (SA q0 q1 q2 q3 kp kc) grp s0 s1 s2 s3 vp vc ⟨(0 : Fin 4).val * 128 + t.val, by omega⟩ d).trans
    (row_block i ![q0, q1, q2, q3] kp kc vp vc ![s0, s1, s2, s3] 0 t d (SA q0 q1 q2 q3 kp kc) fun r k => scoreA q0 q1 q2 q3 kp kc r k))
  unfold k0_pay22
  pointwise
theorem pieceA1 : k0_pay23 (F := Ideal) (k0_pay18 (k0_pay6 i) (SA q0 q1 q2 q3 kp kc)) (k0_pay19 grp s0 s1 s2) (k0_pay20 grp) s3 vp vc (ix2 t d) = blockOut (i 1).val q1 kp kc vp vc s1 t d := by
  refine Eq.trans ?_ ((outA (k0_pay6 i) (SA q0 q1 q2 q3 kp kc) grp s0 s1 s2 s3 vp vc ⟨(1 : Fin 4).val * 128 + t.val, by omega⟩ d).trans
    (row_block i ![q0, q1, q2, q3] kp kc vp vc ![s0, s1, s2, s3] 1 t d (SA q0 q1 q2 q3 kp kc) fun r k => scoreA q0 q1 q2 q3 kp kc r k))
  unfold k0_pay23
  pointwise
theorem pieceA2 : k0_pay24 (F := Ideal) (k0_pay18 (k0_pay6 i) (SA q0 q1 q2 q3 kp kc)) (k0_pay19 grp s0 s1 s2) (k0_pay20 grp) s3 vp vc (ix2 t d) = blockOut (i 1).val q2 kp kc vp vc s2 t d := by
  refine Eq.trans ?_ ((outA (k0_pay6 i) (SA q0 q1 q2 q3 kp kc) grp s0 s1 s2 s3 vp vc ⟨(2 : Fin 4).val * 128 + t.val, by omega⟩ d).trans
    (row_block i ![q0, q1, q2, q3] kp kc vp vc ![s0, s1, s2, s3] 2 t d (SA q0 q1 q2 q3 kp kc) fun r k => scoreA q0 q1 q2 q3 kp kc r k))
  unfold k0_pay24
  pointwise
theorem pieceA3 : k0_pay25 (F := Ideal) (k0_pay18 (k0_pay6 i) (SA q0 q1 q2 q3 kp kc)) (k0_pay19 grp s0 s1 s2) (k0_pay20 grp) s3 vp vc (ix2 t d) = blockOut (i 1).val q3 kp kc vp vc s3 t d := by
  refine Eq.trans ?_ ((outA (k0_pay6 i) (SA q0 q1 q2 q3 kp kc) grp s0 s1 s2 s3 vp vc ⟨(3 : Fin 4).val * 128 + t.val, by omega⟩ d).trans
    (row_block i ![q0, q1, q2, q3] kp kc vp vc ![s0, s1, s2, s3] 3 t d (SA q0 q1 q2 q3 kp kc) fun r k => scoreA q0 q1 q2 q3 kp kc r k))
  unfold k0_pay25
  pointwise
theorem pieceB0 : k0_pay34 (F := Ideal) (k0_pay30 grp (k0_pay26 (k0_pay6 i) (SB q0 q1 q2 q3 kp kc)) (Scalar.ofBits .f32 0x00000000#32) s0 s1 s2 s3) (k0_pay31 vp vc) (k0_pay32 grp (k0_pay26 (k0_pay6 i) (SB q0 q1 q2 q3 kp kc)) (Scalar.ofBits .f32 0x00000000#32) s0 s1 s2 s3) (ix2 t d) = blockOut (i 1).val q0 kp kc vp vc s0 t d := by
  refine Eq.trans ?_ ((outB (k0_pay6 i) (SB q0 q1 q2 q3 kp kc) grp s0 s1 s2 s3 vp vc ⟨(0 : Fin 4).val * 128 + t.val, by omega⟩ d).trans
    (row_block i ![q0, q1, q2, q3] kp kc vp vc ![s0, s1, s2, s3] 0 t d (SB q0 q1 q2 q3 kp kc) fun r k => scoreB q0 q1 q2 q3 kp kc r k))
  unfold k0_pay34
  pointwise
theorem pieceB1 : k0_pay35 (F := Ideal) (k0_pay30 grp (k0_pay26 (k0_pay6 i) (SB q0 q1 q2 q3 kp kc)) (Scalar.ofBits .f32 0x00000000#32) s0 s1 s2 s3) (k0_pay31 vp vc) (k0_pay32 grp (k0_pay26 (k0_pay6 i) (SB q0 q1 q2 q3 kp kc)) (Scalar.ofBits .f32 0x00000000#32) s0 s1 s2 s3) (ix2 t d) = blockOut (i 1).val q1 kp kc vp vc s1 t d := by
  refine Eq.trans ?_ ((outB (k0_pay6 i) (SB q0 q1 q2 q3 kp kc) grp s0 s1 s2 s3 vp vc ⟨(1 : Fin 4).val * 128 + t.val, by omega⟩ d).trans
    (row_block i ![q0, q1, q2, q3] kp kc vp vc ![s0, s1, s2, s3] 1 t d (SB q0 q1 q2 q3 kp kc) fun r k => scoreB q0 q1 q2 q3 kp kc r k))
  unfold k0_pay35
  pointwise
theorem pieceB2 : k0_pay36 (F := Ideal) (k0_pay30 grp (k0_pay26 (k0_pay6 i) (SB q0 q1 q2 q3 kp kc)) (Scalar.ofBits .f32 0x00000000#32) s0 s1 s2 s3) (k0_pay31 vp vc) (k0_pay32 grp (k0_pay26 (k0_pay6 i) (SB q0 q1 q2 q3 kp kc)) (Scalar.ofBits .f32 0x00000000#32) s0 s1 s2 s3) (ix2 t d) = blockOut (i 1).val q2 kp kc vp vc s2 t d := by
  refine Eq.trans ?_ ((outB (k0_pay6 i) (SB q0 q1 q2 q3 kp kc) grp s0 s1 s2 s3 vp vc ⟨(2 : Fin 4).val * 128 + t.val, by omega⟩ d).trans
    (row_block i ![q0, q1, q2, q3] kp kc vp vc ![s0, s1, s2, s3] 2 t d (SB q0 q1 q2 q3 kp kc) fun r k => scoreB q0 q1 q2 q3 kp kc r k))
  unfold k0_pay36
  pointwise
theorem pieceB3 : k0_pay37 (F := Ideal) (k0_pay30 grp (k0_pay26 (k0_pay6 i) (SB q0 q1 q2 q3 kp kc)) (Scalar.ofBits .f32 0x00000000#32) s0 s1 s2 s3) (k0_pay31 vp vc) (k0_pay32 grp (k0_pay26 (k0_pay6 i) (SB q0 q1 q2 q3 kp kc)) (Scalar.ofBits .f32 0x00000000#32) s0 s1 s2 s3) (ix2 t d) = blockOut (i 1).val q3 kp kc vp vc s3 t d := by
  refine Eq.trans ?_ ((outB (k0_pay6 i) (SB q0 q1 q2 q3 kp kc) grp s0 s1 s2 s3 vp vc ⟨(3 : Fin 4).val * 128 + t.val, by omega⟩ d).trans
    (row_block i ![q0, q1, q2, q3] kp kc vp vc ![s0, s1, s2, s3] 3 t d (SB q0 q1 q2 q3 kp kc) fun r k => scoreB q0 q1 q2 q3 kp kc r k))
  unfold k0_pay37
  pointwise
theorem pieceC0 : k0_pay41 (F := Ideal) grp (k0_pay38 (k0_pay6 i) (SC q0 q1 q2 q3 kp kc)) (k0_pay39 grp s0 s1 s2) s3 vp vc (ix2 t d) = blockOut (i 1).val q0 kp kc vp vc s0 t d := by
  refine Eq.trans ?_ ((outC (k0_pay6 i) (SC q0 q1 q2 q3 kp kc) grp s0 s1 s2 s3 vp vc ⟨(0 : Fin 4).val * 128 + t.val, by omega⟩ d).trans
    (row_block i ![q0, q1, q2, q3] kp kc vp vc ![s0, s1, s2, s3] 0 t d (SC q0 q1 q2 q3 kp kc) fun r k => scoreC q0 q1 q2 q3 kp kc r k))
  unfold k0_pay41
  pointwise
theorem pieceC1 : k0_pay42 (F := Ideal) grp (k0_pay38 (k0_pay6 i) (SC q0 q1 q2 q3 kp kc)) (k0_pay39 grp s0 s1 s2) s3 vp vc (ix2 t d) = blockOut (i 1).val q1 kp kc vp vc s1 t d := by
  refine Eq.trans ?_ ((outC (k0_pay6 i) (SC q0 q1 q2 q3 kp kc) grp s0 s1 s2 s3 vp vc ⟨(1 : Fin 4).val * 128 + t.val, by omega⟩ d).trans
    (row_block i ![q0, q1, q2, q3] kp kc vp vc ![s0, s1, s2, s3] 1 t d (SC q0 q1 q2 q3 kp kc) fun r k => scoreC q0 q1 q2 q3 kp kc r k))
  unfold k0_pay42
  pointwise
theorem pieceC2 : k0_pay43 (F := Ideal) grp (k0_pay38 (k0_pay6 i) (SC q0 q1 q2 q3 kp kc)) (k0_pay39 grp s0 s1 s2) s3 vp vc (ix2 t d) = blockOut (i 1).val q2 kp kc vp vc s2 t d := by
  refine Eq.trans ?_ ((outC (k0_pay6 i) (SC q0 q1 q2 q3 kp kc) grp s0 s1 s2 s3 vp vc ⟨(2 : Fin 4).val * 128 + t.val, by omega⟩ d).trans
    (row_block i ![q0, q1, q2, q3] kp kc vp vc ![s0, s1, s2, s3] 2 t d (SC q0 q1 q2 q3 kp kc) fun r k => scoreC q0 q1 q2 q3 kp kc r k))
  unfold k0_pay43
  pointwise
theorem pieceC3 : k0_pay44 (F := Ideal) grp (k0_pay38 (k0_pay6 i) (SC q0 q1 q2 q3 kp kc)) (k0_pay39 grp s0 s1 s2) s3 vp vc (ix2 t d) = blockOut (i 1).val q3 kp kc vp vc s3 t d := by
  refine Eq.trans ?_ ((outC (k0_pay6 i) (SC q0 q1 q2 q3 kp kc) grp s0 s1 s2 s3 vp vc ⟨(3 : Fin 4).val * 128 + t.val, by omega⟩ d).trans
    (row_block i ![q0, q1, q2, q3] kp kc vp vc ![s0, s1, s2, s3] 3 t d (SC q0 q1 q2 q3 kp kc) fun r k => scoreC q0 q1 q2 q3 kp kc r k))
  unfold k0_pay44
  pointwise
theorem pieceD0 : k0_pay2 (F := Ideal) (k0_pay48 (k0_pay6 i) grp (SD q0 q1 q2 q3 kp kc) s0 s1 s2 s3) (k0_pay49 (k0_pay6 i) grp (SD q0 q1 q2 q3 kp kc) s0 s1 s2 s3) (k0_pay50 vp) vc (ix2 t d) = blockOut (i 1).val q0 kp kc vp vc s0 t d := by
  refine Eq.trans ?_ ((outD (k0_pay6 i) (SD q0 q1 q2 q3 kp kc) grp s0 s1 s2 s3 vp vc ⟨(0 : Fin 4).val * 128 + t.val, by omega⟩ d).trans
    (row_block i ![q0, q1, q2, q3] kp kc vp vc ![s0, s1, s2, s3] 0 t d (SD q0 q1 q2 q3 kp kc) fun r k => scoreD q0 q1 q2 q3 kp kc r k))
  unfold k0_pay2
  pointwise
theorem pieceD1 : k0_pay3 (F := Ideal) (k0_pay48 (k0_pay6 i) grp (SD q0 q1 q2 q3 kp kc) s0 s1 s2 s3) (k0_pay49 (k0_pay6 i) grp (SD q0 q1 q2 q3 kp kc) s0 s1 s2 s3) (k0_pay50 vp) vc (ix2 t d) = blockOut (i 1).val q1 kp kc vp vc s1 t d := by
  refine Eq.trans ?_ ((outD (k0_pay6 i) (SD q0 q1 q2 q3 kp kc) grp s0 s1 s2 s3 vp vc ⟨(1 : Fin 4).val * 128 + t.val, by omega⟩ d).trans
    (row_block i ![q0, q1, q2, q3] kp kc vp vc ![s0, s1, s2, s3] 1 t d (SD q0 q1 q2 q3 kp kc) fun r k => scoreD q0 q1 q2 q3 kp kc r k))
  unfold k0_pay3
  pointwise
theorem pieceD2 : k0_pay4 (F := Ideal) (k0_pay48 (k0_pay6 i) grp (SD q0 q1 q2 q3 kp kc) s0 s1 s2 s3) (k0_pay49 (k0_pay6 i) grp (SD q0 q1 q2 q3 kp kc) s0 s1 s2 s3) (k0_pay50 vp) vc (ix2 t d) = blockOut (i 1).val q2 kp kc vp vc s2 t d := by
  refine Eq.trans ?_ ((outD (k0_pay6 i) (SD q0 q1 q2 q3 kp kc) grp s0 s1 s2 s3 vp vc ⟨(2 : Fin 4).val * 128 + t.val, by omega⟩ d).trans
    (row_block i ![q0, q1, q2, q3] kp kc vp vc ![s0, s1, s2, s3] 2 t d (SD q0 q1 q2 q3 kp kc) fun r k => scoreD q0 q1 q2 q3 kp kc r k))
  unfold k0_pay4
  pointwise
theorem pieceD3 : k0_pay5 (F := Ideal) (k0_pay48 (k0_pay6 i) grp (SD q0 q1 q2 q3 kp kc) s0 s1 s2 s3) (k0_pay49 (k0_pay6 i) grp (SD q0 q1 q2 q3 kp kc) s0 s1 s2 s3) (k0_pay50 vp) vc (ix2 t d) = blockOut (i 1).val q3 kp kc vp vc s3 t d := by
  refine Eq.trans ?_ ((outD (k0_pay6 i) (SD q0 q1 q2 q3 kp kc) grp s0 s1 s2 s3 vp vc ⟨(3 : Fin 4).val * 128 + t.val, by omega⟩ d).trans
    (row_block i ![q0, q1, q2, q3] kp kc vp vc ![s0, s1, s2, s3] 3 t d (SD q0 q1 q2 q3 kp kc) fun r k => scoreD q0 q1 q2 q3 kp kc r k))
  unfold k0_pay5
  pointwise
end Pieces

end Cert.KernelIdeal.Head

end
-- ==== Proof.Blocks.lean ====
/- The blocks that a grid point reads, as entries of the arguments. -/
module

public import proofs.«01_k».proof.Proof.Gen.KernelIdeal.Value
public import proofs.«01_k».proof.Proof.Pieces
public import Idealize.ShloMosaic.Lib.Pipeline.ValueKit

@[expose] public section

set_option maxRecDepth 16384
noncomputable section
open Idealize.ShloMosaic Idealize.ShloMosaic.TcCoe Idealize.SL.Sem
open Idealize.ShloMosaic.Pipeline (Dat)

namespace Cert.KernelIdeal.Blocks
open Cert.KernelIdeal Cert.KernelIdeal.Gen Cert.KernelIdeal.Head
variable (m : (ℓ : Loc nD τ sig) → Buf (Elt Ideal) ℓ)

theorem idx : ∀ t : Fin cfg0.N, win0_0.index t = ![0] ∧ win0_1.index t = ![t.val, 0]
    ∧ win0_2.index t = ![t.val / 32 * 32 + (t.val % 32 - 1), 4] ∧ win0_3.index t = ![t.val, 4]
    ∧ win0_4.index t = ![t.val / 32 * 32 + (t.val % 32 - 1), 5] ∧ win0_5.index t = ![t.val, 5] ∧ win0_6.index t = ![t.val, 0]
    ∧ (grid0.coords t 1).val = t.val % 32 ∧ t.val < 128 :=
  (by decide +kernel : ∀ t : Fin grid0.N, _)

section Cat
variable (q : FVec Ideal S4x4096x16x128 .f32) (k v : FVec Ideal S4x4096x4x128 .f32) (x : FVec Ideal S16384x3072 .f32)

/-- The array the kernel attends over: queries, keys, values and the other columns side by side. -/
def cat : FVec Ideal S16384x6144 .bf16 :=
  truncf .bf16 (concatenate S16384x6144 1 [⟨S16384x2048, shapeCast S16384x2048 q shapeCasts_S4x4096x16x128_S16384x2048⟩, ⟨S16384x512, shapeCast S16384x512 k shapeCasts_S4x4096x4x128_S16384x512⟩,
    ⟨S16384x512, shapeCast S16384x512 v shapeCasts_S4x4096x4x128_S16384x512⟩, ⟨S16384x3072, x⟩] concatenates_S16384x2048_S16384x512_S16384x512_S16384x3072_S16384x6144_d1) bitsLt_bf16_f32

theorem cat_q (R : Fin 16384) (C : Fin 2048) : cat q k v x (ix2 R ⟨C.val, by omega⟩)
    = q (ix4 ⟨R.val / 4096, by omega⟩ ⟨R.val % 4096, by omega⟩ ⟨C.val / 128, by omega⟩ ⟨C.val % 128, by omega⟩) := by
  pointwise [cat]

theorem cat_k (R : Fin 16384) (C : Fin 512) : cat q k v x (ix2 R ⟨2048 + C.val, by omega⟩)
    = k (ix4 ⟨R.val / 4096, by omega⟩ ⟨R.val % 4096, by omega⟩ ⟨C.val / 128, by omega⟩ ⟨C.val % 128, by omega⟩) := by
  pointwise [cat]

theorem cat_v (R : Fin 16384) (C : Fin 512) : cat q k v x (ix2 R ⟨2560 + C.val, by omega⟩)
    = v (ix4 ⟨R.val / 4096, by omega⟩ ⟨R.val % 4096, by omega⟩ ⟨C.val / 128, by omega⟩ ⟨C.val % 128, by omega⟩) := by
  pointwise [cat]
  rw [dif_neg (by omega), dif_neg (by omega), dif_pos (by omega)]
  blk_ext
end Cat

/-- What the host code leaves for the launch to read. -/
theorem entry (c : Dev nD) : (V m c main_v4 : FVec Ideal S16384x6144 .bf16)
    = cat (m ((c : Thread nD τ).loc main_arg0)) (m ((c : Thread nD τ).loc main_arg1)) (m ((c : Thread nD τ).loc main_arg2)) (m ((c : Thread nD τ).loc main_arg3)) := by
  show StableHlo.after hostOps0 (fun b => m (c, b)) (Proc.devRef .tc main_v4) = _
  simp only [hostOps0, List.flatten_cons, List.flatten_nil, List.append_nil, List.cons_append, List.nil_append, StableHlo.after_cons, StableHlo.after_nil]
  after_results_simp
  rfl

theorem lt0 (t : Fin cfg0.N) : t.val < 128 := (idx t).2.2.2.2.2.2.2.2

section Reads
variable (c : Dev nD) (t : Fin cfg0.N) (r : Fin 128)

theorem read0 (h : Fin 16) : (iblk m c 0 t : FVec Ideal S16 .f32) (ix1 h) = (m ((c : Thread nD τ).loc main_arg4) : FVec Ideal S16 .f32) (ix1 h) := by
  blk_ext [iblk, V_main_arg4, idx t]

theorem read1 (C : Fin 2048) : (iblk m c 1 t : FVec Ideal S128x2048 .bf16) (ix2 r C)
    = (V m c main_v4 : FVec Ideal S16384x6144 .bf16) (ix2 ⟨t.val * 128 + r.val, by have := lt0 t; omega⟩ ⟨C.val, by omega⟩) := by
  blk_ext [iblk, idx t]

theorem read2 (C : Fin 512) : (iblk m c 2 t : FVec Ideal S128x512 .bf16) (ix2 r C)
    = (V m c main_v4 : FVec Ideal S16384x6144 .bf16) (ix2 ⟨(t.val / 32 * 32 + (t.val % 32 - 1)) * 128 + r.val, by have := lt0 t; omega⟩ ⟨2048 + C.val, by omega⟩) := by
  blk_ext [iblk, idx t]

theorem read3 (C : Fin 512) : (iblk m c 3 t : FVec Ideal S128x512 .bf16) (ix2 r C)
    = (V m c main_v4 : FVec Ideal S16384x6144 .bf16) (ix2 ⟨t.val * 128 + r.val, by have := lt0 t; omega⟩ ⟨2048 + C.val, by omega⟩) := by
  blk_ext [iblk, idx t]

theorem read4 (C : Fin 512) : (iblk m c 4 t : FVec Ideal S128x512 .bf16) (ix2 r C)
    = (V m c main_v4 : FVec Ideal S16384x6144 .bf16) (ix2 ⟨(t.val / 32 * 32 + (t.val % 32 - 1)) * 128 + r.val, by have := lt0 t; omega⟩ ⟨2560 + C.val, by omega⟩) := by
  blk_ext [iblk, idx t]

theorem read5 (C : Fin 512) : (iblk m c 5 t : FVec Ideal S128x512 .bf16) (ix2 r C)
    = (V m c main_v4 : FVec Ideal S16384x6144 .bf16) (ix2 ⟨t.val * 128 + r.val, by have := lt0 t; omega⟩ ⟨2560 + C.val, by omega⟩) := by
  blk_ext [iblk, idx t]
end Reads

/-- A query head's block of 128 positions. -/
def qB (q : FVec Ideal S4x4096x16x128 .f32) (b : Fin 4) (n : Fin 32) (h : Fin 16) : FVec Ideal S128x128 .bf16 :=
  fun j => q (ix4 b ⟨n.val * 128 + (j 0).val, by have : (j 0).val < 128 := (j 0).isLt; omega⟩ h ⟨(j 1).val, (j 1).isLt⟩)

/-- A key head's block of 128 positions. -/
def kB (k : FVec Ideal S4x4096x4x128 .f32) (b : Fin 4) (n : Fin 32) (h : Fin 4) : FVec Ideal S128x128 .bf16 :=
  fun j => k (ix4 b ⟨n.val * 128 + (j 0).val, by have : (j 0).val < 128 := (j 0).isLt; omega⟩ h ⟨(j 1).val, (j 1).isLt⟩)

/-- The attention of query head `h` at sequence `b`, block `n`, row `t`, column `d`. -/
def outAt (q : FVec Ideal S4x4096x16x128 .f32) (k v : FVec Ideal S4x4096x4x128 .f32) (s : FVec Ideal S16 .f32)
    (b : Fin 4) (n : Fin 32) (h : Fin 16) (t d : Fin 128) : EReal :=
  blockOut n.val (qB q b n h) (kB k b ⟨n.val - 1, by omega⟩ ⟨h.val / 4, by omega⟩) (kB k b n ⟨h.val / 4, by omega⟩)
    (kB v b ⟨n.val - 1, by omega⟩ ⟨h.val / 4, by omega⟩) (kB v b n ⟨h.val / 4, by omega⟩) (s (ix1 h)) t d

/-- The whole result. -/
def OUT (q : FVec Ideal S4x4096x16x128 .f32) (k v : FVec Ideal S4x4096x4x128 .f32) (s : FVec Ideal S16 .f32) : FVec Ideal S16384x2048 .bf16 :=
  fun j => outAt q k v s ⟨(j 0).val / 4096, by have : (j 0).val < 16384 := (j 0).isLt; omega⟩ ⟨(j 0).val % 4096 / 128, by omega⟩
    ⟨(j 1).val / 128, by have : (j 1).val < 2048 := (j 1).isLt; omega⟩ ⟨(j 0).val % 128, by omega⟩ ⟨(j 1).val % 128, by omega⟩

/-- What a store writes is the whole result's block, once the blocks it loads are named. -/
theorem point (c : Dev nD) (t : Fin cfg0.N) (h : Fin 16) (hk : Fin 4) (hh : hk.val = h.val / 4) (Q KP KC VP VC : FVec Ideal S128x128 .bf16) (s : EReal)
    (hQ : ∀ r e : Fin 128, Q (ix2 r e) = (iblk m c 1 t : FVec Ideal S128x2048 .bf16) (ix2 r ⟨h.val * 128 + e.val, by omega⟩))
    (hKP : ∀ r e : Fin 128, KP (ix2 r e) = (iblk m c 2 t : FVec Ideal S128x512 .bf16) (ix2 r ⟨hk.val * 128 + e.val, by omega⟩))
    (hKC : ∀ r e : Fin 128, KC (ix2 r e) = (iblk m c 3 t : FVec Ideal S128x512 .bf16) (ix2 r ⟨hk.val * 128 + e.val, by omega⟩))
    (hVP : ∀ r e : Fin 128, VP (ix2 r e) = (iblk m c 4 t : FVec Ideal S128x512 .bf16) (ix2 r ⟨hk.val * 128 + e.val, by omega⟩))
    (hVC : ∀ r e : Fin 128, VC (ix2 r e) = (iblk m c 5 t : FVec Ideal S128x512 .bf16) (ix2 r ⟨hk.val * 128 + e.val, by omega⟩))
    (hs : s = (iblk m c 0 t : FVec Ideal S16 .f32) (ix1 h)) (r d : Fin 128) (Y : S16384x2048.Idx)
    (hY0 : (Y 0).val = t.val * 128 + r.val) (hY1 : (Y 1).val = h.val * 128 + d.val) :
    blockOut (grid0.coords t 1).val Q KP KC VP VC s r d
      = OUT (m ((c : Thread nD τ).loc main_arg0)) (m ((c : Thread nD τ).loc main_arg1)) (m ((c : Thread nD τ).loc main_arg2)) (m ((c : Thread nD τ).loc main_arg4)) Y := by
  have ht := lt0 t
  have hb : (⟨(Y 0).val / 4096, by omega⟩ : Fin 4) = ⟨t.val / 32, by omega⟩ := Fin.ext (by show (Y 0).val / 4096 = t.val / 32; omega)
  have hn : (⟨(Y 0).val % 4096 / 128, by omega⟩ : Fin 32) = ⟨t.val % 32, by omega⟩ := Fin.ext (by show (Y 0).val % 4096 / 128 = t.val % 32; omega)
  have hh' : (⟨(Y 1).val / 128, by omega⟩ : Fin 16) = h := Fin.ext (by show (Y 1).val / 128 = h.val; omega)
  have hr : (⟨(Y 0).val % 128, by omega⟩ : Fin 128) = r := Fin.ext (by show (Y 0).val % 128 = r.val; omega)
  have hd : (⟨(Y 1).val % 128, by omega⟩ : Fin 128) = d := Fin.ext (by show (Y 1).val % 128 = d.val; omega)
  have hg : (⟨h.val / 4, by omega⟩ : Fin 4) = hk := Fin.ext hh.symm
  unfold OUT
  rw [hb, hn, hh', hr, hd]
  unfold outAt
  rw [hg, (idx t).2.2.2.2.2.2.2.1, hs, read0]
  congr 1
  · funext j; idx_vars j
    rw [hQ, read1, entry, cat_q]; unfold qB; congr 1; idx_ext <;> simp <;> omega
  · funext j; idx_vars j
    rw [hKP, read2, entry, cat_k]; unfold kB; congr 1; idx_ext <;> simp <;> omega
  · funext j; idx_vars j
    rw [hKC, read3, entry, cat_k]; unfold kB; congr 1; idx_ext <;> simp <;> omega
  · funext j; idx_vars j
    rw [hVP, read4, entry, cat_v]; unfold kB; congr 1; idx_ext <;> simp <;> omega
  · funext j; idx_vars j
    rw [hVC, read5, entry, cat_v]; unfold kB; congr 1; idx_ext <;> simp <;> omega

end Cert.KernelIdeal.Blocks

end
-- ==== Proof.Final.lean ====
/- The launch's whole result: the sixteen stores of each grid point together. -/
module

public import proofs.«01_k».proof.Proof.Blocks

@[expose] public section

set_option maxRecDepth 16384
noncomputable section
open Idealize.ShloMosaic Idealize.ShloMosaic.TcCoe Idealize.SL.Sem
open Idealize.ShloMosaic.Pipeline (Dat)

namespace Cert.KernelIdeal.Blocks
open Cert.KernelIdeal Cert.KernelIdeal.Gen Cert.KernelIdeal.Head
variable (m : (ℓ : Loc nD τ sig) → Buf (Elt Ideal) ℓ)

theorem final (c : Dev nD) : ((dats m 0 c).arrAt 6 cfg0.N : FVec Ideal S16384x2048 .bf16)
    = OUT (m ((c : Thread nD τ).loc main_arg0)) (m ((c : Thread nD τ).loc main_arg1)) (m ((c : Thread nD τ).loc main_arg2)) (m ((c : Thread nD τ).loc main_arg4)) := by
  refine (dats m 0 c).arrAt_eq_of_covers 6 _ (by decide +kernel) fun t hf y => ?_
  blk_simp
  rw [after0_6]
  unfold outsAt0
  frame_out
  obtain ⟨Y, e⟩ : ∃ Y : S16384x2048.Idx, Y = ((View.whole main_v5).slice (win0_6.rect t)).emb y := ⟨_, rfl⟩
  have e0 : (Y 0).val = t.val * 128 + (y 0).val := by rw [e]; blk_simp [idx t]
  have e1 : (Y 1).val = (y 1).val := by rw [e]; blk_simp [idx t]
  rw [← e]
  clear e
  canon_tiles x h
  all_goals idx_vars x
  all_goals clear hf
  case piece0 =>
    refine (pieceD3 _ _ _ _ _ _ _ _ _ _ _ _ _ _ _).trans (point m c t 15 3 rfl _ _ _ _ _ _ ?_ ?_ ?_ ?_ ?_ ?_ _ _ _ (by rw [e0, h0]) (by rw [e1, h1]; omega))
    all_goals first | (intro r e; pointwise) | pointwise
  case piece1 =>
    refine (pieceD2 _ _ _ _ _ _ _ _ _ _ _ _ _ _ _).trans (point m c t 14 3 rfl _ _ _ _ _ _ ?_ ?_ ?_ ?_ ?_ ?_ _ _ _ (by rw [e0, h0]) (by rw [e1, h1]; omega))
    all_goals first | (intro r e; pointwise) | pointwise
  case piece2 =>
    refine (pieceD1 _ _ _ _ _ _ _ _ _ _ _ _ _ _ _).trans (point m c t 13 3 rfl _ _ _ _ _ _ ?_ ?_ ?_ ?_ ?_ ?_ _ _ _ (by rw [e0, h0]) (by rw [e1, h1]; omega))
    all_goals first | (intro r e; pointwise) | pointwise
  case piece3 =>
    refine (pieceD0 _ _ _ _ _ _ _ _ _ _ _ _ _ _ _).trans (point m c t 12 3 rfl _ _ _ _ _ _ ?_ ?_ ?_ ?_ ?_ ?_ _ _ _ (by rw [e0, h0]) (by rw [e1, h1]; omega))
    all_goals first | (intro r e; pointwise) | pointwise
  case piece4 =>
    refine (pieceC3 _ _ _ _ _ _ _ _ _ _ _ _ _ _ _).trans (point m c t 11 2 rfl _ _ _ _ _ _ ?_ ?_ ?_ ?_ ?_ ?_ _ _ _ (by rw [e0, h0]) (by rw [e1, h1]; omega))
    all_goals first | (intro r e; pointwise) | pointwise
  case piece5 =>
    refine (pieceC2 _ _ _ _ _ _ _ _ _ _ _ _ _ _ _).trans (point m c t 10 2 rfl _ _ _ _ _ _ ?_ ?_ ?_ ?_ ?_ ?_ _ _ _ (by rw [e0, h0]) (by rw [e1, h1]; omega))
    all_goals first | (intro r e; pointwise) | pointwise
  case piece6 =>
    refine (pieceC1 _ _ _ _ _ _ _ _ _ _ _ _ _ _ _).trans (point m c t 9 2 rfl _ _ _ _ _ _ ?_ ?_ ?_ ?_ ?_ ?_ _ _ _ (by rw [e0, h0]) (by rw [e1, h1]; omega))
    all_goals first | (intro r e; pointwise) | pointwise
  case piece7 =>
    refine (pieceC0 _ _ _ _ _ _ _ _ _ _ _ _ _ _ _).trans (point m c t 8 2 rfl _ _ _ _ _ _ ?_ ?_ ?_ ?_ ?_ ?_ _ _ _ (by rw [e0, h0]) (by rw [e1, h1]; omega))
    all_goals first | (intro r e; pointwise) | pointwise
  case piece8 =>
    refine (pieceB3 _ _ _ _ _ _ _ _ _ _ _ _ _ _ _).trans (point m c t 7 1 rfl _ _ _ _ _ _ ?_ ?_ ?_ ?_ ?_ ?_ _ _ _ (by rw [e0, h0]) (by rw [e1, h1]; omega))
    all_goals first | (intro r e; pointwise) | pointwise
  case piece9 =>
    refine (pieceB2 _ _ _ _ _ _ _ _ _ _ _ _ _ _ _).trans (point m c t 6 1 rfl _ _ _ _ _ _ ?_ ?_ ?_ ?_ ?_ ?_ _ _ _ (by rw [e0, h0]) (by rw [e1, h1]; omega))
    all_goals first | (intro r e; pointwise) | pointwise
  case piece10 =>
    refine (pieceB1 _ _ _ _ _ _ _ _ _ _ _ _ _ _ _).trans (point m c t 5 1 rfl _ _ _ _ _ _ ?_ ?_ ?_ ?_ ?_ ?_ _ _ _ (by rw [e0, h0]) (by rw [e1, h1]; omega))
    all_goals first | (intro r e; pointwise) | pointwise
  case piece11 =>
    refine (pieceB0 _ _ _ _ _ _ _ _ _ _ _ _ _ _ _).trans (point m c t 4 1 rfl _ _ _ _ _ _ ?_ ?_ ?_ ?_ ?_ ?_ _ _ _ (by rw [e0, h0]) (by rw [e1, h1]; omega))
    all_goals first | (intro r e; pointwise) | pointwise
  case piece12 =>
    refine (pieceA3 _ _ _ _ _ _ _ _ _ _ _ _ _ _ _).trans (point m c t 3 0 rfl _ _ _ _ _ _ ?_ ?_ ?_ ?_ ?_ ?_ _ _ _ (by rw [e0, h0]) (by rw [e1, h1]; omega))
    all_goals first | (intro r e; pointwise) | pointwise
  case piece13 =>
    refine (pieceA2 _ _ _ _ _ _ _ _ _ _ _ _ _ _ _).trans (point m c t 2 0 rfl _ _ _ _ _ _ ?_ ?_ ?_ ?_ ?_ ?_ _ _ _ (by rw [e0, h0]) (by rw [e1, h1]; omega))
    all_goals first | (intro r e; pointwise) | pointwise
  case piece14 =>
    refine (pieceA1 _ _ _ _ _ _ _ _ _ _ _ _ _ _ _).trans (point m c t 1 0 rfl _ _ _ _ _ _ ?_ ?_ ?_ ?_ ?_ ?_ _ _ _ (by rw [e0, h0]) (by rw [e1, h1]; omega))
    all_goals first | (intro r e; pointwise) | pointwise
  case piece15 =>
    refine (pieceA0 _ _ _ _ _ _ _ _ _ _ _ _ _ _ _).trans (point m c t 0 0 rfl _ _ _ _ _ _ ?_ ?_ ?_ ?_ ?_ ?_ _ _ _ (by rw [e0, h0]) (by rw [e1, h1]; omega))
    all_goals first | (intro r e; pointwise) | pointwise

end Cert.KernelIdeal.Blocks

end
-- ==== Proof.RefRow.lean ====
/- The reference's scores and mask, read at one query and one key. -/
module

public import proofs.«01_k».proof.Proof.Gen.ReferenceIdeal.Run
public import proofs.«01_k».proof.Proof.Gen.ReferenceIdeal.Read
public import proofs.«01_k».proof.Proof.Blocks
public import Idealize.ShloMosaic.Lib.Pipeline.ValueKit

@[expose] public section

set_option maxRecDepth 16384
noncomputable section
open Idealize.ShloMosaic Idealize.ShloMosaic.TcCoe Idealize.SL.Sem
open Idealize.ShloMosaic.Pipeline (Dat)

namespace Cert.ReferenceIdeal.Row
open Cert.ReferenceIdeal Cert.ReferenceIdeal.Gen Cert.ReferenceIdeal.Read
open Cert.KernelIdeal.Head (two Seen)
open Cert.KernelIdeal.Blocks (qB kB)

/-- The block of keys before block `n`: zeros before the first. -/
def prev (k : FVec Ideal S4x4096x4x128 .f32) (b : Fin 4) (n : Fin 32) (h : Fin 4) : FVec Ideal Cert.KernelIdeal.S128x128 .bf16 :=
  if n.val = 0 then fun _ => (0 : EReal) else kB k b ⟨n.val - 1, by omega⟩ h

variable (x0 : FVec Ideal S4x4096x16x128 .f32) (x1 x2 : FVec Ideal S4x4096x4x128 .f32) (x4 : FVec Ideal S16 .f32)
  (b : Fin 4) (n : Fin 32) (hk g : Fin 4) (t : Fin 128) (k : Fin 256) (e : Fin 128)

/-- The keys after the padding: a block of zeros, then the blocks. -/
theorem pad_at (N : Fin 33) (j : Fin 128) : val_main_v2 (F := Ideal) x1 (ix5 b N j hk e)
    = if h : 1 ≤ N.val then x1 (ix4 b ⟨(N.val - 1) * 128 + j.val, by omega⟩ hk e) else (0 : EReal) := by
  have h0 : (FloatOps.sitofp .f32 (0#32) : Ideal .f32) = (0 : EReal) := by
    show (((0#32).toInt : ℝ) : EReal) = 0
    simp
  rw [← h0]
  pointwise [val_main_v2, val_main_v1, val_main_call0_v0, val_main_c]
  by_cases h1 : 1 ≤ N.val
  · rw [dif_pos (by omega), dif_pos h1]
  · rw [dif_neg (by omega), dif_neg h1]

theorem joined_at : val_main_v5 (F := Ideal) x1 (ix5 b n k hk e)
    = if h : k.val < 128 then val_main_v2 (F := Ideal) x1 (ix5 b ⟨n.val, by omega⟩ ⟨k.val, h⟩ hk e)
      else val_main_v2 (F := Ideal) x1 (ix5 b ⟨1 + n.val, by omega⟩ ⟨k.val - 128, by omega⟩ hk e) := by
  unfold val_main_v5 val_main_v4 val_main_v3
  generalize val_main_v2 (F := Ideal) x1 = A
  pointwise

theorem keys_at : val_main_v5 (F := Ideal) x1 (ix5 b n k hk e) = two (prev x1 b n hk) (kB x1 b n hk) k e := by
  rw [joined_at]
  unfold two prev
  by_cases h : k.val < 128
  · rw [dif_pos h, dif_pos h]
    refine (pad_at x1 b hk e _ _).trans ?_
    by_cases h1 : 1 ≤ n.val
    · rw [dif_pos h1, if_neg (by omega)]
      rfl
    · rw [dif_neg h1, if_pos (by omega)]
  · rw [dif_neg h, dif_neg h]
    refine (pad_at x1 b hk e _ _).trans ?_
    rw [dif_pos (by show 1 ≤ 1 + n.val; omega)]
    unfold kB
    congr 1
    idx_ext

theorem query_at : val_main_v0 (F := Ideal) x0 (ix6 b n t hk g e) = qB x0 b n ⟨hk.val * 4 + g.val, by omega⟩ (ix2 t e) := by
  unfold qB
  pointwise [val_main_v0]

theorem mask_word : val_main_call2_v1 (F := Ideal) (ix6 b n hk g t k) = IntOp.andi
    (IntOp.andi (IntOp.cmpi .sge (IntOp.addi (IntOp.subi (BitVec.ofNat 32 t.val) (BitVec.ofNat 32 k.val)) 128#32) 0#32)
      (IntOp.cmpi .slt (IntOp.addi (IntOp.subi (BitVec.ofNat 32 t.val) (BitVec.ofNat 32 k.val)) 128#32) 128#32))
    (IntOp.cmpi .sge (IntOp.addi (IntOp.muli (IntOp.subi (BitVec.ofNat 32 n.val) 1#32) 128#32) (BitVec.ofNat 32 k.val)) 0#32) := by
  pointwise [val_main_call2_v1, val_main_v48, val_main_v47, val_main_v46, val_main_v45, val_main_v44, val_main_v43, val_main_c_7, val_main_v42, val_main_v41, val_main_v40, val_main_v39, val_main_c_6,
    val_main_v38, val_main_v37, val_main_v36, val_main_c_5, val_main_v35, val_main_v34, val_main_v33, val_main_v32, val_main_v31, val_main_v30, val_main_c_4, val_main_v29, val_main_v28, val_main_c_3,
    val_main_v27, val_main_v26, val_main_v25, val_main_v24, val_main_c_2, val_main_v23, val_main_v22, val_main_v21, val_main_v20, val_main_v19, val_main_v18, val_main_v17]

theorem window : ∀ (t : Fin 128) (k : Fin 256),
    IntOp.andi (IntOp.cmpi .sge (IntOp.addi (IntOp.subi (BitVec.ofNat 32 t.val) (BitVec.ofNat 32 k.val)) 128#32) 0#32)
      (IntOp.cmpi .slt (IntOp.addi (IntOp.subi (BitVec.ofNat 32 t.val) (BitVec.ofNat 32 k.val)) 128#32) 128#32)
    = if t.val < k.val ∧ k.val ≤ t.val + 128 then 1#1 else 0#1 := by
  decide +kernel

theorem inside : ∀ (n : Fin 32) (k : Fin 256),
    IntOp.cmpi .sge (IntOp.addi (IntOp.muli (IntOp.subi (BitVec.ofNat 32 n.val) 1#32) 128#32) (BitVec.ofNat 32 k.val)) 0#32
    = if 128 ≤ k.val ∨ 0 < n.val then 1#1 else 0#1 := by
  decide +kernel

theorem neg_inf : Ideal.ofBits .f32 0xFF800000#32 = (⊥ : EReal) := Cert.KernelIdeal.Head.bits_neg_inf

/-- A masked score of the reference. -/
theorem masked : val_main_v49 (F := Ideal) x0 x1 (ix6 b n hk g t k)
    = if Seen n.val t k then val_main_v16 (F := Ideal) x0 x1 (ix6 b n hk g t k) else ⊥ := by
  rw [val_main_v49_apply, mask_word, window, inside, val_main_call2_v2_apply, val_main_call2_v0_apply, val_main_cst_8_apply]
  have hS : Seen n.val t k ↔ (t.val < k.val ∧ k.val ≤ t.val + 128) ∧ (128 ≤ k.val ∨ 0 < n.val) := by unfold Seen; rw [and_assoc]
  generalize val_main_v16 (F := Ideal) x0 x1 (ix6 b n hk g t k) = s
  by_cases h1 : t.val < k.val ∧ k.val ≤ t.val + 128 <;> by_cases h2 : 128 ≤ k.val ∨ 0 < n.val
  · rw [if_pos h1, if_pos h2, if_pos (hS.mpr ⟨h1, h2⟩)]; rfl
  · rw [if_pos h1, if_neg h2, if_neg (fun h => h2 (hS.mp h).2)]; exact neg_inf
  · rw [if_neg h1, if_pos h2, if_neg (fun h => h1 (hS.mp h).1)]; exact neg_inf
  · rw [if_neg h1, if_neg h2, if_neg (fun h => h1 (hS.mp h).1)]; exact neg_inf

theorem scores_at : val_main_v16 (F := Ideal) x0 x1 (ix6 b n hk g t k)
    = (∑ e : Fin 128, two (prev x1 b n hk) (kB x1 b n hk) k e * qB x0 b n ⟨hk.val * 4 + g.val, by omega⟩ (ix2 t e)) * Ideal.div (Ideal.ofBits .f32 0x3F800000#32) (Ideal.sqrt (Ideal.ofBits .f32 0x43000000#32)) := by
  have hd : val_main_v12 (F := Ideal) x0 x1 (ix6 b n hk g t k) = ∑ e : Fin 128, val_main_v5 (F := Ideal) x1 (ix5 b n k hk e) * val_main_v0 (F := Ideal) x0 (ix6 b n t hk g e) := by
    pointwise [val_main_v12, val_main_v11]
  rw [val_main_v16_apply, hd, val_main_v15_apply, val_main_v14_apply, val_main_v13_apply, val_main_cst_apply, val_main_cst_1_apply]
  simp only [keys_at, query_at]
  rfl

theorem values_at : val_main_v10 (F := Ideal) x2 (ix5 b n k hk e) = two (prev x2 b n hk) (kB x2 b n hk) k e :=
  keys_at x2 b n hk k e

theorem ext_at (k : Fin 257) : val_main_v52 (F := Ideal) x0 x1 x4 (ix6 b n hk g t k)
    = if h : k.val < 256 then val_main_v49 (F := Ideal) x0 x1 (ix6 b n hk g t ⟨k.val, h⟩) else x4 (ix1 ⟨hk.val * 4 + g.val, by omega⟩) := by
  have hs : ∀ z : Fin 1, val_main_v51 (F := Ideal) x4 (ix6 b n hk g t z) = x4 (ix1 ⟨hk.val * 4 + g.val, by omega⟩) := fun z => by
    pointwise [val_main_v51, val_main_v50]
  rw [← hs 0]
  have h : val_main_v52 (F := Ideal) x0 x1 x4 (ix6 b n hk g t k)
      = if h : k.val < 256 then val_main_v49 (F := Ideal) x0 x1 (ix6 b n hk g t ⟨k.val, h⟩) else val_main_v51 (F := Ideal) x4 (ix6 b n hk g t ⟨k.val - 256, by omega⟩) := by
    unfold val_main_v52
    generalize val_main_v49 (F := Ideal) x0 x1 = A
    generalize val_main_v51 (F := Ideal) x4 = B
    pointwise
  rw [h]
  split
  · rfl
  · exact congrArg (fun z => val_main_v51 (F := Ideal) x4 (ix6 b n hk g t z)) (Subsingleton.elim _ _)

/-- The greatest of finitely many numbers, none `+∞` and one not `-∞`, is a real. -/
theorem fold_real {ι : Type} (s : Finset ι) (f : ι → EReal) (hf : ∀ i, f i ≠ ⊤) (i : ι) (hi : i ∈ s) (hb : f i ≠ ⊥) : ∃ μ : ℝ, s.fold max (⊥ : EReal) f = (μ : EReal) := by
  have h1 : s.fold max (⊥ : EReal) f < ⊤ := (Finset.fold_max_lt _).mpr ⟨bot_lt_top, fun x _ => lt_top_iff_ne_top.mpr (hf x)⟩
  have h2 : f i ≤ s.fold max (⊥ : EReal) f := (Finset.le_fold_max _).mpr (Or.inr ⟨i, hi, le_refl _⟩)
  have h3 : s.fold max (⊥ : EReal) f ≠ ⊥ := fun h => hb (le_bot_iff.mp (h ▸ h2))
  exact ⟨_, (EReal.coe_toReal h1.ne h3).symm⟩

theorem top_real (h : ∀ i, val_main_v52 (F := Ideal) x0 x1 x4 i ≠ (⊤ : EReal)) (hs : val_main_v52 (F := Ideal) x0 x1 x4 (ix6 b n hk g t 256) ≠ (⊥ : EReal)) :
    ∃ μ : ℝ, val_main_v55 (F := Ideal) x0 x1 x4 (ix5 b n hk g t) = (μ : EReal) := by
  have e : val_main_v55 (F := Ideal) x0 x1 x4 (ix5 b n hk g t)
      = max (⊥ : EReal) (Finset.fold max (⊥ : EReal) (val_main_v52 (F := Ideal) x0 x1 x4) {i | reducesTo_S4x32x4x4x128x257_S4x32x4x4x128_d5.drop i = ix5 b n hk g t}) := by
    rw [val_main_v55_apply, val_main_v54_apply, val_main_cst_10_apply]
    unfold val_main_v53 val_main_cst_9
    generalize val_main_v52 (F := Ideal) x0 x1 x4 = A
    pointwise [neg_inf]
  rw [e, bot_sup_eq]
  refine fold_real _ _ h (ix6 b n hk g t 256) ?_ hs
  rw [Finset.mem_filter]
  refine ⟨Finset.mem_univ _, ?_⟩
  funext a
  match a with
  | ⟨0, _⟩ => rfl
  | ⟨1, _⟩ => rfl
  | ⟨2, _⟩ => rfl
  | ⟨3, _⟩ => rfl
  | ⟨4, _⟩ => rfl

theorem exp_at (k : Fin 257) : val_main_v59 (F := Ideal) x0 x1 x4 (ix6 b n hk g t k)
    = Ideal.exp (val_main_v52 (F := Ideal) x0 x1 x4 (ix6 b n hk g t k) - val_main_v55 (F := Ideal) x0 x1 x4 (ix5 b n hk g t)) := by
  rw [val_main_v59_apply, val_main_v58_apply]
  unfold val_main_v57 val_main_v56
  generalize val_main_v52 (F := Ideal) x0 x1 x4 = A
  generalize val_main_v55 (F := Ideal) x0 x1 x4 = B
  pointwise

theorem prob_at (k : Fin 256) : val_main_v64 (F := Ideal) x0 x1 x4 (ix6 b n hk g t k)
    = Ideal.div (val_main_v59 (F := Ideal) x0 x1 x4 (ix6 b n hk g t ⟨k.val, by omega⟩))
        (∑ k : Fin 257, val_main_v59 (F := Ideal) x0 x1 x4 (ix6 b n hk g t k)) := by
  have hs : val_main_v60 (F := Ideal) x0 x1 x4 (ix5 b n hk g t) = ∑ k : Fin 257, val_main_v59 (F := Ideal) x0 x1 x4 (ix6 b n hk g t k) := by
    rw [val_main_v60_apply, val_main_cst_11_apply]
    generalize val_main_v59 (F := Ideal) x0 x1 x4 = A
    refine (congrArg₂ (· + ·) (show (FloatOps.ofBits (F := Ideal) .f32 0x00000000#32 : EReal) = 0 from Ideal.ofBits_zero_f32) rfl).trans ?_
    refine (zero_add _).trans (Finset.sum_congr rfl fun k _ => congrArg A ?_)
    funext a
    match a with
    | ⟨0, _⟩ => rfl
    | ⟨1, _⟩ => rfl
    | ⟨2, _⟩ => rfl
    | ⟨3, _⟩ => rfl
    | ⟨4, _⟩ => rfl
    | ⟨5, _⟩ => rfl
  rw [← hs]
  unfold val_main_v64 val_main_v63 val_main_v62 val_main_v61
  generalize val_main_v59 (F := Ideal) x0 x1 x4 = A
  generalize val_main_v60 (F := Ideal) x0 x1 x4 = B
  pointwise

theorem out_at (d : Fin 128) : val_main_v68 (F := Ideal) x0 x1 x2 x4 (ix2 ⟨b.val * 4096 + n.val * 128 + t.val, by omega⟩ ⟨(hk.val * 4 + g.val) * 128 + d.val, by omega⟩)
    = ∑ k : Fin 256, val_main_v10 (F := Ideal) x2 (ix5 b n k hk d) * val_main_v64 (F := Ideal) x0 x1 x4 (ix6 b n hk g t k) := by
  have h1 : val_main_v68 (F := Ideal) x0 x1 x2 x4 (ix2 ⟨b.val * 4096 + n.val * 128 + t.val, by omega⟩ ⟨(hk.val * 4 + g.val) * 128 + d.val, by omega⟩)
      = val_main_v66 (F := Ideal) x0 x1 x2 x4 (ix6 b n t hk g d) := by
    rw [val_main_v68_apply]; unfold val_main_v67
    generalize val_main_v66 (F := Ideal) x0 x1 x2 x4 = A
    pointwise
  rw [h1]
  unfold val_main_v66 val_main_v65
  generalize val_main_v10 (F := Ideal) x2 = A
  generalize val_main_v64 (F := Ideal) x0 x1 x4 = B
  pointwise

end Cert.ReferenceIdeal.Row

end
-- ==== Proof.Softmax.lean ====
/- A softmax with a sink over extended reals. A row has finitely many scores, some of them masked to `⊥`, and one finite sink.
   The kernel works to base two, subtracts the row maximum, sums the weighted values and divides at the end.
   The reference works to base e, subtracts its own maximum, divides each weight and then sums.
   Both are the plain weighted mean `mean` below. -/
module

public import Idealize.ShloMosaic.Lib.Pointwise

@[expose] public section

noncomputable section

open Idealize.ShloMosaic

namespace Cert.Softmax

/-- A nonnegative real factor goes into a finite sum of extended reals. -/
theorem coe_mul_sum {ι : Type} (s : Finset ι) (c : ℝ) (hc : 0 ≤ c) (f : ι → EReal) :
    (c : EReal) * ∑ i ∈ s, f i = ∑ i ∈ s, (c : EReal) * f i := by
  classical
  induction s using Finset.induction_on with
  | empty => simp
  | insert a s ha ih =>
    rw [Finset.sum_insert ha, Finset.sum_insert ha,
      EReal.left_distrib_of_nonneg_of_ne_top (by exact_mod_cast hc) (EReal.coe_ne_top c), ih]

/-- A finite sum of reals is a real. -/
theorem sum_coe {ι : Type} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

section Row

variable {n : ℕ} (P : Fin n → Prop) [DecidablePred P] (x : Fin n → ℝ) (s : ℝ) (V : Fin n → EReal)

/-- The unnormalised weight of a key: the exponential of its score, or zero where it is masked. -/
def wt (k : Fin n) : ℝ := if P k then Real.exp (x k) else 0

theorem wt_nonneg (k : Fin n) : 0 ≤ wt P x k := by
  unfold wt; split
  · exact (Real.exp_pos _).le
  · exact le_rfl

/-- The sum of all weights with the sink's. -/
def total : ℝ := (∑ k, wt P x k) + Real.exp s

theorem total_pos : 0 < total P x s :=
  add_pos_of_nonneg_of_pos (Finset.sum_nonneg fun k _ => wt_nonneg P x k) (Real.exp_pos s)

/-- The weighted mean of the values, the sink taking its share of the weight. -/
def mean : EReal := ∑ k, ((wt P x k / total P x s : ℝ) : EReal) * V k

/-- The mean reads scores and values only where they are not masked. -/
theorem mean_congr (x' : Fin n → ℝ) (V' : Fin n → EReal) (hx : ∀ k, P k → x k = x' k) (hV : ∀ k, P k → V k = V' k) :
    mean P x s V = mean P x' s V' := by
  have hw : ∀ k, wt P x k = wt P x' k := fun k => by
    unfold wt; split
    · rename_i h; rw [hx k h]
    · rfl
  have ht : total P x s = total P x' s := by unfold total; simp only [hw]
  unfold mean
  refine Finset.sum_congr rfl fun k _ => ?_
  by_cases h : P k
  · rw [hw, ht, hV k h]
  · have h0 : wt P x' k = 0 := by unfold wt; rw [if_neg h]
    rw [hw, ht, h0, zero_div, EReal.coe_zero, zero_mul, zero_mul]

/-- A maximum of finitely many numbers, none of them `⊤`, and one finite number is finite. -/
theorem max_real (S : Fin n → EReal) (hS : ∀ k, S k ≠ ⊤) (z : ℝ) :
    ∃ μ : ℝ, max (Finset.univ.fold max (⊥ : EReal) S) (z : EReal) = (μ : EReal) := by
  have h1 : Finset.univ.fold max (⊥ : EReal) S ≠ ⊤ := by
    have h2 : Finset.univ.fold max (⊥ : EReal) S < ⊤ :=
      (Finset.fold_max_lt ⊤).2 ⟨bot_lt_top, fun k _ => lt_top_iff_ne_top.2 (hS k)⟩
    exact h2.ne
  have h3 : max (Finset.univ.fold max (⊥ : EReal) S) (z : EReal) ≠ ⊤ := by
    rcases max_choice (Finset.univ.fold max (⊥ : EReal) S) (z : EReal) with h | h <;> rw [h]
    · exact h1
    · exact EReal.coe_ne_top z
  have h4 : max (Finset.univ.fold max (⊥ : EReal) S) (z : EReal) ≠ ⊥ :=
    (lt_of_lt_of_le (EReal.bot_lt_coe z) (le_max_right _ _)).ne'
  exact ⟨_, (EReal.coe_toReal h3 h4).symm⟩

/-- Weights that share a positive factor, summed over the values and divided at the end: the mean. -/
theorem late_division (c : ℝ) (hc : 0 < c) (p : Fin n → EReal) (pS : EReal)
    (hp : ∀ k, p k = ((c * wt P x k : ℝ) : EReal)) (hS : pS = ((c * Real.exp s : ℝ) : EReal)) :
    Ideal.div (∑ k, p k * V k) ((∑ k, p k) + pS) = mean P x s V := by
  have hden : (∑ k, p k) + pS = ((c * total P x s : ℝ) : EReal) := by
    simp only [hp, hS]
    rw [sum_coe, ← EReal.coe_add, ← Finset.mul_sum, ← mul_add]; rfl
  have hpos : 0 < c * total P x s := mul_pos hc (total_pos P x s)
  rw [hden, Ideal.div_coe hpos.ne', mul_comm, coe_mul_sum _ _ (by positivity)]
  unfold mean
  refine Finset.sum_congr rfl fun k _ => ?_
  rw [hp, ← mul_assoc, ← EReal.coe_mul]
  congr 2
  have := (total_pos P x s).ne'
  field_simp

/-- The same weights, each divided before the sum: the mean again. -/
theorem early_division (c : ℝ) (hc : 0 < c) (p : Fin n → EReal) (pS : EReal)
    (hp : ∀ k, p k = ((c * wt P x k : ℝ) : EReal)) (hS : pS = ((c * Real.exp s : ℝ) : EReal)) :
    ∑ k, Ideal.div (p k) ((∑ k, p k) + pS) * V k = mean P x s V := by
  have hden : (∑ k, p k) + pS = ((c * total P x s : ℝ) : EReal) := by
    simp only [hp, hS]
    rw [sum_coe, ← EReal.coe_add, ← Finset.mul_sum, ← mul_add]; rfl
  have hpos : 0 < c * total P x s := mul_pos hc (total_pos P x s)
  rw [hden]
  unfold mean
  refine Finset.sum_congr rfl fun k _ => ?_
  rw [Ideal.div_coe hpos.ne', hp, ← EReal.coe_mul]
  congr 2
  have := (total_pos P x s).ne'
  field_simp

/-- Two to a real minus a real, both over the logarithm of two. -/
theorem exp2_shift (a μ : ℝ) : Ideal.exp2 (((a * (Real.log 2)⁻¹ : ℝ) : EReal) - (μ : EReal)) =
    ((Real.exp (-(μ * Real.log 2)) * Real.exp a : ℝ) : EReal) := by
  rw [← EReal.coe_sub, Ideal.exp2_coe, ← Real.exp_add]
  congr 1
  show (2 : ℝ) ^ (a * (Real.log 2)⁻¹ - μ) = _
  rw [Real.rpow_def_of_pos (by norm_num)]
  congr 1
  have : Real.log 2 ≠ 0 := (Real.log_pos (by norm_num)).ne'
  field_simp
  ring

/-- THE KERNEL'S ROW: base two, the maximum subtracted, one division at the end. -/
theorem base_two (S : Fin n → EReal) (hS : ∀ k, S k = if P k then ((x k * (Real.log 2)⁻¹ : ℝ) : EReal) else ⊥)
    (z : EReal) (hz : z = ((s * (Real.log 2)⁻¹ : ℝ) : EReal)) :
    Ideal.div (∑ k, Ideal.exp2 (S k - max (Finset.univ.fold max (⊥ : EReal) S) z) * V k)
      ((∑ k, Ideal.exp2 (S k - max (Finset.univ.fold max (⊥ : EReal) S) z))
        + Ideal.exp2 (z - max (Finset.univ.fold max (⊥ : EReal) S) z)) = mean P x s V := by
  subst hz
  obtain ⟨μ, hμ⟩ := max_real S (fun k => by
    rw [hS]; split
    · exact EReal.coe_ne_top _
    · exact bot_ne_top) (s * (Real.log 2)⁻¹)
  rw [hμ]
  refine late_division P x s V (Real.exp (-(μ * Real.log 2))) (Real.exp_pos _) _ _ (fun k => ?_) (exp2_shift s μ)
  rw [hS]; unfold wt
  split
  · exact exp2_shift _ _
  · rw [EReal.bot_sub, mul_zero]; rfl

/-- E to a real minus a real. -/
theorem exp_shift (a μ : ℝ) : Ideal.exp ((a : EReal) - (μ : EReal)) = ((Real.exp (-μ) * Real.exp a : ℝ) : EReal) := by
  rw [← EReal.coe_sub, Ideal.exp_coe, ← Real.exp_add]
  congr 2
  ring

/-- THE REFERENCE'S ROW, with any finite number subtracted. -/
theorem base_e (S : Fin n → EReal) (hS : ∀ k, S k = if P k then ((x k : ℝ) : EReal) else ⊥) (μ : ℝ) :
    ∑ k, Ideal.div (Ideal.exp (S k - (μ : EReal))) ((∑ k, Ideal.exp (S k - (μ : EReal))) + Ideal.exp ((s : EReal) - (μ : EReal))) * V k
      = mean P x s V := by
  refine early_division P x s V (Real.exp (-μ)) (Real.exp_pos _) _ _ (fun k => ?_) (exp_shift s μ)
  rw [hS]; unfold wt
  split
  · exact exp_shift _ _
  · rw [EReal.bot_sub, mul_zero]; rfl

end Row

end Cert.Softmax

end
-- ==== Proof.Meet.lean ====
/- Finite queries, keys and sinks: both programs' rows are the same mean of the values. -/
module

public import proofs.«01_k».proof.Proof.RefRow
public import proofs.«01_k».proof.Proof.Softmax

@[expose] public section

set_option maxRecDepth 16384
noncomputable section
open Idealize.ShloMosaic Idealize.ShloMosaic.TcCoe Idealize.SL.Sem
open Idealize.ShloMosaic.Pipeline (Dat)

namespace Cert.ReferenceIdeal.Meet
open Cert.ReferenceIdeal Cert.ReferenceIdeal.Gen Cert.ReferenceIdeal.Read Cert.ReferenceIdeal.Row
open Cert.KernelIdeal.Head (two Seen sc l2 row blockOut)
open Cert.KernelIdeal.Blocks (qB kB outAt OUT)
open Cert.Softmax (mean mean_congr base_two base_e)

/-- Every entry of an array is a real. -/
def Fin' {ι : Type} (f : ι → EReal) : Prop := ∀ i, f i ≠ ⊤ ∧ f i ≠ ⊥

theorem Fin'.coe {ι : Type} {f : ι → EReal} (h : Fin' f) (i : ι) : f i = ((f i).toReal : EReal) := (EReal.coe_toReal (h i).1 (h i).2).symm

theorem one_over : Ideal.div (Ideal.ofBits .f32 0x3F800000#32) (Ideal.sqrt (Ideal.ofBits .f32 0x43000000#32)) = ((1 / Real.sqrt 128 : ℝ) : EReal) := by
  have h1 : Ideal.ofBits .f32 0x3F800000#32 = ((1 : ℝ) : EReal) := by
    simp [Ideal.ofBits, Ideal.ieee, -EReal.coe_one, -EReal.coe_mul, ← EReal.coe_mul]
    norm_num
  have h2 : Ideal.ofBits .f32 0x43000000#32 = ((128 : ℝ) : EReal) := by
    simp [Ideal.ofBits, Ideal.ieee, -EReal.coe_mul, ← EReal.coe_mul]
    norm_num
  have h3 : Real.sqrt 128 ≠ 0 := (Real.sqrt_pos.mpr (by norm_num)).ne'
  rw [h1, h2, Ideal.sqrt_coe, if_neg (by norm_num), Ideal.div_coe h3, ← EReal.coe_mul, one_mul]

variable (x0 : FVec Ideal S4x4096x16x128 .f32) (x1 x2 : FVec Ideal S4x4096x4x128 .f32) (x4 : FVec Ideal S16 .f32)
  (b : Fin 4) (n : Fin 32) (hk g : Fin 4) (t d : Fin 128)

/-- A score over two key blocks, as a real. -/
def sreal (q kp kc : FVec Ideal Cert.KernelIdeal.S128x128 .bf16) (t : Fin 128) (k : Fin 256) : ℝ :=
  (∑ e : Fin 128, (two kp kc k e).toReal * (q (ix2 t e) : EReal).toReal) * (1 / Real.sqrt 128)

theorem real_sum (q : FVec Ideal Cert.KernelIdeal.S128x128 .bf16) (kp kc : FVec Ideal Cert.KernelIdeal.S128x128 .bf16)
    (hq : Fin' (ι := Cert.KernelIdeal.S128x128.Idx) q) (k : Fin 256) (hk : ∀ e, two kp kc k e ≠ ⊤ ∧ two kp kc k e ≠ ⊥) :
    (∑ e : Fin 128, two kp kc k e * q (ix2 t e)) * ((1 / Real.sqrt 128 : ℝ) : EReal) = (sreal q kp kc t k : EReal) := by
  unfold sreal
  rw [EReal.coe_mul, ← Cert.Softmax.sum_coe]
  congr 1
  refine Finset.sum_congr rfl fun e _ => ?_
  rw [EReal.coe_mul, EReal.coe_toReal (hk e).1 (hk e).2, ← hq.coe]

theorem real_scaled (q : FVec Ideal Cert.KernelIdeal.S128x128 .bf16) (kp kc : FVec Ideal Cert.KernelIdeal.S128x128 .bf16)
    (hq : Fin' (ι := Cert.KernelIdeal.S128x128.Idx) q) (k : Fin 256) (hk : ∀ e, two kp kc k e ≠ ⊤ ∧ two kp kc k e ≠ ⊥) :
    (∑ e : Fin 128, q (ix2 t e) * (sc : EReal) * two kp kc k e) = ((sreal q kp kc t k * (Real.log 2)⁻¹ : ℝ) : EReal) := by
  have h : ∀ e : Fin 128, q (ix2 t e) * (sc : EReal) * two kp kc k e = (((two kp kc k e).toReal * (q (ix2 t e) : EReal).toReal * sc : ℝ) : EReal) := fun e => by
    rw [hq.coe (ix2 t e), ← EReal.coe_toReal (hk e).1 (hk e).2, ← EReal.coe_mul, ← EReal.coe_mul]
    congr 1
    simp only [EReal.toReal_coe]
    ring
  rw [Finset.sum_congr rfl fun e _ => h e, Cert.Softmax.sum_coe, ← Finset.sum_mul]
  congr 1
  unfold sreal sc
  rw [mul_inv]
  ring

theorem two_fin (a c : FVec Ideal Cert.KernelIdeal.S128x128 .bf16) (ha : Fin' (ι := Cert.KernelIdeal.S128x128.Idx) a) (hc : Fin' (ι := Cert.KernelIdeal.S128x128.Idx) c)
    (k : Fin 256) (e : Fin 128) : two a c k e ≠ ⊤ ∧ two a c k e ≠ ⊥ := by
  unfold two
  split
  · exact ha _
  · exact hc _

theorem prev_fin (h1 : Fin' (ι := S4x4096x4x128.Idx) x1) : Fin' (ι := Cert.KernelIdeal.S128x128.Idx) (prev x1 b n hk) := by
  intro j
  unfold prev
  split
  · exact ⟨EReal.zero_ne_top, EReal.zero_ne_bot⟩
  · exact h1 _

/-- Where a query sees a key, the padded block is the real one. -/
theorem two_seen (k : Fin 256) (h : Seen n.val t k) (e : Fin 128) :
    two (prev x1 b n hk) (kB x1 b n hk) k e = two (kB x1 b ⟨n.val - 1, by omega⟩ hk) (kB x1 b n hk) k e := by
  unfold two prev
  split
  · rename_i h1
    rw [if_neg (by rcases h.2.2 with h | h <;> omega)]
  · rfl

/-- The common value of both programs. -/
abbrev common : EReal :=
  mean (fun k => Seen n.val t k) (sreal (qB x0 b n ⟨hk.val * 4 + g.val, by omega⟩) (prev x1 b n hk) (kB x1 b n hk) t) (x4 (ix1 ⟨hk.val * 4 + g.val, by omega⟩) : EReal).toReal
    (two (prev x2 b n hk) (kB x2 b n hk) · d)

theorem kernel_row (h0 : Fin' (ι := S4x4096x16x128.Idx) x0) (h1 : Fin' (ι := S4x4096x4x128.Idx) x1) (h4 : Fin' (ι := S16.Idx) x4) :
    outAt x0 x1 x2 x4 b n ⟨hk.val * 4 + g.val, by omega⟩ t d = common x0 x1 x2 x4 b n hk g t d := by
  have hh : (⟨(⟨hk.val * 4 + g.val, by omega⟩ : Fin 16).val / 4, by show (hk.val * 4 + g.val) / 4 < 4; omega⟩ : Fin 4) = hk :=
    Fin.ext (by show (hk.val * 4 + g.val) / 4 = hk.val; omega)
  unfold outAt
  rw [hh]
  unfold blockOut row
  have hq : Fin' (ι := Cert.KernelIdeal.S128x128.Idx) (qB x0 b n ⟨hk.val * 4 + g.val, by omega⟩) := fun j => h0 _
  have hk' : ∀ n : Fin 32, Fin' (ι := Cert.KernelIdeal.S128x128.Idx) (kB x1 b n hk) := fun n j => h1 _
  refine (base_two (fun k => Seen n.val t k) (sreal (qB x0 b n ⟨hk.val * 4 + g.val, by omega⟩) (kB x1 b ⟨n.val - 1, by omega⟩ hk) (kB x1 b n hk) t)
    (x4 (ix1 ⟨hk.val * 4 + g.val, by omega⟩) : EReal).toReal (two (kB x2 b ⟨n.val - 1, by omega⟩ hk) (kB x2 b n hk) · d) _ (fun k => ?_) _ ?_).trans
    (mean_congr _ _ _ _ _ _ (fun k hs => ?_) fun k hs => (two_seen x2 b n hk t k hs d).symm)
  · show (if Seen n.val t k then _ else _) = _
    rw [real_scaled t _ _ _ hq k fun e => two_fin _ _ (hk' _) (hk' _) k e]
  · rw [EReal.coe_mul, ← h4.coe]
  · unfold sreal
    simp only [two_seen x1 b n hk t k hs]

theorem score_row (h0 : Fin' (ι := S4x4096x16x128.Idx) x0) (h1 : Fin' (ι := S4x4096x4x128.Idx) x1) (k : Fin 256) :
    val_main_v49 (F := Ideal) x0 x1 (ix6 b n hk g t k)
      = if Seen n.val t k then (sreal (qB x0 b n ⟨hk.val * 4 + g.val, by omega⟩) (prev x1 b n hk) (kB x1 b n hk) t k : EReal) else ⊥ := by
  have hq : Fin' (ι := Cert.KernelIdeal.S128x128.Idx) (qB x0 b n ⟨hk.val * 4 + g.val, by omega⟩) := fun j => h0 _
  have hk' : Fin' (ι := Cert.KernelIdeal.S128x128.Idx) (kB x1 b n hk) := fun j => h1 _
  rw [masked, scores_at, one_over, real_sum t _ _ _ hq k fun e => two_fin _ _ (prev_fin x1 b n hk h1) hk' k e]

theorem reference_row (h0 : Fin' (ι := S4x4096x16x128.Idx) x0) (h1 : Fin' (ι := S4x4096x4x128.Idx) x1) (h4 : Fin' (ι := S16.Idx) x4) :
    ∑ k : Fin 256, val_main_v10 (F := Ideal) x2 (ix5 b n k hk d) * val_main_v64 (F := Ideal) x0 x1 x4 (ix6 b n hk g t k) = common x0 x1 x2 x4 b n hk g t d := by
  have htop : ∀ i, val_main_v52 (F := Ideal) x0 x1 x4 i ≠ (⊤ : EReal) := fun i => by
    idx_vars i
    rw [ext_at]
    split
    · rw [score_row x0 x1 _ _ _ _ _ h0 h1]
      split
      · exact EReal.coe_ne_top _
      · exact bot_ne_top
    · exact (h4 _).1
  have hlast : val_main_v52 (F := Ideal) x0 x1 x4 (ix6 b n hk g t 256) = x4 (ix1 ⟨hk.val * 4 + g.val, by omega⟩) := by
    rw [ext_at, dif_neg (by decide)]
  have hother : ∀ k : Fin 256, val_main_v52 (F := Ideal) x0 x1 x4 (ix6 b n hk g t ⟨k.val, by omega⟩) = val_main_v49 (F := Ideal) x0 x1 (ix6 b n hk g t k) := fun k => by
    rw [ext_at, dif_pos k.isLt]
  obtain ⟨μ, hμ⟩ := top_real x0 x1 x4 b n hk g t htop (by rw [hlast]; exact (h4 _).2)
  have hsum : ∑ k : Fin 257, val_main_v59 (F := Ideal) x0 x1 x4 (ix6 b n hk g t k)
      = (∑ k : Fin 256, Ideal.exp (val_main_v49 (F := Ideal) x0 x1 (ix6 b n hk g t k) - (μ : EReal))) + Ideal.exp (((x4 (ix1 ⟨hk.val * 4 + g.val, by omega⟩) : EReal).toReal : EReal) - (μ : EReal)) := by
    refine (Fin.sum_univ_castSucc _).trans (congrArg₂ (· + ·) (Finset.sum_congr rfl fun k _ => ?_) ?_)
    · exact (exp_at x0 x1 x4 b n hk g t _).trans (by rw [hμ]; exact congrArg (fun z => Ideal.exp (z - (μ : EReal))) (hother k))
    · exact (exp_at x0 x1 x4 b n hk g t _).trans (by rw [hμ, ← h4.coe]; exact congrArg (fun z => Ideal.exp (z - (μ : EReal))) hlast)
  refine Eq.trans (Finset.sum_congr rfl fun k _ => ?_) (base_e (fun k => Seen n.val t k) (sreal (qB x0 b n ⟨hk.val * 4 + g.val, by omega⟩) (prev x1 b n hk) (kB x1 b n hk) t)
    (x4 (ix1 ⟨hk.val * 4 + g.val, by omega⟩) : EReal).toReal (two (prev x2 b n hk) (kB x2 b n hk) · d)
    (fun k => val_main_v49 (F := Ideal) x0 x1 (ix6 b n hk g t k)) (fun k => score_row x0 x1 b n hk g t h0 h1 k) μ)
  rw [values_at, prob_at, exp_at, hμ, hsum, hother, mul_comm]

/-- The two results at one position. -/
theorem key (h0 : Fin' (ι := S4x4096x16x128.Idx) x0) (h1 : Fin' (ι := S4x4096x4x128.Idx) x1) (h4 : Fin' (ι := S16.Idx) x4) :
      (val_main_v68 (F := Ideal) x0 x1 x2 x4 : FVec Ideal S16384x2048 .bf16) (ix2 ⟨b.val * 4096 + n.val * 128 + t.val, by omega⟩ ⟨(hk.val * 4 + g.val) * 128 + d.val, by omega⟩)
        = OUT x0 x1 x2 x4 (ix2 ⟨b.val * 4096 + n.val * 128 + t.val, by omega⟩ ⟨(hk.val * 4 + g.val) * 128 + d.val, by omega⟩) := by
    rw [out_at, reference_row x0 x1 x2 x4 b n hk g t d h0 h1 h4, ← kernel_row x0 x1 x2 x4 b n hk g t d h0 h1 h4]
    unfold OUT
    congr 1 <;> apply Fin.ext
    · show b.val = (b.val * 4096 + n.val * 128 + t.val) / 4096; omega
    · show n.val = (b.val * 4096 + n.val * 128 + t.val) % 4096 / 128; omega
    · show hk.val * 4 + g.val = ((hk.val * 4 + g.val) * 128 + d.val) / 128; omega
    · show t.val = (b.val * 4096 + n.val * 128 + t.val) % 128; omega
    · show d.val = ((hk.val * 4 + g.val) * 128 + d.val) % 128; omega

/-- THE TWO RESULTS ARE ONE ARRAY. -/
theorem meet (h0 : Fin' (ι := S4x4096x16x128.Idx) x0) (h1 : Fin' (ι := S4x4096x4x128.Idx) x1) (h4 : Fin' (ι := S16.Idx) x4) :
    (val_main_v68 (F := Ideal) x0 x1 x2 x4 : FVec Ideal S16384x2048 .bf16) = OUT x0 x1 x2 x4 := by
  have split : ∀ R : Fin 16384, ∃ (b : Fin 4) (n : Fin 32) (t : Fin 128), R = ⟨b.val * 4096 + n.val * 128 + t.val, by omega⟩ := fun R =>
    ⟨⟨R.val / 4096, by omega⟩, ⟨R.val % 4096 / 128, by omega⟩, ⟨R.val % 128, by omega⟩, Fin.ext (by
      show R.val = R.val / 4096 * 4096 + R.val % 4096 / 128 * 128 + R.val % 128; omega)⟩
  have split' : ∀ C : Fin 2048, ∃ (hk g : Fin 4) (d : Fin 128), C = ⟨(hk.val * 4 + g.val) * 128 + d.val, by omega⟩ := fun C =>
    ⟨⟨C.val / 512, by omega⟩, ⟨C.val % 512 / 128, by omega⟩, ⟨C.val % 128, by omega⟩, Fin.ext (by
      show C.val = (C.val / 512 * 4 + C.val % 512 / 128) * 128 + C.val % 128; omega)⟩
  have all : ∀ (R : Fin 16384) (C : Fin 2048), (val_main_v68 (F := Ideal) x0 x1 x2 x4 : FVec Ideal S16384x2048 .bf16) (ix2 R C) = OUT x0 x1 x2 x4 (ix2 R C) := fun R C => by
    obtain ⟨b, n, t, rfl⟩ := split R
    obtain ⟨hk, g, d, rfl⟩ := split' C
    exact key x0 x1 x2 x4 b n hk g t d h0 h1 h4
  funext j
  idx_vars j
  exact all _ _

end Cert.ReferenceIdeal.Meet

end
-- ==== Proof.Window.lean ====
/- The sliding-window call against the reference: the claim. -/
module

public import proofs.«01_k».proof.Defs
public import proofs.«01_k».proof.Proof.Gen.Pre_finite_scores
public import proofs.«01_k».proof.Proof.Final
public import proofs.«01_k».proof.Proof.Meet
public import Idealize.ShloMosaic.Adequacy
public import Idealize.ShloMosaic.Init

@[expose] public section

set_option maxRecDepth 16384
noncomputable section
open Idealize.ShloMosaic Idealize.ShloMosaic.TcCoe Idealize.SL.Sem
open Idealize.ShloMosaic.Pipeline (Dat)

namespace Cert.Window
open Cert.ReferenceIdeal.Meet (Fin')

/-- A number whose absolute value is below plus infinity is a real. -/
theorem finite_of_word (x : EReal) (h : BitVec.ofBool (decide (max x (-x) < Ideal.ofBits .f32 0x7F800000#32)) = 1#1) : x ≠ ⊤ ∧ x ≠ ⊥ := by
  have hi : Ideal.ofBits .f32 0x7F800000#32 = (⊤ : EReal) := by simp [Ideal.ofBits, Ideal.ieee]
  rw [hi] at h
  have h1 : max x (-x) < ⊤ := by
    by_contra hn
    rw [decide_eq_false hn] at h
    exact absurd h (by decide)
  constructor
  · rintro rfl
    exact absurd h1 (by simp)
  · rintro rfl
    exact absurd h1 (by simp)

theorem and_one (a b : BitVec 1) (h : IntOp.andi a b = 1#1) : a = 1#1 ∧ b = 1#1 := by
  revert a b; decide

section
open Cert.Pre_finite_scores Cert.Pre_finite_scores.Gen
variable (x0 : FVec Ideal S4x4096x16x128 .f32) (x1 x2 : FVec Ideal S4x4096x4x128 .f32) (x3 : FVec Ideal S16384x3072 .f32) (x4 : FVec Ideal S16 .f32)

theorem word_at (b : Fin 4) (s : Fin 4096) (hk g : Fin 4) (e : Fin 128) :
    Cert.Pre_finite_scores.fn (F := Ideal) x0 x1 x2 x3 x4 (ix5 b s hk g e) = IntOp.andi (IntOp.andi
        (BitVec.ofBool (decide (FloatOps.absf (x0 (ix4 b s ⟨hk.val * 4 + g.val, by omega⟩ e)) < Ideal.ofBits .f32 0x7F800000#32)))
        (BitVec.ofBool (decide (FloatOps.absf (x1 (ix4 b s hk e)) < Ideal.ofBits .f32 0x7F800000#32))))
      (BitVec.ofBool (decide (FloatOps.absf (x4 (ix1 ⟨hk.val * 4 + g.val, by omega⟩)) < Ideal.ofBits .f32 0x7F800000#32))) := by
  pointwise [Cert.Pre_finite_scores.fn]

variable (h : Cert.Pre_finite_scores.fn (F := Ideal) x0 x1 x2 x3 x4 = fun _ => 1#1)
include h

theorem words (b : Fin 4) (s : Fin 4096) (hk g : Fin 4) (e : Fin 128) :
    ((x0 (ix4 b s ⟨hk.val * 4 + g.val, by omega⟩ e) : EReal) ≠ ⊤ ∧ (x0 (ix4 b s ⟨hk.val * 4 + g.val, by omega⟩ e) : EReal) ≠ ⊥)
    ∧ ((x1 (ix4 b s hk e) : EReal) ≠ ⊤ ∧ (x1 (ix4 b s hk e) : EReal) ≠ ⊥)
    ∧ ((x4 (ix1 ⟨hk.val * 4 + g.val, by omega⟩) : EReal) ≠ ⊤ ∧ (x4 (ix1 ⟨hk.val * 4 + g.val, by omega⟩) : EReal) ≠ ⊥) := by
  have w := (word_at x0 x1 x2 x3 x4 b s hk g e).symm.trans (congrFun h _)
  obtain ⟨w1, w2⟩ := and_one _ _ w
  obtain ⟨w3, w4⟩ := and_one _ _ w1
  exact ⟨finite_of_word _ w3, finite_of_word _ w4, finite_of_word _ w2⟩

theorem query_finite (b : Fin 4) (s : Fin 4096) (h' : Fin 16) (e : Fin 128) : (x0 (ix4 b s h' e) : EReal) ≠ ⊤ ∧ (x0 (ix4 b s h' e) : EReal) ≠ ⊥ := by
  have hg : (⟨(⟨h'.val / 4, by omega⟩ : Fin 4).val * 4 + (⟨h'.val % 4, by omega⟩ : Fin 4).val, by show h'.val / 4 * 4 + h'.val % 4 < 16; omega⟩ : Fin 16) = h' :=
    Fin.ext (by show h'.val / 4 * 4 + h'.val % 4 = h'.val; omega)
  have := (words x0 x1 x2 x3 x4 h b s ⟨h'.val / 4, by omega⟩ ⟨h'.val % 4, by omega⟩ e).1
  rw [hg] at this
  exact this

theorem queries_finite : Fin' (ι := S4x4096x16x128.Idx) x0 := fun i => by
  idx_vars i
  exact query_finite x0 x1 x2 x3 x4 h _ _ _ _

theorem keys_finite : Fin' (ι := S4x4096x4x128.Idx) x1 := fun i => by
  idx_vars i
  exact (words x0 x1 x2 x3 x4 h _ _ _ 0 _).2.1

theorem sink_finite (h' : Fin 16) : (x4 (ix1 h') : EReal) ≠ ⊤ ∧ (x4 (ix1 h') : EReal) ≠ ⊥ := by
  have hg : (⟨(⟨h'.val / 4, by omega⟩ : Fin 4).val * 4 + (⟨h'.val % 4, by omega⟩ : Fin 4).val, by show h'.val / 4 * 4 + h'.val % 4 < 16; omega⟩ : Fin 16) = h' :=
    Fin.ext (by show h'.val / 4 * 4 + h'.val % 4 = h'.val; omega)
  have := (words x0 x1 x2 x3 x4 h 0 0 ⟨h'.val / 4, by omega⟩ ⟨h'.val % 4, by omega⟩ 0).2.2
  rw [hg] at this
  exact this

theorem sinks_finite : Fin' (ι := S16.Idx) x4 := fun i => by
  idx_vars i
  exact sink_finite x0 x1 x2 x3 x4 h _
end

theorem same : algebraic_KernelIdeal_ReferenceIdeal_pre_finite_scores := by
  intro m g m' g' hpre hargs
  refine ⟨fun c => Cert.KernelIdeal.Blocks.OUT (m ((c.tc : Thread Cert.KernelIdeal.nD Cert.KernelIdeal.τ).loc Cert.KernelIdeal.main_arg0)) (m ((c.tc : Thread Cert.KernelIdeal.nD Cert.KernelIdeal.τ).loc Cert.KernelIdeal.main_arg1))
    (m ((c.tc : Thread Cert.KernelIdeal.nD Cert.KernelIdeal.τ).loc Cert.KernelIdeal.main_arg2)) (m ((c.tc : Thread Cert.KernelIdeal.nD Cert.KernelIdeal.τ).loc Cert.KernelIdeal.main_arg4)), ?_, ?_⟩
  · exact (θ_run _ _ _).mono (fun r h c => ⟨(h c).1.trans (Cert.KernelIdeal.Blocks.final m c), (h c).2⟩) (Cert.KernelIdeal.Value.run_blocks m g)
  · refine (θ_run _ _ _).mono (fun r h c => ⟨(h c).1.trans ?_, (h c).2⟩) (Cert.ReferenceIdeal.Value.run m' g')
    obtain ⟨e0, e1, e2, e3, e4⟩ := hargs c
    rw [Cert.ReferenceIdeal.Read.val_main_v68_eq, e0, e1, e2, e4]
    exact Cert.ReferenceIdeal.Meet.meet _ _ _ _ (queries_finite _ _ _ _ _ (hpre c)) (keys_finite _ _ _ _ _ (hpre c)) (sinks_finite _ _ _ _ _ (hpre c))

theorem named : preserves_Kernel_KernelIdeal :=
  ⟨IdealRules.named_const.statement Cert.KernelIdeal.κ "scale" .f32 0x3E0293EE#32 _ rfl, IdealRules.named_const.statement Cert.KernelIdeal.κ "mask" .f32 0xF149F2CA#32 ⊥ rfl,
    IdealRules.named_const.statement Cert.KernelIdeal.κ "log2e" .f32 0x3FB8AA3B#32 _ rfl⟩

theorem frame_reference : quiescent_ReferenceIdeal := fun m g _ =>
  (θ_run _ _ _).mono (fun r h => ⟨fun c => (h c).2, sem_eq_zero_of_no_sems (by decide) r.2⟩) (Cert.ReferenceIdeal.Value.run m g)

end Cert.Window

end
-- ==== Proof.Dense.lean ====
/- A projection of a normed row over extended reals. The kernel multiplies the sum of products by the reciprocal root mean square;
   the reference multiplies every element of the row by it first. The reciprocal root is a nonnegative real whatever the row is
   (a sum of squares is nonnegative), so it goes into the sum and nothing has to be assumed. -/
module

public import proofs.«01_k».proof.Proof.Softmax

@[expose] public section

noncomputable section

open Idealize.ShloMosaic

namespace Cert.Dense

/-- The reciprocal root mean square of a row, as the kernel has it from the row's sum of squares. -/
def inv (s : EReal) : EReal := Ideal.rsqrt (s * Ideal.ofBits .f32 0x39800000#32 + Ideal.ofBits .f32 0x358637BD#32)

/-- A row's sum of squares. -/
def ssq (x : Fin 4096 → EReal) : EReal := ∑ k, x k * x k

/-- A projected element of the normed row. -/
def proj (x g w : Fin 4096 → EReal) : EReal := (∑ k, x k * g k * w k) * inv (ssq x)

theorem lit_width : Ideal.ofBits .f32 0x39800000#32 = ((1 / 4096 : ℝ) : EReal) := by
  simp [Ideal.ofBits, Ideal.ieee, -EReal.coe_one, -EReal.coe_mul, ← EReal.coe_mul]; norm_num

theorem lit_4096 : Ideal.ofBits .f32 0x45800000#32 = ((4096 : ℝ) : EReal) := by
  simp [Ideal.ofBits, Ideal.ieee, -EReal.coe_one, -EReal.coe_mul, ← EReal.coe_mul]; norm_num

theorem lit_eps : ∃ e : ℝ, 0 < e ∧ Ideal.ofBits .f32 0x358637BD#32 = (e : EReal) := by
  refine ⟨8796093 / 8796093022208, by norm_num, ?_⟩
  simp [Ideal.ofBits, Ideal.ieee, -EReal.coe_one, -EReal.coe_mul, ← EReal.coe_mul]; norm_num

theorem square_nonneg (x : EReal) : 0 ≤ x * x := by
  rcases le_total 0 x with h | h
  · exact mul_nonneg h h
  · have h' : 0 ≤ -x := by simpa using EReal.neg_le_neg_iff.mpr h
    have := mul_nonneg h' h'
    rwa [neg_mul_neg] at this

theorem ssq_nonneg (x : Fin 4096 → EReal) : 0 ≤ ssq x := Finset.sum_nonneg fun k _ => square_nonneg _

/-- The reciprocal root is a nonnegative real. -/
theorem inv_real (s : EReal) (hs : 0 ≤ s) : ∃ r : ℝ, 0 ≤ r ∧ inv s = (r : EReal) := by
  obtain ⟨e, he, hl⟩ := lit_eps
  unfold inv
  rw [lit_width, hl]
  induction s using EReal.rec with
  | bot => simp at hs
  | top =>
    refine ⟨0, le_refl _, ?_⟩
    rw [EReal.top_mul_coe_of_pos (by norm_num), EReal.top_add_coe, Ideal.rsqrt_top]
    rfl
  | coe s =>
    have hs' : 0 ≤ s := by exact_mod_cast hs
    have hp : 0 < s * (1 / 4096) + e := by positivity
    refine ⟨(Real.sqrt (s * (1 / 4096) + e))⁻¹, by positivity, ?_⟩
    rw [← EReal.coe_mul, ← EReal.coe_add, Ideal.rsqrt_coe, if_neg (not_lt.mpr hp.le), if_neg hp.ne']

/-- The mean divides where the kernel multiplies. -/
theorem inv_eq_mean (s : EReal) : Ideal.rsqrt (Ideal.div s (Ideal.ofBits .f32 0x45800000#32) + Ideal.ofBits .f32 0x358637BD#32) = inv s := by
  unfold inv
  rw [lit_4096, lit_width, Ideal.div_coe (by norm_num)]

/-- The reference's projection is the kernel's. -/
theorem proj_eq (x g w : Fin 4096 → EReal) : ∑ k, x k * inv (ssq x) * g k * w k = proj x g w := by
  obtain ⟨r, hr, h⟩ := inv_real (ssq x) (ssq_nonneg x)
  unfold proj
  rw [h, mul_comm, Softmax.coe_mul_sum _ r hr]
  refine Finset.sum_congr rfl fun k _ => ?_
  rw [mul_comm (x k) (r : EReal)]
  ac_rfl

end Cert.Dense

end
-- ==== Proof.Merge.lean ====
/- The gated merge: three gates from the normed row, each a logistic of a projection, times the projection of its branch, summed;
   two weights are cast beside it. Each grid point writes a block of 1024 rows by 256 columns, and 16 rows of each cast weight. -/
module

public import proofs.«01_k».proof.Proof.Dense
public import proofs.«01_k».proof.Defs
public import proofs.«01_k».proof.Proof.Gen.Kernel2Ideal.Value
public import proofs.«01_k».proof.Proof.Gen.Reference2Ideal.Read
public import Idealize.ShloMosaic.Lib.Pipeline.ValueKit

@[expose] public section

set_option maxRecDepth 65536
noncomputable section
open Idealize.ShloMosaic Idealize.ShloMosaic.TcCoe Idealize.SL.Sem
open Idealize.ShloMosaic.Pipeline (Dat)

namespace Cert.Merge
open Cert.Dense

section
open Cert.Kernel2Ideal

/-- A branch's projection under its gate. -/
def gated (a b : EReal) : EReal := Ideal.logistic a * b

/-- A gate's projection of the normed row. -/
def gate (x : FVec Ideal S16384x4096 .f32) (g : FVec Ideal S4096 .f32) (w : FVec Ideal S4096x12288 .f32) (R : Fin 16384) (C : Fin 12288) : EReal :=
  proj (fun k => x (ix2 R k)) (fun k => g (ix1 k)) (fun k => w (ix2 k C))

variable (x : FVec Ideal S16384x4096 .f32) (g : FVec Ideal S4096 .f32) (w : FVec Ideal S4096x12288 .f32) (oa : FVec Ideal S16384x2048 .f32) (wa : FVec Ideal S2048x4096 .f32)
  (ob : FVec Ideal S16384x1024 .f32) (wb : FVec Ideal S1024x4096 .f32) (oc : FVec Ideal S16384x1024 .f32) (wc : FVec Ideal S1024x4096 .f32)

/-- An element of the result. -/
def outAt (R : Fin 16384) (C : Fin 4096) : EReal :=
  gated (gate x g w R ⟨C.val, by omega⟩) (∑ k : Fin 2048, oa (ix2 R k) * wa (ix2 k C))
    + gated (gate x g w R ⟨4096 + C.val, by omega⟩) (∑ k : Fin 1024, ob (ix2 R k) * wb (ix2 k C))
    + gated (gate x g w R ⟨8192 + C.val, by omega⟩) (∑ k : Fin 1024, oc (ix2 R k) * wc (ix2 k C))

/-- The whole result. -/
def OUT : FVec Ideal S16384x4096 .bf16 :=
  fun j => outAt x g w oa wa ob wb oc wc ⟨(j 0).val, (j 0).isLt⟩ ⟨(j 1).val, (j 1).isLt⟩

/-- The first weight that is cast beside. -/
def CAST1 (v : FVec Ideal S4x4096x8192 .f32) : FVec Ideal S4096x8192 .bf16 :=
  fun j => v (ix3 0 ⟨(j 0).val, (j 0).isLt⟩ ⟨(j 1).val, (j 1).isLt⟩)

/-- The second. -/
def CAST2 (v : FVec Ideal S4x4096x4096 .f32) : FVec Ideal S4096x4096 .bf16 :=
  fun j => v (ix3 0 ⟨(j 0).val, (j 0).isLt⟩ ⟨(j 1).val, (j 1).isLt⟩)
end

section
open Cert.Reference2Ideal Cert.Reference2Ideal.Gen Cert.Reference2Ideal.Read
variable (x : FVec Ideal S16384x4096 .f32) (g : FVec Ideal S4096 .f32) (w : FVec Ideal S4096x12288 .f32) (oa : FVec Ideal S16384x2048 .f32) (wa : FVec Ideal S2048x4096 .f32)
  (ob : FVec Ideal S16384x1024 .f32) (wb : FVec Ideal S1024x4096 .f32) (oc : FVec Ideal S16384x1024 .f32) (wc : FVec Ideal S1024x4096 .f32)
  (v1 : FVec Ideal S4x4096x8192 .f32) (v2 : FVec Ideal S4x4096x4096 .f32)

theorem normed_at (R : Fin 16384) (k : Fin 4096) : val_main_v12 (F := Ideal) x g (ix2 R k) = x (ix2 R k) * inv (ssq fun k => x (ix2 R k)) * g (ix1 k) := by
  rw [← inv_eq_mean]
  unfold ssq
  pointwise [val_main_v12, val_main_v11, val_main_v10, val_main_v9, val_main_v8, val_main_v7, val_main_v6, val_main_v5, val_main_cst_1, val_main_v4, val_main_v3, val_main_cst_0, val_main_v2, val_main_v1, val_main_cst, val_main_v0]

theorem dot_at (R : Fin 16384) (C : Fin 12288) : val_main_v13 (F := Ideal) x g w (ix2 R C) = gate x g w R C := by
  unfold gate
  rw [← proj_eq]
  have h := normed_at x g R
  unfold val_main_v13
  generalize val_main_v12 (F := Ideal) x g = A at h ⊢
  pointwise
  exact Finset.sum_congr rfl fun k _ => by rw [h k]

theorem gates_at (R : Fin 16384) (C : Fin 12288) : val_main_v19 (F := Ideal) x g w (ix2 R C) = Ideal.logistic (gate x g w R C) := by
  rw [← dot_at]
  unfold Ideal.logistic val_main_v19 val_main_v18 val_main_cst_3 val_main_v17 val_main_v16 val_main_cst_2 val_main_v15 val_main_v14
  generalize val_main_v13 (F := Ideal) x g w = A
  pointwise

theorem reference_out : val_main_v31 (F := Ideal) x g w oa wa ob wb oc wc = OUT x g w oa wa ob wb oc wc := by
  have all : ∀ (R : Fin 16384) (C : Fin 4096), val_main_v31 (F := Ideal) x g w oa wa ob wb oc wc (ix2 R C) = outAt x g w oa wa ob wb oc wc R C := fun R C => by
    unfold outAt gated
    rw [← gates_at, ← gates_at, ← gates_at]
    unfold val_main_v31 val_main_v30 val_main_v29 val_main_v28 val_main_v27 val_main_v26 val_main_v25 val_main_v24 val_main_v23 val_main_v22 val_main_v21 val_main_v20
    generalize val_main_v19 (F := Ideal) x g w = A
    pointwise
  funext j
  idx_vars j
  exact all _ _

theorem reference_cast1 : val_main_v34 (F := Ideal) v1 = CAST1 v1 := by
  have all : ∀ (R : Fin 4096) (C : Fin 8192), val_main_v34 (F := Ideal) v1 (ix2 R C) = v1 (ix3 0 R C) := fun R C => by
    pointwise [val_main_v34, val_main_v33, val_main_v32]
  funext j
  idx_vars j
  exact all _ _

theorem reference_cast2 : val_main_v37 (F := Ideal) v2 = CAST2 v2 := by
  have all : ∀ (R : Fin 4096) (C : Fin 4096), val_main_v37 (F := Ideal) v2 (ix2 R C) = v2 (ix3 0 R C) := fun R C => by
    pointwise [val_main_v37, val_main_v36, val_main_v35]
  funext j
  idx_vars j
  exact all _ _
end

section
open Cert.Kernel2Ideal Cert.Kernel2Ideal.Gen
variable (m : (ℓ : Loc nD τ sig) → Buf (Elt Ideal) ℓ)

theorem rows : ∀ t : Fin cfg0.N, win0_0.index t = ![t.val / 16, 0] ∧ win0_1.index t = ![t.val / 16, 0] ∧ win0_2.index t = ![t.val / 16, 0]
    ∧ win0_3.index t = ![t.val / 16, 0] ∧ win0_4.index t = ![t.val / 16, 0] ∧ t.val < 256 :=
  (by decide +kernel : ∀ t : Fin grid0.N, _)

theorem cols : ∀ t : Fin cfg0.N, win0_5.index t = ![0, t.val % 16] ∧ win0_6.index t = ![0, t.val % 16 + 16] ∧ win0_7.index t = ![0, t.val % 16 + 32]
    ∧ win0_8.index t = ![0, t.val % 16] ∧ win0_9.index t = ![0, t.val % 16] ∧ win0_10.index t = ![0, t.val % 16] :=
  (by decide +kernel : ∀ t : Fin grid0.N, _)

theorem outs : ∀ t : Fin cfg0.N, win0_11.index t = ![0, t.val, 0] ∧ win0_12.index t = ![0, t.val, 0]
    ∧ win0_13.index t = ![t.val / 16, t.val % 16] ∧ win0_14.index t = ![t.val, 0] ∧ win0_15.index t = ![t.val, 0] :=
  (by decide +kernel : ∀ t : Fin grid0.N, _)

theorem lt0 (t : Fin cfg0.N) : t.val < 256 := (rows t).2.2.2.2.2

section Host
variable (x : FVec Ideal S16384x4096 .f32) (g : FVec Ideal S4096 .f32)

/-- The operand the call before hands over: the row times the gain. -/
def gained : FVec Ideal S16384x4096 .bf16 :=
  truncf .bf16 (mulf x (broadcastInDim S16384x4096 ![0, 1] bcast_S1x4096_S16384x4096_0_1 (broadcastInDim S1x4096 ![1] bcast_S4096_S1x4096_1 g))) bitsLt_bf16_f32

/-- And the rows' sums of squares. -/
def squares : FVec Ideal S16384x1 .f32 :=
  broadcastInDim S16384x1 ![0] bcast_S16384_S16384x1_0 (Host.reduceAdd (mulf x x) (constant S_ .f32 0x00000000#32) reducesTo_S16384x4096_S16384_d1 h_S_)

theorem gained_at (R : Fin 16384) (k : Fin 4096) : gained x g (ix2 R k) = x (ix2 R k) * g (ix1 k) := by
  pointwise [gained]

theorem squares_at (R : Fin 16384) : squares x (ix2 R 0) = ssq fun k => x (ix2 R k) := by
  unfold ssq
  pointwise [squares]
end Host

theorem entry3 (c : Dev nD) : (V m c main_v3 : FVec Ideal S16384x4096 .bf16) = gained (m ((c : Thread nD τ).loc main_arg0)) (m ((c : Thread nD τ).loc main_arg1)) := by
  show StableHlo.after hostOps0 (fun b => m (c, b)) (Proc.devRef .tc main_v3) = _
  simp only [hostOps0, List.flatten_cons, List.flatten_nil, List.append_nil, List.cons_append, List.nil_append, StableHlo.after_cons, StableHlo.after_nil]
  after_results_simp
  rfl

theorem entry6 (c : Dev nD) : (V m c main_v6 : FVec Ideal S16384x1 .f32) = squares (m ((c : Thread nD τ).loc main_arg0)) := by
  show StableHlo.after hostOps0 (fun b => m (c, b)) (Proc.devRef .tc main_v6) = _
  simp only [hostOps0, List.flatten_cons, List.flatten_nil, List.append_nil, List.cons_append, List.nil_append, StableHlo.after_cons, StableHlo.after_nil]
  after_results_simp
  rfl

theorem entry7 (c : Dev nD) : (V m c main_v7 : FVec Ideal S4096x12288 .bf16) = (m ((c : Thread nD τ).loc main_arg2) : FVec Ideal S4096x12288 .f32) := by
  show StableHlo.after hostOps0 (fun b => m (c, b)) (Proc.devRef .tc main_v7) = _
  simp only [hostOps0, List.flatten_cons, List.flatten_nil, List.append_nil, List.cons_append, List.nil_append, StableHlo.after_cons, StableHlo.after_nil]
  after_results_simp
  rfl

theorem entry8 (c : Dev nD) : (V m c main_v8 : FVec Ideal S16384x2048 .bf16) = (m ((c : Thread nD τ).loc main_arg3) : FVec Ideal S16384x2048 .f32) := by
  show StableHlo.after hostOps0 (fun b => m (c, b)) (Proc.devRef .tc main_v8) = _
  simp only [hostOps0, List.flatten_cons, List.flatten_nil, List.append_nil, List.cons_append, List.nil_append, StableHlo.after_cons, StableHlo.after_nil]
  after_results_simp
  rfl

theorem entry9 (c : Dev nD) : (V m c main_v9 : FVec Ideal S2048x4096 .bf16) = (m ((c : Thread nD τ).loc main_arg4) : FVec Ideal S2048x4096 .f32) := by
  show StableHlo.after hostOps0 (fun b => m (c, b)) (Proc.devRef .tc main_v9) = _
  simp only [hostOps0, List.flatten_cons, List.flatten_nil, List.append_nil, List.cons_append, List.nil_append, StableHlo.after_cons, StableHlo.after_nil]
  after_results_simp
  rfl

theorem entry10 (c : Dev nD) : (V m c main_v10 : FVec Ideal S16384x1024 .bf16) = (m ((c : Thread nD τ).loc main_arg5) : FVec Ideal S16384x1024 .f32) := by
  show StableHlo.after hostOps0 (fun b => m (c, b)) (Proc.devRef .tc main_v10) = _
  simp only [hostOps0, List.flatten_cons, List.flatten_nil, List.append_nil, List.cons_append, List.nil_append, StableHlo.after_cons, StableHlo.after_nil]
  after_results_simp
  rfl

theorem entry11 (c : Dev nD) : (V m c main_v11 : FVec Ideal S1024x4096 .bf16) = (m ((c : Thread nD τ).loc main_arg6) : FVec Ideal S1024x4096 .f32) := by
  show StableHlo.after hostOps0 (fun b => m (c, b)) (Proc.devRef .tc main_v11) = _
  simp only [hostOps0, List.flatten_cons, List.flatten_nil, List.append_nil, List.cons_append, List.nil_append, StableHlo.after_cons, StableHlo.after_nil]
  after_results_simp
  rfl

theorem entry12 (c : Dev nD) : (V m c main_v12 : FVec Ideal S16384x1024 .bf16) = (m ((c : Thread nD τ).loc main_arg7) : FVec Ideal S16384x1024 .f32) := by
  show StableHlo.after hostOps0 (fun b => m (c, b)) (Proc.devRef .tc main_v12) = _
  simp only [hostOps0, List.flatten_cons, List.flatten_nil, List.append_nil, List.cons_append, List.nil_append, StableHlo.after_cons, StableHlo.after_nil]
  after_results_simp
  rfl

theorem entry13 (c : Dev nD) : (V m c main_v13 : FVec Ideal S1024x4096 .bf16) = (m ((c : Thread nD τ).loc main_arg8) : FVec Ideal S1024x4096 .f32) := by
  show StableHlo.after hostOps0 (fun b => m (c, b)) (Proc.devRef .tc main_v13) = _
  simp only [hostOps0, List.flatten_cons, List.flatten_nil, List.append_nil, List.cons_append, List.nil_append, StableHlo.after_cons, StableHlo.after_nil]
  after_results_simp
  rfl

section Reads
variable (c : Dev nD) (t : Fin cfg0.N)

theorem read0 (r : Fin 1024) (k : Fin 4096) : (iblk m c 0 t : FVec Ideal S1024x4096 .bf16) (ix2 r k)
    = (V m c main_v3 : FVec Ideal S16384x4096 .bf16) (ix2 ⟨t.val / 16 * 1024 + r.val, by have := lt0 t; omega⟩ k) := by
  blk_ext [iblk, rows t]

theorem read1 (r : Fin 1024) (k : Fin 1) : (iblk m c 1 t : FVec Ideal S1024x1 .f32) (ix2 r k)
    = (V m c main_v6 : FVec Ideal S16384x1 .f32) (ix2 ⟨t.val / 16 * 1024 + r.val, by have := lt0 t; omega⟩ k) := by
  blk_ext [iblk, rows t]

theorem read2 (r : Fin 1024) (k : Fin 2048) : (iblk m c 2 t : FVec Ideal S1024x2048 .bf16) (ix2 r k)
    = (V m c main_v8 : FVec Ideal S16384x2048 .bf16) (ix2 ⟨t.val / 16 * 1024 + r.val, by have := lt0 t; omega⟩ k) := by
  blk_ext [iblk, rows t]

theorem read3 (r : Fin 1024) (k : Fin 1024) : (iblk m c 3 t : FVec Ideal S1024x1024 .bf16) (ix2 r k)
    = (V m c main_v10 : FVec Ideal S16384x1024 .bf16) (ix2 ⟨t.val / 16 * 1024 + r.val, by have := lt0 t; omega⟩ k) := by
  blk_ext [iblk, rows t]

theorem read4 (r : Fin 1024) (k : Fin 1024) : (iblk m c 4 t : FVec Ideal S1024x1024 .bf16) (ix2 r k)
    = (V m c main_v12 : FVec Ideal S16384x1024 .bf16) (ix2 ⟨t.val / 16 * 1024 + r.val, by have := lt0 t; omega⟩ k) := by
  blk_ext [iblk, rows t]

theorem read5 (k : Fin 4096) (C : Fin 256) : (iblk m c 5 t : FVec Ideal S4096x256 .bf16) (ix2 k C)
    = (V m c main_v7 : FVec Ideal S4096x12288 .bf16) (ix2 k ⟨t.val % 16 * 256 + C.val, by omega⟩) := by
  blk_ext [iblk, cols t]

theorem read6 (k : Fin 4096) (C : Fin 256) : (iblk m c 6 t : FVec Ideal S4096x256 .bf16) (ix2 k C)
    = (V m c main_v7 : FVec Ideal S4096x12288 .bf16) (ix2 k ⟨(t.val % 16 + 16) * 256 + C.val, by omega⟩) := by
  blk_ext [iblk, cols t]

theorem read7 (k : Fin 4096) (C : Fin 256) : (iblk m c 7 t : FVec Ideal S4096x256 .bf16) (ix2 k C)
    = (V m c main_v7 : FVec Ideal S4096x12288 .bf16) (ix2 k ⟨(t.val % 16 + 32) * 256 + C.val, by omega⟩) := by
  blk_ext [iblk, cols t]

theorem read8 (k : Fin 2048) (C : Fin 256) : (iblk m c 8 t : FVec Ideal S2048x256 .bf16) (ix2 k C)
    = (V m c main_v9 : FVec Ideal S2048x4096 .bf16) (ix2 k ⟨t.val % 16 * 256 + C.val, by omega⟩) := by
  blk_ext [iblk, cols t]

theorem read9 (k : Fin 1024) (C : Fin 256) : (iblk m c 9 t : FVec Ideal S1024x256 .bf16) (ix2 k C)
    = (V m c main_v11 : FVec Ideal S1024x4096 .bf16) (ix2 k ⟨t.val % 16 * 256 + C.val, by omega⟩) := by
  blk_ext [iblk, cols t]

theorem read10 (k : Fin 1024) (C : Fin 256) : (iblk m c 10 t : FVec Ideal S1024x256 .bf16) (ix2 k C)
    = (V m c main_v13 : FVec Ideal S1024x4096 .bf16) (ix2 k ⟨t.val % 16 * 256 + C.val, by omega⟩) := by
  blk_ext [iblk, cols t]

theorem read11 (r : Fin 16) (C : Fin 8192) : (iblk m c 11 t : FVec Ideal S1x16x8192 .f32) (ix3 0 r C)
    = (m ((c : Thread nD τ).loc main_arg9) : FVec Ideal S4x4096x8192 .f32) (ix3 0 ⟨t.val * 16 + r.val, by have := lt0 t; omega⟩ C) := by
  blk_ext [iblk, V_main_arg9, outs t]

theorem read12 (r : Fin 16) (C : Fin 4096) : (iblk m c 12 t : FVec Ideal S1x16x4096 .f32) (ix3 0 r C)
    = (m ((c : Thread nD τ).loc main_arg10) : FVec Ideal S4x4096x4096 .f32) (ix3 0 ⟨t.val * 16 + r.val, by have := lt0 t; omega⟩ C) := by
  blk_ext [iblk, V_main_arg10, outs t]

end Reads

section Point
variable (h : FVec Ideal S1024x4096 .bf16) (s : FVec Ideal S1024x1 .f32) (ga gb gc : FVec Ideal S4096x256 .bf16)
  (oa : FVec Ideal S1024x2048 .bf16) (wa : FVec Ideal S2048x256 .bf16) (ob : FVec Ideal S1024x1024 .bf16) (wb : FVec Ideal S1024x256 .bf16)
  (oc : FVec Ideal S1024x1024 .bf16) (wc : FVec Ideal S1024x256 .bf16)

/-- What a grid point stores. -/
theorem stored (r : Fin 1024) (C : Fin 256) :
    k0_pay1 (F := Ideal) (k0_pay4 h) (k0_pay5 s) (k0_pay6 h s ga oa wa) gb ob wb gc oc wc (ix2 r C)
      = gated ((∑ k : Fin 4096, h (ix2 r k) * ga (ix2 k C)) * Dense.inv (s (ix2 r 0))) (∑ k : Fin 2048, oa (ix2 r k) * wa (ix2 k C))
        + gated ((∑ k : Fin 4096, h (ix2 r k) * gb (ix2 k C)) * Dense.inv (s (ix2 r 0))) (∑ k : Fin 1024, ob (ix2 r k) * wb (ix2 k C))
        + gated ((∑ k : Fin 4096, h (ix2 r k) * gc (ix2 k C)) * Dense.inv (s (ix2 r 0))) (∑ k : Fin 1024, oc (ix2 r k) * wc (ix2 k C)) := by
  unfold gated Dense.inv
  pointwise [k0_pay1, k0_pay4, k0_pay5, k0_pay6]

/-- It is the result's block. -/
theorem point (c : Dev nD) (t : Fin cfg0.N)
    (Hh : ∀ (r : Fin 1024) (k : Fin 4096), h (ix2 r k) = (iblk m c 0 t : FVec Ideal S1024x4096 .bf16) (ix2 r k))
    (Hs : ∀ (r : Fin 1024) (k : Fin 1), s (ix2 r k) = (iblk m c 1 t : FVec Ideal S1024x1 .f32) (ix2 r k))
    (Hoa : ∀ (r : Fin 1024) (k : Fin 2048), oa (ix2 r k) = (iblk m c 2 t : FVec Ideal S1024x2048 .bf16) (ix2 r k))
    (Hob : ∀ (r : Fin 1024) (k : Fin 1024), ob (ix2 r k) = (iblk m c 3 t : FVec Ideal S1024x1024 .bf16) (ix2 r k))
    (Hoc : ∀ (r : Fin 1024) (k : Fin 1024), oc (ix2 r k) = (iblk m c 4 t : FVec Ideal S1024x1024 .bf16) (ix2 r k))
    (Hga : ∀ (r : Fin 4096) (k : Fin 256), ga (ix2 r k) = (iblk m c 5 t : FVec Ideal S4096x256 .bf16) (ix2 r k))
    (Hgb : ∀ (r : Fin 4096) (k : Fin 256), gb (ix2 r k) = (iblk m c 6 t : FVec Ideal S4096x256 .bf16) (ix2 r k))
    (Hgc : ∀ (r : Fin 4096) (k : Fin 256), gc (ix2 r k) = (iblk m c 7 t : FVec Ideal S4096x256 .bf16) (ix2 r k))
    (Hwa : ∀ (r : Fin 2048) (k : Fin 256), wa (ix2 r k) = (iblk m c 8 t : FVec Ideal S2048x256 .bf16) (ix2 r k))
    (Hwb : ∀ (r : Fin 1024) (k : Fin 256), wb (ix2 r k) = (iblk m c 9 t : FVec Ideal S1024x256 .bf16) (ix2 r k))
    (Hwc : ∀ (r : Fin 1024) (k : Fin 256), wc (ix2 r k) = (iblk m c 10 t : FVec Ideal S1024x256 .bf16) (ix2 r k))
    (r : Fin 1024) (C : Fin 256) (Y : S16384x4096.Idx)
    (hY0 : (Y 0).val = t.val / 16 * 1024 + r.val) (hY1 : (Y 1).val = t.val % 16 * 256 + C.val) :
    k0_pay1 (F := Ideal) (k0_pay4 h) (k0_pay5 s) (k0_pay6 h s ga oa wa) gb ob wb gc oc wc (ix2 r C)
      = OUT (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) Y := by
  have ht := lt0 t
  have hR : (⟨(Y 0).val, (Y 0).isLt⟩ : Fin 16384) = ⟨t.val / 16 * 1024 + r.val, by omega⟩ := Fin.ext hY0
  have hC : (⟨(Y 1).val, (Y 1).isLt⟩ : Fin 4096) = ⟨t.val % 16 * 256 + C.val, by omega⟩ := Fin.ext hY1
  unfold OUT
  rw [hR, hC]
  refine (stored _ _ _ _ _ _ _ _ _ _ _ r C).trans ?_
  unfold outAt gate proj
  rw [Hs, read1, entry6, squares_at]
  have e0 : ∀ k : Fin 4096, h (ix2 r k) = _ := fun k => ((Hh r k).trans (read0 m c t r k)).trans (by rw [entry3, gained_at])
  have e2 : ∀ k : Fin 2048, oa (ix2 r k) = _ := fun k => ((Hoa r k).trans (read2 m c t r k)).trans (by rw [entry8])
  have e3 : ∀ k : Fin 1024, ob (ix2 r k) = _ := fun k => ((Hob r k).trans (read3 m c t r k)).trans (by rw [entry10])
  have e4 : ∀ k : Fin 1024, oc (ix2 r k) = _ := fun k => ((Hoc r k).trans (read4 m c t r k)).trans (by rw [entry12])
  have e5 : ∀ k : Fin 4096, ga (ix2 k C) = _ := fun k => ((Hga k C).trans (read5 m c t k C)).trans (by rw [entry7])
  have e6 : ∀ k : Fin 4096, gb (ix2 k C) = _ := fun k => ((Hgb k C).trans (read6 m c t k C)).trans (by rw [entry7])
  have e7 : ∀ k : Fin 4096, gc (ix2 k C) = _ := fun k => ((Hgc k C).trans (read7 m c t k C)).trans (by rw [entry7])
  have e8 : ∀ k : Fin 2048, wa (ix2 k C) = _ := fun k => ((Hwa k C).trans (read8 m c t k C)).trans (by rw [entry9])
  have e9 : ∀ k : Fin 1024, wb (ix2 k C) = _ := fun k => ((Hwb k C).trans (read9 m c t k C)).trans (by rw [entry11])
  have e10 : ∀ k : Fin 1024, wc (ix2 k C) = _ := fun k => ((Hwc k C).trans (read10 m c t k C)).trans (by rw [entry13])
  simp only [e0, e2, e3, e4, e5, e6, e7, e8, e9, e10]
  have h1 : (⟨(t.val % 16 + 16) * 256 + C.val, by omega⟩ : Fin 12288) = ⟨4096 + (t.val % 16 * 256 + C.val), by omega⟩ := Fin.ext (by show (t.val % 16 + 16) * 256 + C.val = 4096 + (t.val % 16 * 256 + C.val); omega)
  have h2 : (⟨(t.val % 16 + 32) * 256 + C.val, by omega⟩ : Fin 12288) = ⟨8192 + (t.val % 16 * 256 + C.val), by omega⟩ := Fin.ext (by show (t.val % 16 + 32) * 256 + C.val = 8192 + (t.val % 16 * 256 + C.val); omega)
  rw [h1, h2]
end Point

/-- The rows of a cast weight that a grid point stores. -/
theorem cast_point11 (c : Dev nD) (t : Fin cfg0.N) (H : FVec Ideal S1x16x8192 .f32)
    (hH : ∀ (r : Fin 16) (k : Fin 8192), H (ix3 0 r k) = (iblk m c 11 t : FVec Ideal S1x16x8192 .f32) (ix3 0 r k))
    (r : Fin 16) (C : Fin 8192) (Y : S4096x8192.Idx) (hY0 : (Y 0).val = t.val * 16 + r.val) (hY1 : (Y 1).val = C.val) :
    k0_pay2 (F := Ideal) H (ix2 r C) = CAST1 (m ((c : Thread nD τ).loc main_arg9)) Y := by
  have ht := lt0 t
  have hR : (⟨(Y 0).val, (Y 0).isLt⟩ : Fin 4096) = ⟨t.val * 16 + r.val, by omega⟩ := Fin.ext hY0
  have hC : (⟨(Y 1).val, (Y 1).isLt⟩ : Fin 8192) = C := Fin.ext hY1
  unfold CAST1
  rw [hR, hC]
  refine Eq.trans ?_ ((hH r C).trans (read11 m c t r C))
  pointwise [k0_pay2]

/-- The rows of a cast weight that a grid point stores. -/
theorem cast_point12 (c : Dev nD) (t : Fin cfg0.N) (H : FVec Ideal S1x16x4096 .f32)
    (hH : ∀ (r : Fin 16) (k : Fin 4096), H (ix3 0 r k) = (iblk m c 12 t : FVec Ideal S1x16x4096 .f32) (ix3 0 r k))
    (r : Fin 16) (C : Fin 4096) (Y : S4096x4096.Idx) (hY0 : (Y 0).val = t.val * 16 + r.val) (hY1 : (Y 1).val = C.val) :
    k0_pay3 (F := Ideal) H (ix2 r C) = CAST2 (m ((c : Thread nD τ).loc main_arg10)) Y := by
  have ht := lt0 t
  have hR : (⟨(Y 0).val, (Y 0).isLt⟩ : Fin 4096) = ⟨t.val * 16 + r.val, by omega⟩ := Fin.ext hY0
  have hC : (⟨(Y 1).val, (Y 1).isLt⟩ : Fin 4096) = C := Fin.ext hY1
  unfold CAST2
  rw [hR, hC]
  refine Eq.trans ?_ ((hH r C).trans (read12 m c t r C))
  pointwise [k0_pay3]

theorem final13 (c : Dev nD) : ((dats m 0 c).arrAt 13 cfg0.N : FVec Ideal S16384x4096 .bf16) = OUT (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  refine (dats m 0 c).arrAt_eq_of_covers 13 _ (by decide +kernel) fun t hf y => ?_
  blk_simp
  rw [after0_13]
  unfold out0_13
  obtain ⟨Y, e⟩ : ∃ Y : S16384x4096.Idx, Y = ((View.whole main_v14_0).slice (win0_13.rect t)).emb y := ⟨_, rfl⟩
  have e0 : (Y 0).val = t.val / 16 * 1024 + (y 0).val := by rw [e]; blk_simp [outs t]
  have e1 : (Y 1).val = t.val % 16 * 256 + (y 1).val := by rw [e]; blk_simp [outs t]
  rw [← e]
  clear e
  canon_tiles x h
  idx_vars x
  refine point m _ _ _ _ _ _ _ _ _ _ _ c t ?_ ?_ ?_ ?_ ?_ ?_ ?_ ?_ ?_ ?_ ?_ _ _ _ (by rw [e0, h0]) (by rw [e1, h1])
  all_goals first | (intro r k; pointwise; done) | (intro r k; pointwise; rw [Subsingleton.elim k 0])

theorem final14 (c : Dev nD) : ((dats m 0 c).arrAt 14 cfg0.N : FVec Ideal S4096x8192 .bf16) = CAST1 (m ((c : Thread nD τ).loc main_arg9)) := by
  refine (dats m 0 c).arrAt_eq_of_covers 14 _ (by decide +kernel) fun t hf y => ?_
  blk_simp
  rw [after0_14]
  unfold out0_14
  obtain ⟨Y, e⟩ : ∃ Y : S4096x8192.Idx, Y = ((View.whole main_v14_1).slice (win0_14.rect t)).emb y := ⟨_, rfl⟩
  have e0 : (Y 0).val = t.val * 16 + (y 0).val := by rw [e]; blk_simp [outs t]
  have e1 : (Y 1).val = (y 1).val := by rw [e]; blk_simp [outs t]
  rw [← e]
  clear e
  canon_tiles x h
  idx_vars x
  refine cast_point11 m c t _ ?_ _ _ _ (by rw [e0, h0]) (by rw [e1, h1])
  intro r k; pointwise

theorem final15 (c : Dev nD) : ((dats m 0 c).arrAt 15 cfg0.N : FVec Ideal S4096x4096 .bf16) = CAST2 (m ((c : Thread nD τ).loc main_arg10)) := by
  refine (dats m 0 c).arrAt_eq_of_covers 15 _ (by decide +kernel) fun t hf y => ?_
  blk_simp
  rw [after0_15]
  unfold out0_15
  obtain ⟨Y, e⟩ : ∃ Y : S4096x4096.Idx, Y = ((View.whole main_v14_2).slice (win0_15.rect t)).emb y := ⟨_, rfl⟩
  have e0 : (Y 0).val = t.val * 16 + (y 0).val := by rw [e]; blk_simp [outs t]
  have e1 : (Y 1).val = (y 1).val := by rw [e]; blk_simp [outs t]
  rw [← e]
  clear e
  canon_tiles x h
  idx_vars x
  refine cast_point12 m c t _ ?_ _ _ _ (by rw [e0, h0]) (by rw [e1, h1])
  intro r k; pointwise

end

theorem same : algebraic_Kernel2Ideal_Reference2Ideal := by
  intro m g m' g' _ hargs
  refine ⟨fun c => OUT (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8)),
    fun c => CAST1 (m ((c.tc : Thread Cert.Kernel2Ideal.nD Cert.Kernel2Ideal.τ).loc Cert.Kernel2Ideal.main_arg9)), fun c => CAST2 (m ((c.tc : Thread Cert.Kernel2Ideal.nD Cert.Kernel2Ideal.τ).loc Cert.Kernel2Ideal.main_arg10)), ?_, ?_⟩
  · exact (θ_run _ _ _).mono (fun r h c => ⟨(h c).1.trans (final13 m c), (h c).2.1.trans (final14 m c), (h c).2.2.1.trans (final15 m c), (h c).2.2.2⟩) (Cert.Kernel2Ideal.Value.run_blocks m g)
  · refine (θ_run _ _ _).mono (fun r h c => ⟨(h c).1.trans ?_, (h c).2.1.trans ?_, (h c).2.2.1.trans ?_, (h c).2.2.2⟩) (Cert.Reference2Ideal.Value.run m' g')
    · obtain ⟨e0, e1, e2, e3, e4, e5, e6, e7, e8, e9, e10⟩ := hargs c
      rw [Cert.Reference2Ideal.Read.val_main_v31_eq, e0, e1, e2, e3, e4, e5, e6, e7, e8]
      exact reference_out _ _ _ _ _ _ _ _ _
    · obtain ⟨e0, e1, e2, e3, e4, e5, e6, e7, e8, e9, e10⟩ := hargs c
      rw [Cert.Reference2Ideal.Read.val_main_v34_eq, e9]
      exact reference_cast1 _
    · obtain ⟨e0, e1, e2, e3, e4, e5, e6, e7, e8, e9, e10⟩ := hargs c
      rw [Cert.Reference2Ideal.Read.val_main_v37_eq, e10]
      exact reference_cast2 _

theorem frame_reference : quiescent_Reference2Ideal := fun m g _ =>
  (θ_run _ _ _).mono (fun r h => ⟨fun c => (h c).2.2.2, sem_eq_zero_of_no_sems (by decide) r.2⟩) (Cert.Reference2Ideal.Value.run m g)

theorem named : preserves_Kernel2_Kernel2Ideal := trivial

end Cert.Merge

end
-- ==== Proof.Up.lean ====
/- The feed-forward part's first call: the normed row projected to a gate and a value, `silu(gate) * value`, and a weight cast
   beside it. Each grid point writes a block of 1024 rows by 512 columns, and 32 rows of the cast weight. -/
module

public import proofs.«01_k».proof.Proof.Dense
public import proofs.«01_k».proof.Defs
public import proofs.«01_k».proof.Proof.Gen.Kernel3Ideal.Value
public import proofs.«01_k».proof.Proof.Gen.Reference3Ideal.Read
public import Idealize.ShloMosaic.Lib.Pipeline.ValueKit

@[expose] public section

set_option maxRecDepth 65536
noncomputable section
open Idealize.ShloMosaic Idealize.ShloMosaic.TcCoe Idealize.SL.Sem
open Idealize.ShloMosaic.Pipeline (Dat)

namespace Cert.Up
open Cert.Dense

section
open Cert.Kernel3Ideal

/-- `silu(a) * b`. -/
def glu (a b : EReal) : EReal := a * Ideal.logistic a * b

/-- An element of the result. -/
def outAt (x : FVec Ideal S16384x4096 .f32) (g : FVec Ideal S4096 .f32) (w : FVec Ideal S4096x8192 .f32) (R : Fin 16384) (C : Fin 4096) : EReal :=
  glu (proj (fun k => x (ix2 R k)) (fun k => g (ix1 k)) (fun k => w (ix2 k ⟨C.val, by omega⟩)))
    (proj (fun k => x (ix2 R k)) (fun k => g (ix1 k)) (fun k => w (ix2 k ⟨4096 + C.val, by omega⟩)))

/-- The whole result. -/
def OUT (x : FVec Ideal S16384x4096 .f32) (g : FVec Ideal S4096 .f32) (w : FVec Ideal S4096x8192 .f32) : FVec Ideal S16384x4096 .bf16 :=
  fun j => outAt x g w ⟨(j 0).val, (j 0).isLt⟩ ⟨(j 1).val, (j 1).isLt⟩

/-- The weight that is cast beside. -/
def CAST (w : FVec Ideal S4x4096x9216 .f32) : FVec Ideal S4096x9216 .bf16 :=
  fun j => w (ix3 0 ⟨(j 0).val, (j 0).isLt⟩ ⟨(j 1).val, (j 1).isLt⟩)
end

section
open Cert.Reference3Ideal Cert.Reference3Ideal.Gen Cert.Reference3Ideal.Read
variable (x0 : FVec Ideal S16384x4096 .f32) (x1 : FVec Ideal S4096 .f32) (x2 : FVec Ideal S4096x8192 .f32) (x3 : FVec Ideal S4x4096x9216 .f32)

theorem normed_at (R : Fin 16384) (k : Fin 4096) : val_main_v12 (F := Ideal) x0 x1 (ix2 R k) = x0 (ix2 R k) * inv (ssq fun k => x0 (ix2 R k)) * x1 (ix1 k) := by
  rw [← inv_eq_mean]
  unfold ssq
  pointwise [val_main_v12, val_main_v11, val_main_v10, val_main_v9, val_main_v8, val_main_v7, val_main_v6, val_main_v5, val_main_cst_1, val_main_v4, val_main_v3, val_main_cst_0, val_main_v2, val_main_v1, val_main_cst, val_main_v0]

theorem dot_at (R : Fin 16384) (C : Fin 8192) : val_main_v13 (F := Ideal) x0 x1 x2 (ix2 R C)
    = proj (fun k => x0 (ix2 R k)) (fun k => x1 (ix1 k)) (fun k => x2 (ix2 k C)) := by
  rw [← proj_eq]
  have h := normed_at x0 x1 R
  unfold val_main_v13
  generalize val_main_v12 (F := Ideal) x0 x1 = A at h ⊢
  pointwise
  exact Finset.sum_congr rfl fun k _ => by rw [h k]

theorem reference_out : val_main_v18 (F := Ideal) x0 x1 x2 = OUT x0 x1 x2 := by
  have all : ∀ (R : Fin 16384) (C : Fin 4096), val_main_v18 (F := Ideal) x0 x1 x2 (ix2 R C) = outAt x0 x1 x2 R C := fun R C => by
    unfold outAt glu Ideal.logistic
    rw [← dot_at, ← dot_at]
    unfold val_main_v18 val_main_v17 val_main_v16 val_main_call0_v5 val_main_call0_v4 val_main_call0_cst_0 val_main_call0_v3 val_main_call0_v2 val_main_call0_cst val_main_call0_v1 val_main_call0_v0 val_main_v15 val_main_v14
    generalize val_main_v13 (F := Ideal) x0 x1 x2 = A
    pointwise
  funext j
  idx_vars j
  exact all _ _

theorem reference_cast : val_main_v21 (F := Ideal) x3 = CAST x3 := by
  have all : ∀ (R : Fin 4096) (C : Fin 9216), val_main_v21 (F := Ideal) x3 (ix2 R C) = x3 (ix3 0 R C) := fun R C => by
    pointwise [val_main_v21, val_main_v20, val_main_v19]
  funext j
  idx_vars j
  exact all _ _
end

section
open Cert.Kernel3Ideal Cert.Kernel3Ideal.Gen
variable (m : (ℓ : Loc nD τ sig) → Buf (Elt Ideal) ℓ)

theorem idx : ∀ t : Fin cfg0.N, win0_0.index t = ![t.val / 8, 0] ∧ win0_1.index t = ![t.val / 8, 0]
    ∧ win0_2.index t = ![0, t.val % 8] ∧ win0_3.index t = ![0, t.val % 8 + 8] ∧ win0_4.index t = ![0, t.val, 0]
    ∧ win0_5.index t = ![t.val / 8, t.val % 8] ∧ win0_6.index t = ![t.val, 0] ∧ t.val < 128 :=
  (by decide +kernel : ∀ t : Fin grid0.N, _)

theorem lt0 (t : Fin cfg0.N) : t.val < 128 := (idx t).2.2.2.2.2.2.2

section Host
variable (x : FVec Ideal S16384x4096 .f32) (g : FVec Ideal S4096 .f32)

/-- The operand the call before hands over: the row times the gain. -/
def gained : FVec Ideal S16384x4096 .bf16 :=
  truncf .bf16 (mulf x (broadcastInDim S16384x4096 ![0, 1] bcast_S1x4096_S16384x4096_0_1 (broadcastInDim S1x4096 ![1] bcast_S4096_S1x4096_1 g))) bitsLt_bf16_f32

/-- And the rows' sums of squares. -/
def squares : FVec Ideal S16384x1 .f32 :=
  broadcastInDim S16384x1 ![0] bcast_S16384_S16384x1_0 (Host.reduceAdd (mulf x x) (constant S_ .f32 0x00000000#32) reducesTo_S16384x4096_S16384_d1 h_S_)

theorem gained_at (R : Fin 16384) (k : Fin 4096) : gained x g (ix2 R k) = x (ix2 R k) * g (ix1 k) := by
  pointwise [gained]

theorem squares_at (R : Fin 16384) : squares x (ix2 R 0) = ssq fun k => x (ix2 R k) := by
  unfold ssq
  pointwise [squares]
end Host

theorem entry0 (c : Dev nD) : (V m c main_v3 : FVec Ideal S16384x4096 .bf16) = gained (m ((c : Thread nD τ).loc main_arg0)) (m ((c : Thread nD τ).loc main_arg1)) := by
  show StableHlo.after hostOps0 (fun b => m (c, b)) (Proc.devRef .tc main_v3) = _
  simp only [hostOps0, List.flatten_cons, List.flatten_nil, List.append_nil, List.cons_append, List.nil_append, StableHlo.after_cons, StableHlo.after_nil]
  after_results_simp
  rfl

theorem entry1 (c : Dev nD) : (V m c main_v6 : FVec Ideal S16384x1 .f32) = squares (m ((c : Thread nD τ).loc main_arg0)) := by
  show StableHlo.after hostOps0 (fun b => m (c, b)) (Proc.devRef .tc main_v6) = _
  simp only [hostOps0, List.flatten_cons, List.flatten_nil, List.append_nil, List.cons_append, List.nil_append, StableHlo.after_cons, StableHlo.after_nil]
  after_results_simp
  rfl

theorem entry2 (c : Dev nD) : (V m c main_v7 : FVec Ideal S4096x8192 .bf16) = (m ((c : Thread nD τ).loc main_arg2) : FVec Ideal S4096x8192 .f32) := by
  show StableHlo.after hostOps0 (fun b => m (c, b)) (Proc.devRef .tc main_v7) = _
  simp only [hostOps0, List.flatten_cons, List.flatten_nil, List.append_nil, List.cons_append, List.nil_append, StableHlo.after_cons, StableHlo.after_nil]
  after_results_simp
  rfl

section Reads
variable (c : Dev nD) (t : Fin cfg0.N)

theorem read0 (r : Fin 1024) (k : Fin 4096) : (iblk m c 0 t : FVec Ideal S1024x4096 .bf16) (ix2 r k)
    = (V m c main_v3 : FVec Ideal S16384x4096 .bf16) (ix2 ⟨t.val / 8 * 1024 + r.val, by have := lt0 t; omega⟩ k) := by
  blk_ext [iblk, idx t]

theorem read1 (r : Fin 1024) : (iblk m c 1 t : FVec Ideal S1024x1 .f32) (ix2 r 0)
    = (V m c main_v6 : FVec Ideal S16384x1 .f32) (ix2 ⟨t.val / 8 * 1024 + r.val, by have := lt0 t; omega⟩ 0) := by
  blk_ext [iblk, idx t]

theorem read2 (k : Fin 4096) (C : Fin 512) : (iblk m c 2 t : FVec Ideal S4096x512 .bf16) (ix2 k C)
    = (V m c main_v7 : FVec Ideal S4096x8192 .bf16) (ix2 k ⟨t.val % 8 * 512 + C.val, by omega⟩) := by
  blk_ext [iblk, idx t]

theorem read3 (k : Fin 4096) (C : Fin 512) : (iblk m c 3 t : FVec Ideal S4096x512 .bf16) (ix2 k C)
    = (V m c main_v7 : FVec Ideal S4096x8192 .bf16) (ix2 k ⟨(t.val % 8 + 8) * 512 + C.val, by omega⟩) := by
  blk_ext [iblk, idx t]

theorem read4 (r : Fin 32) (C : Fin 9216) : (iblk m c 4 t : FVec Ideal S1x32x9216 .f32) (ix3 0 r C)
    = (m ((c : Thread nD τ).loc main_arg3) : FVec Ideal S4x4096x9216 .f32) (ix3 0 ⟨t.val * 32 + r.val, by have := lt0 t; omega⟩ C) := by
  blk_ext [iblk, V_main_arg3, idx t]
end Reads

/-- What a grid point stores. -/
theorem stored (h : FVec Ideal S1024x4096 .bf16) (s : FVec Ideal S1024x1 .f32) (w u : FVec Ideal S4096x512 .bf16) (r : Fin 1024) (C : Fin 512) :
    k0_pay2 (F := Ideal) h s w u (ix2 r C) = glu ((∑ k : Fin 4096, h (ix2 r k) * w (ix2 k C)) * Dense.inv (s (ix2 r 0))) ((∑ k : Fin 4096, h (ix2 r k) * u (ix2 k C)) * Dense.inv (s (ix2 r 0))) := by
  unfold glu Dense.inv
  pointwise [k0_pay2]

/-- It is the result's block. -/
theorem point (c : Dev nD) (t : Fin cfg0.N) (H : FVec Ideal S1024x4096 .bf16) (S : FVec Ideal S1024x1 .f32) (W U : FVec Ideal S4096x512 .bf16)
    (hH : ∀ (r : Fin 1024) (k : Fin 4096), H (ix2 r k) = (iblk m c 0 t : FVec Ideal S1024x4096 .bf16) (ix2 r k))
    (hS : ∀ r : Fin 1024, S (ix2 r 0) = (iblk m c 1 t : FVec Ideal S1024x1 .f32) (ix2 r 0))
    (hW : ∀ (k : Fin 4096) (C : Fin 512), W (ix2 k C) = (iblk m c 2 t : FVec Ideal S4096x512 .bf16) (ix2 k C))
    (hU : ∀ (k : Fin 4096) (C : Fin 512), U (ix2 k C) = (iblk m c 3 t : FVec Ideal S4096x512 .bf16) (ix2 k C))
    (r : Fin 1024) (C : Fin 512) (Y : S16384x4096.Idx)
    (hY0 : (Y 0).val = t.val / 8 * 1024 + r.val) (hY1 : (Y 1).val = t.val % 8 * 512 + C.val) :
    k0_pay2 (F := Ideal) H S W U (ix2 r C)
      = OUT (m ((c : Thread nD τ).loc main_arg0)) (m ((c : Thread nD τ).loc main_arg1)) (m ((c : Thread nD τ).loc main_arg2)) Y := by
  have ht := lt0 t
  have hR : (⟨(Y 0).val, (Y 0).isLt⟩ : Fin 16384) = ⟨t.val / 8 * 1024 + r.val, by omega⟩ := Fin.ext hY0
  have hC : (⟨(Y 1).val, (Y 1).isLt⟩ : Fin 4096) = ⟨t.val % 8 * 512 + C.val, by omega⟩ := Fin.ext hY1
  unfold OUT
  rw [hR, hC]
  refine (stored _ _ _ _ r C).trans ?_
  unfold outAt proj
  rw [hS, read1, entry1, squares_at]
  have e0 : ∀ k : Fin 4096, H (ix2 r k) = _ := fun k => ((hH r k).trans (read0 m c t r k)).trans (by rw [entry0, gained_at])
  have e2 : ∀ k : Fin 4096, W (ix2 k C) = _ := fun k => ((hW k C).trans (read2 m c t k C)).trans (by rw [entry2])
  have e3 : ∀ k : Fin 4096, U (ix2 k C) = _ := fun k => ((hU k C).trans (read3 m c t k C)).trans (by rw [entry2])
  simp only [e0, e2, e3]
  have hs : (⟨(t.val % 8 + 8) * 512 + C.val, by omega⟩ : Fin 8192) = ⟨4096 + (t.val % 8 * 512 + C.val), by omega⟩ := Fin.ext (by show (t.val % 8 + 8) * 512 + C.val = 4096 + (t.val % 8 * 512 + C.val); omega)
  rw [hs]

theorem final5 (c : Dev nD) : ((dats m 0 c).arrAt 5 cfg0.N : FVec Ideal S16384x4096 .bf16)
    = OUT (m ((c : Thread nD τ).loc main_arg0)) (m ((c : Thread nD τ).loc main_arg1)) (m ((c : Thread nD τ).loc main_arg2)) := by
  refine (dats m 0 c).arrAt_eq_of_covers 5 _ (by decide +kernel) fun t hf y => ?_
  blk_simp
  rw [after0_5]
  unfold out0_5
  obtain ⟨Y, e⟩ : ∃ Y : S16384x4096.Idx, Y = ((View.whole main_v8_0).slice (win0_5.rect t)).emb y := ⟨_, rfl⟩
  have e0 : (Y 0).val = t.val / 8 * 1024 + (y 0).val := by rw [e]; blk_simp [idx t]
  have e1 : (Y 1).val = t.val % 8 * 512 + (y 1).val := by rw [e]; blk_simp [idx t]
  rw [← e]
  clear e
  canon_tiles x h
  idx_vars x
  refine point m c t _ _ _ _ ?_ ?_ ?_ ?_ _ _ _ (by rw [e0, h0]) (by rw [e1, h1])
  all_goals first | (intro r k; pointwise) | (intro r; pointwise)

/-- The rows of the cast weight that a grid point stores. -/
theorem cast_point (c : Dev nD) (t : Fin cfg0.N) (H : FVec Ideal S1x32x9216 .f32)
    (hH : ∀ (r : Fin 32) (k : Fin 9216), H (ix3 0 r k) = (iblk m c 4 t : FVec Ideal S1x32x9216 .f32) (ix3 0 r k))
    (r : Fin 32) (C : Fin 9216) (Y : S4096x9216.Idx) (hY0 : (Y 0).val = t.val * 32 + r.val) (hY1 : (Y 1).val = C.val) :
    k0_pay1 (F := Ideal) H (ix2 r C) = CAST (m ((c : Thread nD τ).loc main_arg3)) Y := by
  have ht := lt0 t
  have hR : (⟨(Y 0).val, (Y 0).isLt⟩ : Fin 4096) = ⟨t.val * 32 + r.val, by omega⟩ := Fin.ext hY0
  have hC : (⟨(Y 1).val, (Y 1).isLt⟩ : Fin 9216) = C := Fin.ext hY1
  unfold CAST
  rw [hR, hC]
  refine Eq.trans ?_ ((hH r C).trans (read4 m c t r C))
  pointwise [k0_pay1]

theorem final6 (c : Dev nD) : ((dats m 0 c).arrAt 6 cfg0.N : FVec Ideal S4096x9216 .bf16) = CAST (m ((c : Thread nD τ).loc main_arg3)) := by
  refine (dats m 0 c).arrAt_eq_of_covers 6 _ (by decide +kernel) fun t hf y => ?_
  blk_simp
  rw [after0_6]
  unfold out0_6
  obtain ⟨Y, e⟩ : ∃ Y : S4096x9216.Idx, Y = ((View.whole main_v8_1).slice (win0_6.rect t)).emb y := ⟨_, rfl⟩
  have e0 : (Y 0).val = t.val * 32 + (y 0).val := by rw [e]; blk_simp [idx t]
  have e1 : (Y 1).val = (y 1).val := by rw [e]; blk_simp [idx t]
  rw [← e]
  clear e
  canon_tiles x h
  idx_vars x
  refine cast_point m c t _ ?_ _ _ _ (by rw [e0, h0]) (by rw [e1, h1])
  intro r k; pointwise
end

theorem same : algebraic_Kernel3Ideal_Reference3Ideal := by
  intro m g m' g' _ hargs
  refine ⟨fun c => OUT (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1))
    (m ((c.tc : Thread Cert.Kernel3Ideal.nD Cert.Kernel3Ideal.τ).loc Cert.Kernel3Ideal.main_arg2)),
    fun c => CAST (m ((c.tc : Thread Cert.Kernel3Ideal.nD Cert.Kernel3Ideal.τ).loc Cert.Kernel3Ideal.main_arg3)), ?_, ?_⟩
  · exact (θ_run _ _ _).mono (fun r h c => ⟨(h c).1.trans (final5 m c), (h c).2.1.trans (final6 m c), (h c).2.2⟩) (Cert.Kernel3Ideal.Value.run_blocks m g)
  · refine (θ_run _ _ _).mono (fun r h c => ⟨(h c).1.trans ?_, (h c).2.1.trans ?_, (h c).2.2⟩) (Cert.Reference3Ideal.Value.run m' g')
    · obtain ⟨e0, e1, e2, e3⟩ := hargs c
      rw [Cert.Reference3Ideal.Read.val_main_v18_eq, e0, e1, e2]
      exact reference_out _ _ _
    · obtain ⟨e0, e1, e2, e3⟩ := hargs c
      rw [Cert.Reference3Ideal.Read.val_main_v21_eq, e3]
      exact reference_cast _

theorem frame_reference : quiescent_Reference3Ideal := fun m g _ =>
  (θ_run _ _ _).mono (fun r h => ⟨fun c => (h c).2.2, sem_eq_zero_of_no_sems (by decide) r.2⟩) (Cert.Reference3Ideal.Value.run m g)

theorem named : preserves_Kernel3_Kernel3Ideal := trivial

end Cert.Up

end
-- ==== Proof.Res.lean ====
/- A projection added to the residual stream: `x + 0.5 * (a @ w)`, the same times the next norm's gain, the rows' sums of squares
   for that norm, and three weights cast beside. Each grid point writes a block of 1024 rows by 512 columns; the sums of squares of
   1024 rows are collected over the 8 points that share them. -/
module

public import proofs.«01_k».proof.Proof.Dense
public import proofs.«01_k».proof.Defs
public import proofs.«01_k».proof.Proof.Gen.Kernel4Ideal.Value
public import proofs.«01_k».proof.Proof.Gen.Reference4Ideal.Read
public import Idealize.ShloMosaic.Lib.Pipeline.ValueKit

@[expose] public section

set_option maxRecDepth 65536
noncomputable section
open Idealize.ShloMosaic Idealize.ShloMosaic.TcCoe Idealize.SL.Sem
open Idealize.ShloMosaic.Pipeline (Dat)

namespace Cert.Res
open Cert.Dense

section
open Cert.Kernel4Ideal
variable (a : FVec Ideal S16384x4096 .f32) (w : FVec Ideal S4096x4096 .f32) (x : FVec Ideal S16384x4096 .f32) (g : FVec Ideal S4x4096 .f32)

/-- The residual stream after the projection, an element. -/
def resAt (R : Fin 16384) (C : Fin 4096) : EReal :=
  x (ix2 R C) + Ideal.ofBits .f32 0x3F000000#32 * ∑ k : Fin 4096, a (ix2 R k) * w (ix2 k C)

/-- The residual stream. -/
def OUT : FVec Ideal S16384x4096 .f32 :=
  fun j => resAt a w x ⟨(j 0).val, (j 0).isLt⟩ ⟨(j 1).val, (j 1).isLt⟩

/-- Times the next norm's gain. -/
def GAINED : FVec Ideal S16384x4096 .bf16 :=
  fun j => resAt a w x ⟨(j 0).val, (j 0).isLt⟩ ⟨(j 1).val, (j 1).isLt⟩ * g (ix2 0 ⟨(j 1).val, (j 1).isLt⟩)

/-- The rows' sums of squares. -/
def SQUARES : FVec Ideal S16384x1 .f32 :=
  fun j => ∑ k : Fin 4096, resAt a w x ⟨(j 0).val, (j 0).isLt⟩ k * resAt a w x ⟨(j 0).val, (j 0).isLt⟩ k

/-- A weight that is cast beside. -/
def CAST1 (v : FVec Ideal S4x2048x4096 .f32) : FVec Ideal S2048x4096 .bf16 :=
  fun j => v (ix3 0 ⟨(j 0).val, (j 0).isLt⟩ ⟨(j 1).val, (j 1).isLt⟩)

/-- The two others. -/
def CAST2 (v : FVec Ideal S4x1024x4096 .f32) : FVec Ideal S1024x4096 .bf16 :=
  fun j => v (ix3 0 ⟨(j 0).val, (j 0).isLt⟩ ⟨(j 1).val, (j 1).isLt⟩)
end

section
open Cert.Reference4Ideal Cert.Reference4Ideal.Gen Cert.Reference4Ideal.Read
variable (a : FVec Ideal S16384x4096 .f32) (w : FVec Ideal S4096x4096 .f32) (x : FVec Ideal S16384x4096 .f32) (g : FVec Ideal S4x4096 .f32)
  (v1 : FVec Ideal S4x2048x4096 .f32) (v2 : FVec Ideal S4x1024x4096 .f32)

theorem residual_at (R : Fin 16384) (C : Fin 4096) : val_main_v3 (F := Ideal) a w x (ix2 R C) = resAt a w x R C := by
  unfold resAt
  pointwise [val_main_v3, val_main_v2, val_main_v1, val_main_cst, val_main_v0]

theorem reference_out : val_main_v3 (F := Ideal) a w x = OUT a w x := by
  funext j
  idx_vars j
  exact residual_at _ _ _ _ _

theorem reference_gained : val_main_v9 (F := Ideal) a w x g = GAINED a w x g := by
  have all : ∀ (R : Fin 16384) (C : Fin 4096), val_main_v9 (F := Ideal) a w x g (ix2 R C) = resAt a w x R C * g (ix2 0 C) := fun R C => by
    rw [← residual_at]
    unfold val_main_v9 val_main_v8
    generalize val_main_v3 (F := Ideal) a w x = A
    pointwise [val_main_v7, val_main_v6, val_main_v5, val_main_v4]
  funext j
  idx_vars j
  exact all _ _

theorem reference_squares : val_main_v12 (F := Ideal) a w x = SQUARES a w x := by
  have all : ∀ (R : Fin 16384) (z : Fin 1), val_main_v12 (F := Ideal) a w x (ix2 R z) = ∑ k : Fin 4096, resAt a w x R k * resAt a w x R k := fun R z => by
    simp only [← residual_at]
    unfold val_main_v12 val_main_v11 val_main_v10 val_main_cst_0
    generalize val_main_v3 (F := Ideal) a w x = A
    pointwise
  funext j
  idx_vars j
  exact all _ _

theorem reference_cast1 : val_main_v15 (F := Ideal) v1 = CAST1 v1 := by
  have all : ∀ (R : Fin 2048) (C : Fin 4096), val_main_v15 (F := Ideal) v1 (ix2 R C) = v1 (ix3 0 R C) := fun R C => by
    pointwise [val_main_v15, val_main_v14, val_main_v13]
  funext j
  idx_vars j
  exact all _ _

theorem reference_cast2 : val_main_v18 (F := Ideal) v2 = CAST2 v2 := by
  have all : ∀ (R : Fin 1024) (C : Fin 4096), val_main_v18 (F := Ideal) v2 (ix2 R C) = v2 (ix3 0 R C) := fun R C => by
    pointwise [val_main_v18, val_main_v17, val_main_v16]
  funext j
  idx_vars j
  exact all _ _

theorem reference_cast3 : val_main_v21 (F := Ideal) v2 = CAST2 v2 := by
  have all : ∀ (R : Fin 1024) (C : Fin 4096), val_main_v21 (F := Ideal) v2 (ix2 R C) = v2 (ix3 0 R C) := fun R C => by
    pointwise [val_main_v21, val_main_v20, val_main_v19]
  funext j
  idx_vars j
  exact all _ _
end

section
open Cert.Kernel4Ideal Cert.Kernel4Ideal.Gen
variable (m : (ℓ : Loc nD τ sig) → Buf (Elt Ideal) ℓ)

theorem ins : ∀ t : Fin cfg0.N, win0_0.index t = ![t.val / 8, 0] ∧ win0_1.index t = ![0, t.val % 8] ∧ win0_2.index t = ![t.val / 8, t.val % 8]
    ∧ win0_3.index t = ![0, 0, t.val % 8] ∧ t.val < 128 :=
  (by decide +kernel : ∀ t : Fin grid0.N, _)

theorem casts : ∀ t : Fin cfg0.N, win0_4.index t = ![0, t.val, 0] ∧ win0_5.index t = ![0, min t.val 63, 0] ∧ win0_6.index t = ![0, min t.val 63, 0] :=
  (by decide +kernel : ∀ t : Fin grid0.N, _)

theorem outs : ∀ t : Fin cfg0.N, win0_7.index t = ![t.val / 8, t.val % 8] ∧ win0_8.index t = ![t.val / 8, t.val % 8] ∧ win0_9.index t = ![t.val / 8, 0]
    ∧ win0_10.index t = ![t.val, 0] ∧ win0_11.index t = ![min t.val 63, 0] ∧ win0_12.index t = ![min t.val 63, 0] :=
  (by decide +kernel : ∀ t : Fin grid0.N, _)

theorem lt0 (t : Fin cfg0.N) : t.val < 128 := (ins t).2.2.2.2

theorem entry0 (c : Dev nD) : (V m c main_v0 : FVec Ideal S16384x4096 .bf16) = (m ((c : Thread nD τ).loc main_arg0) : FVec Ideal S16384x4096 .f32) := by
  show StableHlo.after hostOps0 (fun b => m (c, b)) (Proc.devRef .tc main_v0) = _
  simp only [hostOps0, List.flatten_cons, List.flatten_nil, List.append_nil, List.cons_append, List.nil_append, StableHlo.after_cons, StableHlo.after_nil]
  after_results_simp
  rfl

theorem entry1 (c : Dev nD) : (V m c main_v1 : FVec Ideal S4096x4096 .bf16) = (m ((c : Thread nD τ).loc main_arg1) : FVec Ideal S4096x4096 .f32) := by
  show StableHlo.after hostOps0 (fun b => m (c, b)) (Proc.devRef .tc main_v1) = _
  simp only [hostOps0, List.flatten_cons, List.flatten_nil, List.append_nil, List.cons_append, List.nil_append, StableHlo.after_cons, StableHlo.after_nil]
  after_results_simp
  rfl

/-- The gains as the call takes them. -/
def gains (g : FVec Ideal S4x4096 .f32) : FVec Ideal S4x1x4096 .f32 := shapeCast S4x1x4096 g shapeCasts_S4x4096_S4x1x4096

theorem gains_at (g : FVec Ideal S4x4096 .f32) (k : Fin 4096) : gains g (ix3 0 0 k) = g (ix2 0 k) := by
  pointwise [gains]

theorem entry3 (c : Dev nD) : (V m c main_v2 : FVec Ideal S4x1x4096 .f32) = gains (m ((c : Thread nD τ).loc main_arg3)) := by
  show StableHlo.after hostOps0 (fun b => m (c, b)) (Proc.devRef .tc main_v2) = _
  simp only [hostOps0, List.flatten_cons, List.flatten_nil, List.append_nil, List.cons_append, List.nil_append, StableHlo.after_cons, StableHlo.after_nil]
  after_results_simp
  rfl

section Reads
variable (c : Dev nD) (t : Fin cfg0.N)

theorem read0 (r : Fin 1024) (k : Fin 4096) : (iblk m c 0 t : FVec Ideal S1024x4096 .bf16) (ix2 r k)
    = (V m c main_v0 : FVec Ideal S16384x4096 .bf16) (ix2 ⟨t.val / 8 * 1024 + r.val, by have := lt0 t; omega⟩ k) := by
  blk_ext [iblk, ins t]

theorem read1 (k : Fin 4096) (C : Fin 512) : (iblk m c 1 t : FVec Ideal S4096x512 .bf16) (ix2 k C)
    = (V m c main_v1 : FVec Ideal S4096x4096 .bf16) (ix2 k ⟨t.val % 8 * 512 + C.val, by omega⟩) := by
  blk_ext [iblk, ins t]

theorem read2 (r : Fin 1024) (C : Fin 512) : (iblk m c 2 t : FVec Ideal S1024x512 .f32) (ix2 r C)
    = (m ((c : Thread nD τ).loc main_arg2) : FVec Ideal S16384x4096 .f32) (ix2 ⟨t.val / 8 * 1024 + r.val, by have := lt0 t; omega⟩ ⟨t.val % 8 * 512 + C.val, by omega⟩) := by
  blk_ext [iblk, V_main_arg2, ins t]

theorem read3 (C : Fin 512) : (iblk m c 3 t : FVec Ideal S1x1x512 .f32) (ix3 0 0 C)
    = (V m c main_v2 : FVec Ideal S4x1x4096 .f32) (ix3 0 0 ⟨t.val % 8 * 512 + C.val, by omega⟩) := by
  blk_ext [iblk, ins t]

theorem read4 (r : Fin 16) (C : Fin 4096) : (iblk m c 4 t : FVec Ideal S1x16x4096 .f32) (ix3 0 r C)
    = (m ((c : Thread nD τ).loc main_arg4) : FVec Ideal S4x2048x4096 .f32) (ix3 0 ⟨t.val * 16 + r.val, by have := lt0 t; omega⟩ C) := by
  blk_ext [iblk, V_main_arg4, casts t]

theorem read5 (r : Fin 16) (C : Fin 4096) : (iblk m c 5 t : FVec Ideal S1x16x4096 .f32) (ix3 0 r C)
    = (m ((c : Thread nD τ).loc main_arg5) : FVec Ideal S4x1024x4096 .f32) (ix3 0 ⟨min t.val 63 * 16 + r.val, by omega⟩ C) := by
  blk_ext [iblk, V_main_arg5, casts t]

theorem read6 (r : Fin 16) (C : Fin 4096) : (iblk m c 6 t : FVec Ideal S1x16x4096 .f32) (ix3 0 r C)
    = (m ((c : Thread nD τ).loc main_arg6) : FVec Ideal S4x1024x4096 .f32) (ix3 0 ⟨min t.val 63 * 16 + r.val, by omega⟩ C) := by
  blk_ext [iblk, V_main_arg6, casts t]
end Reads

/-- The block of the residual stream that a grid point computes. -/
def blk (c : Dev nD) (t : Fin cfg0.N) : FVec Ideal S1024x512 .f32 := k0_pay7 (F := Ideal) (iblk m c 2 t) (iblk m c 0 t) (iblk m c 1 t)

theorem computed (x : FVec Ideal S1024x512 .f32) (a : FVec Ideal S1024x4096 .bf16) (w : FVec Ideal S4096x512 .bf16) (r : Fin 1024) (C : Fin 512) :
    k0_pay7 (F := Ideal) x a w (ix2 r C) = x (ix2 r C) + Ideal.ofBits .f32 0x3F000000#32 * ∑ k : Fin 4096, a (ix2 r k) * w (ix2 k C) := by
  pointwise [k0_pay7]

theorem blk_at (c : Dev nD) (t : Fin cfg0.N) (r : Fin 1024) (C : Fin 512) : blk m c t (ix2 r C)
    = resAt (m ((c : Thread nD τ).loc main_arg0)) (m ((c : Thread nD τ).loc main_arg1)) (m ((c : Thread nD τ).loc main_arg2))
        ⟨t.val / 8 * 1024 + r.val, by have := lt0 t; omega⟩ ⟨t.val % 8 * 512 + C.val, by omega⟩ := by
  refine (computed _ _ _ r C).trans ?_
  have e0 : ∀ k : Fin 4096, (iblk m c 0 t : FVec Ideal S1024x4096 .bf16) (ix2 r k) = _ := fun k => (read0 m c t r k).trans (by rw [entry0])
  have e1 : ∀ k : Fin 4096, (iblk m c 1 t : FVec Ideal S4096x512 .bf16) (ix2 k C) = _ := fun k => (read1 m c t k C).trans (by rw [entry1])
  unfold resAt
  rw [read2]
  simp only [e0, e1]

theorem gained_pay (T : FVec Ideal S1024x512 .f32) (x : FVec Ideal S1024x512 .f32) (a : FVec Ideal S1024x4096 .bf16) (w : FVec Ideal S4096x512 .bf16)
    (g : FVec Ideal S1x1x512 .f32) (r : Fin 1024) (C : Fin 512) (h : k0_pay7 (F := Ideal) x a w = T) :
    k0_pay1 (F := Ideal) (k0_pay8 x a w g) (ix2 r C) = T (ix2 r C) * g (ix3 0 0 C) := by
  unfold k0_pay1 k0_pay8
  rw [h]
  pointwise

theorem zeroed (j : S1024x1.Idx) : k0_pay2 (F := Ideal) j = 0 := by
  pointwise [k0_pay2]

theorem collected (T : FVec Ideal S1024x512 .f32) (acc : FVec Ideal S1024x1 .f32) (j : S1024x1.Idx) :
    k0_pay3 (F := Ideal) T acc j = acc j + ∑ k : Fin 512, T (ix2 ⟨(j 0).val, (j 0).isLt⟩ k) * T (ix2 ⟨(j 0).val, (j 0).isLt⟩ k) := by
  have all : ∀ (r : Fin 1024) (z : Fin 1), k0_pay3 (F := Ideal) T acc (ix2 r z) = acc (ix2 r z) + ∑ k : Fin 512, T (ix2 r k) * T (ix2 r k) := fun r z => by
    pointwise [k0_pay3]
  idx_vars j
  exact all _ _

theorem left7 (c : Dev nD) (t : Fin cfg0.N) : (outsAt0 m c t.val t.isLt).1 = blk m c t := by
  funext y
  by_cases h : t.val % 8 = 0
  · rw [outsAt0_A m c t h]; frame_out; rfl
  · rw [outsAt0_B m c t h]; frame_out; rfl

theorem left8 (c : Dev nD) (t : Fin cfg0.N) : (outsAt0 m c t.val t.isLt).2.1 = k0_pay1 (F := Ideal) (k0_pay8 (iblk m c 2 t) (iblk m c 0 t) (iblk m c 1 t) (iblk m c 3 t)) := by
  funext y
  by_cases h : t.val % 8 = 0
  · rw [outsAt0_A m c t h]; frame_out
  · rw [outsAt0_B m c t h]; frame_out

theorem left10 (c : Dev nD) (t : Fin cfg0.N) : (outsAt0 m c t.val t.isLt).2.2.2.1 = k0_pay4 (F := Ideal) (iblk m c 4 t) := by
  funext y
  by_cases h : t.val % 8 = 0
  · rw [outsAt0_A m c t h]; frame_out
  · rw [outsAt0_B m c t h]; frame_out

theorem left11 (c : Dev nD) (t : Fin cfg0.N) : (outsAt0 m c t.val t.isLt).2.2.2.2.1 = k0_pay5 (F := Ideal) (iblk m c 5 t) := by
  funext y
  by_cases h : t.val % 8 = 0
  · rw [outsAt0_A m c t h]; frame_out
  · rw [outsAt0_B m c t h]; frame_out

theorem left12 (c : Dev nD) (t : Fin cfg0.N) : (outsAt0 m c t.val t.isLt).2.2.2.2.2 = k0_pay6 (F := Ideal) (iblk m c 6 t) := by
  funext y
  by_cases h : t.val % 8 = 0
  · rw [outsAt0_A m c t h]; frame_out
  · rw [outsAt0_B m c t h]; frame_out

theorem point7 (c : Dev nD) (t : Fin cfg0.N) (r : Fin 1024) (C : Fin 512) (Y : S16384x4096.Idx)
    (hY0 : (Y 0).val = t.val / 8 * 1024 + r.val) (hY1 : (Y 1).val = t.val % 8 * 512 + C.val) :
    (blk m c t) (ix2 r C) = OUT (m ((c : Thread nD τ).loc main_arg0)) (m ((c : Thread nD τ).loc main_arg1)) (m ((c : Thread nD τ).loc main_arg2)) Y :=
  (blk_at m c t r C).trans (congrArg₂ (resAt (m ((c : Thread nD τ).loc main_arg0)) (m ((c : Thread nD τ).loc main_arg1)) (m ((c : Thread nD τ).loc main_arg2))) (Fin.ext hY0.symm) (Fin.ext hY1.symm))

theorem point8 (c : Dev nD) (t : Fin cfg0.N) (r : Fin 1024) (C : Fin 512) (Y : S16384x4096.Idx)
    (hY0 : (Y 0).val = t.val / 8 * 1024 + r.val) (hY1 : (Y 1).val = t.val % 8 * 512 + C.val) :
    k0_pay1 (F := Ideal) (k0_pay8 (iblk m c 2 t) (iblk m c 0 t) (iblk m c 1 t) (iblk m c 3 t)) (ix2 r C) = GAINED (m ((c : Thread nD τ).loc main_arg0)) (m ((c : Thread nD τ).loc main_arg1)) (m ((c : Thread nD τ).loc main_arg2)) (m ((c : Thread nD τ).loc main_arg3)) Y := by
  have hC : (⟨t.val % 8 * 512 + C.val, by omega⟩ : Fin 4096) = ⟨(Y 1).val, (Y 1).isLt⟩ := Fin.ext hY1.symm
  refine (gained_pay (blk m c t) _ _ _ _ r C rfl).trans ?_
  rw [point7 m c t r C Y hY0 hY1, read3, entry3, gains_at, hC]
  rfl

theorem point10 (c : Dev nD) (t : Fin cfg0.N) (r : Fin 16) (C : Fin 4096) (Y : S2048x4096.Idx)
    (hY0 : (Y 0).val = t.val * 16 + r.val) (hY1 : (Y 1).val = C.val) :
    k0_pay4 (F := Ideal) (iblk m c 4 t) (ix2 r C) = CAST1 (m ((c : Thread nD τ).loc main_arg4)) Y := by
  have ht := lt0 t
  have hR : (⟨(Y 0).val, (Y 0).isLt⟩ : Fin 2048) = ⟨t.val * 16 + r.val, by omega⟩ := Fin.ext hY0
  have hC : (⟨(Y 1).val, (Y 1).isLt⟩ : Fin 4096) = C := Fin.ext hY1
  unfold CAST1
  rw [hR, hC]
  refine Eq.trans ?_ (read4 m c t r C)
  generalize (iblk m c 4 t : FVec Ideal S1x16x4096 .f32) = H
  pointwise [k0_pay4]

theorem point11 (c : Dev nD) (t : Fin cfg0.N) (r : Fin 16) (C : Fin 4096) (Y : S1024x4096.Idx)
    (hY0 : (Y 0).val = min t.val 63 * 16 + r.val) (hY1 : (Y 1).val = C.val) :
    k0_pay5 (F := Ideal) (iblk m c 5 t) (ix2 r C) = CAST2 (m ((c : Thread nD τ).loc main_arg5)) Y := by
  have ht := lt0 t
  have hR : (⟨(Y 0).val, (Y 0).isLt⟩ : Fin 1024) = ⟨min t.val 63 * 16 + r.val, by omega⟩ := Fin.ext hY0
  have hC : (⟨(Y 1).val, (Y 1).isLt⟩ : Fin 4096) = C := Fin.ext hY1
  unfold CAST2
  rw [hR, hC]
  refine Eq.trans ?_ (read5 m c t r C)
  generalize (iblk m c 5 t : FVec Ideal S1x16x4096 .f32) = H
  pointwise [k0_pay5]

theorem point12 (c : Dev nD) (t : Fin cfg0.N) (r : Fin 16) (C : Fin 4096) (Y : S1024x4096.Idx)
    (hY0 : (Y 0).val = min t.val 63 * 16 + r.val) (hY1 : (Y 1).val = C.val) :
    k0_pay6 (F := Ideal) (iblk m c 6 t) (ix2 r C) = CAST2 (m ((c : Thread nD τ).loc main_arg6)) Y := by
  have ht := lt0 t
  have hR : (⟨(Y 0).val, (Y 0).isLt⟩ : Fin 1024) = ⟨min t.val 63 * 16 + r.val, by omega⟩ := Fin.ext hY0
  have hC : (⟨(Y 1).val, (Y 1).isLt⟩ : Fin 4096) = C := Fin.ext hY1
  unfold CAST2
  rw [hR, hC]
  refine Eq.trans ?_ (read6 m c t r C)
  generalize (iblk m c 6 t : FVec Ideal S1x16x4096 .f32) = H
  pointwise [k0_pay6]

theorem final7 (c : Dev nD) : ((dats m 0 c).arrAt 7 cfg0.N : FVec Ideal S16384x4096 .f32)
    = OUT (m ((c : Thread nD τ).loc main_arg0)) (m ((c : Thread nD τ).loc main_arg1)) (m ((c : Thread nD τ).loc main_arg2)) := by
  refine (dats m 0 c).arrAt_eq_of_covers 7 _ (by decide +kernel) fun t hf y => ?_
  blk_simp
  rw [after0_7, left7]
  obtain ⟨Y, e⟩ : ∃ Y : S16384x4096.Idx, Y = ((View.whole main_v3_0).slice (win0_7.rect t)).emb y := ⟨_, rfl⟩
  have e0 : (Y 0).val = t.val / 8 * 1024 + (y 0).val := by rw [e]; blk_simp [outs t]
  have e1 : (Y 1).val = t.val % 8 * 512 + (y 1).val := by rw [e]; blk_simp [outs t]
  rw [← e]
  clear e
  revert e0 e1
  suffices all : ∀ z : S1024x512.Idx, (Y 0).val = t.val / 8 * 1024 + (z 0).val → (Y 1).val = t.val % 8 * 512 + (z 1).val → (blk m c t) z = OUT (m ((c : Thread nD τ).loc main_arg0)) (m ((c : Thread nD τ).loc main_arg1)) (m ((c : Thread nD τ).loc main_arg2)) Y from fun e0 e1 => all y e0 e1
  intro z e0 e1
  idx_vars z
  exact point7 m c t _ _ Y e0 e1

theorem final8 (c : Dev nD) : ((dats m 0 c).arrAt 8 cfg0.N : FVec Ideal S16384x4096 .bf16)
    = GAINED (m ((c : Thread nD τ).loc main_arg0)) (m ((c : Thread nD τ).loc main_arg1)) (m ((c : Thread nD τ).loc main_arg2)) (m ((c : Thread nD τ).loc main_arg3)) := by
  refine (dats m 0 c).arrAt_eq_of_covers 8 _ (by decide +kernel) fun t hf y => ?_
  blk_simp
  rw [after0_8, left8]
  obtain ⟨Y, e⟩ : ∃ Y : S16384x4096.Idx, Y = ((View.whole main_v3_1).slice (win0_8.rect t)).emb y := ⟨_, rfl⟩
  have e0 : (Y 0).val = t.val / 8 * 1024 + (y 0).val := by rw [e]; blk_simp [outs t]
  have e1 : (Y 1).val = t.val % 8 * 512 + (y 1).val := by rw [e]; blk_simp [outs t]
  rw [← e]
  clear e
  revert e0 e1
  suffices all : ∀ z : S1024x512.Idx, (Y 0).val = t.val / 8 * 1024 + (z 0).val → (Y 1).val = t.val % 8 * 512 + (z 1).val → k0_pay1 (F := Ideal) (k0_pay8 (iblk m c 2 t) (iblk m c 0 t) (iblk m c 1 t) (iblk m c 3 t)) z = GAINED (m ((c : Thread nD τ).loc main_arg0)) (m ((c : Thread nD τ).loc main_arg1)) (m ((c : Thread nD τ).loc main_arg2)) (m ((c : Thread nD τ).loc main_arg3)) Y from fun e0 e1 => all y e0 e1
  intro z e0 e1
  idx_vars z
  exact point8 m c t _ _ Y e0 e1

theorem final10 (c : Dev nD) : ((dats m 0 c).arrAt 10 cfg0.N : FVec Ideal S2048x4096 .bf16)
    = CAST1 (m ((c : Thread nD τ).loc main_arg4)) := by
  refine (dats m 0 c).arrAt_eq_of_covers 10 _ (by decide +kernel) fun t hf y => ?_
  blk_simp
  rw [after0_10, left10]
  obtain ⟨Y, e⟩ : ∃ Y : S2048x4096.Idx, Y = ((View.whole main_v3_3).slice (win0_10.rect t)).emb y := ⟨_, rfl⟩
  have e0 : (Y 0).val = t.val * 16 + (y 0).val := by rw [e]; blk_simp [outs t]
  have e1 : (Y 1).val = (y 1).val := by rw [e]; blk_simp [outs t]
  rw [← e]
  clear e
  revert e0 e1
  suffices all : ∀ z : S16x4096.Idx, (Y 0).val = t.val * 16 + (z 0).val → (Y 1).val = (z 1).val → k0_pay4 (F := Ideal) (iblk m c 4 t) z = CAST1 (m ((c : Thread nD τ).loc main_arg4)) Y from fun e0 e1 => all y e0 e1
  intro z e0 e1
  idx_vars z
  exact point10 m c t _ _ Y e0 e1

theorem final11 (c : Dev nD) : ((dats m 0 c).arrAt 11 cfg0.N : FVec Ideal S1024x4096 .bf16)
    = CAST2 (m ((c : Thread nD τ).loc main_arg5)) := by
  refine (dats m 0 c).arrAt_eq_of_covers 11 _ (by decide +kernel) fun t hf y => ?_
  blk_simp
  rw [after0_11, left11]
  obtain ⟨Y, e⟩ : ∃ Y : S1024x4096.Idx, Y = ((View.whole main_v3_4).slice (win0_11.rect t)).emb y := ⟨_, rfl⟩
  have e0 : (Y 0).val = min t.val 63 * 16 + (y 0).val := by rw [e]; blk_simp [outs t]
  have e1 : (Y 1).val = (y 1).val := by rw [e]; blk_simp [outs t]
  rw [← e]
  clear e
  revert e0 e1
  suffices all : ∀ z : S16x4096.Idx, (Y 0).val = min t.val 63 * 16 + (z 0).val → (Y 1).val = (z 1).val → k0_pay5 (F := Ideal) (iblk m c 5 t) z = CAST2 (m ((c : Thread nD τ).loc main_arg5)) Y from fun e0 e1 => all y e0 e1
  intro z e0 e1
  idx_vars z
  exact point11 m c t _ _ Y e0 e1

theorem final12 (c : Dev nD) : ((dats m 0 c).arrAt 12 cfg0.N : FVec Ideal S1024x4096 .bf16)
    = CAST2 (m ((c : Thread nD τ).loc main_arg6)) := by
  refine (dats m 0 c).arrAt_eq_of_covers 12 _ (by decide +kernel) fun t hf y => ?_
  blk_simp
  rw [after0_12, left12]
  obtain ⟨Y, e⟩ : ∃ Y : S1024x4096.Idx, Y = ((View.whole main_v3_5).slice (win0_12.rect t)).emb y := ⟨_, rfl⟩
  have e0 : (Y 0).val = min t.val 63 * 16 + (y 0).val := by rw [e]; blk_simp [outs t]
  have e1 : (Y 1).val = (y 1).val := by rw [e]; blk_simp [outs t]
  rw [← e]
  clear e
  revert e0 e1
  suffices all : ∀ z : S16x4096.Idx, (Y 0).val = min t.val 63 * 16 + (z 0).val → (Y 1).val = (z 1).val → k0_pay6 (F := Ideal) (iblk m c 6 t) z = CAST2 (m ((c : Thread nD τ).loc main_arg6)) Y from fun e0 e1 => all y e0 e1
  intro z e0 e1
  idx_vars z
  exact point12 m c t _ _ Y e0 e1

theorem final9 (c : Dev nD) : ((dats m 0 c).arrAt 9 cfg0.N : FVec Ideal S16384x1 .f32)
    = SQUARES (m ((c : Thread nD τ).loc main_arg0)) (m ((c : Thread nD τ).loc main_arg1)) (m ((c : Thread nD τ).loc main_arg2)) := by
  refine (dats m 0 c).arrAt_eq_of_covers 9 _ (by decide +kernel) fun t hf y => ?_
  blk_simp
  rw [after0_9]
  rw [Pipeline.eq_sum_fin_of_reset_step_apply_of_flush (fun n h => (outsAt0 m c n h).2.2.1) 8 (fun _ => 0) _
    (fun t h j => by rw [outsAt0_A m c t h]; frame_out; rw [collected, zeroed])
    (fun t h j => by rw [outsAt0_B m c t h]; frame_out; rw [collected])
    t ((flush0_9 t).mp hf) _, zero_add]
  obtain ⟨Y, e⟩ : ∃ Y : S16384x1.Idx, Y = ((View.whole main_v3_2).slice (win0_9.rect t)).emb y := ⟨_, rfl⟩
  have e0 : (Y 0).val = t.val / 8 * 1024 + (y 0).val := by rw [e]; blk_simp [outs t]
  rw [← e]
  clear e
  unfold SQUARES
  refine Fin.sum_mul_add_congr fun s k hl => ?_
  have key : ∀ h : 8 * (t.val / 8) + s.val < cfg0.N, (blk m c ⟨8 * (t.val / 8) + s.val, h⟩) (ix2 ⟨(y 0).val, (y 0).isLt⟩ k)
      = resAt (m ((c : Thread nD τ).loc main_arg0)) (m ((c : Thread nD τ).loc main_arg1)) (m ((c : Thread nD τ).loc main_arg2)) ⟨(Y 0).val, (Y 0).isLt⟩ ⟨s.val * 512 + k.val, hl⟩ := fun h =>
    (blk_at m c ⟨8 * (t.val / 8) + s.val, h⟩ ⟨(y 0).val, (y 0).isLt⟩ k).trans
      (congrArg₂ (resAt (m ((c : Thread nD τ).loc main_arg0)) (m ((c : Thread nD τ).loc main_arg1)) (m ((c : Thread nD τ).loc main_arg2))) (Fin.ext (by show (8 * (t.val / 8) + s.val) / 8 * 1024 + (y 0).val = (Y 0).val; omega))
        (Fin.ext (by show (8 * (t.val / 8) + s.val) % 8 * 512 + k.val = s.val * 512 + k.val; omega)))
  exact congrArg₂ (fun a b : EReal => a * b) (key _) (key _)
end

theorem same : algebraic_Kernel4Ideal_Reference4Ideal := by
  intro m g m' g' _ hargs
  refine ⟨fun c => OUT (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)),
    fun c => GAINED (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)),
    fun c => SQUARES (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)),
    fun c => CAST1 (m ((c.tc : Thread Cert.Kernel4Ideal.nD Cert.Kernel4Ideal.τ).loc Cert.Kernel4Ideal.main_arg4)),
    fun c => CAST2 (m ((c.tc : Thread Cert.Kernel4Ideal.nD Cert.Kernel4Ideal.τ).loc Cert.Kernel4Ideal.main_arg5)),
    fun c => CAST2 (m ((c.tc : Thread Cert.Kernel4Ideal.nD Cert.Kernel4Ideal.τ).loc Cert.Kernel4Ideal.main_arg6)), ?_, ?_⟩
  · exact (θ_run _ _ _).mono (fun r h c => ⟨(h c).1.trans (final7 m c), (h c).2.1.trans (final8 m c), (h c).2.2.1.trans (final9 m c), (h c).2.2.2.1.trans (final10 m c),
      (h c).2.2.2.2.1.trans (final11 m c), (h c).2.2.2.2.2.1.trans (final12 m c), (h c).2.2.2.2.2.2⟩) (Cert.Kernel4Ideal.Value.run_blocks m g)
  · refine (θ_run _ _ _).mono (fun r h c => ⟨(h c).1.trans ?_, (h c).2.1.trans ?_, (h c).2.2.1.trans ?_, (h c).2.2.2.1.trans ?_, (h c).2.2.2.2.1.trans ?_,
      (h c).2.2.2.2.2.1.trans ?_, (h c).2.2.2.2.2.2⟩) (Cert.Reference4Ideal.Value.run m' g')
    · obtain ⟨e0, e1, e2, e3, e4, e5, e6⟩ := hargs c
      rw [Cert.Reference4Ideal.Read.val_main_v3_eq, e0, e1, e2]
      exact reference_out _ _ _
    · obtain ⟨e0, e1, e2, e3, e4, e5, e6⟩ := hargs c
      rw [Cert.Reference4Ideal.Read.val_main_v9_eq, e0, e1, e2, e3]
      exact reference_gained _ _ _ _
    · obtain ⟨e0, e1, e2, e3, e4, e5, e6⟩ := hargs c
      rw [Cert.Reference4Ideal.Read.val_main_v12_eq, e0, e1, e2]
      exact reference_squares _ _ _
    · obtain ⟨e0, e1, e2, e3, e4, e5, e6⟩ := hargs c
      rw [Cert.Reference4Ideal.Read.val_main_v15_eq, e4]
      exact reference_cast1 _
    · obtain ⟨e0, e1, e2, e3, e4, e5, e6⟩ := hargs c
      rw [Cert.Reference4Ideal.Read.val_main_v18_eq, e5]
      exact reference_cast2 _
    · obtain ⟨e0, e1, e2, e3, e4, e5, e6⟩ := hargs c
      rw [Cert.Reference4Ideal.Read.val_main_v21_eq, e6]
      exact reference_cast3 _

theorem frame_reference : quiescent_Reference4Ideal := fun m g _ =>
  (θ_run _ _ _).mono (fun r h => ⟨fun c => (h c).2.2.2.2.2.2, sem_eq_zero_of_no_sems (by decide) r.2⟩) (Cert.Reference4Ideal.Value.run m g)

theorem named : preserves_Kernel4_Kernel4Ideal := trivial

end Cert.Res

end
-- ==== Proof.QkvAB.lean ====
/- The projection to queries, keys and values of the first two mixers, the first mixer's queries and keys turned by the rotary
   embedding, and two weights cast beside. Each grid point writes four heads of 1024 rows: a lane times the cosine plus the lane 64
   further (round the head) times the signed sine; a head that isn't turned has the tables one and zero. -/
module

public import proofs.«01_k».proof.Proof.Dense
public import proofs.«01_k».proof.Defs
public import proofs.«01_k».proof.Proof.Gen.Kernel5Ideal.Value
public import proofs.«01_k».proof.Proof.Gen.Reference5Ideal.Read
public import Idealize.ShloMosaic.Lib.Pipeline.ValueKit

@[expose] public section

set_option maxRecDepth 65536
noncomputable section
open Idealize.ShloMosaic Idealize.ShloMosaic.TcCoe Idealize.SL.Sem
open Idealize.ShloMosaic.Pipeline (Dat)

namespace Cert.QkvAB
open Cert.Dense

section
open Cert.Kernel5Ideal

/-- A projected element of the normed row. -/
def qkv (x : FVec Ideal S16384x4096 .f32) (g : FVec Ideal S4096 .f32) (w : FVec Ideal S4096x9216 .f32) (R : Fin 16384) (C : Fin 9216) : EReal :=
  proj (fun k => x (ix2 R k)) (fun k => g (ix1 k)) (fun k => w (ix2 k C))

/-- Where the other half of a rotated pair stands. -/
def partner (C : Fin 6144) : Fin 9216 := ⟨C.val / 128 * 128 + (C.val % 128 + 64) % 128, by omega⟩

/-- A column of the result among the columns of the weight. -/
def column (C : Fin 6144) : Fin 9216 := ⟨C.val, by omega⟩

/-- The cosine that an element is multiplied by. -/
def cosAt (cs : FVec Ideal S4096x64 .f32) (R : Fin 16384) (C : Fin 6144) : EReal := cs (ix2 ⟨R.val % 4096, by omega⟩ ⟨C.val % 64, by omega⟩)

/-- The sine that its partner is multiplied by. -/
def sinAt (sn : FVec Ideal S4096x64 .f32) (R : Fin 16384) (C : Fin 6144) : EReal :=
  if C.val % 128 < 64 then -sn (ix2 ⟨R.val % 4096, by omega⟩ ⟨C.val % 64, by omega⟩) else sn (ix2 ⟨R.val % 4096, by omega⟩ ⟨C.val % 64, by omega⟩)

/-- An element of the result: turned in the first 20 heads. -/
def turned (a : Fin 9216 → EReal) (cs sn : FVec Ideal S4096x64 .f32) (R : Fin 16384) (C : Fin 6144) : EReal :=
  if C.val < 2560 then a (column C) * cosAt cs R C + a (partner C) * sinAt sn R C else a (column C)

/-- The whole result. -/
def OUT (x : FVec Ideal S16384x4096 .f32) (g : FVec Ideal S4096 .f32) (w : FVec Ideal S4096x9216 .f32) (cs sn : FVec Ideal S4096x64 .f32) : FVec Ideal S16384x6144 .bf16 :=
  fun j => turned (qkv x g w ⟨(j 0).val, (j 0).isLt⟩) cs sn ⟨(j 0).val, (j 0).isLt⟩ ⟨(j 1).val, (j 1).isLt⟩

/-- A weight that is cast beside. -/
def CAST1 (v : FVec Ideal S4x4096x12288 .f32) : FVec Ideal S4096x12288 .bf16 :=
  fun j => v (ix3 0 ⟨(j 0).val, (j 0).isLt⟩ ⟨(j 1).val, (j 1).isLt⟩)

/-- The other. -/
def CAST2 (v : FVec Ideal S4x4096x4096 .f32) : FVec Ideal S4096x4096 .bf16 :=
  fun j => v (ix3 0 ⟨(j 0).val, (j 0).isLt⟩ ⟨(j 1).val, (j 1).isLt⟩)
end

section
open Cert.Reference5Ideal Cert.Reference5Ideal.Gen Cert.Reference5Ideal.Read
variable (x : FVec Ideal S16384x4096 .f32) (g : FVec Ideal S4096 .f32) (w : FVec Ideal S4096x9216 .f32)
  (v1 : FVec Ideal S4x4096x12288 .f32) (v2 : FVec Ideal S4x4096x4096 .f32)

/-- The cosines of the positions' angles. -/
def cosines : FVec Ideal S4096x64 .f32 := val_main_v34 (F := Ideal)

/-- The sines. -/
def sines : FVec Ideal S4096x64 .f32 := val_main_v35 (F := Ideal)

theorem normed_at (R : Fin 16384) (k : Fin 4096) : val_main_v12 (F := Ideal) x g (ix2 R k) = x (ix2 R k) * inv (ssq fun k => x (ix2 R k)) * g (ix1 k) := by
  rw [← inv_eq_mean]
  unfold ssq
  pointwise [val_main_v12, val_main_v11, val_main_v10, val_main_v9, val_main_v8, val_main_v7, val_main_v6, val_main_v5, val_main_cst_1, val_main_v4, val_main_v3, val_main_cst_0, val_main_v2, val_main_v1, val_main_cst, val_main_v0]

theorem dot_at (R : Fin 16384) (C : Fin 9216) : val_main_v13 (F := Ideal) x g w (ix2 R C) = qkv x g w R C := by
  unfold qkv
  rw [← proj_eq]
  have h := normed_at x g R
  unfold val_main_v13
  generalize val_main_v12 (F := Ideal) x g = A at h ⊢
  pointwise
  exact Finset.sum_congr rfl fun k _ => by rw [h k]

theorem queries_at (R : Fin 16384) (C : Fin 2048) : val_main_v76 (F := Ideal) x g w (ix2 R C)
    = turned (fun C => val_main_v13 (F := Ideal) x g w (ix2 R C)) cosines sines R ⟨C.val, by omega⟩ := by
  unfold cosines sines turned
  rw [if_pos (show C.val < 2560 by omega)]
  unfold cosAt sinAt column partner
  unfold val_main_v76 val_main_v55 val_main_v54 val_main_v53 val_main_v52 val_main_v51 val_main_v50 val_main_v49 val_main_v48 val_main_v47 val_main_v46 val_main_v45 val_main_v44 val_main_v43 val_main_v42 val_main_v41 val_main_v40 val_main_v39 val_main_v38 val_main_v37 val_main_v36 val_main_v14
  generalize val_main_v13 (F := Ideal) x g w = A
  generalize val_main_v34 (F := Ideal) = cs
  generalize val_main_v35 (F := Ideal) = sn
  pointwise
  by_cases h : C.val % 128 < 64
  · have e1 : C.val % 64 = C.val % 128 := by omega
    have e2 : (C.val % 128 + 64) % 128 = 64 + C.val % 128 := by omega
    rw [dif_pos h]
    simp only [if_pos h, e1, e2, sub_eq_add_neg, mul_neg]
  · have e1 : C.val % 64 = C.val % 128 - 64 := by omega
    have e2 : (C.val % 128 + 64) % 128 = C.val % 128 - 64 := by omega
    have e3 : C.val / 128 * 128 + (64 + (C.val % 128 - 64)) = C.val := by omega
    rw [dif_neg h]
    simp only [if_neg h, e1, e2, e3]

theorem keys_at (R : Fin 16384) (C : Fin 512) : val_main_v77 (F := Ideal) x g w (ix2 R C)
    = turned (fun C => val_main_v13 (F := Ideal) x g w (ix2 R C)) cosines sines R ⟨2048 + C.val, by omega⟩ := by
  unfold cosines sines turned
  rw [if_pos (show 2048 + C.val < 2560 by omega)]
  unfold cosAt sinAt column partner
  have e0 : (2048 + C.val) / 128 * 128 = 2048 + C.val / 128 * 128 := by omega
  have e4 : (2048 + C.val) % 128 = C.val % 128 := by omega
  simp only [e0, e4]
  unfold val_main_v77 val_main_v75 val_main_v74 val_main_v73 val_main_v72 val_main_v71 val_main_v70 val_main_v69 val_main_v68 val_main_v67 val_main_v66 val_main_v65 val_main_v64 val_main_v63 val_main_v62 val_main_v61 val_main_v60 val_main_v59 val_main_v58 val_main_v57 val_main_v56 val_main_v15
  generalize val_main_v13 (F := Ideal) x g w = A
  generalize val_main_v34 (F := Ideal) = cs
  generalize val_main_v35 (F := Ideal) = sn
  pointwise
  by_cases h : C.val % 128 < 64
  · have e1 : (2048 + C.val) % 64 = C.val % 128 := by omega
    have e2 : (C.val % 128 + 64) % 128 = 64 + C.val % 128 := by omega
    rw [dif_pos h]
    simp only [if_pos h, e1, e2, sub_eq_add_neg, mul_neg, add_assoc]
  · have e1 : (2048 + C.val) % 64 = C.val % 128 - 64 := by omega
    have e2 : (C.val % 128 + 64) % 128 = C.val % 128 - 64 := by omega
    have e3 : C.val / 128 * 128 + (64 + (C.val % 128 - 64)) = C.val := by omega
    rw [dif_neg h]
    simp only [if_neg h, e1, e2, e3, add_assoc]

theorem passed_at (R : Fin 16384) (C : Fin 3584) : val_main_v16 (F := Ideal) x g w (ix2 R C) = val_main_v13 (F := Ideal) x g w (ix2 R ⟨2560 + C.val, by omega⟩) := by
  unfold val_main_v16
  generalize val_main_v13 (F := Ideal) x g w = A
  pointwise

theorem out_at (R : Fin 16384) (C : Fin 6144) : val_main_v79 (F := Ideal) x g w (ix2 R C) = turned (qkv x g w R) cosines sines R C := by
  have hd : qkv x g w R = fun C => val_main_v13 (F := Ideal) x g w (ix2 R C) := funext fun C => (dot_at x g w R C).symm
  rw [hd]
  have hq := queries_at x g w R
  have hk := keys_at x g w R
  have hv := passed_at x g w R
  unfold val_main_v79 val_main_v78
  generalize val_main_v76 (F := Ideal) x g w = Q at hq ⊢
  generalize val_main_v77 (F := Ideal) x g w = K at hk ⊢
  generalize val_main_v16 (F := Ideal) x g w = V at hv ⊢
  pointwise
  by_cases h1 : C.val < 2048
  · rw [dif_pos h1]
    exact hq ⟨C.val, h1⟩
  · rw [dif_neg h1]
    by_cases h2 : C.val - 2048 < 512
    · rw [dif_pos h2]
      refine (hk ⟨C.val - 2048, h2⟩).trans ?_
      exact congrArg _ (Fin.ext (by show 2048 + (C.val - 2048) = C.val; omega))
    · rw [dif_neg h2]
      refine (hv ⟨C.val - 2048 - 512, by omega⟩).trans ?_
      unfold turned column
      rw [if_neg (by omega)]
      exact congrArg _ (congrArg _ (Fin.ext (by show 2560 + (C.val - 2048 - 512) = C.val; omega)))

theorem reference_out : val_main_v79 (F := Ideal) x g w = OUT x g w cosines sines := by
  funext j
  idx_vars j
  exact out_at x g w _ _

theorem reference_cast1 : val_main_v82 (F := Ideal) v1 = CAST1 v1 := by
  have all : ∀ (R : Fin 4096) (C : Fin 12288), val_main_v82 (F := Ideal) v1 (ix2 R C) = v1 (ix3 0 R C) := fun R C => by
    pointwise [val_main_v82, val_main_v81, val_main_v80]
  funext j
  idx_vars j
  exact all _ _

theorem reference_cast2 : val_main_v85 (F := Ideal) v2 = CAST2 v2 := by
  have all : ∀ (R : Fin 4096) (C : Fin 4096), val_main_v85 (F := Ideal) v2 (ix2 R C) = v2 (ix3 0 R C) := fun R C => by
    pointwise [val_main_v85, val_main_v84, val_main_v83]
  funext j
  idx_vars j
  exact all _ _
end

section
open Cert.Kernel5Ideal Cert.Kernel5Ideal.Gen
variable (m : (ℓ : Loc nD τ sig) → Buf (Elt Ideal) ℓ)

theorem idx : ∀ t : Fin cfg0.N, win0_0.index t = ![t.val / 12, 0] ∧ win0_1.index t = ![t.val / 12, 0] ∧ win0_2.index t = ![0, t.val % 12]
    ∧ win0_7.index t = ![t.val / 12, t.val % 12] ∧ t.val < 192 :=
  (by decide +kernel : ∀ t : Fin grid0.N, _)

/-- Which table a block of columns takes. -/
def seg (j : ℕ) : ℕ := if j < 4 then 0 else if j < 5 then 1 else if j < 6 then 2 else if j < 8 then 3 else 4

theorem seg_lt (j : ℕ) : seg j < 5 := by
  unfold seg
  split_ifs <;> omega

theorem seg_turned (j : ℕ) : seg j < 2 ↔ j < 5 := by
  unfold seg
  split_ifs <;> omega

theorem tables : ∀ t : Fin cfg0.N, win0_3.index t = ![seg (t.val % 12), t.val / 12 % 4, 0] ∧ win0_4.index t = ![seg (t.val % 12), t.val / 12 % 4, 0] :=
  (by decide +kernel : ∀ t : Fin grid0.N, _)

theorem casts : ∀ t : Fin cfg0.N, win0_5.index t = ![0, min t.val 127, 0] ∧ win0_6.index t = ![0, min t.val 127, 0]
    ∧ win0_8.index t = ![min t.val 127, 0] ∧ win0_9.index t = ![min t.val 127, 0] :=
  (by decide +kernel : ∀ t : Fin grid0.N, _)

theorem lt0 (t : Fin cfg0.N) : t.val < 192 := (idx t).2.2.2.2

section Host
variable (x : FVec Ideal S16384x4096 .f32) (g : FVec Ideal S4096 .f32)

/-- The operand the call before hands over: the row times the gain. -/
def gained : FVec Ideal S16384x4096 .bf16 :=
  truncf .bf16 (mulf x (broadcastInDim S16384x4096 ![0, 1] bcast_S1x4096_S16384x4096_0_1 (broadcastInDim S1x4096 ![1] bcast_S4096_S1x4096_1 g))) bitsLt_bf16_f32

/-- And the rows' sums of squares. -/
def squares : FVec Ideal S16384x1 .f32 :=
  broadcastInDim S16384x1 ![0] bcast_S16384_S16384x1_0 (Host.reduceAdd (mulf x x) (constant S_ .f32 0x00000000#32) reducesTo_S16384x4096_S16384_d1 h_S_)

theorem gained_at (R : Fin 16384) (k : Fin 4096) : gained x g (ix2 R k) = x (ix2 R k) * g (ix1 k) := by
  pointwise [gained]

theorem squares_at (R : Fin 16384) : squares x (ix2 R 0) = ssq fun k => x (ix2 R k) := by
  unfold ssq
  pointwise [squares]
end Host

/-- A table of two equal halves, as the host lays it out. -/
def laid (a b : FVec Ideal S4096x64 .f32) : FVec Ideal S4096x128 .f32 :=
  mulf (shapeCast S4096x128 (broadcastInDim S1x4096x1x128 ![0, 1, 2, 3] bcast_S1x4096x1x128_S1x4096x1x128_0_1_2_3
    (shapeCast S1x4096x1x128 (concatenate S4096x128 1 [⟨S4096x64, a⟩, ⟨S4096x64, b⟩] concatenates_S4096x64_S4096x64_S4096x128_d1) shapeCasts_S4096x128_S1x4096x1x128)) shapeCasts_S1x4096x1x128_S4096x128)
    (broadcastInDim S4096x128 ![] bcast_S_S4096x128 (constant S_ .f32 0x3F800000#32))

/-- A constant table. -/
def flat (b : BitVec 32) : FVec Ideal S4096x128 .f32 := broadcastInDim S4096x128 ![] bcast_S_S4096x128 (constant S_ .f32 b)

/-- Five tables stacked, two of them the same and three constant. -/
def stack (a z : FVec Ideal S4096x128 .f32) : FVec Ideal S5x4096x128 .f32 :=
  concatenate S5x4096x128 0 [⟨S1x4096x128, broadcastInDim S1x4096x128 ![1, 2] bcast_S4096x128_S1x4096x128_1_2 a⟩,
    ⟨S1x4096x128, broadcastInDim S1x4096x128 ![1, 2] bcast_S4096x128_S1x4096x128_1_2 a⟩,
    ⟨S1x4096x128, broadcastInDim S1x4096x128 ![1, 2] bcast_S4096x128_S1x4096x128_1_2 z⟩,
    ⟨S1x4096x128, broadcastInDim S1x4096x128 ![1, 2] bcast_S4096x128_S1x4096x128_1_2 z⟩,
    ⟨S1x4096x128, broadcastInDim S1x4096x128 ![1, 2] bcast_S4096x128_S1x4096x128_1_2 z⟩]
    concatenates_S1x4096x128_S1x4096x128_S1x4096x128_S1x4096x128_S1x4096x128_S5x4096x128_d0

theorem laid_at (a b : FVec Ideal S4096x64 .f32) (p : Fin 4096) (d : Fin 128) : laid a b (ix2 p d)
    = if d.val < 64 then a (ix2 p ⟨d.val % 64, by omega⟩) else b (ix2 p ⟨d.val % 64, by omega⟩) := by
  pointwise [laid]
  by_cases h : d.val < 64
  · have e : d.val % 64 = d.val := by omega
    rw [dif_pos h, if_pos h]
    simp only [e]
  · have e : d.val % 64 = d.val - 64 := by omega
    rw [dif_neg h, if_neg h]
    simp only [e]

theorem flat_one (p : Fin 4096) (d : Fin 128) : flat 0x3F800000#32 (ix2 p d) = 1 := by
  pointwise [flat]

theorem flat_zero (p : Fin 4096) (d : Fin 128) : flat 0x00000000#32 (ix2 p d) = 0 := by
  pointwise [flat]

theorem stack_at (a z : FVec Ideal S4096x128 .f32) (s : Fin 5) (p : Fin 4096) (d : Fin 128) : stack a z (ix3 s p d)
    = if s.val < 2 then a (ix2 p d) else z (ix2 p d) := by
  unfold stack
  pointwise
  fin_vals s with hs <;> simp [hs]

theorem entry3 (c : Dev nD) : (V m c main_v3 : FVec Ideal S16384x4096 .bf16) = gained (m ((c : Thread nD τ).loc main_arg0)) (m ((c : Thread nD τ).loc main_arg1)) := by
  show StableHlo.after hostOps0 (fun b => m (c, b)) (Proc.devRef .tc main_v3) = _
  simp only [hostOps0, List.flatten_cons, List.flatten_nil, List.append_nil, List.cons_append, List.nil_append, StableHlo.after_cons, StableHlo.after_nil]
  after_results_simp
  rfl

theorem entry6 (c : Dev nD) : (V m c main_v6 : FVec Ideal S16384x1 .f32) = squares (m ((c : Thread nD τ).loc main_arg0)) := by
  show StableHlo.after hostOps0 (fun b => m (c, b)) (Proc.devRef .tc main_v6) = _
  simp only [hostOps0, List.flatten_cons, List.flatten_nil, List.append_nil, List.cons_append, List.nil_append, StableHlo.after_cons, StableHlo.after_nil]
  after_results_simp
  rfl

theorem entry7 (c : Dev nD) : (V m c main_v7 : FVec Ideal S4096x9216 .bf16) = (m ((c : Thread nD τ).loc main_arg2) : FVec Ideal S4096x9216 .f32) := by
  show StableHlo.after hostOps0 (fun b => m (c, b)) (Proc.devRef .tc main_v7) = _
  simp only [hostOps0, List.flatten_cons, List.flatten_nil, List.append_nil, List.cons_append, List.nil_append, StableHlo.after_cons, StableHlo.after_nil]
  after_results_simp
  rfl

theorem entry83 (c : Dev nD) : (V m c main_v83 : FVec Ideal S5x4096x128 .f32) = stack (laid cosines cosines) (flat 0x3F800000#32) := by
  show StableHlo.after hostOps0 (fun b => m (c, b)) (Proc.devRef .tc main_v83) = _
  simp only [hostOps0, List.flatten_cons, List.flatten_nil, List.append_nil, List.cons_append, List.nil_append, StableHlo.after_cons, StableHlo.after_nil]
  after_results_simp
  rfl

theorem entry89 (c : Dev nD) : (V m c main_v89 : FVec Ideal S5x4096x128 .f32) = stack (laid (Host.negf sines) sines) (flat 0x00000000#32) := by
  show StableHlo.after hostOps0 (fun b => m (c, b)) (Proc.devRef .tc main_v89) = _
  simp only [hostOps0, List.flatten_cons, List.flatten_nil, List.append_nil, List.cons_append, List.nil_append, StableHlo.after_cons, StableHlo.after_nil]
  after_results_simp
  rfl

section Reads
variable (c : Dev nD) (t : Fin cfg0.N)

theorem read0 (r : Fin 1024) (k : Fin 4096) : (iblk m c 0 t : FVec Ideal S1024x4096 .bf16) (ix2 r k)
    = (V m c main_v3 : FVec Ideal S16384x4096 .bf16) (ix2 ⟨t.val / 12 * 1024 + r.val, by have := lt0 t; omega⟩ k) := by
  blk_ext [iblk, idx t]

theorem read1 (r : Fin 1024) : (iblk m c 1 t : FVec Ideal S1024x1 .f32) (ix2 r 0)
    = (V m c main_v6 : FVec Ideal S16384x1 .f32) (ix2 ⟨t.val / 12 * 1024 + r.val, by have := lt0 t; omega⟩ 0) := by
  blk_ext [iblk, idx t]

theorem read2 (k : Fin 4096) (C : Fin 512) : (iblk m c 2 t : FVec Ideal S4096x512 .bf16) (ix2 k C)
    = (V m c main_v7 : FVec Ideal S4096x9216 .bf16) (ix2 k ⟨t.val % 12 * 512 + C.val, by omega⟩) := by
  blk_ext [iblk, idx t]

theorem read3 (r : Fin 1024) (d : Fin 128) : (iblk m c 3 t : FVec Ideal S1x1024x128 .f32) (ix3 0 r d)
    = (V m c main_v83 : FVec Ideal S5x4096x128 .f32) (ix3 ⟨seg (t.val % 12), seg_lt _⟩ ⟨t.val / 12 % 4 * 1024 + r.val, by omega⟩ d) := by
  blk_ext [iblk, tables t]

theorem read4 (r : Fin 1024) (d : Fin 128) : (iblk m c 4 t : FVec Ideal S1x1024x128 .f32) (ix3 0 r d)
    = (V m c main_v89 : FVec Ideal S5x4096x128 .f32) (ix3 ⟨seg (t.val % 12), seg_lt _⟩ ⟨t.val / 12 % 4 * 1024 + r.val, by omega⟩ d) := by
  blk_ext [iblk, tables t]

theorem read5 (r : Fin 32) (C : Fin 12288) : (iblk m c 5 t : FVec Ideal S1x32x12288 .f32) (ix3 0 r C)
    = (m ((c : Thread nD τ).loc main_arg3) : FVec Ideal S4x4096x12288 .f32) (ix3 0 ⟨min t.val 127 * 32 + r.val, by omega⟩ C) := by
  blk_ext [iblk, V_main_arg3, casts t]

theorem read6 (r : Fin 32) (C : Fin 4096) : (iblk m c 6 t : FVec Ideal S1x32x4096 .f32) (ix3 0 r C)
    = (m ((c : Thread nD τ).loc main_arg4) : FVec Ideal S4x4096x4096 .f32) (ix3 0 ⟨min t.val 127 * 32 + r.val, by omega⟩ C) := by
  blk_ext [iblk, V_main_arg4, casts t]
end Reads

/-- A block of the projection. -/
theorem acc_at (h : FVec Ideal S1024x4096 .bf16) (w : FVec Ideal S4096x512 .bf16) (s : FVec Ideal S1024x1 .f32) (r : Fin 1024) (C : Fin 512) :
    k0_pay4 (F := Ideal) h w s (ix2 r C) = (∑ k : Fin 4096, h (ix2 r k) * w (ix2 k C)) * Dense.inv (s (ix2 r 0)) := by
  unfold Dense.inv
  pointwise [k0_pay4]

section Heads
variable (T : FVec Ideal S1024x512 .f32) (M S : FVec Ideal S1x1024x128 .f32)

/-- What a grid point stores of its head `n`. -/
def head (n : ℕ) (hn : n < 4) (r : Fin 1024) (d : Fin 128) : EReal :=
  T (ix2 r ⟨n * 128 + d.val, by omega⟩) * M (ix3 0 r d) + T (ix2 r ⟨n * 128 + (d.val + 64) % 128, by omega⟩) * S (ix3 0 r d)

theorem piece0 (h : FVec Ideal S1024x4096 .bf16) (w : FVec Ideal S4096x512 .bf16) (s : FVec Ideal S1024x1 .f32) (hT : k0_pay4 (F := Ideal) h w s = T) (r : Fin 1024) (d : Fin 128) :
    k0_pay8 (F := Ideal) (k0_pay6 h w s M) (k0_pay7 h w s S) (ix2 r d) = head T M S 0 (by omega) r d := by
  unfold k0_pay8 k0_pay6 k0_pay7 k0_pay5 head
  rw [hT]
  have e : (d.val + 128 - 64) % 128 = (d.val + 64) % 128 := by omega
  pointwise
  simp only [e]

theorem piece1 (r : Fin 1024) (d : Fin 128) : k0_pay9 (F := Ideal) T M S (ix2 r d) = head T M S 1 (by omega) r d := by
  have e : (d.val + 128 - 64) % 128 = (d.val + 64) % 128 := by omega
  unfold head
  pointwise [k0_pay9]
  simp only [e]

theorem piece2 (r : Fin 1024) (d : Fin 128) : k0_pay10 (F := Ideal) T M S (ix2 r d) = head T M S 2 (by omega) r d := by
  have e : (d.val + 128 - 64) % 128 = (d.val + 64) % 128 := by omega
  unfold head
  pointwise [k0_pay10]
  simp only [e]

theorem piece3 (r : Fin 1024) (d : Fin 128) : k0_pay1 (F := Ideal) (k0_pay12 T M) (k0_pay13 T) S (ix2 r d) = head T M S 3 (by omega) r d := by
  have e : (d.val + 128 - 64) % 128 = (d.val + 64) % 128 := by omega
  unfold head
  pointwise [k0_pay1, k0_pay12, k0_pay13, k0_pay11]
  simp only [e]
end Heads

/-- Its column of the tables. -/
theorem mult_at (c : Dev nD) (t : Fin cfg0.N) (r : Fin 1024) (d : Fin 128) : (iblk m c 3 t : FVec Ideal S1x1024x128 .f32) (ix3 0 r d)
    = if t.val % 12 < 5 then cosines (ix2 ⟨t.val / 12 % 4 * 1024 + r.val, by omega⟩ ⟨d.val % 64, by omega⟩) else 1 := by
  rw [read3, entry83, stack_at, laid_at, flat_one]
  simp only [seg_turned, ite_self]

theorem rot_at (c : Dev nD) (t : Fin cfg0.N) (r : Fin 1024) (d : Fin 128) : (iblk m c 4 t : FVec Ideal S1x1024x128 .f32) (ix3 0 r d)
    = if t.val % 12 < 5 then (if d.val < 64 then -sines (ix2 ⟨t.val / 12 % 4 * 1024 + r.val, by omega⟩ ⟨d.val % 64, by omega⟩) else sines (ix2 ⟨t.val / 12 % 4 * 1024 + r.val, by omega⟩ ⟨d.val % 64, by omega⟩)) else 0 := by
  rw [read4, entry89, stack_at, laid_at, flat_zero]
  simp only [seg_turned]
  rfl

/-- A block of the projection, among the result's elements. -/
theorem acc_point (c : Dev nD) (t : Fin cfg0.N) (H : FVec Ideal S1024x4096 .bf16) (W : FVec Ideal S4096x512 .bf16) (S : FVec Ideal S1024x1 .f32)
    (hH : ∀ (r : Fin 1024) (k : Fin 4096), H (ix2 r k) = (iblk m c 0 t : FVec Ideal S1024x4096 .bf16) (ix2 r k))
    (hW : ∀ (k : Fin 4096) (C : Fin 512), W (ix2 k C) = (iblk m c 2 t : FVec Ideal S4096x512 .bf16) (ix2 k C))
    (hS : ∀ r : Fin 1024, S (ix2 r 0) = (iblk m c 1 t : FVec Ideal S1024x1 .f32) (ix2 r 0))
    (r : Fin 1024) (C : Fin 512) : k0_pay4 (F := Ideal) H W S (ix2 r C)
      = qkv (m ((c : Thread nD τ).loc main_arg0)) (m ((c : Thread nD τ).loc main_arg1)) (m ((c : Thread nD τ).loc main_arg2)) ⟨t.val / 12 * 1024 + r.val, by have := lt0 t; omega⟩ ⟨t.val % 12 * 512 + C.val, by omega⟩ := by
  refine (acc_at _ _ _ r C).trans ?_
  unfold qkv proj
  rw [hS, read1, entry6, squares_at]
  have e0 : ∀ k : Fin 4096, H (ix2 r k) = _ := fun k => ((hH r k).trans (read0 m c t r k)).trans (by rw [entry3, gained_at])
  have e2 : ∀ k : Fin 4096, W (ix2 k C) = _ := fun k => ((hW k C).trans (read2 m c t k C)).trans (by rw [entry7])
  simp only [e0, e2]

/-- A stored head is the result's. -/
theorem point (c : Dev nD) (t : Fin cfg0.N) (T : FVec Ideal S1024x512 .f32) (M S : FVec Ideal S1x1024x128 .f32)
    (hT : ∀ (r : Fin 1024) (C : Fin 512), T (ix2 r C) = qkv (m ((c : Thread nD τ).loc main_arg0)) (m ((c : Thread nD τ).loc main_arg1)) (m ((c : Thread nD τ).loc main_arg2)) ⟨t.val / 12 * 1024 + r.val, by have := lt0 t; omega⟩ ⟨t.val % 12 * 512 + C.val, by omega⟩)
    (hM : ∀ (r : Fin 1024) (d : Fin 128), M (ix3 0 r d) = (iblk m c 3 t : FVec Ideal S1x1024x128 .f32) (ix3 0 r d))
    (hS : ∀ (r : Fin 1024) (d : Fin 128), S (ix3 0 r d) = (iblk m c 4 t : FVec Ideal S1x1024x128 .f32) (ix3 0 r d))
    (n : ℕ) (hn : n < 4) (r : Fin 1024) (d : Fin 128) (Y : S16384x6144.Idx)
    (hY0 : (Y 0).val = t.val / 12 * 1024 + r.val) (hY1 : (Y 1).val = t.val % 12 * 512 + (n * 128 + d.val)) :
    head T M S n hn r d = OUT (m ((c : Thread nD τ).loc main_arg0)) (m ((c : Thread nD τ).loc main_arg1)) (m ((c : Thread nD τ).loc main_arg2)) cosines sines Y := by
  have ht := lt0 t
  have hR : (⟨(Y 0).val, (Y 0).isLt⟩ : Fin 16384) = ⟨t.val / 12 * 1024 + r.val, by omega⟩ := Fin.ext hY0
  have hC : (⟨(Y 1).val, (Y 1).isLt⟩ : Fin 6144) = ⟨t.val % 12 * 512 + (n * 128 + d.val), by omega⟩ := Fin.ext hY1
  unfold OUT
  rw [hR, hC]
  unfold head turned
  rw [hT, hT, hM, hS, mult_at, rot_at]
  unfold cosAt sinAt column partner
  generalize qkv (m ((c : Thread nD τ).loc main_arg0)) (m ((c : Thread nD τ).loc main_arg1)) (m ((c : Thread nD τ).loc main_arg2)) ⟨t.val / 12 * 1024 + r.val, by omega⟩ = a
  have i0 : (⟨(t.val / 12 * 1024 + r.val) % 4096, by omega⟩ : Fin 4096) = ⟨t.val / 12 % 4 * 1024 + r.val, by omega⟩ := Fin.ext (by show (t.val / 12 * 1024 + r.val) % 4096 = t.val / 12 % 4 * 1024 + r.val; omega)
  have i1 : (⟨(t.val % 12 * 512 + (n * 128 + d.val)) % 64, by omega⟩ : Fin 64) = ⟨d.val % 64, by omega⟩ := Fin.ext (by show (t.val % 12 * 512 + (n * 128 + d.val)) % 64 = d.val % 64; omega)
  have i2 : (⟨(t.val % 12 * 512 + (n * 128 + d.val)) / 128 * 128 + ((t.val % 12 * 512 + (n * 128 + d.val)) % 128 + 64) % 128, by omega⟩ : Fin 9216) = ⟨t.val % 12 * 512 + (n * 128 + (d.val + 64) % 128), by omega⟩ :=
    Fin.ext (by show (t.val % 12 * 512 + (n * 128 + d.val)) / 128 * 128 + ((t.val % 12 * 512 + (n * 128 + d.val)) % 128 + 64) % 128 = t.val % 12 * 512 + (n * 128 + (d.val + 64) % 128); omega)
  have i3 : ((t.val % 12 * 512 + (n * 128 + d.val)) % 128 < 64) = (d.val < 64) := propext (by omega)
  have i4 : (t.val % 12 * 512 + (n * 128 + d.val) < 2560) = (t.val % 12 < 5) := propext (by omega)
  simp only [i0, i1, i2, i3, i4]
  by_cases h : t.val % 12 < 5
  · simp only [if_pos h]
  · simp only [if_neg h, mul_one, mul_zero, add_zero]

theorem final7 (c : Dev nD) : ((dats m 0 c).arrAt 7 cfg0.N : FVec Ideal S16384x6144 .bf16) = OUT (m ((c : Thread nD τ).loc main_arg0)) (m ((c : Thread nD τ).loc main_arg1)) (m ((c : Thread nD τ).loc main_arg2)) cosines sines := by
  refine (dats m 0 c).arrAt_eq_of_covers 7 _ (by decide +kernel) fun t hf y => ?_
  blk_simp
  rw [after0_7]
  unfold out0_7
  obtain ⟨Y, e⟩ : ∃ Y : S16384x6144.Idx, Y = ((View.whole main_v90_0).slice (win0_7.rect t)).emb y := ⟨_, rfl⟩
  have e0 : (Y 0).val = t.val / 12 * 1024 + (y 0).val := by rw [e]; blk_simp [idx t]
  have e1 : (Y 1).val = t.val % 12 * 512 + (y 1).val := by rw [e]; blk_simp [idx t]
  rw [← e]
  clear e
  have hT : ∀ (r : Fin 1024) (C : Fin 512), k0_pay14 (F := Ideal) (iblk m c 0 t) (iblk m c 1 t) (iblk m c 2 t) (iblk m c 3 t) (iblk m c 4 t) (iblk m c 5 t) (iblk m c 6 t) (ix2 r C)
      = qkv (m ((c : Thread nD τ).loc main_arg0)) (m ((c : Thread nD τ).loc main_arg1)) (m ((c : Thread nD τ).loc main_arg2)) ⟨t.val / 12 * 1024 + r.val, by have := lt0 t; omega⟩ ⟨t.val % 12 * 512 + C.val, by omega⟩ := by
    unfold k0_pay14
    refine acc_point m c t _ _ _ ?_ ?_ ?_
    all_goals first | (intro r k; pointwise) | (intro r; pointwise)
  have hM : ∀ (r : Fin 1024) (d : Fin 128), (View.ld (iblk m c 3 t : FVec Ideal S1x1024x128 .f32) r0_7 : FVec Ideal S1x1024x128 .f32) (ix3 0 r d) = (iblk m c 3 t : FVec Ideal S1x1024x128 .f32) (ix3 0 r d) := fun r d => by pointwise
  have hS : ∀ (r : Fin 1024) (d : Fin 128), (View.ld (iblk m c 4 t : FVec Ideal S1x1024x128 .f32) r0_7 : FVec Ideal S1x1024x128 .f32) (ix3 0 r d) = (iblk m c 4 t : FVec Ideal S1x1024x128 .f32) (ix3 0 r d) := fun r d => by pointwise
  canon_tiles x h
  all_goals idx_vars x
  · refine (piece3 _ _ _ _ _).trans (point m c t _ _ _ hT hM hS 3 _ _ _ _ (by rw [e0, h0]) (by rw [e1, h1]))
  · refine (piece2 _ _ _ _ _).trans (point m c t _ _ _ hT hM hS 2 _ _ _ _ (by rw [e0, h0]) (by rw [e1, h1]))
  · refine (piece1 _ _ _ _ _).trans (point m c t _ _ _ hT hM hS 1 _ _ _ _ (by rw [e0, h0]) (by rw [e1, h1]))
  · refine (piece0 _ _ _ _ _ _ rfl _ _).trans (point m c t _ _ _ hT hM hS 0 _ _ _ _ (by rw [e0, h0]) (by rw [e1, h1]; omega))

/-- The rows of the first cast weight that a grid point stores. -/
theorem point8 (c : Dev nD) (t : Fin cfg0.N) (H : FVec Ideal S1x32x12288 .f32)
    (hH : ∀ (r : Fin 32) (k : Fin 12288), H (ix3 0 r k) = (iblk m c 5 t : FVec Ideal S1x32x12288 .f32) (ix3 0 r k))
    (r : Fin 32) (C : Fin 12288) (Y : S4096x12288.Idx) (hY0 : (Y 0).val = min t.val 127 * 32 + r.val) (hY1 : (Y 1).val = C.val) :
    k0_pay2 (F := Ideal) H (ix2 r C) = CAST1 (m ((c : Thread nD τ).loc main_arg3)) Y := by
  have ht := lt0 t
  have hR : (⟨(Y 0).val, (Y 0).isLt⟩ : Fin 4096) = ⟨min t.val 127 * 32 + r.val, by omega⟩ := Fin.ext hY0
  have hC : (⟨(Y 1).val, (Y 1).isLt⟩ : Fin 12288) = C := Fin.ext hY1
  unfold CAST1
  rw [hR, hC]
  refine Eq.trans ?_ ((hH r C).trans (read5 m c t r C))
  pointwise [k0_pay2]

theorem final8 (c : Dev nD) : ((dats m 0 c).arrAt 8 cfg0.N : FVec Ideal S4096x12288 .bf16) = CAST1 (m ((c : Thread nD τ).loc main_arg3)) := by
  refine (dats m 0 c).arrAt_eq_of_covers 8 _ (by decide +kernel) fun t hf y => ?_
  blk_simp
  rw [after0_8]
  unfold out0_8
  obtain ⟨Y, e⟩ : ∃ Y : S4096x12288.Idx, Y = ((View.whole main_v90_1).slice (win0_8.rect t)).emb y := ⟨_, rfl⟩
  have e0 : (Y 0).val = min t.val 127 * 32 + (y 0).val := by rw [e]; blk_simp [casts t]
  have e1 : (Y 1).val = (y 1).val := by rw [e]; blk_simp [casts t]
  rw [← e]
  clear e
  canon_tiles x h
  idx_vars x
  refine point8 m c t _ ?_ _ _ _ (by rw [e0, h0]) (by rw [e1, h1])
  intro r k; pointwise

/-- The rows of the second cast weight that a grid point stores. -/
theorem point9 (c : Dev nD) (t : Fin cfg0.N) (H : FVec Ideal S1x32x4096 .f32)
    (hH : ∀ (r : Fin 32) (k : Fin 4096), H (ix3 0 r k) = (iblk m c 6 t : FVec Ideal S1x32x4096 .f32) (ix3 0 r k))
    (r : Fin 32) (C : Fin 4096) (Y : S4096x4096.Idx) (hY0 : (Y 0).val = min t.val 127 * 32 + r.val) (hY1 : (Y 1).val = C.val) :
    k0_pay3 (F := Ideal) H (ix2 r C) = CAST2 (m ((c : Thread nD τ).loc main_arg4)) Y := by
  have ht := lt0 t
  have hR : (⟨(Y 0).val, (Y 0).isLt⟩ : Fin 4096) = ⟨min t.val 127 * 32 + r.val, by omega⟩ := Fin.ext hY0
  have hC : (⟨(Y 1).val, (Y 1).isLt⟩ : Fin 4096) = C := Fin.ext hY1
  unfold CAST2
  rw [hR, hC]
  refine Eq.trans ?_ ((hH r C).trans (read6 m c t r C))
  pointwise [k0_pay3]

theorem final9 (c : Dev nD) : ((dats m 0 c).arrAt 9 cfg0.N : FVec Ideal S4096x4096 .bf16) = CAST2 (m ((c : Thread nD τ).loc main_arg4)) := by
  refine (dats m 0 c).arrAt_eq_of_covers 9 _ (by decide +kernel) fun t hf y => ?_
  blk_simp
  rw [after0_9]
  unfold out0_9
  obtain ⟨Y, e⟩ : ∃ Y : S4096x4096.Idx, Y = ((View.whole main_v90_2).slice (win0_9.rect t)).emb y := ⟨_, rfl⟩
  have e0 : (Y 0).val = min t.val 127 * 32 + (y 0).val := by rw [e]; blk_simp [casts t]
  have e1 : (Y 1).val = (y 1).val := by rw [e]; blk_simp [casts t]
  rw [← e]
  clear e
  canon_tiles x h
  idx_vars x
  refine point9 m c t _ ?_ _ _ _ (by rw [e0, h0]) (by rw [e1, h1])
  intro r k; pointwise

end

theorem same : algebraic_Kernel5Ideal_Reference5Ideal := by
  intro m g m' g' _ hargs
  refine ⟨fun c => OUT (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) cosines sines,
    fun c => CAST1 (m ((c.tc : Thread Cert.Kernel5Ideal.nD Cert.Kernel5Ideal.τ).loc Cert.Kernel5Ideal.main_arg3)), fun c => CAST2 (m ((c.tc : Thread Cert.Kernel5Ideal.nD Cert.Kernel5Ideal.τ).loc Cert.Kernel5Ideal.main_arg4)), ?_, ?_⟩
  · exact (θ_run _ _ _).mono (fun r h c => ⟨(h c).1.trans (final7 m c), (h c).2.1.trans (final8 m c), (h c).2.2.1.trans (final9 m c), (h c).2.2.2⟩) (Cert.Kernel5Ideal.Value.run_blocks m g)
  · refine (θ_run _ _ _).mono (fun r h c => ⟨(h c).1.trans ?_, (h c).2.1.trans ?_, (h c).2.2.1.trans ?_, (h c).2.2.2⟩) (Cert.Reference5Ideal.Value.run m' g')
    · obtain ⟨e0, e1, e2, e3, e4⟩ := hargs c
      rw [Cert.Reference5Ideal.Read.val_main_v79_eq, e0, e1, e2]
      exact reference_out _ _ _
    · obtain ⟨e0, e1, e2, e3, e4⟩ := hargs c
      rw [Cert.Reference5Ideal.Read.val_main_v82_eq, e3]
      exact reference_cast1 _
    · obtain ⟨e0, e1, e2, e3, e4⟩ := hargs c
      rw [Cert.Reference5Ideal.Read.val_main_v85_eq, e4]
      exact reference_cast2 _

theorem frame_reference : quiescent_Reference5Ideal := fun m g _ =>
  (θ_run _ _ _).mono (fun r h => ⟨fun c => (h c).2.2.2, sem_eq_zero_of_no_sems (by decide) r.2⟩) (Cert.Reference5Ideal.Value.run m g)

theorem named : preserves_Kernel5_Kernel5Ideal := trivial

end Cert.QkvAB

end
-- ==== Proof.QkvC.lean ====
/- The projection to queries, keys and values of the third mixer, its queries and keys turned by the rotary embedding. Heads are 64 lanes
   wide, two in a block of 128 lanes, so a lane's partner is 32 lanes on in the lower half of a head and 32 lanes back in the upper:
   the two rotations of the block, one picked at each lane. -/
module

public import proofs.«01_k».proof.Proof.Dense
public import proofs.«01_k».proof.Defs
public import proofs.«01_k».proof.Proof.Gen.Kernel6Ideal.Value
public import proofs.«01_k».proof.Proof.Gen.Reference6Ideal.Read
public import Idealize.ShloMosaic.Lib.Pipeline.ValueKit

@[expose] public section

set_option maxRecDepth 65536
noncomputable section
open Idealize.ShloMosaic Idealize.ShloMosaic.TcCoe Idealize.SL.Sem
open Idealize.ShloMosaic.Pipeline (Dat)

namespace Cert.QkvC
open Cert.Dense

section
open Cert.Kernel6Ideal

/-- A projected element of the normed row. -/
def qkv (x : FVec Ideal S16384x4096 .f32) (g : FVec Ideal S4096 .f32) (w : FVec Ideal S4096x9216 .f32) (R : Fin 16384) (C : Fin 9216) : EReal :=
  proj (fun k => x (ix2 R k)) (fun k => g (ix1 k)) (fun k => w (ix2 k C))

/-- Where the other half of a rotated pair stands. -/
def partner (C : Fin 3072) : Fin 9216 := ⟨6144 + (C.val / 64 * 64 + (C.val % 64 + 32) % 64), by omega⟩

/-- A column of the result among the columns of the weight. -/
def column (C : Fin 3072) : Fin 9216 := ⟨6144 + C.val, by omega⟩

/-- The cosine that an element is multiplied by. -/
def cosAt (cs : FVec Ideal S4096x32 .f32) (R : Fin 16384) (C : Fin 3072) : EReal := cs (ix2 ⟨R.val % 4096, by omega⟩ ⟨C.val % 32, by omega⟩)

/-- The sine that its partner is multiplied by. -/
def sinAt (sn : FVec Ideal S4096x32 .f32) (R : Fin 16384) (C : Fin 3072) : EReal :=
  if C.val % 64 < 32 then -sn (ix2 ⟨R.val % 4096, by omega⟩ ⟨C.val % 32, by omega⟩) else sn (ix2 ⟨R.val % 4096, by omega⟩ ⟨C.val % 32, by omega⟩)

/-- An element of the result: turned in the queries and keys. -/
def turned (a : Fin 9216 → EReal) (cs sn : FVec Ideal S4096x32 .f32) (R : Fin 16384) (C : Fin 3072) : EReal :=
  if C.val < 2048 then a (column C) * cosAt cs R C + a (partner C) * sinAt sn R C else a (column C)

/-- The whole result. -/
def OUT (x : FVec Ideal S16384x4096 .f32) (g : FVec Ideal S4096 .f32) (w : FVec Ideal S4096x9216 .f32) (cs sn : FVec Ideal S4096x32 .f32) : FVec Ideal S16384x3072 .bf16 :=
  fun j => turned (qkv x g w ⟨(j 0).val, (j 0).isLt⟩) cs sn ⟨(j 0).val, (j 0).isLt⟩ ⟨(j 1).val, (j 1).isLt⟩

end

section
open Cert.Reference6Ideal Cert.Reference6Ideal.Gen Cert.Reference6Ideal.Read
variable (x : FVec Ideal S16384x4096 .f32) (g : FVec Ideal S4096 .f32) (w : FVec Ideal S4096x9216 .f32)

/-- The cosines of the positions' angles. -/
def cosines : FVec Ideal S4096x32 .f32 := val_main_v34 (F := Ideal)

/-- The sines. -/
def sines : FVec Ideal S4096x32 .f32 := val_main_v35 (F := Ideal)

theorem normed_at (R : Fin 16384) (k : Fin 4096) : val_main_v12 (F := Ideal) x g (ix2 R k) = x (ix2 R k) * inv (ssq fun k => x (ix2 R k)) * g (ix1 k) := by
  rw [← inv_eq_mean]
  unfold ssq
  pointwise [val_main_v12, val_main_v11, val_main_v10, val_main_v9, val_main_v8, val_main_v7, val_main_v6, val_main_v5, val_main_cst_1, val_main_v4, val_main_v3, val_main_cst_0, val_main_v2, val_main_v1, val_main_cst, val_main_v0]

theorem dot_at (R : Fin 16384) (C : Fin 9216) : val_main_v13 (F := Ideal) x g w (ix2 R C) = qkv x g w R C := by
  unfold qkv
  rw [← proj_eq]
  have h := normed_at x g R
  unfold val_main_v13
  generalize val_main_v12 (F := Ideal) x g = A at h ⊢
  pointwise
  exact Finset.sum_congr rfl fun k _ => by rw [h k]

theorem queries_at (R : Fin 16384) (C : Fin 1024) : val_main_v76 (F := Ideal) x g w (ix2 R C)
    = turned (fun C => val_main_v13 (F := Ideal) x g w (ix2 R C)) cosines sines R ⟨C.val, by omega⟩ := by
  unfold cosines sines turned
  rw [if_pos (show C.val < 2048 by omega)]
  unfold cosAt sinAt column partner
  unfold val_main_v76 val_main_v55 val_main_v54 val_main_v53 val_main_v52 val_main_v51 val_main_v50 val_main_v49 val_main_v48 val_main_v47 val_main_v46 val_main_v45 val_main_v44 val_main_v43 val_main_v42 val_main_v41 val_main_v40 val_main_v39 val_main_v38 val_main_v37 val_main_v36 val_main_v14
  generalize val_main_v13 (F := Ideal) x g w = A
  generalize val_main_v34 (F := Ideal) = cs
  generalize val_main_v35 (F := Ideal) = sn
  pointwise
  by_cases h : C.val % 64 < 32
  · have e1 : C.val % 32 = C.val % 64 := by omega
    have e2 : (C.val % 64 + 32) % 64 = 32 + C.val % 64 := by omega
    rw [dif_pos h]
    simp only [if_pos h, e1, e2, sub_eq_add_neg, mul_neg, ← add_assoc, Nat.reduceAdd]
  · have e1 : C.val % 32 = C.val % 64 - 32 := by omega
    have e2 : (C.val % 64 + 32) % 64 = C.val % 64 - 32 := by omega
    have e3 : C.val / 64 * 64 + (32 + (C.val % 64 - 32)) = C.val := by omega
    rw [dif_neg h]
    simp only [if_neg h, e1, e2, e3, ← add_assoc, Nat.reduceAdd]

theorem keys_at (R : Fin 16384) (C : Fin 1024) : val_main_v77 (F := Ideal) x g w (ix2 R C)
    = turned (fun C => val_main_v13 (F := Ideal) x g w (ix2 R C)) cosines sines R ⟨1024 + C.val, by omega⟩ := by
  unfold cosines sines turned
  rw [if_pos (show 1024 + C.val < 2048 by omega)]
  unfold cosAt sinAt column partner
  have f1 : (1024 + C.val) / 64 * 64 = 1024 + C.val / 64 * 64 := by omega
  have f2 : (1024 + C.val) % 64 = C.val % 64 := by omega
  have f3 : (1024 + C.val) % 32 = C.val % 32 := by omega
  simp only [f1, f2, f3]
  unfold val_main_v77 val_main_v75 val_main_v74 val_main_v73 val_main_v72 val_main_v71 val_main_v70 val_main_v69 val_main_v68 val_main_v67 val_main_v66 val_main_v65 val_main_v64 val_main_v63 val_main_v62 val_main_v61 val_main_v60 val_main_v59 val_main_v58 val_main_v57 val_main_v56 val_main_v15
  generalize val_main_v13 (F := Ideal) x g w = A
  generalize val_main_v34 (F := Ideal) = cs
  generalize val_main_v35 (F := Ideal) = sn
  pointwise
  by_cases h : C.val % 64 < 32
  · have e1 : C.val % 32 = C.val % 64 := by omega
    have e2 : (C.val % 64 + 32) % 64 = 32 + C.val % 64 := by omega
    rw [dif_pos h]
    simp only [if_pos h, e1, e2, sub_eq_add_neg, mul_neg, ← add_assoc, Nat.reduceAdd]
  · have e1 : C.val % 32 = C.val % 64 - 32 := by omega
    have e2 : (C.val % 64 + 32) % 64 = C.val % 64 - 32 := by omega
    have e3 : C.val / 64 * 64 + (32 + (C.val % 64 - 32)) = C.val := by omega
    rw [dif_neg h]
    simp only [if_neg h, e1, e2, e3, ← add_assoc, Nat.reduceAdd]

theorem passed_at (R : Fin 16384) (C : Fin 1024) : val_main_v16 (F := Ideal) x g w (ix2 R C) = val_main_v13 (F := Ideal) x g w (ix2 R ⟨8192 + C.val, by omega⟩) := by
  unfold val_main_v16
  generalize val_main_v13 (F := Ideal) x g w = A
  pointwise

theorem out_at (R : Fin 16384) (C : Fin 3072) : val_main_v79 (F := Ideal) x g w (ix2 R C) = turned (qkv x g w R) cosines sines R C := by
  have hd : qkv x g w R = fun C => val_main_v13 (F := Ideal) x g w (ix2 R C) := funext fun C => (dot_at x g w R C).symm
  rw [hd]
  have hq := queries_at x g w R
  have hk := keys_at x g w R
  have hv := passed_at x g w R
  unfold val_main_v79 val_main_v78
  generalize val_main_v76 (F := Ideal) x g w = Q at hq ⊢
  generalize val_main_v77 (F := Ideal) x g w = K at hk ⊢
  generalize val_main_v16 (F := Ideal) x g w = V at hv ⊢
  pointwise
  by_cases h1 : C.val < 1024
  · rw [dif_pos h1]
    exact hq ⟨C.val, h1⟩
  · rw [dif_neg h1]
    by_cases h2 : C.val - 1024 < 1024
    · rw [dif_pos h2]
      refine (hk ⟨C.val - 1024, h2⟩).trans ?_
      exact congrArg _ (Fin.ext (by show 1024 + (C.val - 1024) = C.val; omega))
    · rw [dif_neg h2]
      refine (hv ⟨C.val - 1024 - 1024, by omega⟩).trans ?_
      unfold turned column
      rw [if_neg (by omega)]
      exact congrArg _ (congrArg _ (Fin.ext (by show 8192 + (C.val - 1024 - 1024) = 6144 + C.val; omega)))

theorem reference_out : val_main_v79 (F := Ideal) x g w = OUT x g w cosines sines := by
  funext j
  idx_vars j
  exact out_at x g w _ _

end

section
open Cert.Kernel6Ideal Cert.Kernel6Ideal.Gen
variable (m : (ℓ : Loc nD τ sig) → Buf (Elt Ideal) ℓ)

theorem idx : ∀ t : Fin cfg0.N, win0_0.index t = ![t.val / 3, 0] ∧ win0_1.index t = ![t.val / 3, 0] ∧ win0_2.index t = ![0, 6 + t.val % 3]
    ∧ win0_5.index t = ![t.val / 3, t.val % 3] ∧ t.val < 48 :=
  (by decide +kernel : ∀ t : Fin grid0.N, _)

theorem tables : ∀ t : Fin cfg0.N, win0_3.index t = ![t.val % 3, t.val / 3 % 4, 0] ∧ win0_4.index t = ![t.val % 3, t.val / 3 % 4, 0] :=
  (by decide +kernel : ∀ t : Fin grid0.N, _)

theorem lt0 (t : Fin cfg0.N) : t.val < 48 := (idx t).2.2.2.2

section Host
variable (x : FVec Ideal S16384x4096 .f32) (g : FVec Ideal S4096 .f32)

/-- The operand the call before hands over: the row times the gain. -/
def gained : FVec Ideal S16384x4096 .bf16 :=
  truncf .bf16 (mulf x (broadcastInDim S16384x4096 ![0, 1] bcast_S1x4096_S16384x4096_0_1 (broadcastInDim S1x4096 ![1] bcast_S4096_S1x4096_1 g))) bitsLt_bf16_f32

/-- And the rows' sums of squares. -/
def squares : FVec Ideal S16384x1 .f32 :=
  broadcastInDim S16384x1 ![0] bcast_S16384_S16384x1_0 (Host.reduceAdd (mulf x x) (constant S_ .f32 0x00000000#32) reducesTo_S16384x4096_S16384_d1 h_S_)

theorem gained_at (R : Fin 16384) (k : Fin 4096) : gained x g (ix2 R k) = x (ix2 R k) * g (ix1 k) := by
  pointwise [gained]

theorem squares_at (R : Fin 16384) : squares x (ix2 R 0) = ssq fun k => x (ix2 R k) := by
  unfold ssq
  pointwise [squares]
end Host

/-- A table of two halves repeated, as the host lays it out. -/
def laid (a b : FVec Ideal S4096x32 .f32) : FVec Ideal S4096x128 .f32 :=
  mulf (shapeCast S4096x128 (broadcastInDim S1x4096x2x64 ![0, 1, 2, 3] bcast_S1x4096x1x64_S1x4096x2x64_0_1_2_3
    (shapeCast S1x4096x1x64 (concatenate S4096x64 1 [⟨S4096x32, a⟩, ⟨S4096x32, b⟩] concatenates_S4096x32_S4096x32_S4096x64_d1) shapeCasts_S4096x64_S1x4096x1x64)) shapeCasts_S1x4096x2x64_S4096x128)
    (broadcastInDim S4096x128 ![] bcast_S_S4096x128 (constant S_ .f32 0x3F800000#32))

/-- A constant table. -/
def flat (b : BitVec 32) : FVec Ideal S4096x128 .f32 := broadcastInDim S4096x128 ![] bcast_S_S4096x128 (constant S_ .f32 b)

/-- Three tables stacked, two of them the same. -/
def stack (a z : FVec Ideal S4096x128 .f32) : FVec Ideal S3x4096x128 .f32 :=
  concatenate S3x4096x128 0 [⟨S1x4096x128, broadcastInDim S1x4096x128 ![1, 2] bcast_S4096x128_S1x4096x128_1_2 a⟩,
    ⟨S1x4096x128, broadcastInDim S1x4096x128 ![1, 2] bcast_S4096x128_S1x4096x128_1_2 a⟩,
    ⟨S1x4096x128, broadcastInDim S1x4096x128 ![1, 2] bcast_S4096x128_S1x4096x128_1_2 z⟩]
    concatenates_S1x4096x128_S1x4096x128_S1x4096x128_S3x4096x128_d0

theorem laid_at (a b : FVec Ideal S4096x32 .f32) (p : Fin 4096) (d : Fin 128) : laid a b (ix2 p d)
    = if d.val % 64 < 32 then a (ix2 p ⟨d.val % 32, by omega⟩) else b (ix2 p ⟨d.val % 32, by omega⟩) := by
  pointwise [laid]
  by_cases h : d.val % 64 < 32
  · have e : d.val % 32 = d.val % 64 := by omega
    rw [dif_pos h, if_pos h]
    simp only [e]
  · have e : d.val % 32 = d.val % 64 - 32 := by omega
    rw [dif_neg h, if_neg h]
    simp only [e]

theorem flat_one (p : Fin 4096) (d : Fin 128) : flat 0x3F800000#32 (ix2 p d) = 1 := by
  pointwise [flat]

theorem flat_zero (p : Fin 4096) (d : Fin 128) : flat 0x00000000#32 (ix2 p d) = 0 := by
  pointwise [flat]

theorem stack_at (a z : FVec Ideal S4096x128 .f32) (s : Fin 3) (p : Fin 4096) (d : Fin 128) : stack a z (ix3 s p d)
    = if s.val < 2 then a (ix2 p d) else z (ix2 p d) := by
  unfold stack
  pointwise
  fin_vals s with hs <;> simp [hs]

theorem entry3 (c : Dev nD) : (V m c main_v3 : FVec Ideal S16384x4096 .bf16) = gained (m ((c : Thread nD τ).loc main_arg0)) (m ((c : Thread nD τ).loc main_arg1)) := by
  show StableHlo.after hostOps0 (fun b => m (c, b)) (Proc.devRef .tc main_v3) = _
  simp only [hostOps0, List.flatten_cons, List.flatten_nil, List.append_nil, List.cons_append, List.nil_append, StableHlo.after_cons, StableHlo.after_nil]
  after_results_simp
  rfl

theorem entry6 (c : Dev nD) : (V m c main_v6 : FVec Ideal S16384x1 .f32) = squares (m ((c : Thread nD τ).loc main_arg0)) := by
  show StableHlo.after hostOps0 (fun b => m (c, b)) (Proc.devRef .tc main_v6) = _
  simp only [hostOps0, List.flatten_cons, List.flatten_nil, List.append_nil, List.cons_append, List.nil_append, StableHlo.after_cons, StableHlo.after_nil]
  after_results_simp
  rfl

theorem entry7 (c : Dev nD) : (V m c main_v7 : FVec Ideal S4096x9216 .bf16) = (m ((c : Thread nD τ).loc main_arg2) : FVec Ideal S4096x9216 .f32) := by
  show StableHlo.after hostOps0 (fun b => m (c, b)) (Proc.devRef .tc main_v7) = _
  simp only [hostOps0, List.flatten_cons, List.flatten_nil, List.append_nil, List.cons_append, List.nil_append, StableHlo.after_cons, StableHlo.after_nil]
  after_results_simp
  rfl

theorem entry77 (c : Dev nD) : (V m c main_v77 : FVec Ideal S3x4096x128 .f32) = stack (laid cosines cosines) (flat 0x3F800000#32) := by
  show StableHlo.after hostOps0 (fun b => m (c, b)) (Proc.devRef .tc main_v77) = _
  simp only [hostOps0, List.flatten_cons, List.flatten_nil, List.append_nil, List.cons_append, List.nil_append, StableHlo.after_cons, StableHlo.after_nil]
  after_results_simp
  rfl

theorem entry81 (c : Dev nD) : (V m c main_v81 : FVec Ideal S3x4096x128 .f32) = stack (laid (Host.negf sines) sines) (flat 0x00000000#32) := by
  show StableHlo.after hostOps0 (fun b => m (c, b)) (Proc.devRef .tc main_v81) = _
  simp only [hostOps0, List.flatten_cons, List.flatten_nil, List.append_nil, List.cons_append, List.nil_append, StableHlo.after_cons, StableHlo.after_nil]
  after_results_simp
  rfl

section Reads
variable (c : Dev nD) (t : Fin cfg0.N)

theorem read0 (r : Fin 1024) (k : Fin 4096) : (iblk m c 0 t : FVec Ideal S1024x4096 .bf16) (ix2 r k)
    = (V m c main_v3 : FVec Ideal S16384x4096 .bf16) (ix2 ⟨t.val / 3 * 1024 + r.val, by have := lt0 t; omega⟩ k) := by
  blk_ext [iblk, idx t]

theorem read1 (r : Fin 1024) : (iblk m c 1 t : FVec Ideal S1024x1 .f32) (ix2 r 0)
    = (V m c main_v6 : FVec Ideal S16384x1 .f32) (ix2 ⟨t.val / 3 * 1024 + r.val, by have := lt0 t; omega⟩ 0) := by
  blk_ext [iblk, idx t]

theorem read2 (k : Fin 4096) (C : Fin 1024) : (iblk m c 2 t : FVec Ideal S4096x1024 .bf16) (ix2 k C)
    = (V m c main_v7 : FVec Ideal S4096x9216 .bf16) (ix2 k ⟨(6 + t.val % 3) * 1024 + C.val, by omega⟩) := by
  blk_ext [iblk, idx t]

theorem read3 (r : Fin 1024) (d : Fin 128) : (iblk m c 3 t : FVec Ideal S1x1024x128 .f32) (ix3 0 r d)
    = (V m c main_v77 : FVec Ideal S3x4096x128 .f32) (ix3 ⟨t.val % 3, by omega⟩ ⟨t.val / 3 % 4 * 1024 + r.val, by omega⟩ d) := by
  blk_ext [iblk, tables t]

theorem read4 (r : Fin 1024) (d : Fin 128) : (iblk m c 4 t : FVec Ideal S1x1024x128 .f32) (ix3 0 r d)
    = (V m c main_v81 : FVec Ideal S3x4096x128 .f32) (ix3 ⟨t.val % 3, by omega⟩ ⟨t.val / 3 % 4 * 1024 + r.val, by omega⟩ d) := by
  blk_ext [iblk, tables t]

end Reads

/-- A block of the projection. -/
theorem acc_at (h : FVec Ideal S1024x4096 .bf16) (w : FVec Ideal S4096x1024 .bf16) (s : FVec Ideal S1024x1 .f32) (r : Fin 1024) (C : Fin 1024) :
    k0_pay2 (F := Ideal) h w s (ix2 r C) = (∑ k : Fin 4096, h (ix2 r k) * w (ix2 k C)) * Dense.inv (s (ix2 r 0)) := by
  unfold Dense.inv
  pointwise [k0_pay2]

section Heads

/-- Where the lower half of a head is. -/
theorem low_at (r : Fin 1024) (d : Fin 128) : k0_pay5 (ix2 r d) = if d.val % 64 < 32 then 1#1 else 0#1 :=
  (by decide +kernel : ∀ d : Fin 128, k0_pay5 (ix2 (0 : Fin 1024) d) = if d.val % 64 < 32 then 1#1 else 0#1) d

/-- A block of 128 lanes with its heads turned by the tables. -/
def turn (a : FVec Ideal S1024x128 .f32) (M S : FVec Ideal S1x1024x128 .f32) : FVec Ideal S1024x128 .bf16 :=
  truncf .bf16 (addf (mulf a (shapeCast S1024x128 M shapeCasts_S1x1024x128_S1024x128))
    (mulf (select k0_pay5 (dynamicRotate 1 96#32 none a rotates_S1024x128_d1) (dynamicRotate 1 32#32 none a rotates_S1024x128_d1))
      (shapeCast S1024x128 S shapeCasts_S1x1024x128_S1024x128))) bitsLt_bf16_f32

theorem turn_at (a : FVec Ideal S1024x128 .f32) (M S : FVec Ideal S1x1024x128 .f32) (r : Fin 1024) (d : Fin 128) : turn a M S (ix2 r d)
    = a (ix2 r d) * M (ix3 0 r d) + a (ix2 r ⟨d.val / 64 * 64 + (d.val % 64 + 32) % 64, by omega⟩) * S (ix3 0 r d) := by
  unfold turn
  have hl := low_at r d
  generalize k0_pay5 = L at hl ⊢
  pointwise
  rw [hl]
  by_cases h : d.val % 64 < 32
  · have e : (d.val + 128 - 96) % 128 = d.val / 64 * 64 + (d.val % 64 + 32) % 64 := by omega
    simp only [if_pos h, e]
    rfl
  · have e : (d.val + 128 - 32) % 128 = d.val / 64 * 64 + (d.val % 64 + 32) % 64 := by omega
    simp only [if_neg h, e]
    rfl

variable (T : FVec Ideal S1024x1024 .f32) (M S : FVec Ideal S1x1024x128 .f32)

/-- What a grid point stores of its block of lanes `n`. -/
def head (n : ℕ) (hn : n < 8) (r : Fin 1024) (d : Fin 128) : EReal :=
  T (ix2 r ⟨n * 128 + d.val, by omega⟩) * M (ix3 0 r d) + T (ix2 r ⟨n * 128 + (d.val / 64 * 64 + (d.val % 64 + 32) % 64), by omega⟩) * S (ix3 0 r d)

theorem piece0 (h : FVec Ideal S1024x4096 .bf16) (w : FVec Ideal S4096x1024 .bf16) (s : FVec Ideal S1024x1 .f32) (hT : k0_pay2 (F := Ideal) h w s = T) (r : Fin 1024) (d : Fin 128) :
    k0_pay7 (F := Ideal) (k0_pay3 h w s) (k0_pay4 h w s M) k0_pay5 (k0_pay6 h w s) S (ix2 r d) = head T M S 0 (by omega) r d := by
  unfold k0_pay7 k0_pay6 k0_pay4 k0_pay3
  rw [hT]
  refine (turn_at (extractStridedSlice S1024x128 ![0, 0] T slices_S1024x1024_o0_0_S1024x128) M S r d).trans ?_
  unfold head
  pointwise

theorem piece1 (r : Fin 1024) (d : Fin 128) : k0_pay9 (F := Ideal) (k0_pay8 T M S) (ix2 r d) = head T M S 1 (by omega) r d := by
  refine (turn_at (extractStridedSlice S1024x128 ![0, 128] T slices_S1024x1024_o0_128_S1024x128) M S r d).trans ?_
  unfold head
  pointwise

theorem piece2 (r : Fin 1024) (d : Fin 128) : k0_pay10 (F := Ideal) T M S (ix2 r d) = head T M S 2 (by omega) r d := by
  refine (turn_at (extractStridedSlice S1024x128 ![0, 256] T slices_S1024x1024_o0_256_S1024x128) M S r d).trans ?_
  unfold head
  pointwise

theorem piece3 (r : Fin 1024) (d : Fin 128) : k0_pay12 (F := Ideal) (k0_pay11 T) M S (ix2 r d) = head T M S 3 (by omega) r d := by
  refine (turn_at (extractStridedSlice S1024x128 ![0, 384] T slices_S1024x1024_o0_384_S1024x128) M S r d).trans ?_
  unfold head
  pointwise

theorem piece4 (r : Fin 1024) (d : Fin 128) : k0_pay16 (F := Ideal) (k0_pay13 T) (k0_pay14 T M) (Scalar.select (Scalar.cmpi .eq 64#32 0#32) 1#32 64#32) k0_pay15 S (ix2 r d) = head T M S 4 (by omega) r d := by
  refine (turn_at (extractStridedSlice S1024x128 ![0, 512] T slices_S1024x1024_o0_512_S1024x128) M S r d).trans ?_
  unfold head
  pointwise

theorem piece5 (r : Fin 1024) (d : Fin 128) : k0_pay23 (F := Ideal) (k0_pay17 T) (k0_pay18 T M) (Scalar.select (Scalar.cmpi .eq 64#32 0#32) 1#32 64#32) k0_pay19 k0_pay20 k0_pay21 k0_pay22 S (ix2 r d) = head T M S 5 (by omega) r d := by
  refine (turn_at (extractStridedSlice S1024x128 ![0, 640] T slices_S1024x1024_o0_640_S1024x128) M S r d).trans ?_
  unfold head
  pointwise

theorem piece6 (r : Fin 1024) (d : Fin 128) : k0_pay28 (F := Ideal) (k0_pay24 T) (k0_pay25 T M) k0_pay26 (k0_pay27 T) S (ix2 r d) = head T M S 6 (by omega) r d := by
  refine (turn_at (extractStridedSlice S1024x128 ![0, 768] T slices_S1024x1024_o0_768_S1024x128) M S r d).trans ?_
  unfold head
  pointwise

theorem piece7 (r : Fin 1024) (d : Fin 128) : k0_pay1 (F := Ideal) (k0_pay29 T M S) (ix2 r d) = head T M S 7 (by omega) r d := by
  refine (turn_at (extractStridedSlice S1024x128 ![0, 896] T slices_S1024x1024_o0_896_S1024x128) M S r d).trans ?_
  unfold head
  pointwise

end Heads

/-- Its column of the tables. -/
theorem mult_at (c : Dev nD) (t : Fin cfg0.N) (r : Fin 1024) (d : Fin 128) : (iblk m c 3 t : FVec Ideal S1x1024x128 .f32) (ix3 0 r d)
    = if t.val % 3 < 2 then cosines (ix2 ⟨t.val / 3 % 4 * 1024 + r.val, by omega⟩ ⟨d.val % 32, by omega⟩) else 1 := by
  rw [read3, entry77, stack_at, laid_at, flat_one]
  simp only [ite_self]

theorem rot_at (c : Dev nD) (t : Fin cfg0.N) (r : Fin 1024) (d : Fin 128) : (iblk m c 4 t : FVec Ideal S1x1024x128 .f32) (ix3 0 r d)
    = if t.val % 3 < 2 then (if d.val % 64 < 32 then -sines (ix2 ⟨t.val / 3 % 4 * 1024 + r.val, by omega⟩ ⟨d.val % 32, by omega⟩) else sines (ix2 ⟨t.val / 3 % 4 * 1024 + r.val, by omega⟩ ⟨d.val % 32, by omega⟩)) else 0 := by
  rw [read4, entry81, stack_at, laid_at, flat_zero]
  rfl

/-- A block of the projection, among the result's elements. -/
theorem acc_point (c : Dev nD) (t : Fin cfg0.N) (H : FVec Ideal S1024x4096 .bf16) (W : FVec Ideal S4096x1024 .bf16) (S : FVec Ideal S1024x1 .f32)
    (hH : ∀ (r : Fin 1024) (k : Fin 4096), H (ix2 r k) = (iblk m c 0 t : FVec Ideal S1024x4096 .bf16) (ix2 r k))
    (hW : ∀ (k : Fin 4096) (C : Fin 1024), W (ix2 k C) = (iblk m c 2 t : FVec Ideal S4096x1024 .bf16) (ix2 k C))
    (hS : ∀ r : Fin 1024, S (ix2 r 0) = (iblk m c 1 t : FVec Ideal S1024x1 .f32) (ix2 r 0))
    (r : Fin 1024) (C : Fin 1024) : k0_pay2 (F := Ideal) H W S (ix2 r C)
      = qkv (m ((c : Thread nD τ).loc main_arg0)) (m ((c : Thread nD τ).loc main_arg1)) (m ((c : Thread nD τ).loc main_arg2)) ⟨t.val / 3 * 1024 + r.val, by have := lt0 t; omega⟩ ⟨(6 + t.val % 3) * 1024 + C.val, by omega⟩ := by
  refine (acc_at _ _ _ r C).trans ?_
  unfold qkv proj
  rw [hS, read1, entry6, squares_at]
  have e0 : ∀ k : Fin 4096, H (ix2 r k) = _ := fun k => ((hH r k).trans (read0 m c t r k)).trans (by rw [entry3, gained_at])
  have e2 : ∀ k : Fin 4096, W (ix2 k C) = _ := fun k => ((hW k C).trans (read2 m c t k C)).trans (by rw [entry7])
  simp only [e0, e2]

/-- A stored head is the result's. -/
theorem point (c : Dev nD) (t : Fin cfg0.N) (T : FVec Ideal S1024x1024 .f32) (M S : FVec Ideal S1x1024x128 .f32)
    (hT : ∀ (r : Fin 1024) (C : Fin 1024), T (ix2 r C) = qkv (m ((c : Thread nD τ).loc main_arg0)) (m ((c : Thread nD τ).loc main_arg1)) (m ((c : Thread nD τ).loc main_arg2)) ⟨t.val / 3 * 1024 + r.val, by have := lt0 t; omega⟩ ⟨(6 + t.val % 3) * 1024 + C.val, by omega⟩)
    (hM : ∀ (r : Fin 1024) (d : Fin 128), M (ix3 0 r d) = (iblk m c 3 t : FVec Ideal S1x1024x128 .f32) (ix3 0 r d))
    (hS : ∀ (r : Fin 1024) (d : Fin 128), S (ix3 0 r d) = (iblk m c 4 t : FVec Ideal S1x1024x128 .f32) (ix3 0 r d))
    (n : ℕ) (hn : n < 8) (r : Fin 1024) (d : Fin 128) (Y : S16384x3072.Idx)
    (hY0 : (Y 0).val = t.val / 3 * 1024 + r.val) (hY1 : (Y 1).val = t.val % 3 * 1024 + (n * 128 + d.val)) :
    head T M S n hn r d = OUT (m ((c : Thread nD τ).loc main_arg0)) (m ((c : Thread nD τ).loc main_arg1)) (m ((c : Thread nD τ).loc main_arg2)) cosines sines Y := by
  have ht := lt0 t
  have hR : (⟨(Y 0).val, (Y 0).isLt⟩ : Fin 16384) = ⟨t.val / 3 * 1024 + r.val, by omega⟩ := Fin.ext hY0
  have hC : (⟨(Y 1).val, (Y 1).isLt⟩ : Fin 3072) = ⟨t.val % 3 * 1024 + (n * 128 + d.val), by omega⟩ := Fin.ext hY1
  unfold OUT
  rw [hR, hC]
  unfold head turned
  rw [hT, hT, hM, hS, mult_at, rot_at]
  unfold cosAt sinAt column partner
  generalize qkv (m ((c : Thread nD τ).loc main_arg0)) (m ((c : Thread nD τ).loc main_arg1)) (m ((c : Thread nD τ).loc main_arg2)) ⟨t.val / 3 * 1024 + r.val, by omega⟩ = a
  have i0 : (⟨(t.val / 3 * 1024 + r.val) % 4096, by omega⟩ : Fin 4096) = ⟨t.val / 3 % 4 * 1024 + r.val, by omega⟩ := Fin.ext (by show (t.val / 3 * 1024 + r.val) % 4096 = t.val / 3 % 4 * 1024 + r.val; omega)
  have i1 : (t.val % 3 * 1024 + (n * 128 + d.val)) % 32 = d.val % 32 := by omega
  have i2 : 6144 + ((t.val % 3 * 1024 + (n * 128 + d.val)) / 64 * 64 + ((t.val % 3 * 1024 + (n * 128 + d.val)) % 64 + 32) % 64) = (6 + t.val % 3) * 1024 + (n * 128 + (d.val / 64 * 64 + (d.val % 64 + 32) % 64)) := by omega
  have i3 : ((t.val % 3 * 1024 + (n * 128 + d.val)) % 64 < 32) = (d.val % 64 < 32) := propext (by omega)
  have i4 : (t.val % 3 * 1024 + (n * 128 + d.val) < 2048) = (t.val % 3 < 2) := propext (by omega)
  have i5 : 6144 + (t.val % 3 * 1024 + (n * 128 + d.val)) = (6 + t.val % 3) * 1024 + (n * 128 + d.val) := by omega
  simp only [i0, i1, i2, i3, i4, i5]
  by_cases h : t.val % 3 < 2
  · simp only [if_pos h]
  · simp only [if_neg h, mul_one, mul_zero, add_zero]

theorem final5 (c : Dev nD) : ((dats m 0 c).arrAt 5 cfg0.N : FVec Ideal S16384x3072 .bf16) = OUT (m ((c : Thread nD τ).loc main_arg0)) (m ((c : Thread nD τ).loc main_arg1)) (m ((c : Thread nD τ).loc main_arg2)) cosines sines := by
  refine (dats m 0 c).arrAt_eq_of_covers 5 _ (by decide +kernel) fun t hf y => ?_
  blk_simp
  rw [after0_5]
  unfold out0_5
  obtain ⟨Y, e⟩ : ∃ Y : S16384x3072.Idx, Y = ((View.whole main_v82).slice (win0_5.rect t)).emb y := ⟨_, rfl⟩
  have e0 : (Y 0).val = t.val / 3 * 1024 + (y 0).val := by rw [e]; blk_simp [idx t]
  have e1 : (Y 1).val = t.val % 3 * 1024 + (y 1).val := by rw [e]; blk_simp [idx t]
  rw [← e]
  clear e
  have hT : ∀ (r : Fin 1024) (C : Fin 1024), k0_pay30 (F := Ideal) (iblk m c 0 t) (iblk m c 1 t) (iblk m c 2 t) (iblk m c 3 t) (iblk m c 4 t) (ix2 r C)
      = qkv (m ((c : Thread nD τ).loc main_arg0)) (m ((c : Thread nD τ).loc main_arg1)) (m ((c : Thread nD τ).loc main_arg2)) ⟨t.val / 3 * 1024 + r.val, by have := lt0 t; omega⟩ ⟨(6 + t.val % 3) * 1024 + C.val, by omega⟩ := by
    unfold k0_pay30
    refine acc_point m c t _ _ _ ?_ ?_ ?_
    all_goals first | (intro r k; pointwise) | (intro r; pointwise)
  have hM : ∀ (r : Fin 1024) (d : Fin 128), (View.ld (iblk m c 3 t : FVec Ideal S1x1024x128 .f32) r0_3 : FVec Ideal S1x1024x128 .f32) (ix3 0 r d) = (iblk m c 3 t : FVec Ideal S1x1024x128 .f32) (ix3 0 r d) := fun r d => by pointwise
  have hS : ∀ (r : Fin 1024) (d : Fin 128), (View.ld (iblk m c 4 t : FVec Ideal S1x1024x128 .f32) r0_3 : FVec Ideal S1x1024x128 .f32) (ix3 0 r d) = (iblk m c 4 t : FVec Ideal S1x1024x128 .f32) (ix3 0 r d) := fun r d => by pointwise
  canon_tiles x h
  all_goals idx_vars x
  · refine (piece7 _ _ _ _ _).trans (point m c t _ _ _ hT hM hS 7 _ _ _ _ (by rw [e0, h0]) (by rw [e1, h1]))
  · refine (piece6 _ _ _ _ _).trans (point m c t _ _ _ hT hM hS 6 _ _ _ _ (by rw [e0, h0]) (by rw [e1, h1]))
  · refine (piece5 _ _ _ _ _).trans (point m c t _ _ _ hT hM hS 5 _ _ _ _ (by rw [e0, h0]) (by rw [e1, h1]))
  · refine (piece4 _ _ _ _ _).trans (point m c t _ _ _ hT hM hS 4 _ _ _ _ (by rw [e0, h0]) (by rw [e1, h1]))
  · refine (piece3 _ _ _ _ _).trans (point m c t _ _ _ hT hM hS 3 _ _ _ _ (by rw [e0, h0]) (by rw [e1, h1]))
  · refine (piece2 _ _ _ _ _).trans (point m c t _ _ _ hT hM hS 2 _ _ _ _ (by rw [e0, h0]) (by rw [e1, h1]))
  · refine (piece1 _ _ _ _ _).trans (point m c t _ _ _ hT hM hS 1 _ _ _ _ (by rw [e0, h0]) (by rw [e1, h1]))
  · refine (piece0 _ _ _ _ _ _ rfl _ _).trans (point m c t _ _ _ hT hM hS 0 _ _ _ _ (by rw [e0, h0]) (by rw [e1, h1]; omega))
end

theorem same : algebraic_Kernel6Ideal_Reference6Ideal := by
  intro m g m' g' _ hargs
  refine ⟨fun c => OUT (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) cosines sines, ?_, ?_⟩
  · exact (θ_run _ _ _).mono (fun r h c => ⟨(h c).1.trans (final5 m c), (h c).2⟩) (Cert.Kernel6Ideal.Value.run_blocks m g)
  · refine (θ_run _ _ _).mono (fun r h c => ⟨(h c).1.trans ?_, (h c).2⟩) (Cert.Reference6Ideal.Value.run m' g')
    obtain ⟨e0, e1, e2⟩ := hargs c
    rw [Cert.Reference6Ideal.Read.val_main_v79_eq, e0, e1, e2]
    exact reference_out _ _ _

theorem frame_reference : quiescent_Reference6Ideal := fun m g _ =>
  (θ_run _ _ _).mono (fun r h => ⟨fun c => (h c).2, sem_eq_zero_of_no_sems (by decide) r.2⟩) (Cert.Reference6Ideal.Value.run m g)

theorem named : preserves_Kernel6_Kernel6Ideal := trivial

end Cert.QkvC

end
-- ==== Proof.Rms.lean ====
/- The final norm: a row times its reciprocal root mean square times the gain. Each grid point writes a block of 256 rows. -/
module

public import proofs.«01_k».proof.Proof.Dense
public import proofs.«01_k».proof.Defs
public import proofs.«01_k».proof.Proof.Gen.Kernel7Ideal.Value
public import proofs.«01_k».proof.Proof.Gen.Reference7Ideal.Read
public import Idealize.ShloMosaic.Lib.Pipeline.ValueKit

@[expose] public section

set_option maxRecDepth 65536
noncomputable section
open Idealize.ShloMosaic Idealize.ShloMosaic.TcCoe Idealize.SL.Sem
open Idealize.ShloMosaic.Pipeline (Dat)

namespace Cert.Rms
open Cert.Dense

section
open Cert.Kernel7Ideal

/-- An element of the result. -/
def outAt (x : FVec Ideal S16384x4096 .f32) (g : FVec Ideal S4096 .f32) (R : Fin 16384) (C : Fin 4096) : EReal :=
  x (ix2 R C) * Dense.inv (ssq fun k => x (ix2 R k)) * g (ix1 C)

/-- The whole result. -/
def OUT (x : FVec Ideal S16384x4096 .f32) (g : FVec Ideal S4096 .f32) : FVec Ideal S16384x4096 .f32 :=
  fun j => outAt x g ⟨(j 0).val, (j 0).isLt⟩ ⟨(j 1).val, (j 1).isLt⟩
end

section
open Cert.Reference7Ideal Cert.Reference7Ideal.Gen Cert.Reference7Ideal.Read
variable (x0 : FVec Ideal S16384x4096 .f32) (x1 : FVec Ideal S4096 .f32)

theorem reference_out : val_main_v12 (F := Ideal) x0 x1 = OUT x0 x1 := by
  have all : ∀ (R : Fin 16384) (C : Fin 4096), val_main_v12 (F := Ideal) x0 x1 (ix2 R C) = outAt x0 x1 R C := fun R C => by
    unfold outAt
    rw [← inv_eq_mean]
    unfold ssq
    pointwise [val_main_v12, val_main_v11, val_main_v10, val_main_v9, val_main_v8, val_main_v7, val_main_v6, val_main_v5, val_main_cst_1, val_main_v4, val_main_v3, val_main_cst_0, val_main_v2, val_main_v1, val_main_cst, val_main_v0]
  funext j
  idx_vars j
  exact all _ _
end

section
open Cert.Kernel7Ideal Cert.Kernel7Ideal.Gen
variable (m : (ℓ : Loc nD τ sig) → Buf (Elt Ideal) ℓ)

theorem idx : ∀ t : Fin cfg0.N, win0_0.index t = ![t.val, 0] ∧ win0_1.index t = ![0, 0] ∧ win0_2.index t = ![t.val, 0] ∧ t.val < 64 :=
  (by decide +kernel : ∀ t : Fin grid0.N, _)

theorem lt0 (t : Fin cfg0.N) : t.val < 64 := (idx t).2.2.2

/-- The gain as the call takes it. -/
def row (g : FVec Ideal S4096 .f32) : FVec Ideal S1x4096 .f32 := shapeCast S1x4096 g shapeCasts_S4096_S1x4096

theorem row_at (g : FVec Ideal S4096 .f32) (k : Fin 4096) : row g (ix2 0 k) = g (ix1 k) := by
  pointwise [row]

theorem entry1 (c : Dev nD) : (V m c main_v0 : FVec Ideal S1x4096 .f32) = row (m ((c : Thread nD τ).loc main_arg1)) := by
  show StableHlo.after hostOps0 (fun b => m (c, b)) (Proc.devRef .tc main_v0) = _
  simp only [hostOps0, List.flatten_cons, List.flatten_nil, List.append_nil, List.cons_append, List.nil_append, StableHlo.after_cons, StableHlo.after_nil]
  after_results_simp
  rfl

section Reads
variable (c : Dev nD) (t : Fin cfg0.N)

theorem read0 (r : Fin 256) (k : Fin 4096) : (iblk m c 0 t : FVec Ideal S256x4096 .f32) (ix2 r k)
    = (m ((c : Thread nD τ).loc main_arg0) : FVec Ideal S16384x4096 .f32) (ix2 ⟨t.val * 256 + r.val, by have := lt0 t; omega⟩ k) := by
  blk_ext [iblk, V_main_arg0, idx t]

theorem read1 (k : Fin 4096) : (iblk m c 1 t : FVec Ideal S1x4096 .f32) (ix2 0 k) = (V m c main_v0 : FVec Ideal S1x4096 .f32) (ix2 0 k) := by
  blk_ext [iblk, idx t]
end Reads

/-- What a grid point stores. -/
theorem stored (h : FVec Ideal S256x4096 .f32) (g : FVec Ideal S1x4096 .f32) (r : Fin 256) (C : Fin 4096) :
    k0_pay1 (F := Ideal) h g (ix2 r C) = h (ix2 r C) * Dense.inv (ssq fun k => h (ix2 r k)) * g (ix2 0 C) := by
  rw [← inv_eq_mean]
  unfold ssq
  pointwise [k0_pay1]

/-- It is the result's block. -/
theorem point (c : Dev nD) (t : Fin cfg0.N) (H : FVec Ideal S256x4096 .f32) (G : FVec Ideal S1x4096 .f32)
    (hH : ∀ (r : Fin 256) (k : Fin 4096), H (ix2 r k) = (iblk m c 0 t : FVec Ideal S256x4096 .f32) (ix2 r k))
    (hG : ∀ k : Fin 4096, G (ix2 0 k) = (iblk m c 1 t : FVec Ideal S1x4096 .f32) (ix2 0 k))
    (r : Fin 256) (C : Fin 4096) (Y : S16384x4096.Idx)
    (hY0 : (Y 0).val = t.val * 256 + r.val) (hY1 : (Y 1).val = C.val) :
    k0_pay1 (F := Ideal) H G (ix2 r C) = OUT (m ((c : Thread nD τ).loc main_arg0)) (m ((c : Thread nD τ).loc main_arg1)) Y := by
  have ht := lt0 t
  have hR : (⟨(Y 0).val, (Y 0).isLt⟩ : Fin 16384) = ⟨t.val * 256 + r.val, by omega⟩ := Fin.ext hY0
  have hC : (⟨(Y 1).val, (Y 1).isLt⟩ : Fin 4096) = C := Fin.ext hY1
  unfold OUT
  rw [hR, hC]
  refine (stored _ _ r C).trans ?_
  unfold outAt
  have e0 : ∀ k : Fin 4096, H (ix2 r k) = _ := fun k => (hH r k).trans (read0 m c t r k)
  rw [hG, read1, entry1, row_at]
  simp only [e0]

theorem final2 (c : Dev nD) : ((dats m 0 c).arrAt 2 cfg0.N : FVec Ideal S16384x4096 .f32)
    = OUT (m ((c : Thread nD τ).loc main_arg0)) (m ((c : Thread nD τ).loc main_arg1)) := by
  refine (dats m 0 c).arrAt_eq_of_covers 2 _ (by decide +kernel) fun t hf y => ?_
  blk_simp
  rw [after0_2]
  unfold out0_2
  obtain ⟨Y, e⟩ : ∃ Y : S16384x4096.Idx, Y = ((View.whole main_v1).slice (win0_2.rect t)).emb y := ⟨_, rfl⟩
  have e0 : (Y 0).val = t.val * 256 + (y 0).val := by rw [e]; blk_simp [idx t]
  have e1 : (Y 1).val = (y 1).val := by rw [e]; blk_simp [idx t]
  rw [← e]
  clear e
  canon_tiles x h
  idx_vars x
  refine point m c t _ _ ?_ ?_ _ _ _ (by rw [e0, h0]) (by rw [e1, h1])
  all_goals first | (intro r k; pointwise; done) | (intro k; pointwise; done)
end

theorem same : algebraic_Kernel7Ideal_Reference7Ideal := by
  intro m g m' g' _ hargs
  refine ⟨fun c => OUT (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)), ?_, ?_⟩
  · exact (θ_run _ _ _).mono (fun r h c => ⟨(h c).1.trans (final2 m c), (h c).2⟩) (Cert.Kernel7Ideal.Value.run_blocks m g)
  · refine (θ_run _ _ _).mono (fun r h c => ⟨(h c).1.trans ?_, (h c).2⟩) (Cert.Reference7Ideal.Value.run m' g')
    obtain ⟨e0, e1⟩ := hargs c
    rw [Cert.Reference7Ideal.Read.val_main_v12_eq, e0, e1]
    exact reference_out _ _

theorem frame_reference : quiescent_Reference7Ideal := fun m g _ =>
  (θ_run _ _ _).mono (fun r h => ⟨fun c => (h c).2, sem_eq_zero_of_no_sems (by decide) r.2⟩) (Cert.Reference7Ideal.Value.run m g)

theorem named : preserves_Kernel7_Kernel7Ideal := trivial

end Cert.Rms

end
-- ==== Proof.Out.lean ====
/- A projection added to the residual stream: `x + merged @ w`, the same times the next norm's gain, and the rows' sums of squares
   for that norm. Each grid point writes a block of 1024 rows by 512 columns; the sums of squares of 1024 rows are collected over
   the 8 points that share them. -/
module

public import proofs.«01_k».proof.Proof.Dense
public import proofs.«01_k».proof.Defs
public import proofs.«01_k».proof.Proof.Gen.Kernel8Ideal.Value
public import proofs.«01_k».proof.Proof.Gen.Reference8Ideal.Read
public import Idealize.ShloMosaic.Lib.Pipeline.ValueKit

@[expose] public section

set_option maxRecDepth 65536
noncomputable section
open Idealize.ShloMosaic Idealize.ShloMosaic.TcCoe Idealize.SL.Sem
open Idealize.ShloMosaic.Pipeline (Dat)

namespace Cert.Out
open Cert.Dense

section
open Cert.Kernel8Ideal
variable (a : FVec Ideal S16384x4096 .f32) (w : FVec Ideal S4096x4096 .f32) (x : FVec Ideal S16384x4096 .f32) (g : FVec Ideal S4x4096 .f32)

/-- The residual stream after the projection, an element. -/
def resAt (R : Fin 16384) (C : Fin 4096) : EReal :=
  x (ix2 R C) + ∑ k : Fin 4096, a (ix2 R k) * w (ix2 k C)

/-- The residual stream. -/
def OUT : FVec Ideal S16384x4096 .f32 :=
  fun j => resAt a w x ⟨(j 0).val, (j 0).isLt⟩ ⟨(j 1).val, (j 1).isLt⟩

/-- Times the next norm's gain. -/
def GAINED : FVec Ideal S16384x4096 .bf16 :=
  fun j => resAt a w x ⟨(j 0).val, (j 0).isLt⟩ ⟨(j 1).val, (j 1).isLt⟩ * g (ix2 0 ⟨(j 1).val, (j 1).isLt⟩)

/-- The rows' sums of squares. -/
def SQUARES : FVec Ideal S16384x1 .f32 :=
  fun j => ∑ k : Fin 4096, resAt a w x ⟨(j 0).val, (j 0).isLt⟩ k * resAt a w x ⟨(j 0).val, (j 0).isLt⟩ k

end

section
open Cert.Reference8Ideal Cert.Reference8Ideal.Gen Cert.Reference8Ideal.Read
variable (a : FVec Ideal S16384x4096 .f32) (w : FVec Ideal S4096x4096 .f32) (x : FVec Ideal S16384x4096 .f32) (g : FVec Ideal S4x4096 .f32)

theorem residual_at (R : Fin 16384) (C : Fin 4096) : val_main_v1 (F := Ideal) a w x (ix2 R C) = resAt a w x R C := by
  unfold resAt
  pointwise [val_main_v1, val_main_v0]

theorem reference_out : val_main_v1 (F := Ideal) a w x = OUT a w x := by
  funext j
  idx_vars j
  exact residual_at _ _ _ _ _

theorem reference_gained : val_main_v7 (F := Ideal) a w x g = GAINED a w x g := by
  have all : ∀ (R : Fin 16384) (C : Fin 4096), val_main_v7 (F := Ideal) a w x g (ix2 R C) = resAt a w x R C * g (ix2 0 C) := fun R C => by
    rw [← residual_at]
    unfold val_main_v7 val_main_v6
    generalize val_main_v1 (F := Ideal) a w x = A
    pointwise [val_main_v5, val_main_v4, val_main_v3, val_main_v2]
  funext j
  idx_vars j
  exact all _ _

theorem reference_squares : val_main_v10 (F := Ideal) a w x = SQUARES a w x := by
  have all : ∀ (R : Fin 16384) (z : Fin 1), val_main_v10 (F := Ideal) a w x (ix2 R z) = ∑ k : Fin 4096, resAt a w x R k * resAt a w x R k := fun R z => by
    simp only [← residual_at]
    unfold val_main_v10 val_main_v9 val_main_v8 val_main_cst
    generalize val_main_v1 (F := Ideal) a w x = A
    pointwise
  funext j
  idx_vars j
  exact all _ _

end

section
open Cert.Kernel8Ideal Cert.Kernel8Ideal.Gen
variable (m : (ℓ : Loc nD τ sig) → Buf (Elt Ideal) ℓ)

theorem ins : ∀ t : Fin cfg0.N, win0_0.index t = ![t.val / 8, 0] ∧ win0_1.index t = ![0, t.val % 8] ∧ win0_2.index t = ![t.val / 8, t.val % 8]
    ∧ win0_3.index t = ![0, 0, t.val % 8] ∧ t.val < 128 :=
  (by decide +kernel : ∀ t : Fin grid0.N, _)

theorem outs : ∀ t : Fin cfg0.N, win0_4.index t = ![t.val / 8, t.val % 8] ∧ win0_5.index t = ![t.val / 8, t.val % 8] ∧ win0_6.index t = ![t.val / 8, 0] :=
  (by decide +kernel : ∀ t : Fin grid0.N, _)

theorem lt0 (t : Fin cfg0.N) : t.val < 128 := (ins t).2.2.2.2

theorem entry0 (c : Dev nD) : (V m c main_v0 : FVec Ideal S16384x4096 .bf16) = (m ((c : Thread nD τ).loc main_arg0) : FVec Ideal S16384x4096 .f32) := by
  show StableHlo.after hostOps0 (fun b => m (c, b)) (Proc.devRef .tc main_v0) = _
  simp only [hostOps0, List.flatten_cons, List.flatten_nil, List.append_nil, List.cons_append, List.nil_append, StableHlo.after_cons, StableHlo.after_nil]
  after_results_simp
  rfl

theorem entry1 (c : Dev nD) : (V m c main_v1 : FVec Ideal S4096x4096 .bf16) = (m ((c : Thread nD τ).loc main_arg1) : FVec Ideal S4096x4096 .f32) := by
  show StableHlo.after hostOps0 (fun b => m (c, b)) (Proc.devRef .tc main_v1) = _
  simp only [hostOps0, List.flatten_cons, List.flatten_nil, List.append_nil, List.cons_append, List.nil_append, StableHlo.after_cons, StableHlo.after_nil]
  after_results_simp
  rfl

/-- The gains as the call takes them. -/
def gains (g : FVec Ideal S4x4096 .f32) : FVec Ideal S4x1x4096 .f32 := shapeCast S4x1x4096 g shapeCasts_S4x4096_S4x1x4096

theorem gains_at (g : FVec Ideal S4x4096 .f32) (k : Fin 4096) : gains g (ix3 0 0 k) = g (ix2 0 k) := by
  pointwise [gains]

theorem entry3 (c : Dev nD) : (V m c main_v2 : FVec Ideal S4x1x4096 .f32) = gains (m ((c : Thread nD τ).loc main_arg3)) := by
  show StableHlo.after hostOps0 (fun b => m (c, b)) (Proc.devRef .tc main_v2) = _
  simp only [hostOps0, List.flatten_cons, List.flatten_nil, List.append_nil, List.cons_append, List.nil_append, StableHlo.after_cons, StableHlo.after_nil]
  after_results_simp
  rfl

section Reads
variable (c : Dev nD) (t : Fin cfg0.N)

theorem read0 (r : Fin 1024) (k : Fin 4096) : (iblk m c 0 t : FVec Ideal S1024x4096 .bf16) (ix2 r k)
    = (V m c main_v0 : FVec Ideal S16384x4096 .bf16) (ix2 ⟨t.val / 8 * 1024 + r.val, by have := lt0 t; omega⟩ k) := by
  blk_ext [iblk, ins t]

theorem read1 (k : Fin 4096) (C : Fin 512) : (iblk m c 1 t : FVec Ideal S4096x512 .bf16) (ix2 k C)
    = (V m c main_v1 : FVec Ideal S4096x4096 .bf16) (ix2 k ⟨t.val % 8 * 512 + C.val, by omega⟩) := by
  blk_ext [iblk, ins t]

theorem read2 (r : Fin 1024) (C : Fin 512) : (iblk m c 2 t : FVec Ideal S1024x512 .f32) (ix2 r C)
    = (m ((c : Thread nD τ).loc main_arg2) : FVec Ideal S16384x4096 .f32) (ix2 ⟨t.val / 8 * 1024 + r.val, by have := lt0 t; omega⟩ ⟨t.val % 8 * 512 + C.val, by omega⟩) := by
  blk_ext [iblk, V_main_arg2, ins t]

theorem read3 (C : Fin 512) : (iblk m c 3 t : FVec Ideal S1x1x512 .f32) (ix3 0 0 C)
    = (V m c main_v2 : FVec Ideal S4x1x4096 .f32) (ix3 0 0 ⟨t.val % 8 * 512 + C.val, by omega⟩) := by
  blk_ext [iblk, ins t]

end Reads

/-- The block of the residual stream that a grid point computes. -/
def blk (c : Dev nD) (t : Fin cfg0.N) : FVec Ideal S1024x512 .f32 := k0_pay1 (F := Ideal) (iblk m c 2 t) (iblk m c 0 t) (iblk m c 1 t)

theorem computed (x : FVec Ideal S1024x512 .f32) (a : FVec Ideal S1024x4096 .bf16) (w : FVec Ideal S4096x512 .bf16) (r : Fin 1024) (C : Fin 512) :
    k0_pay1 (F := Ideal) x a w (ix2 r C) = x (ix2 r C) + ∑ k : Fin 4096, a (ix2 r k) * w (ix2 k C) := by
  pointwise [k0_pay1]

theorem blk_at (c : Dev nD) (t : Fin cfg0.N) (r : Fin 1024) (C : Fin 512) : blk m c t (ix2 r C)
    = resAt (m ((c : Thread nD τ).loc main_arg0)) (m ((c : Thread nD τ).loc main_arg1)) (m ((c : Thread nD τ).loc main_arg2))
        ⟨t.val / 8 * 1024 + r.val, by have := lt0 t; omega⟩ ⟨t.val % 8 * 512 + C.val, by omega⟩ := by
  refine (computed _ _ _ r C).trans ?_
  have e0 : ∀ k : Fin 4096, (iblk m c 0 t : FVec Ideal S1024x4096 .bf16) (ix2 r k) = _ := fun k => (read0 m c t r k).trans (by rw [entry0])
  have e1 : ∀ k : Fin 4096, (iblk m c 1 t : FVec Ideal S4096x512 .bf16) (ix2 k C) = _ := fun k => (read1 m c t k C).trans (by rw [entry1])
  unfold resAt
  rw [read2]
  simp only [e0, e1]

theorem gained_pay (T : FVec Ideal S1024x512 .f32) (x : FVec Ideal S1024x512 .f32) (a : FVec Ideal S1024x4096 .bf16) (w : FVec Ideal S4096x512 .bf16)
    (g : FVec Ideal S1x1x512 .f32) (r : Fin 1024) (C : Fin 512) (h : k0_pay1 (F := Ideal) x a w = T) :
    k0_pay2 (F := Ideal) x a w g (ix2 r C) = T (ix2 r C) * g (ix3 0 0 C) := by
  unfold k0_pay2
  rw [h]
  pointwise

theorem zeroed (j : S1024x1.Idx) : k0_pay3 (F := Ideal) j = 0 := by
  pointwise [k0_pay3]

theorem collected (T x : FVec Ideal S1024x512 .f32) (a : FVec Ideal S1024x4096 .bf16) (w : FVec Ideal S4096x512 .bf16) (acc : FVec Ideal S1024x1 .f32)
    (h : k0_pay1 (F := Ideal) x a w = T) (j : S1024x1.Idx) :
    k0_pay4 (F := Ideal) x a w acc j = acc j + ∑ k : Fin 512, T (ix2 ⟨(j 0).val, (j 0).isLt⟩ k) * T (ix2 ⟨(j 0).val, (j 0).isLt⟩ k) := by
  have all : ∀ (r : Fin 1024) (z : Fin 1), k0_pay4 (F := Ideal) x a w acc (ix2 r z) = acc (ix2 r z) + ∑ k : Fin 512, T (ix2 r k) * T (ix2 r k) := fun r z => by
    unfold k0_pay4
    rw [h]
    pointwise
  idx_vars j
  exact all _ _

theorem left4 (c : Dev nD) (t : Fin cfg0.N) : (outsAt0 m c t.val t.isLt).1 = blk m c t := by
  funext y
  by_cases h : t.val % 8 = 0
  · rw [outsAt0_A m c t h]; frame_out; rfl
  · rw [outsAt0_B m c t h]; frame_out; rfl

theorem left5 (c : Dev nD) (t : Fin cfg0.N) : (outsAt0 m c t.val t.isLt).2.1 = k0_pay2 (F := Ideal) (iblk m c 2 t) (iblk m c 0 t) (iblk m c 1 t) (iblk m c 3 t) := by
  funext y
  by_cases h : t.val % 8 = 0
  · rw [outsAt0_A m c t h]; frame_out
  · rw [outsAt0_B m c t h]; frame_out

theorem point4 (c : Dev nD) (t : Fin cfg0.N) (r : Fin 1024) (C : Fin 512) (Y : S16384x4096.Idx)
    (hY0 : (Y 0).val = t.val / 8 * 1024 + r.val) (hY1 : (Y 1).val = t.val % 8 * 512 + C.val) :
    (blk m c t) (ix2 r C) = OUT (m ((c : Thread nD τ).loc main_arg0)) (m ((c : Thread nD τ).loc main_arg1)) (m ((c : Thread nD τ).loc main_arg2)) Y :=
  (blk_at m c t r C).trans (congrArg₂ (resAt (m ((c : Thread nD τ).loc main_arg0)) (m ((c : Thread nD τ).loc main_arg1)) (m ((c : Thread nD τ).loc main_arg2))) (Fin.ext hY0.symm) (Fin.ext hY1.symm))

theorem point5 (c : Dev nD) (t : Fin cfg0.N) (r : Fin 1024) (C : Fin 512) (Y : S16384x4096.Idx)
    (hY0 : (Y 0).val = t.val / 8 * 1024 + r.val) (hY1 : (Y 1).val = t.val % 8 * 512 + C.val) :
    k0_pay2 (F := Ideal) (iblk m c 2 t) (iblk m c 0 t) (iblk m c 1 t) (iblk m c 3 t) (ix2 r C) = GAINED (m ((c : Thread nD τ).loc main_arg0)) (m ((c : Thread nD τ).loc main_arg1)) (m ((c : Thread nD τ).loc main_arg2)) (m ((c : Thread nD τ).loc main_arg3)) Y := by
  have hC : (⟨t.val % 8 * 512 + C.val, by omega⟩ : Fin 4096) = ⟨(Y 1).val, (Y 1).isLt⟩ := Fin.ext hY1.symm
  refine (gained_pay (blk m c t) _ _ _ _ r C rfl).trans ?_
  rw [point4 m c t r C Y hY0 hY1, read3, entry3, gains_at, hC]
  rfl

theorem final4 (c : Dev nD) : ((dats m 0 c).arrAt 4 cfg0.N : FVec Ideal S16384x4096 .f32)
    = OUT (m ((c : Thread nD τ).loc main_arg0)) (m ((c : Thread nD τ).loc main_arg1)) (m ((c : Thread nD τ).loc main_arg2)) := by
  refine (dats m 0 c).arrAt_eq_of_covers 4 _ (by decide +kernel) fun t hf y => ?_
  blk_simp
  rw [after0_4, left4]
  obtain ⟨Y, e⟩ : ∃ Y : S16384x4096.Idx, Y = ((View.whole main_v3_0).slice (win0_4.rect t)).emb y := ⟨_, rfl⟩
  have e0 : (Y 0).val = t.val / 8 * 1024 + (y 0).val := by rw [e]; blk_simp [outs t]
  have e1 : (Y 1).val = t.val % 8 * 512 + (y 1).val := by rw [e]; blk_simp [outs t]
  rw [← e]
  clear e
  revert e0 e1
  suffices all : ∀ z : S1024x512.Idx, (Y 0).val = t.val / 8 * 1024 + (z 0).val → (Y 1).val = t.val % 8 * 512 + (z 1).val → (blk m c t) z = OUT (m ((c : Thread nD τ).loc main_arg0)) (m ((c : Thread nD τ).loc main_arg1)) (m ((c : Thread nD τ).loc main_arg2)) Y from fun e0 e1 => all y e0 e1
  intro z e0 e1
  idx_vars z
  exact point4 m c t _ _ Y e0 e1

theorem final5 (c : Dev nD) : ((dats m 0 c).arrAt 5 cfg0.N : FVec Ideal S16384x4096 .bf16)
    = GAINED (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t hf y => ?_
  blk_simp
  rw [after0_5, left5]
  obtain ⟨Y, e⟩ : ∃ Y : S16384x4096.Idx, Y = ((View.whole main_v3_1).slice (win0_5.rect t)).emb y := ⟨_, rfl⟩
  have e0 : (Y 0).val = t.val / 8 * 1024 + (y 0).val := by rw [e]; blk_simp [outs t]
  have e1 : (Y 1).val = t.val % 8 * 512 + (y 1).val := by rw [e]; blk_simp [outs t]
  rw [← e]
  clear e
  revert e0 e1
  suffices all : ∀ z : S1024x512.Idx, (Y 0).val = t.val / 8 * 1024 + (z 0).val → (Y 1).val = t.val % 8 * 512 + (z 1).val → k0_pay2 (F := Ideal) (iblk m c 2 t) (iblk m c 0 t) (iblk m c 1 t) (iblk m c 3 t) z = GAINED (m ((c : Thread nD τ).loc main_arg0)) (m ((c : Thread nD τ).loc main_arg1)) (m ((c : Thread nD τ).loc main_arg2)) (m ((c : Thread nD τ).loc main_arg3)) Y from fun e0 e1 => all y e0 e1
  intro z e0 e1
  idx_vars z
  exact point5 m c t _ _ Y e0 e1

theorem final6 (c : Dev nD) : ((dats m 0 c).arrAt 6 cfg0.N : FVec Ideal S16384x1 .f32)
    = SQUARES (m ((c : Thread nD τ).loc main_arg0)) (m ((c : Thread nD τ).loc main_arg1)) (m ((c : Thread nD τ).loc main_arg2)) := by
  refine (dats m 0 c).arrAt_eq_of_covers 6 _ (by decide +kernel) fun t hf y => ?_
  blk_simp
  rw [after0_6]
  rw [Pipeline.eq_sum_fin_of_reset_step_apply_of_flush (fun n h => (outsAt0 m c n h).2.2) 8 (fun _ => 0) _
    (fun t h j => by rw [outsAt0_A m c t h]; frame_out; rw [collected (blk m c t) _ _ _ _ rfl, zeroed])
    (fun t h j => by rw [outsAt0_B m c t h]; frame_out; rw [collected (blk m c t) _ _ _ _ rfl])
    t ((flush0_6 t).mp hf) _, zero_add]
  obtain ⟨Y, e⟩ : ∃ Y : S16384x1.Idx, Y = ((View.whole main_v3_2).slice (win0_6.rect t)).emb y := ⟨_, rfl⟩
  have e0 : (Y 0).val = t.val / 8 * 1024 + (y 0).val := by rw [e]; blk_simp [outs t]
  rw [← e]
  clear e
  unfold SQUARES
  refine Fin.sum_mul_add_congr fun s k hl => ?_
  have key : ∀ h : 8 * (t.val / 8) + s.val < cfg0.N, (blk m c ⟨8 * (t.val / 8) + s.val, h⟩) (ix2 ⟨(y 0).val, (y 0).isLt⟩ k)
      = resAt (m ((c : Thread nD τ).loc main_arg0)) (m ((c : Thread nD τ).loc main_arg1)) (m ((c : Thread nD τ).loc main_arg2)) ⟨(Y 0).val, (Y 0).isLt⟩ ⟨s.val * 512 + k.val, hl⟩ := fun h =>
    (blk_at m c ⟨8 * (t.val / 8) + s.val, h⟩ ⟨(y 0).val, (y 0).isLt⟩ k).trans
      (congrArg₂ (resAt (m ((c : Thread nD τ).loc main_arg0)) (m ((c : Thread nD τ).loc main_arg1)) (m ((c : Thread nD τ).loc main_arg2))) (Fin.ext (by show (8 * (t.val / 8) + s.val) / 8 * 1024 + (y 0).val = (Y 0).val; omega))
        (Fin.ext (by show (8 * (t.val / 8) + s.val) % 8 * 512 + k.val = s.val * 512 + k.val; omega)))
  exact congrArg₂ (fun a b : EReal => a * b) (key _) (key _)
end

theorem same : algebraic_Kernel8Ideal_Reference8Ideal := by
  intro m g m' g' _ hargs
  refine ⟨fun c => OUT (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)) (m ((c.tc : Thread Cert.Kernel8Ideal.nD Cert.Kernel8Ideal.τ).loc Cert.Kernel8Ideal.main_arg2)),
    fun c => GAINED (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)) (m ((c.tc : Thread Cert.Kernel8Ideal.nD Cert.Kernel8Ideal.τ).loc Cert.Kernel8Ideal.main_arg2)) (m ((c.tc : Thread Cert.Kernel8Ideal.nD Cert.Kernel8Ideal.τ).loc Cert.Kernel8Ideal.main_arg3)),
    fun c => SQUARES (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)) (m ((c.tc : Thread Cert.Kernel8Ideal.nD Cert.Kernel8Ideal.τ).loc Cert.Kernel8Ideal.main_arg2)), ?_, ?_⟩
  · exact (θ_run _ _ _).mono (fun r h c => ⟨(h c).1.trans (final4 m c), (h c).2.1.trans (final5 m c), (h c).2.2.1.trans (final6 m c), (h c).2.2.2⟩) (Cert.Kernel8Ideal.Value.run_blocks m g)
  · refine (θ_run _ _ _).mono (fun r h c => ⟨(h c).1.trans ?_, (h c).2.1.trans ?_, (h c).2.2.1.trans ?_, (h c).2.2.2⟩) (Cert.Reference8Ideal.Value.run m' g')
    · obtain ⟨e0, e1, e2, e3⟩ := hargs c
      rw [Cert.Reference8Ideal.Read.val_main_v1_eq, e0, e1, e2]
      exact reference_out _ _ _
    · obtain ⟨e0, e1, e2, e3⟩ := hargs c
      rw [Cert.Reference8Ideal.Read.val_main_v7_eq, e0, e1, e2, e3]
      exact reference_gained _ _ _ _
    · obtain ⟨e0, e1, e2, e3⟩ := hargs c
      rw [Cert.Reference8Ideal.Read.val_main_v10_eq, e0, e1, e2]
      exact reference_squares _ _ _

theorem frame_reference : quiescent_Reference8Ideal := fun m g _ =>
  (θ_run _ _ _).mono (fun r h => ⟨fun c => (h c).2.2.2, sem_eq_zero_of_no_sems (by decide) r.2⟩) (Cert.Reference8Ideal.Value.run m g)

theorem named : preserves_Kernel8_Kernel8Ideal := trivial

end Cert.Out

end
-- ==== Proof.Last.lean ====
/- The last projection of a layer, added to the residual stream: `x + 0.5 * (hidden @ w)`. Each grid point writes a block of 1024 rows
   by 512 columns. -/
module

public import proofs.«01_k».proof.Proof.Dense
public import proofs.«01_k».proof.Defs
public import proofs.«01_k».proof.Proof.Gen.Kernel9Ideal.Value
public import proofs.«01_k».proof.Proof.Gen.Reference9Ideal.Read
public import Idealize.ShloMosaic.Lib.Pipeline.ValueKit

@[expose] public section

set_option maxRecDepth 65536
noncomputable section
open Idealize.ShloMosaic Idealize.ShloMosaic.TcCoe Idealize.SL.Sem
open Idealize.ShloMosaic.Pipeline (Dat)

namespace Cert.Last
open Cert.Dense

section
open Cert.Kernel9Ideal
variable (a : FVec Ideal S16384x4096 .f32) (w : FVec Ideal S4096x4096 .f32) (x : FVec Ideal S16384x4096 .f32)

/-- The residual stream after the projection, an element. -/
def resAt (R : Fin 16384) (C : Fin 4096) : EReal :=
  x (ix2 R C) + Ideal.ofBits .f32 0x3F000000#32 * ∑ k : Fin 4096, a (ix2 R k) * w (ix2 k C)

/-- The residual stream. -/
def OUT : FVec Ideal S16384x4096 .f32 :=
  fun j => resAt a w x ⟨(j 0).val, (j 0).isLt⟩ ⟨(j 1).val, (j 1).isLt⟩

end

section
open Cert.Reference9Ideal Cert.Reference9Ideal.Gen Cert.Reference9Ideal.Read
variable (a : FVec Ideal S16384x4096 .f32) (w : FVec Ideal S4096x4096 .f32) (x : FVec Ideal S16384x4096 .f32)

theorem residual_at (R : Fin 16384) (C : Fin 4096) : val_main_v3 (F := Ideal) a w x (ix2 R C) = resAt a w x R C := by
  unfold resAt
  pointwise [val_main_v3, val_main_v2, val_main_v1, val_main_cst, val_main_v0]

theorem reference_out : val_main_v3 (F := Ideal) a w x = OUT a w x := by
  funext j
  idx_vars j
  exact residual_at _ _ _ _ _

end

section
open Cert.Kernel9Ideal Cert.Kernel9Ideal.Gen
variable (m : (ℓ : Loc nD τ sig) → Buf (Elt Ideal) ℓ)

theorem idx : ∀ t : Fin cfg0.N, win0_0.index t = ![t.val / 8, 0] ∧ win0_1.index t = ![0, t.val % 8] ∧ win0_2.index t = ![t.val / 8, t.val % 8]
    ∧ win0_3.index t = ![t.val / 8, t.val % 8] ∧ t.val < 128 :=
  (by decide +kernel : ∀ t : Fin grid0.N, _)

theorem lt0 (t : Fin cfg0.N) : t.val < 128 := (idx t).2.2.2.2

theorem entry0 (c : Dev nD) : (V m c main_v0 : FVec Ideal S16384x4096 .bf16) = (m ((c : Thread nD τ).loc main_arg0) : FVec Ideal S16384x4096 .f32) := by
  show StableHlo.after hostOps0 (fun b => m (c, b)) (Proc.devRef .tc main_v0) = _
  simp only [hostOps0, List.flatten_cons, List.flatten_nil, List.append_nil, List.cons_append, List.nil_append, StableHlo.after_cons, StableHlo.after_nil]
  after_results_simp
  rfl

theorem entry1 (c : Dev nD) : (V m c main_v1 : FVec Ideal S4096x4096 .bf16) = (m ((c : Thread nD τ).loc main_arg1) : FVec Ideal S4096x4096 .f32) := by
  show StableHlo.after hostOps0 (fun b => m (c, b)) (Proc.devRef .tc main_v1) = _
  simp only [hostOps0, List.flatten_cons, List.flatten_nil, List.append_nil, List.cons_append, List.nil_append, StableHlo.after_cons, StableHlo.after_nil]
  after_results_simp
  rfl

section Reads
variable (c : Dev nD) (t : Fin cfg0.N)

theorem read0 (r : Fin 1024) (k : Fin 4096) : (iblk m c 0 t : FVec Ideal S1024x4096 .bf16) (ix2 r k)
    = (V m c main_v0 : FVec Ideal S16384x4096 .bf16) (ix2 ⟨t.val / 8 * 1024 + r.val, by have := lt0 t; omega⟩ k) := by
  blk_ext [iblk, idx t]

theorem read1 (k : Fin 4096) (C : Fin 512) : (iblk m c 1 t : FVec Ideal S4096x512 .bf16) (ix2 k C)
    = (V m c main_v1 : FVec Ideal S4096x4096 .bf16) (ix2 k ⟨t.val % 8 * 512 + C.val, by omega⟩) := by
  blk_ext [iblk, idx t]

theorem read2 (r : Fin 1024) (C : Fin 512) : (iblk m c 2 t : FVec Ideal S1024x512 .f32) (ix2 r C)
    = (m ((c : Thread nD τ).loc main_arg2) : FVec Ideal S16384x4096 .f32) (ix2 ⟨t.val / 8 * 1024 + r.val, by have := lt0 t; omega⟩ ⟨t.val % 8 * 512 + C.val, by omega⟩) := by
  blk_ext [iblk, V_main_arg2, idx t]

end Reads

theorem computed (x : FVec Ideal S1024x512 .f32) (a : FVec Ideal S1024x4096 .bf16) (w : FVec Ideal S4096x512 .bf16) (r : Fin 1024) (C : Fin 512) :
    k0_pay1 (F := Ideal) x a w (ix2 r C) = x (ix2 r C) + Ideal.ofBits .f32 0x3F000000#32 * ∑ k : Fin 4096, a (ix2 r k) * w (ix2 k C) := by
  pointwise [k0_pay1]

/-- What a grid point stores is the result's block. -/
theorem point (c : Dev nD) (t : Fin cfg0.N) (X : FVec Ideal S1024x512 .f32) (A : FVec Ideal S1024x4096 .bf16) (W : FVec Ideal S4096x512 .bf16)
    (hX : ∀ (r : Fin 1024) (C : Fin 512), X (ix2 r C) = (iblk m c 2 t : FVec Ideal S1024x512 .f32) (ix2 r C))
    (hA : ∀ (r : Fin 1024) (k : Fin 4096), A (ix2 r k) = (iblk m c 0 t : FVec Ideal S1024x4096 .bf16) (ix2 r k))
    (hW : ∀ (k : Fin 4096) (C : Fin 512), W (ix2 k C) = (iblk m c 1 t : FVec Ideal S4096x512 .bf16) (ix2 k C))
    (r : Fin 1024) (C : Fin 512) (Y : S16384x4096.Idx)
    (hY0 : (Y 0).val = t.val / 8 * 1024 + r.val) (hY1 : (Y 1).val = t.val % 8 * 512 + C.val) :
    k0_pay1 (F := Ideal) X A W (ix2 r C) = OUT (m ((c : Thread nD τ).loc main_arg0)) (m ((c : Thread nD τ).loc main_arg1)) (m ((c : Thread nD τ).loc main_arg2)) Y := by
  have ht := lt0 t
  have hR : (⟨(Y 0).val, (Y 0).isLt⟩ : Fin 16384) = ⟨t.val / 8 * 1024 + r.val, by omega⟩ := Fin.ext hY0
  have hC : (⟨(Y 1).val, (Y 1).isLt⟩ : Fin 4096) = ⟨t.val % 8 * 512 + C.val, by omega⟩ := Fin.ext hY1
  unfold OUT
  rw [hR, hC]
  refine (computed _ _ _ r C).trans ?_
  have e0 : ∀ k : Fin 4096, A (ix2 r k) = _ := fun k => ((hA r k).trans (read0 m c t r k)).trans (by rw [entry0])
  have e1 : ∀ k : Fin 4096, W (ix2 k C) = _ := fun k => ((hW k C).trans (read1 m c t k C)).trans (by rw [entry1])
  unfold resAt
  rw [hX, read2]
  simp only [e0, e1]

theorem final3 (c : Dev nD) : ((dats m 0 c).arrAt 3 cfg0.N : FVec Ideal S16384x4096 .f32)
    = OUT (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after0_3]
  unfold out0_3
  obtain ⟨Y, e⟩ : ∃ Y : S16384x4096.Idx, Y = ((View.whole main_v2).slice (win0_3.rect t)).emb y := ⟨_, rfl⟩
  have e0 : (Y 0).val = t.val / 8 * 1024 + (y 0).val := by rw [e]; blk_simp [idx t]
  have e1 : (Y 1).val = t.val % 8 * 512 + (y 1).val := by rw [e]; blk_simp [idx t]
  rw [← e]
  clear e
  canon_tiles x h
  idx_vars x
  refine point m c t _ _ _ ?_ ?_ ?_ _ _ _ (by rw [e0, h0]) (by rw [e1, h1])
  all_goals intro r k; pointwise
end

theorem same : algebraic_Kernel9Ideal_Reference9Ideal := by
  intro m g m' g' _ hargs
  refine ⟨fun c => OUT (m ((c.tc : Thread Cert.Kernel9Ideal.nD Cert.Kernel9Ideal.τ).loc Cert.Kernel9Ideal.main_arg0)) (m ((c.tc : Thread Cert.Kernel9Ideal.nD Cert.Kernel9Ideal.τ).loc Cert.Kernel9Ideal.main_arg1)) (m ((c.tc : Thread Cert.Kernel9Ideal.nD Cert.Kernel9Ideal.τ).loc Cert.Kernel9Ideal.main_arg2)), ?_, ?_⟩
  · exact (θ_run _ _ _).mono (fun r h c => ⟨(h c).1.trans (final3 m c), (h c).2⟩) (Cert.Kernel9Ideal.Value.run_blocks m g)
  · refine (θ_run _ _ _).mono (fun r h c => ⟨(h c).1.trans ?_, (h c).2⟩) (Cert.Reference9Ideal.Value.run m' g')
    obtain ⟨e0, e1, e2⟩ := hargs c
    rw [Cert.Reference9Ideal.Read.val_main_v3_eq, e0, e1, e2]
    exact reference_out _ _ _

theorem frame_reference : quiescent_Reference9Ideal := fun m g _ =>
  (θ_run _ _ _).mono (fun r h => ⟨fun c => (h c).2, sem_eq_zero_of_no_sems (by decide) r.2⟩) (Cert.Reference9Ideal.Value.run m g)

theorem named : preserves_Kernel9_Kernel9Ideal := trivial

end Cert.Last

end
-- ==== Proof.Up2.lean ====
/- The second feed-forward part's first call: the normed row projected to a gate and a value, `silu(gate) * value`, and the next
   layer's two weights cast beside it. Each grid point writes a block of 1024 rows by 512 columns, and 32 rows of each cast weight. -/
module

public import proofs.«01_k».proof.Proof.Dense
public import proofs.«01_k».proof.Defs
public import proofs.«01_k».proof.Proof.Gen.Kernel10Ideal.Value
public import proofs.«01_k».proof.Proof.Gen.Reference10Ideal.Read
public import Idealize.ShloMosaic.Lib.Pipeline.ValueKit

@[expose] public section

set_option maxRecDepth 65536
noncomputable section
open Idealize.ShloMosaic Idealize.ShloMosaic.TcCoe Idealize.SL.Sem
open Idealize.ShloMosaic.Pipeline (Dat)

namespace Cert.Up2
open Cert.Dense

section
open Cert.Kernel10Ideal

/-- `silu(a) * b`. -/
def glu (a b : EReal) : EReal := a * Ideal.logistic a * b

/-- An element of the result. -/
def outAt (x : FVec Ideal S16384x4096 .f32) (g : FVec Ideal S4096 .f32) (w : FVec Ideal S4096x8192 .f32) (R : Fin 16384) (C : Fin 4096) : EReal :=
  glu (proj (fun k => x (ix2 R k)) (fun k => g (ix1 k)) (fun k => w (ix2 k ⟨C.val, by omega⟩)))
    (proj (fun k => x (ix2 R k)) (fun k => g (ix1 k)) (fun k => w (ix2 k ⟨4096 + C.val, by omega⟩)))

/-- The whole result. -/
def OUT (x : FVec Ideal S16384x4096 .f32) (g : FVec Ideal S4096 .f32) (w : FVec Ideal S4096x8192 .f32) : FVec Ideal S16384x4096 .bf16 :=
  fun j => outAt x g w ⟨(j 0).val, (j 0).isLt⟩ ⟨(j 1).val, (j 1).isLt⟩

/-- The next layer's weights, cast beside. -/
def CAST1 (w : FVec Ideal S4x4096x8192 .f32) : FVec Ideal S4096x8192 .bf16 :=
  fun j => w (ix3 1 ⟨(j 0).val, (j 0).isLt⟩ ⟨(j 1).val, (j 1).isLt⟩)

def CAST2 (w : FVec Ideal S4x4096x4096 .f32) : FVec Ideal S4096x4096 .bf16 :=
  fun j => w (ix3 1 ⟨(j 0).val, (j 0).isLt⟩ ⟨(j 1).val, (j 1).isLt⟩)
end

section
open Cert.Reference10Ideal Cert.Reference10Ideal.Gen Cert.Reference10Ideal.Read
variable (x0 : FVec Ideal S16384x4096 .f32) (x1 : FVec Ideal S4096 .f32) (x2 : FVec Ideal S4096x8192 .f32) (x3 : FVec Ideal S4x4096x8192 .f32) (x4 : FVec Ideal S4x4096x4096 .f32)

theorem normed_at (R : Fin 16384) (k : Fin 4096) : val_main_v12 (F := Ideal) x0 x1 (ix2 R k) = x0 (ix2 R k) * inv (ssq fun k => x0 (ix2 R k)) * x1 (ix1 k) := by
  rw [← inv_eq_mean]
  unfold ssq
  pointwise [val_main_v12, val_main_v11, val_main_v10, val_main_v9, val_main_v8, val_main_v7, val_main_v6, val_main_v5, val_main_cst_1, val_main_v4, val_main_v3, val_main_cst_0, val_main_v2, val_main_v1, val_main_cst, val_main_v0]

theorem dot_at (R : Fin 16384) (C : Fin 8192) : val_main_v13 (F := Ideal) x0 x1 x2 (ix2 R C)
    = proj (fun k => x0 (ix2 R k)) (fun k => x1 (ix1 k)) (fun k => x2 (ix2 k C)) := by
  rw [← proj_eq]
  have h := normed_at x0 x1 R
  unfold val_main_v13
  generalize val_main_v12 (F := Ideal) x0 x1 = A at h ⊢
  pointwise
  exact Finset.sum_congr rfl fun k _ => by rw [h k]

theorem reference_out : val_main_v18 (F := Ideal) x0 x1 x2 = OUT x0 x1 x2 := by
  have all : ∀ (R : Fin 16384) (C : Fin 4096), val_main_v18 (F := Ideal) x0 x1 x2 (ix2 R C) = outAt x0 x1 x2 R C := fun R C => by
    unfold outAt glu Ideal.logistic
    rw [← dot_at, ← dot_at]
    unfold val_main_v18 val_main_v17 val_main_v16 val_main_call0_v5 val_main_call0_v4 val_main_call0_cst_0 val_main_call0_v3 val_main_call0_v2 val_main_call0_cst val_main_call0_v1 val_main_call0_v0 val_main_v15 val_main_v14
    generalize val_main_v13 (F := Ideal) x0 x1 x2 = A
    pointwise
  funext j
  idx_vars j
  exact all _ _

theorem reference_cast1 : val_main_v21 (F := Ideal) x3 = CAST1 x3 := by
  have all : ∀ (R : Fin 4096) (C : Fin 8192), val_main_v21 (F := Ideal) x3 (ix2 R C) = x3 (ix3 1 R C) := fun R C => by
    pointwise [val_main_v21, val_main_v20, val_main_v19]
  funext j
  idx_vars j
  exact all _ _

theorem reference_cast2 : val_main_v24 (F := Ideal) x4 = CAST2 x4 := by
  have all : ∀ (R : Fin 4096) (C : Fin 4096), val_main_v24 (F := Ideal) x4 (ix2 R C) = x4 (ix3 1 R C) := fun R C => by
    pointwise [val_main_v24, val_main_v23, val_main_v22]
  funext j
  idx_vars j
  exact all _ _
end

section
open Cert.Kernel10Ideal Cert.Kernel10Ideal.Gen
variable (m : (ℓ : Loc nD τ sig) → Buf (Elt Ideal) ℓ)

theorem idx : ∀ t : Fin cfg0.N, win0_0.index t = ![t.val / 8, 0] ∧ win0_1.index t = ![t.val / 8, 0]
    ∧ win0_2.index t = ![0, t.val % 8] ∧ win0_3.index t = ![0, t.val % 8 + 8] ∧ win0_4.index t = ![1, t.val, 0] ∧ win0_5.index t = ![1, t.val, 0]
    ∧ win0_6.index t = ![t.val / 8, t.val % 8] ∧ win0_7.index t = ![t.val, 0] ∧ win0_8.index t = ![t.val, 0] ∧ t.val < 128 :=
  (by decide +kernel : ∀ t : Fin grid0.N, _)

theorem lt0 (t : Fin cfg0.N) : t.val < 128 := (idx t).2.2.2.2.2.2.2.2.2

section Host
variable (x : FVec Ideal S16384x4096 .f32) (g : FVec Ideal S4096 .f32)

/-- The operand the call before hands over: the row times the gain. -/
def gained : FVec Ideal S16384x4096 .bf16 :=
  truncf .bf16 (mulf x (broadcastInDim S16384x4096 ![0, 1] bcast_S1x4096_S16384x4096_0_1 (broadcastInDim S1x4096 ![1] bcast_S4096_S1x4096_1 g))) bitsLt_bf16_f32

/-- And the rows' sums of squares. -/
def squares : FVec Ideal S16384x1 .f32 :=
  broadcastInDim S16384x1 ![0] bcast_S16384_S16384x1_0 (Host.reduceAdd (mulf x x) (constant S_ .f32 0x00000000#32) reducesTo_S16384x4096_S16384_d1 h_S_)

theorem gained_at (R : Fin 16384) (k : Fin 4096) : gained x g (ix2 R k) = x (ix2 R k) * g (ix1 k) := by
  pointwise [gained]

theorem squares_at (R : Fin 16384) : squares x (ix2 R 0) = ssq fun k => x (ix2 R k) := by
  unfold ssq
  pointwise [squares]
end Host

theorem entry0 (c : Dev nD) : (V m c main_v3 : FVec Ideal S16384x4096 .bf16) = gained (m ((c : Thread nD τ).loc main_arg0)) (m ((c : Thread nD τ).loc main_arg1)) := by
  show StableHlo.after hostOps0 (fun b => m (c, b)) (Proc.devRef .tc main_v3) = _
  simp only [hostOps0, List.flatten_cons, List.flatten_nil, List.append_nil, List.cons_append, List.nil_append, StableHlo.after_cons, StableHlo.after_nil]
  after_results_simp
  rfl

theorem entry1 (c : Dev nD) : (V m c main_v6 : FVec Ideal S16384x1 .f32) = squares (m ((c : Thread nD τ).loc main_arg0)) := by
  show StableHlo.after hostOps0 (fun b => m (c, b)) (Proc.devRef .tc main_v6) = _
  simp only [hostOps0, List.flatten_cons, List.flatten_nil, List.append_nil, List.cons_append, List.nil_append, StableHlo.after_cons, StableHlo.after_nil]
  after_results_simp
  rfl

theorem entry2 (c : Dev nD) : (V m c main_v7 : FVec Ideal S4096x8192 .bf16) = (m ((c : Thread nD τ).loc main_arg2) : FVec Ideal S4096x8192 .f32) := by
  show StableHlo.after hostOps0 (fun b => m (c, b)) (Proc.devRef .tc main_v7) = _
  simp only [hostOps0, List.flatten_cons, List.flatten_nil, List.append_nil, List.cons_append, List.nil_append, StableHlo.after_cons, StableHlo.after_nil]
  after_results_simp
  rfl

section Reads
variable (c : Dev nD) (t : Fin cfg0.N)

theorem read0 (r : Fin 1024) (k : Fin 4096) : (iblk m c 0 t : FVec Ideal S1024x4096 .bf16) (ix2 r k)
    = (V m c main_v3 : FVec Ideal S16384x4096 .bf16) (ix2 ⟨t.val / 8 * 1024 + r.val, by have := lt0 t; omega⟩ k) := by
  blk_ext [iblk, idx t]

theorem read1 (r : Fin 1024) : (iblk m c 1 t : FVec Ideal S1024x1 .f32) (ix2 r 0)
    = (V m c main_v6 : FVec Ideal S16384x1 .f32) (ix2 ⟨t.val / 8 * 1024 + r.val, by have := lt0 t; omega⟩ 0) := by
  blk_ext [iblk, idx t]

theorem read2 (k : Fin 4096) (C : Fin 512) : (iblk m c 2 t : FVec Ideal S4096x512 .bf16) (ix2 k C)
    = (V m c main_v7 : FVec Ideal S4096x8192 .bf16) (ix2 k ⟨t.val % 8 * 512 + C.val, by omega⟩) := by
  blk_ext [iblk, idx t]

theorem read3 (k : Fin 4096) (C : Fin 512) : (iblk m c 3 t : FVec Ideal S4096x512 .bf16) (ix2 k C)
    = (V m c main_v7 : FVec Ideal S4096x8192 .bf16) (ix2 k ⟨(t.val % 8 + 8) * 512 + C.val, by omega⟩) := by
  blk_ext [iblk, idx t]

theorem read4 (r : Fin 32) (C : Fin 8192) : (iblk m c 4 t : FVec Ideal S1x32x8192 .f32) (ix3 0 r C)
    = (m ((c : Thread nD τ).loc main_arg3) : FVec Ideal S4x4096x8192 .f32) (ix3 1 ⟨t.val * 32 + r.val, by have := lt0 t; omega⟩ C) := by
  blk_ext [iblk, V_main_arg3, idx t]

theorem read5 (r : Fin 32) (C : Fin 4096) : (iblk m c 5 t : FVec Ideal S1x32x4096 .f32) (ix3 0 r C)
    = (m ((c : Thread nD τ).loc main_arg4) : FVec Ideal S4x4096x4096 .f32) (ix3 1 ⟨t.val * 32 + r.val, by have := lt0 t; omega⟩ C) := by
  blk_ext [iblk, V_main_arg4, idx t]
end Reads

/-- What a grid point stores. -/
theorem stored (h : FVec Ideal S1024x4096 .bf16) (s : FVec Ideal S1024x1 .f32) (w u : FVec Ideal S4096x512 .bf16) (r : Fin 1024) (C : Fin 512) :
    k0_pay3 (F := Ideal) h s w u (ix2 r C) = glu ((∑ k : Fin 4096, h (ix2 r k) * w (ix2 k C)) * Dense.inv (s (ix2 r 0))) ((∑ k : Fin 4096, h (ix2 r k) * u (ix2 k C)) * Dense.inv (s (ix2 r 0))) := by
  unfold glu Dense.inv
  pointwise [k0_pay3]

/-- It is the result's block. -/
theorem point (c : Dev nD) (t : Fin cfg0.N) (H : FVec Ideal S1024x4096 .bf16) (S : FVec Ideal S1024x1 .f32) (W U : FVec Ideal S4096x512 .bf16)
    (hH : ∀ (r : Fin 1024) (k : Fin 4096), H (ix2 r k) = (iblk m c 0 t : FVec Ideal S1024x4096 .bf16) (ix2 r k))
    (hS : ∀ r : Fin 1024, S (ix2 r 0) = (iblk m c 1 t : FVec Ideal S1024x1 .f32) (ix2 r 0))
    (hW : ∀ (k : Fin 4096) (C : Fin 512), W (ix2 k C) = (iblk m c 2 t : FVec Ideal S4096x512 .bf16) (ix2 k C))
    (hU : ∀ (k : Fin 4096) (C : Fin 512), U (ix2 k C) = (iblk m c 3 t : FVec Ideal S4096x512 .bf16) (ix2 k C))
    (r : Fin 1024) (C : Fin 512) (Y : S16384x4096.Idx)
    (hY0 : (Y 0).val = t.val / 8 * 1024 + r.val) (hY1 : (Y 1).val = t.val % 8 * 512 + C.val) :
    k0_pay3 (F := Ideal) H S W U (ix2 r C)
      = OUT (m ((c : Thread nD τ).loc main_arg0)) (m ((c : Thread nD τ).loc main_arg1)) (m ((c : Thread nD τ).loc main_arg2)) Y := by
  have ht := lt0 t
  have hR : (⟨(Y 0).val, (Y 0).isLt⟩ : Fin 16384) = ⟨t.val / 8 * 1024 + r.val, by omega⟩ := Fin.ext hY0
  have hC : (⟨(Y 1).val, (Y 1).isLt⟩ : Fin 4096) = ⟨t.val % 8 * 512 + C.val, by omega⟩ := Fin.ext hY1
  unfold OUT
  rw [hR, hC]
  refine (stored _ _ _ _ r C).trans ?_
  unfold outAt proj
  rw [hS, read1, entry1, squares_at]
  have e0 : ∀ k : Fin 4096, H (ix2 r k) = _ := fun k => ((hH r k).trans (read0 m c t r k)).trans (by rw [entry0, gained_at])
  have e2 : ∀ k : Fin 4096, W (ix2 k C) = _ := fun k => ((hW k C).trans (read2 m c t k C)).trans (by rw [entry2])
  have e3 : ∀ k : Fin 4096, U (ix2 k C) = _ := fun k => ((hU k C).trans (read3 m c t k C)).trans (by rw [entry2])
  simp only [e0, e2, e3]
  have hs : (⟨(t.val % 8 + 8) * 512 + C.val, by omega⟩ : Fin 8192) = ⟨4096 + (t.val % 8 * 512 + C.val), by omega⟩ := Fin.ext (by show (t.val % 8 + 8) * 512 + C.val = 4096 + (t.val % 8 * 512 + C.val); omega)
  rw [hs]

theorem final6 (c : Dev nD) : ((dats m 0 c).arrAt 6 cfg0.N : FVec Ideal S16384x4096 .bf16)
    = OUT (m ((c : Thread nD τ).loc main_arg0)) (m ((c : Thread nD τ).loc main_arg1)) (m ((c : Thread nD τ).loc main_arg2)) := by
  refine (dats m 0 c).arrAt_eq_of_covers 6 _ (by decide +kernel) fun t hf y => ?_
  blk_simp
  rw [after0_6]
  unfold out0_6
  obtain ⟨Y, e⟩ : ∃ Y : S16384x4096.Idx, Y = ((View.whole main_v8_0).slice (win0_6.rect t)).emb y := ⟨_, rfl⟩
  have e0 : (Y 0).val = t.val / 8 * 1024 + (y 0).val := by rw [e]; blk_simp [idx t]
  have e1 : (Y 1).val = t.val % 8 * 512 + (y 1).val := by rw [e]; blk_simp [idx t]
  rw [← e]
  clear e
  canon_tiles x h
  idx_vars x
  refine point m c t _ _ _ _ ?_ ?_ ?_ ?_ _ _ _ (by rw [e0, h0]) (by rw [e1, h1])
  all_goals first | (intro r k; pointwise) | (intro r; pointwise)

/-- The rows of the cast weight that a grid point stores. -/
theorem cast_point1 (c : Dev nD) (t : Fin cfg0.N) (H : FVec Ideal S1x32x8192 .f32)
    (hH : ∀ (r : Fin 32) (k : Fin 8192), H (ix3 0 r k) = (iblk m c 4 t : FVec Ideal S1x32x8192 .f32) (ix3 0 r k))
    (r : Fin 32) (C : Fin 8192) (Y : S4096x8192.Idx) (hY0 : (Y 0).val = t.val * 32 + r.val) (hY1 : (Y 1).val = C.val) :
    k0_pay1 (F := Ideal) H (ix2 r C) = CAST1 (m ((c : Thread nD τ).loc main_arg3)) Y := by
  have ht := lt0 t
  have hR : (⟨(Y 0).val, (Y 0).isLt⟩ : Fin 4096) = ⟨t.val * 32 + r.val, by omega⟩ := Fin.ext hY0
  have hC : (⟨(Y 1).val, (Y 1).isLt⟩ : Fin 8192) = C := Fin.ext hY1
  unfold CAST1
  rw [hR, hC]
  refine Eq.trans ?_ ((hH r C).trans (read4 m c t r C))
  pointwise [k0_pay1]

theorem final7 (c : Dev nD) : ((dats m 0 c).arrAt 7 cfg0.N : FVec Ideal S4096x8192 .bf16) = CAST1 (m ((c : Thread nD τ).loc main_arg3)) := by
  refine (dats m 0 c).arrAt_eq_of_covers 7 _ (by decide +kernel) fun t hf y => ?_
  blk_simp
  rw [after0_7]
  unfold out0_7
  obtain ⟨Y, e⟩ : ∃ Y : S4096x8192.Idx, Y = ((View.whole main_v8_1).slice (win0_7.rect t)).emb y := ⟨_, rfl⟩
  have e0 : (Y 0).val = t.val * 32 + (y 0).val := by rw [e]; blk_simp [idx t]
  have e1 : (Y 1).val = (y 1).val := by rw [e]; blk_simp [idx t]
  rw [← e]
  clear e
  canon_tiles x h
  idx_vars x
  refine cast_point1 m c t _ ?_ _ _ _ (by rw [e0, h0]) (by rw [e1, h1])
  intro r k; pointwise

/-- And of the other one. -/
theorem cast_point2 (c : Dev nD) (t : Fin cfg0.N) (H : FVec Ideal S1x32x4096 .f32)
    (hH : ∀ (r : Fin 32) (k : Fin 4096), H (ix3 0 r k) = (iblk m c 5 t : FVec Ideal S1x32x4096 .f32) (ix3 0 r k))
    (r : Fin 32) (C : Fin 4096) (Y : S4096x4096.Idx) (hY0 : (Y 0).val = t.val * 32 + r.val) (hY1 : (Y 1).val = C.val) :
    k0_pay2 (F := Ideal) H (ix2 r C) = CAST2 (m ((c : Thread nD τ).loc main_arg4)) Y := by
  have ht := lt0 t
  have hR : (⟨(Y 0).val, (Y 0).isLt⟩ : Fin 4096) = ⟨t.val * 32 + r.val, by omega⟩ := Fin.ext hY0
  have hC : (⟨(Y 1).val, (Y 1).isLt⟩ : Fin 4096) = C := Fin.ext hY1
  unfold CAST2
  rw [hR, hC]
  refine Eq.trans ?_ ((hH r C).trans (read5 m c t r C))
  pointwise [k0_pay2]

theorem final8 (c : Dev nD) : ((dats m 0 c).arrAt 8 cfg0.N : FVec Ideal S4096x4096 .bf16) = CAST2 (m ((c : Thread nD τ).loc main_arg4)) := by
  refine (dats m 0 c).arrAt_eq_of_covers 8 _ (by decide +kernel) fun t hf y => ?_
  blk_simp
  rw [after0_8]
  unfold out0_8
  obtain ⟨Y, e⟩ : ∃ Y : S4096x4096.Idx, Y = ((View.whole main_v8_2).slice (win0_8.rect t)).emb y := ⟨_, rfl⟩
  have e0 : (Y 0).val = t.val * 32 + (y 0).val := by rw [e]; blk_simp [idx t]
  have e1 : (Y 1).val = (y 1).val := by rw [e]; blk_simp [idx t]
  rw [← e]
  clear e
  canon_tiles x h
  idx_vars x
  refine cast_point2 m c t _ ?_ _ _ _ (by rw [e0, h0]) (by rw [e1, h1])
  intro r k; pointwise
end

theorem same : algebraic_Kernel10Ideal_Reference10Ideal := by
  intro m g m' g' _ hargs
  refine ⟨fun c => OUT (m ((c.tc : Thread Cert.Kernel10Ideal.nD Cert.Kernel10Ideal.τ).loc Cert.Kernel10Ideal.main_arg0)) (m ((c.tc : Thread Cert.Kernel10Ideal.nD Cert.Kernel10Ideal.τ).loc Cert.Kernel10Ideal.main_arg1))
    (m ((c.tc : Thread Cert.Kernel10Ideal.nD Cert.Kernel10Ideal.τ).loc Cert.Kernel10Ideal.main_arg2)),
    fun c => CAST1 (m ((c.tc : Thread Cert.Kernel10Ideal.nD Cert.Kernel10Ideal.τ).loc Cert.Kernel10Ideal.main_arg3)),
    fun c => CAST2 (m ((c.tc : Thread Cert.Kernel10Ideal.nD Cert.Kernel10Ideal.τ).loc Cert.Kernel10Ideal.main_arg4)), ?_, ?_⟩
  · exact (θ_run _ _ _).mono (fun r h c => ⟨(h c).1.trans (final6 m c), (h c).2.1.trans (final7 m c), (h c).2.2.1.trans (final8 m c), (h c).2.2.2⟩) (Cert.Kernel10Ideal.Value.run_blocks m g)
  · refine (θ_run _ _ _).mono (fun r h c => ⟨(h c).1.trans ?_, (h c).2.1.trans ?_, (h c).2.2.1.trans ?_, (h c).2.2.2⟩) (Cert.Reference10Ideal.Value.run m' g')
    · obtain ⟨e0, e1, e2, e3, e4⟩ := hargs c
      rw [Cert.Reference10Ideal.Read.val_main_v18_eq, e0, e1, e2]
      exact reference_out _ _ _
    · obtain ⟨e0, e1, e2, e3, e4⟩ := hargs c
      rw [Cert.Reference10Ideal.Read.val_main_v21_eq, e3]
      exact reference_cast1 _
    · obtain ⟨e0, e1, e2, e3, e4⟩ := hargs c
      rw [Cert.Reference10Ideal.Read.val_main_v24_eq, e4]
      exact reference_cast2 _

theorem frame_reference : quiescent_Reference10Ideal := fun m g _ =>
  (θ_run _ _ _).mono (fun r h => ⟨fun c => (h c).2.2.2, sem_eq_zero_of_no_sems (by decide) r.2⟩) (Cert.Reference10Ideal.Value.run m g)

theorem named : preserves_Kernel10_Kernel10Ideal := trivial

end Cert.Up2

end
-- ==== Proof.Mid.lean ====
/- The projection that ends a layer which another one follows: `x + 0.5 * (hidden @ w)`, the same times the next layer's gain, and
   the rows' sums of squares for its norm. Each grid point writes a block of 1024 rows by 512 columns; the sums of squares of 1024
   rows are collected over the 8 points that share them. -/
module

public import proofs.«01_k».proof.Proof.Dense
public import proofs.«01_k».proof.Defs
public import proofs.«01_k».proof.Proof.Gen.Kernel11Ideal.Value
public import proofs.«01_k».proof.Proof.Gen.Reference11Ideal.Read
public import Idealize.ShloMosaic.Lib.Pipeline.ValueKit

@[expose] public section

set_option maxRecDepth 65536
noncomputable section
open Idealize.ShloMosaic Idealize.ShloMosaic.TcCoe Idealize.SL.Sem
open Idealize.ShloMosaic.Pipeline (Dat)

namespace Cert.Mid
open Cert.Dense

section
open Cert.Kernel11Ideal
variable (a : FVec Ideal S16384x4096 .f32) (w : FVec Ideal S4096x4096 .f32) (x : FVec Ideal S16384x4096 .f32) (g : FVec Ideal S4x4096 .f32)

/-- The residual stream after the projection, an element. -/
def resAt (R : Fin 16384) (C : Fin 4096) : EReal :=
  x (ix2 R C) + Ideal.ofBits .f32 0x3F000000#32 * ∑ k : Fin 4096, a (ix2 R k) * w (ix2 k C)

/-- The residual stream. -/
def OUT : FVec Ideal S16384x4096 .f32 :=
  fun j => resAt a w x ⟨(j 0).val, (j 0).isLt⟩ ⟨(j 1).val, (j 1).isLt⟩

/-- Times the next norm's gain. -/
def GAINED : FVec Ideal S16384x4096 .bf16 :=
  fun j => resAt a w x ⟨(j 0).val, (j 0).isLt⟩ ⟨(j 1).val, (j 1).isLt⟩ * g (ix2 1 ⟨(j 1).val, (j 1).isLt⟩)

/-- The rows' sums of squares. -/
def SQUARES : FVec Ideal S16384x1 .f32 :=
  fun j => ∑ k : Fin 4096, resAt a w x ⟨(j 0).val, (j 0).isLt⟩ k * resAt a w x ⟨(j 0).val, (j 0).isLt⟩ k

end

section
open Cert.Reference11Ideal Cert.Reference11Ideal.Gen Cert.Reference11Ideal.Read
variable (a : FVec Ideal S16384x4096 .f32) (w : FVec Ideal S4096x4096 .f32) (x : FVec Ideal S16384x4096 .f32) (g : FVec Ideal S4x4096 .f32)

theorem residual_at (R : Fin 16384) (C : Fin 4096) : val_main_v3 (F := Ideal) a w x (ix2 R C) = resAt a w x R C := by
  unfold resAt
  pointwise [val_main_v3, val_main_v2, val_main_v1, val_main_cst, val_main_v0]

theorem reference_out : val_main_v3 (F := Ideal) a w x = OUT a w x := by
  funext j
  idx_vars j
  exact residual_at _ _ _ _ _

theorem reference_gained : val_main_v9 (F := Ideal) a w x g = GAINED a w x g := by
  have all : ∀ (R : Fin 16384) (C : Fin 4096), val_main_v9 (F := Ideal) a w x g (ix2 R C) = resAt a w x R C * g (ix2 1 C) := fun R C => by
    rw [← residual_at]
    unfold val_main_v9 val_main_v8
    generalize val_main_v3 (F := Ideal) a w x = A
    pointwise [val_main_v7, val_main_v6, val_main_v5, val_main_v4]
  funext j
  idx_vars j
  exact all _ _

theorem reference_squares : val_main_v12 (F := Ideal) a w x = SQUARES a w x := by
  have all : ∀ (R : Fin 16384) (z : Fin 1), val_main_v12 (F := Ideal) a w x (ix2 R z) = ∑ k : Fin 4096, resAt a w x R k * resAt a w x R k := fun R z => by
    simp only [← residual_at]
    unfold val_main_v12 val_main_v11 val_main_v10 val_main_cst_0
    generalize val_main_v3 (F := Ideal) a w x = A
    pointwise
  funext j
  idx_vars j
  exact all _ _
end

section
open Cert.Kernel11Ideal Cert.Kernel11Ideal.Gen
variable (m : (ℓ : Loc nD τ sig) → Buf (Elt Ideal) ℓ)

theorem ins : ∀ t : Fin cfg0.N, win0_0.index t = ![t.val / 8, 0] ∧ win0_1.index t = ![0, t.val % 8] ∧ win0_2.index t = ![t.val / 8, t.val % 8]
    ∧ win0_3.index t = ![1, 0, t.val % 8] ∧ t.val < 128 :=
  (by decide +kernel : ∀ t : Fin grid0.N, _)

theorem outs : ∀ t : Fin cfg0.N, win0_4.index t = ![t.val / 8, t.val % 8] ∧ win0_5.index t = ![t.val / 8, t.val % 8] ∧ win0_6.index t = ![t.val / 8, 0] :=
  (by decide +kernel : ∀ t : Fin grid0.N, _)

theorem lt0 (t : Fin cfg0.N) : t.val < 128 := (ins t).2.2.2.2

theorem entry0 (c : Dev nD) : (V m c main_v0 : FVec Ideal S16384x4096 .bf16) = (m ((c : Thread nD τ).loc main_arg0) : FVec Ideal S16384x4096 .f32) := by
  show StableHlo.after hostOps0 (fun b => m (c, b)) (Proc.devRef .tc main_v0) = _
  simp only [hostOps0, List.flatten_cons, List.flatten_nil, List.append_nil, List.cons_append, List.nil_append, StableHlo.after_cons, StableHlo.after_nil]
  after_results_simp
  rfl

theorem entry1 (c : Dev nD) : (V m c main_v1 : FVec Ideal S4096x4096 .bf16) = (m ((c : Thread nD τ).loc main_arg1) : FVec Ideal S4096x4096 .f32) := by
  show StableHlo.after hostOps0 (fun b => m (c, b)) (Proc.devRef .tc main_v1) = _
  simp only [hostOps0, List.flatten_cons, List.flatten_nil, List.append_nil, List.cons_append, List.nil_append, StableHlo.after_cons, StableHlo.after_nil]
  after_results_simp
  rfl

/-- The gains as the call takes them. -/
def gains (g : FVec Ideal S4x4096 .f32) : FVec Ideal S4x1x4096 .f32 := shapeCast S4x1x4096 g shapeCasts_S4x4096_S4x1x4096

theorem gains_at (g : FVec Ideal S4x4096 .f32) (k : Fin 4096) : gains g (ix3 1 0 k) = g (ix2 1 k) := by
  pointwise [gains]

theorem entry3 (c : Dev nD) : (V m c main_v2 : FVec Ideal S4x1x4096 .f32) = gains (m ((c : Thread nD τ).loc main_arg3)) := by
  show StableHlo.after hostOps0 (fun b => m (c, b)) (Proc.devRef .tc main_v2) = _
  simp only [hostOps0, List.flatten_cons, List.flatten_nil, List.append_nil, List.cons_append, List.nil_append, StableHlo.after_cons, StableHlo.after_nil]
  after_results_simp
  rfl

section Reads
variable (c : Dev nD) (t : Fin cfg0.N)

theorem read0 (r : Fin 1024) (k : Fin 4096) : (iblk m c 0 t : FVec Ideal S1024x4096 .bf16) (ix2 r k)
    = (V m c main_v0 : FVec Ideal S16384x4096 .bf16) (ix2 ⟨t.val / 8 * 1024 + r.val, by have := lt0 t; omega⟩ k) := by
  blk_ext [iblk, ins t]

theorem read1 (k : Fin 4096) (C : Fin 512) : (iblk m c 1 t : FVec Ideal S4096x512 .bf16) (ix2 k C)
    = (V m c main_v1 : FVec Ideal S4096x4096 .bf16) (ix2 k ⟨t.val % 8 * 512 + C.val, by omega⟩) := by
  blk_ext [iblk, ins t]

theorem read2 (r : Fin 1024) (C : Fin 512) : (iblk m c 2 t : FVec Ideal S1024x512 .f32) (ix2 r C)
    = (m ((c : Thread nD τ).loc main_arg2) : FVec Ideal S16384x4096 .f32) (ix2 ⟨t.val / 8 * 1024 + r.val, by have := lt0 t; omega⟩ ⟨t.val % 8 * 512 + C.val, by omega⟩) := by
  blk_ext [iblk, V_main_arg2, ins t]

theorem read3 (C : Fin 512) : (iblk m c 3 t : FVec Ideal S1x1x512 .f32) (ix3 0 0 C)
    = (V m c main_v2 : FVec Ideal S4x1x4096 .f32) (ix3 1 0 ⟨t.val % 8 * 512 + C.val, by omega⟩) := by
  blk_ext [iblk, ins t]

end Reads

/-- The block of the residual stream that a grid point computes. -/
def blk (c : Dev nD) (t : Fin cfg0.N) : FVec Ideal S1024x512 .f32 := k0_pay1 (F := Ideal) (iblk m c 2 t) (iblk m c 0 t) (iblk m c 1 t)

theorem computed (x : FVec Ideal S1024x512 .f32) (a : FVec Ideal S1024x4096 .bf16) (w : FVec Ideal S4096x512 .bf16) (r : Fin 1024) (C : Fin 512) :
    k0_pay1 (F := Ideal) x a w (ix2 r C) = x (ix2 r C) + Ideal.ofBits .f32 0x3F000000#32 * ∑ k : Fin 4096, a (ix2 r k) * w (ix2 k C) := by
  pointwise [k0_pay1]

theorem blk_at (c : Dev nD) (t : Fin cfg0.N) (r : Fin 1024) (C : Fin 512) : blk m c t (ix2 r C)
    = resAt (m ((c : Thread nD τ).loc main_arg0)) (m ((c : Thread nD τ).loc main_arg1)) (m ((c : Thread nD τ).loc main_arg2))
        ⟨t.val / 8 * 1024 + r.val, by have := lt0 t; omega⟩ ⟨t.val % 8 * 512 + C.val, by omega⟩ := by
  refine (computed _ _ _ r C).trans ?_
  have e0 : ∀ k : Fin 4096, (iblk m c 0 t : FVec Ideal S1024x4096 .bf16) (ix2 r k) = _ := fun k => (read0 m c t r k).trans (by rw [entry0])
  have e1 : ∀ k : Fin 4096, (iblk m c 1 t : FVec Ideal S4096x512 .bf16) (ix2 k C) = _ := fun k => (read1 m c t k C).trans (by rw [entry1])
  unfold resAt
  rw [read2]
  simp only [e0, e1]

theorem gained_pay (T : FVec Ideal S1024x512 .f32) (x : FVec Ideal S1024x512 .f32) (a : FVec Ideal S1024x4096 .bf16) (w : FVec Ideal S4096x512 .bf16)
    (g : FVec Ideal S1x1x512 .f32) (r : Fin 1024) (C : Fin 512) (h : k0_pay1 (F := Ideal) x a w = T) :
    k0_pay2 (F := Ideal) x a w g (ix2 r C) = T (ix2 r C) * g (ix3 0 0 C) := by
  unfold k0_pay2
  rw [h]
  pointwise

theorem zeroed (j : S1024x1.Idx) : k0_pay3 (F := Ideal) j = 0 := by
  pointwise [k0_pay3]

theorem collected (T x : FVec Ideal S1024x512 .f32) (a : FVec Ideal S1024x4096 .bf16) (w : FVec Ideal S4096x512 .bf16) (acc : FVec Ideal S1024x1 .f32)
    (h : k0_pay1 (F := Ideal) x a w = T) (j : S1024x1.Idx) :
    k0_pay4 (F := Ideal) x a w acc j = acc j + ∑ k : Fin 512, T (ix2 ⟨(j 0).val, (j 0).isLt⟩ k) * T (ix2 ⟨(j 0).val, (j 0).isLt⟩ k) := by
  have all : ∀ (r : Fin 1024) (z : Fin 1), k0_pay4 (F := Ideal) x a w acc (ix2 r z) = acc (ix2 r z) + ∑ k : Fin 512, T (ix2 r k) * T (ix2 r k) := fun r z => by
    unfold k0_pay4
    rw [h]
    pointwise
  idx_vars j
  exact all _ _

theorem left4 (c : Dev nD) (t : Fin cfg0.N) : (outsAt0 m c t.val t.isLt).1 = blk m c t := by
  funext y
  by_cases h : t.val % 8 = 0
  · rw [outsAt0_A m c t h]; frame_out; rfl
  · rw [outsAt0_B m c t h]; frame_out; rfl

theorem left5 (c : Dev nD) (t : Fin cfg0.N) : (outsAt0 m c t.val t.isLt).2.1 = k0_pay2 (F := Ideal) (iblk m c 2 t) (iblk m c 0 t) (iblk m c 1 t) (iblk m c 3 t) := by
  funext y
  by_cases h : t.val % 8 = 0
  · rw [outsAt0_A m c t h]; frame_out
  · rw [outsAt0_B m c t h]; frame_out

theorem point4 (c : Dev nD) (t : Fin cfg0.N) (r : Fin 1024) (C : Fin 512) (Y : S16384x4096.Idx)
    (hY0 : (Y 0).val = t.val / 8 * 1024 + r.val) (hY1 : (Y 1).val = t.val % 8 * 512 + C.val) :
    (blk m c t) (ix2 r C) = OUT (m ((c : Thread nD τ).loc main_arg0)) (m ((c : Thread nD τ).loc main_arg1)) (m ((c : Thread nD τ).loc main_arg2)) Y :=
  (blk_at m c t r C).trans (congrArg₂ (resAt (m ((c : Thread nD τ).loc main_arg0)) (m ((c : Thread nD τ).loc main_arg1)) (m ((c : Thread nD τ).loc main_arg2))) (Fin.ext hY0.symm) (Fin.ext hY1.symm))

theorem point5 (c : Dev nD) (t : Fin cfg0.N) (r : Fin 1024) (C : Fin 512) (Y : S16384x4096.Idx)
    (hY0 : (Y 0).val = t.val / 8 * 1024 + r.val) (hY1 : (Y 1).val = t.val % 8 * 512 + C.val) :
    k0_pay2 (F := Ideal) (iblk m c 2 t) (iblk m c 0 t) (iblk m c 1 t) (iblk m c 3 t) (ix2 r C) = GAINED (m ((c : Thread nD τ).loc main_arg0)) (m ((c : Thread nD τ).loc main_arg1)) (m ((c : Thread nD τ).loc main_arg2)) (m ((c : Thread nD τ).loc main_arg3)) Y := by
  have hC : (⟨t.val % 8 * 512 + C.val, by omega⟩ : Fin 4096) = ⟨(Y 1).val, (Y 1).isLt⟩ := Fin.ext hY1.symm
  refine (gained_pay (blk m c t) _ _ _ _ r C rfl).trans ?_
  rw [point4 m c t r C Y hY0 hY1, read3, entry3, gains_at, hC]
  rfl

theorem final4 (c : Dev nD) : ((dats m 0 c).arrAt 4 cfg0.N : FVec Ideal S16384x4096 .f32)
    = OUT (m ((c : Thread nD τ).loc main_arg0)) (m ((c : Thread nD τ).loc main_arg1)) (m ((c : Thread nD τ).loc main_arg2)) := by
  refine (dats m 0 c).arrAt_eq_of_covers 4 _ (by decide +kernel) fun t hf y => ?_
  blk_simp
  rw [after0_4, left4]
  obtain ⟨Y, e⟩ : ∃ Y : S16384x4096.Idx, Y = ((View.whole main_v3_0).slice (win0_4.rect t)).emb y := ⟨_, rfl⟩
  have e0 : (Y 0).val = t.val / 8 * 1024 + (y 0).val := by rw [e]; blk_simp [outs t]
  have e1 : (Y 1).val = t.val % 8 * 512 + (y 1).val := by rw [e]; blk_simp [outs t]
  rw [← e]
  clear e
  revert e0 e1
  suffices all : ∀ z : S1024x512.Idx, (Y 0).val = t.val / 8 * 1024 + (z 0).val → (Y 1).val = t.val % 8 * 512 + (z 1).val → (blk m c t) z = OUT (m ((c : Thread nD τ).loc main_arg0)) (m ((c : Thread nD τ).loc main_arg1)) (m ((c : Thread nD τ).loc main_arg2)) Y from fun e0 e1 => all y e0 e1
  intro z e0 e1
  idx_vars z
  exact point4 m c t _ _ Y e0 e1

theorem final5 (c : Dev nD) : ((dats m 0 c).arrAt 5 cfg0.N : FVec Ideal S16384x4096 .bf16)
    = GAINED (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t hf y => ?_
  blk_simp
  rw [after0_5, left5]
  obtain ⟨Y, e⟩ : ∃ Y : S16384x4096.Idx, Y = ((View.whole main_v3_1).slice (win0_5.rect t)).emb y := ⟨_, rfl⟩
  have e0 : (Y 0).val = t.val / 8 * 1024 + (y 0).val := by rw [e]; blk_simp [outs t]
  have e1 : (Y 1).val = t.val % 8 * 512 + (y 1).val := by rw [e]; blk_simp [outs t]
  rw [← e]
  clear e
  revert e0 e1
  suffices all : ∀ z : S1024x512.Idx, (Y 0).val = t.val / 8 * 1024 + (z 0).val → (Y 1).val = t.val % 8 * 512 + (z 1).val → k0_pay2 (F := Ideal) (iblk m c 2 t) (iblk m c 0 t) (iblk m c 1 t) (iblk m c 3 t) z = GAINED (m ((c : Thread nD τ).loc main_arg0)) (m ((c : Thread nD τ).loc main_arg1)) (m ((c : Thread nD τ).loc main_arg2)) (m ((c : Thread nD τ).loc main_arg3)) Y from fun e0 e1 => all y e0 e1
  intro z e0 e1
  idx_vars z
  exact point5 m c t _ _ Y e0 e1

theorem final6 (c : Dev nD) : ((dats m 0 c).arrAt 6 cfg0.N : FVec Ideal S16384x1 .f32)
    = SQUARES (m ((c : Thread nD τ).loc main_arg0)) (m ((c : Thread nD τ).loc main_arg1)) (m ((c : Thread nD τ).loc main_arg2)) := by
  refine (dats m 0 c).arrAt_eq_of_covers 6 _ (by decide +kernel) fun t hf y => ?_
  blk_simp
  rw [after0_6]
  rw [Pipeline.eq_sum_fin_of_reset_step_apply_of_flush (fun n h => (outsAt0 m c n h).2.2) 8 (fun _ => 0) _
    (fun t h j => by rw [outsAt0_A m c t h]; frame_out; rw [collected (blk m c t) _ _ _ _ rfl, zeroed])
    (fun t h j => by rw [outsAt0_B m c t h]; frame_out; rw [collected (blk m c t) _ _ _ _ rfl])
    t ((flush0_6 t).mp hf) _, zero_add]
  obtain ⟨Y, e⟩ : ∃ Y : S16384x1.Idx, Y = ((View.whole main_v3_2).slice (win0_6.rect t)).emb y := ⟨_, rfl⟩
  have e0 : (Y 0).val = t.val / 8 * 1024 + (y 0).val := by rw [e]; blk_simp [outs t]
  rw [← e]
  clear e
  unfold SQUARES
  refine Fin.sum_mul_add_congr fun s k hl => ?_
  have key : ∀ h : 8 * (t.val / 8) + s.val < cfg0.N, (blk m c ⟨8 * (t.val / 8) + s.val, h⟩) (ix2 ⟨(y 0).val, (y 0).isLt⟩ k)
      = resAt (m ((c : Thread nD τ).loc main_arg0)) (m ((c : Thread nD τ).loc main_arg1)) (m ((c : Thread nD τ).loc main_arg2)) ⟨(Y 0).val, (Y 0).isLt⟩ ⟨s.val * 512 + k.val, hl⟩ := fun h =>
    (blk_at m c ⟨8 * (t.val / 8) + s.val, h⟩ ⟨(y 0).val, (y 0).isLt⟩ k).trans
      (congrArg₂ (resAt (m ((c : Thread nD τ).loc main_arg0)) (m ((c : Thread nD τ).loc main_arg1)) (m ((c : Thread nD τ).loc main_arg2))) (Fin.ext (by show (8 * (t.val / 8) + s.val) / 8 * 1024 + (y 0).val = (Y 0).val; omega))
        (Fin.ext (by show (8 * (t.val / 8) + s.val) % 8 * 512 + k.val = s.val * 512 + k.val; omega)))
  exact congrArg₂ (fun a b : EReal => a * b) (key _) (key _)
end

theorem same : algebraic_Kernel11Ideal_Reference11Ideal := by
  intro m g m' g' _ hargs
  refine ⟨fun c => OUT (m ((c.tc : Thread Cert.Kernel11Ideal.nD Cert.Kernel11Ideal.τ).loc Cert.Kernel11Ideal.main_arg0)) (m ((c.tc : Thread Cert.Kernel11Ideal.nD Cert.Kernel11Ideal.τ).loc Cert.Kernel11Ideal.main_arg1)) (m ((c.tc : Thread Cert.Kernel11Ideal.nD Cert.Kernel11Ideal.τ).loc Cert.Kernel11Ideal.main_arg2)),
    fun c => GAINED (m ((c.tc : Thread Cert.Kernel11Ideal.nD Cert.Kernel11Ideal.τ).loc Cert.Kernel11Ideal.main_arg0)) (m ((c.tc : Thread Cert.Kernel11Ideal.nD Cert.Kernel11Ideal.τ).loc Cert.Kernel11Ideal.main_arg1)) (m ((c.tc : Thread Cert.Kernel11Ideal.nD Cert.Kernel11Ideal.τ).loc Cert.Kernel11Ideal.main_arg2)) (m ((c.tc : Thread Cert.Kernel11Ideal.nD Cert.Kernel11Ideal.τ).loc Cert.Kernel11Ideal.main_arg3)),
    fun c => SQUARES (m ((c.tc : Thread Cert.Kernel11Ideal.nD Cert.Kernel11Ideal.τ).loc Cert.Kernel11Ideal.main_arg0)) (m ((c.tc : Thread Cert.Kernel11Ideal.nD Cert.Kernel11Ideal.τ).loc Cert.Kernel11Ideal.main_arg1)) (m ((c.tc : Thread Cert.Kernel11Ideal.nD Cert.Kernel11Ideal.τ).loc Cert.Kernel11Ideal.main_arg2)), ?_, ?_⟩
  · exact (θ_run _ _ _).mono (fun r h c => ⟨(h c).1.trans (final4 m c), (h c).2.1.trans (final5 m c), (h c).2.2.1.trans (final6 m c), (h c).2.2.2⟩) (Cert.Kernel11Ideal.Value.run_blocks m g)
  · refine (θ_run _ _ _).mono (fun r h c => ⟨(h c).1.trans ?_, (h c).2.1.trans ?_, (h c).2.2.1.trans ?_, (h c).2.2.2⟩) (Cert.Reference11Ideal.Value.run m' g')
    · obtain ⟨e0, e1, e2, e3⟩ := hargs c
      rw [Cert.Reference11Ideal.Read.val_main_v3_eq, e0, e1, e2]
      exact reference_out _ _ _
    · obtain ⟨e0, e1, e2, e3⟩ := hargs c
      rw [Cert.Reference11Ideal.Read.val_main_v9_eq, e0, e1, e2, e3]
      exact reference_gained _ _ _ _
    · obtain ⟨e0, e1, e2, e3⟩ := hargs c
      rw [Cert.Reference11Ideal.Read.val_main_v12_eq, e0, e1, e2]
      exact reference_squares _ _ _

theorem frame_reference : quiescent_Reference11Ideal := fun m g _ =>
  (θ_run _ _ _).mono (fun r h => ⟨fun c => (h c).2.2.2, sem_eq_zero_of_no_sems (by decide) r.2⟩) (Cert.Reference11Ideal.Value.run m g)

theorem named : preserves_Kernel11_Kernel11Ideal := trivial

end Cert.Mid

end
-- ==== Proof.Operand.lean ====
/- What the first layer's norm needs of the input: the rows times the gain, and the rows' sums of squares. Each grid point writes a
   block of 256 rows. -/
module

public import proofs.«01_k».proof.Proof.Dense
public import proofs.«01_k».proof.Defs
public import proofs.«01_k».proof.Proof.Gen.Kernel12Ideal.Value
public import proofs.«01_k».proof.Proof.Gen.Reference12Ideal.Read
public import Idealize.ShloMosaic.Lib.Pipeline.ValueKit

@[expose] public section

set_option maxRecDepth 65536
noncomputable section
open Idealize.ShloMosaic Idealize.ShloMosaic.TcCoe Idealize.SL.Sem
open Idealize.ShloMosaic.Pipeline (Dat)

namespace Cert.Operand
open Cert.Dense

section
open Cert.Kernel12Ideal
variable (x : FVec Ideal S16384x4096 .f32) (g : FVec Ideal S4x4096 .f32)

/-- The rows times the gain. -/
def GAINED : FVec Ideal S16384x4096 .bf16 :=
  fun j => x (ix2 ⟨(j 0).val, (j 0).isLt⟩ ⟨(j 1).val, (j 1).isLt⟩) * g (ix2 0 ⟨(j 1).val, (j 1).isLt⟩)

/-- The rows' sums of squares. -/
def SQUARES : FVec Ideal S16384x1 .f32 :=
  fun j => ssq fun k => x (ix2 ⟨(j 0).val, (j 0).isLt⟩ k)
end

section
open Cert.Reference12Ideal Cert.Reference12Ideal.Gen Cert.Reference12Ideal.Read
variable (x0 : FVec Ideal S16384x4096 .f32) (x1 : FVec Ideal S4x4096 .f32)

theorem reference_gained : val_main_v5 (F := Ideal) x0 x1 = GAINED x0 x1 := by
  have all : ∀ (R : Fin 16384) (C : Fin 4096), val_main_v5 (F := Ideal) x0 x1 (ix2 R C) = x0 (ix2 R C) * x1 (ix2 0 C) := fun R C => by
    pointwise [val_main_v5, val_main_v4, val_main_v3, val_main_v2, val_main_v1, val_main_v0]
  funext j
  idx_vars j
  exact all _ _

theorem reference_squares : val_main_v8 (F := Ideal) x0 = SQUARES x0 := by
  have all : ∀ (R : Fin 16384) (z : Fin 1), val_main_v8 (F := Ideal) x0 (ix2 R z) = ssq fun k => x0 (ix2 R k) := fun R z => by
    unfold ssq
    pointwise [val_main_v8, val_main_v7, val_main_v6, val_main_cst]
  funext j
  idx_vars j
  exact all _ _
end

section
open Cert.Kernel12Ideal Cert.Kernel12Ideal.Gen
variable (m : (ℓ : Loc nD τ sig) → Buf (Elt Ideal) ℓ)

theorem idx : ∀ t : Fin cfg0.N, win0_0.index t = ![t.val, 0] ∧ win0_1.index t = ![0, 0, 0] ∧ win0_2.index t = ![t.val, 0] ∧ win0_3.index t = ![t.val, 0]
    ∧ t.val < 64 :=
  (by decide +kernel : ∀ t : Fin grid0.N, _)

theorem lt0 (t : Fin cfg0.N) : t.val < 64 := (idx t).2.2.2.2

/-- The gains as the call takes them. -/
def gains (g : FVec Ideal S4x4096 .f32) : FVec Ideal S4x1x4096 .f32 := shapeCast S4x1x4096 g shapeCasts_S4x4096_S4x1x4096

theorem gains_at (g : FVec Ideal S4x4096 .f32) (k : Fin 4096) : gains g (ix3 0 0 k) = g (ix2 0 k) := by
  pointwise [gains]

theorem entry1 (c : Dev nD) : (V m c main_v0 : FVec Ideal S4x1x4096 .f32) = gains (m ((c : Thread nD τ).loc main_arg1)) := by
  show StableHlo.after hostOps0 (fun b => m (c, b)) (Proc.devRef .tc main_v0) = _
  simp only [hostOps0, List.flatten_cons, List.flatten_nil, List.append_nil, List.cons_append, List.nil_append, StableHlo.after_cons, StableHlo.after_nil]
  after_results_simp
  rfl

section Reads
variable (c : Dev nD) (t : Fin cfg0.N)

theorem read0 (r : Fin 256) (k : Fin 4096) : (iblk m c 0 t : FVec Ideal S256x4096 .f32) (ix2 r k)
    = (m ((c : Thread nD τ).loc main_arg0) : FVec Ideal S16384x4096 .f32) (ix2 ⟨t.val * 256 + r.val, by have := lt0 t; omega⟩ k) := by
  blk_ext [iblk, V_main_arg0, idx t]

theorem read1 (k : Fin 4096) : (iblk m c 1 t : FVec Ideal S1x1x4096 .f32) (ix3 0 0 k) = (V m c main_v0 : FVec Ideal S4x1x4096 .f32) (ix3 0 0 k) := by
  blk_ext [iblk, idx t]
end Reads

/-- What a grid point stores is a block of the gained rows. -/
theorem point2 (c : Dev nD) (t : Fin cfg0.N) (H : FVec Ideal S256x4096 .f32) (G : FVec Ideal S1x1x4096 .f32)
    (hH : ∀ (r : Fin 256) (k : Fin 4096), H (ix2 r k) = (iblk m c 0 t : FVec Ideal S256x4096 .f32) (ix2 r k))
    (hG : ∀ k : Fin 4096, G (ix3 0 0 k) = (iblk m c 1 t : FVec Ideal S1x1x4096 .f32) (ix3 0 0 k))
    (r : Fin 256) (C : Fin 4096) (Y : S16384x4096.Idx)
    (hY0 : (Y 0).val = t.val * 256 + r.val) (hY1 : (Y 1).val = C.val) :
    k0_pay1 (F := Ideal) H G (ix2 r C) = GAINED (m ((c : Thread nD τ).loc main_arg0)) (m ((c : Thread nD τ).loc main_arg1)) Y := by
  have ht := lt0 t
  have hR : (⟨(Y 0).val, (Y 0).isLt⟩ : Fin 16384) = ⟨t.val * 256 + r.val, by omega⟩ := Fin.ext hY0
  have hC : (⟨(Y 1).val, (Y 1).isLt⟩ : Fin 4096) = C := Fin.ext hY1
  unfold GAINED
  rw [hR, hC]
  have stored : k0_pay1 (F := Ideal) H G (ix2 r C) = H (ix2 r C) * G (ix3 0 0 C) := by pointwise [k0_pay1]
  rw [stored, hH, hG, read0, read1, entry1, gains_at]

/-- And of their sums of squares. -/
theorem point3 (c : Dev nD) (t : Fin cfg0.N) (H : FVec Ideal S256x4096 .f32)
    (hH : ∀ (r : Fin 256) (k : Fin 4096), H (ix2 r k) = (iblk m c 0 t : FVec Ideal S256x4096 .f32) (ix2 r k))
    (r : Fin 256) (z : Fin 1) (Y : S16384x1.Idx) (hY0 : (Y 0).val = t.val * 256 + r.val) :
    k0_pay2 (F := Ideal) H (ix2 r z) = SQUARES (m ((c : Thread nD τ).loc main_arg0)) Y := by
  have ht := lt0 t
  have hR : (⟨(Y 0).val, (Y 0).isLt⟩ : Fin 16384) = ⟨t.val * 256 + r.val, by omega⟩ := Fin.ext hY0
  unfold SQUARES
  rw [hR]
  have stored : k0_pay2 (F := Ideal) H (ix2 r z) = ssq fun k => H (ix2 r k) := by
    unfold ssq
    pointwise [k0_pay2]
  have e0 : ∀ k : Fin 4096, H (ix2 r k) = _ := fun k => (hH r k).trans (read0 m c t r k)
  rw [stored]
  simp only [e0]

theorem final2 (c : Dev nD) : ((dats m 0 c).arrAt 2 cfg0.N : FVec Ideal S16384x4096 .bf16) = GAINED (m ((c : Thread nD τ).loc main_arg0)) (m ((c : Thread nD τ).loc main_arg1)) := by
  refine (dats m 0 c).arrAt_eq_of_covers 2 _ (by decide +kernel) fun t hf y => ?_
  blk_simp
  rw [after0_2]
  unfold out0_2
  obtain ⟨Y, e⟩ : ∃ Y : S16384x4096.Idx, Y = ((View.whole main_v1_0).slice (win0_2.rect t)).emb y := ⟨_, rfl⟩
  have e0 : (Y 0).val = t.val * 256 + (y 0).val := by rw [e]; blk_simp [idx t]
  have e1 : (Y 1).val = (y 1).val := by rw [e]; blk_simp [idx t]
  rw [← e]
  clear e
  canon_tiles x h
  idx_vars x
  refine point2 m c t _ _ ?_ ?_ _ _ _ (by rw [e0, h0]) (by rw [e1, h1])
  all_goals first | (intro r k; pointwise; done) | (intro k; pointwise; done)

theorem final3 (c : Dev nD) : ((dats m 0 c).arrAt 3 cfg0.N : FVec Ideal S16384x1 .f32) = SQUARES (m ((c : Thread nD τ).loc main_arg0)) := by
  refine (dats m 0 c).arrAt_eq_of_covers 3 _ (by decide +kernel) fun t hf y => ?_
  blk_simp
  rw [after0_3]
  unfold out0_3
  obtain ⟨Y, e⟩ : ∃ Y : S16384x1.Idx, Y = ((View.whole main_v1_1).slice (win0_3.rect t)).emb y := ⟨_, rfl⟩
  have e0 : (Y 0).val = t.val * 256 + (y 0).val := by rw [e]; blk_simp [idx t]
  rw [← e]
  clear e
  canon_tiles x h
  idx_vars x
  refine point3 m c t _ ?_ _ _ _ (by rw [e0, h0])
  intro r k; pointwise
end

theorem same : algebraic_Kernel12Ideal_Reference12Ideal := by
  intro m g m' g' _ hargs
  refine ⟨fun c => GAINED (m ((c.tc : Thread Cert.Kernel12Ideal.nD Cert.Kernel12Ideal.τ).loc Cert.Kernel12Ideal.main_arg0)) (m ((c.tc : Thread Cert.Kernel12Ideal.nD Cert.Kernel12Ideal.τ).loc Cert.Kernel12Ideal.main_arg1)), fun c => SQUARES (m ((c.tc : Thread Cert.Kernel12Ideal.nD Cert.Kernel12Ideal.τ).loc Cert.Kernel12Ideal.main_arg0)), ?_, ?_⟩
  · exact (θ_run _ _ _).mono (fun r h c => ⟨(h c).1.trans (final2 m c), (h c).2.1.trans (final3 m c), (h c).2.2⟩) (Cert.Kernel12Ideal.Value.run_blocks m g)
  · refine (θ_run _ _ _).mono (fun r h c => ⟨(h c).1.trans ?_, (h c).2.1.trans ?_, (h c).2.2⟩) (Cert.Reference12Ideal.Value.run m' g')
    · obtain ⟨e0, e1⟩ := hargs c
      rw [Cert.Reference12Ideal.Read.val_main_v5_eq, e0, e1]
      exact reference_gained _ _
    · obtain ⟨e0, e1⟩ := hargs c
      rw [Cert.Reference12Ideal.Read.val_main_v8_eq, e0]
      exact reference_squares _

theorem frame_reference : quiescent_Reference12Ideal := fun m g _ =>
  (θ_run _ _ _).mono (fun r h => ⟨fun c => (h c).2.2, sem_eq_zero_of_no_sems (by decide) r.2⟩) (Cert.Reference12Ideal.Value.run m g)

theorem named : preserves_Kernel12_Kernel12Ideal := trivial

end Cert.Operand

end
-- ==== Proof.lean ====
/- The claim: the frames, the named constants, and the value claim of each call. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_finite_scores
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Reference6Ideal.Read
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Reference7Ideal.Read
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Run
public import proofs.«01_k».proof.Proof.Gen.Reference8Ideal.Read
public import proofs.«01_k».proof.Proof.Gen.Kernel9
public import proofs.«01_k».proof.Proof.Gen.Kernel9.Skeleton
public import proofs.«01_k».proof.Proof.Gen.Kernel9.Launch
public import proofs.«01_k».proof.Proof.Gen.Kernel9.Points
public import proofs.«01_k».proof.Proof.Gen.Kernel9.Frame
public import proofs.«01_k».proof.Proof.Gen.Kernel9Ideal
public import proofs.«01_k».proof.Proof.Gen.Kernel9Ideal.Skeleton
public import proofs.«01_k».proof.Proof.Gen.Kernel9Ideal.Launch
public import proofs.«01_k».proof.Proof.Gen.Kernel9Ideal.Points
public import proofs.«01_k».proof.Proof.Gen.Kernel9Ideal.Frame
public import proofs.«01_k».proof.Proof.Gen.Kernel9Ideal.Value
public import proofs.«01_k».proof.Proof.Gen.Reference9Ideal
public import proofs.«01_k».proof.Proof.Gen.Reference9Ideal.Run
public import proofs.«01_k».proof.Proof.Gen.Reference9Ideal.Read
public import proofs.«01_k».proof.Proof.Gen.Kernel10
public import proofs.«01_k».proof.Proof.Gen.Kernel10.Skeleton
public import proofs.«01_k».proof.Proof.Gen.Kernel10.Launch
public import proofs.«01_k».proof.Proof.Gen.Kernel10.Points
public import proofs.«01_k».proof.Proof.Gen.Kernel10.Frame
public import proofs.«01_k».proof.Proof.Gen.Kernel10Ideal
public import proofs.«01_k».proof.Proof.Gen.Kernel10Ideal.Skeleton
public import proofs.«01_k».proof.Proof.Gen.Kernel10Ideal.Launch
public import proofs.«01_k».proof.Proof.Gen.Kernel10Ideal.Points
public import proofs.«01_k».proof.Proof.Gen.Kernel10Ideal.Frame
public import proofs.«01_k».proof.Proof.Gen.Kernel10Ideal.Value
public import proofs.«01_k».proof.Proof.Gen.Reference10Ideal
public import proofs.«01_k».proof.Proof.Gen.Reference10Ideal.Run
public import proofs.«01_k».proof.Proof.Gen.Reference10Ideal.Read
public import proofs.«01_k».proof.Proof.Gen.Kernel11
public import proofs.«01_k».proof.Proof.Gen.Kernel11.Skeleton
public import proofs.«01_k».proof.Proof.Gen.Kernel11.Launch
public import proofs.«01_k».proof.Proof.Gen.Kernel11.Points
public import proofs.«01_k».proof.Proof.Gen.Kernel11.Frame
public import proofs.«01_k».proof.Proof.Gen.Kernel11Ideal
public import proofs.«01_k».proof.Proof.Gen.Kernel11Ideal.Skeleton
public import proofs.«01_k».proof.Proof.Gen.Kernel11Ideal.Launch
public import proofs.«01_k».proof.Proof.Gen.Kernel11Ideal.Points
public import proofs.«01_k».proof.Proof.Gen.Kernel11Ideal.Frame
public import proofs.«01_k».proof.Proof.Gen.Kernel11Ideal.Value
public import proofs.«01_k».proof.Proof.Gen.Reference11Ideal
public import proofs.«01_k».proof.Proof.Gen.Reference11Ideal.Run
public import proofs.«01_k».proof.Proof.Gen.Reference11Ideal.Read
public import proofs.«01_k».proof.Proof.Gen.Kernel12
public import proofs.«01_k».proof.Proof.Gen.Kernel12.Skeleton
public import proofs.«01_k».proof.Proof.Gen.Kernel12.Launch
public import proofs.«01_k».proof.Proof.Gen.Kernel12.Points
public import proofs.«01_k».proof.Proof.Gen.Kernel12.Frame
public import proofs.«01_k».proof.Proof.Gen.Kernel12Ideal
public import proofs.«01_k».proof.Proof.Gen.Kernel12Ideal.Skeleton
public import proofs.«01_k».proof.Proof.Gen.Kernel12Ideal.Launch
public import proofs.«01_k».proof.Proof.Gen.Kernel12Ideal.Points
public import proofs.«01_k».proof.Proof.Gen.Kernel12Ideal.Frame
public import proofs.«01_k».proof.Proof.Gen.Kernel12Ideal.Value
public import proofs.«01_k».proof.Proof.Gen.Reference12Ideal
public import proofs.«01_k».proof.Proof.Gen.Reference12Ideal.Run
public import proofs.«01_k».proof.Proof.Gen.Reference12Ideal.Read
public import proofs.«01_k».proof.Proof.Window
public import proofs.«01_k».proof.Proof.Merge
public import proofs.«01_k».proof.Proof.Up
public import proofs.«01_k».proof.Proof.Res
public import proofs.«01_k».proof.Proof.QkvAB
public import proofs.«01_k».proof.Proof.QkvC
public import proofs.«01_k».proof.Proof.Rms
public import proofs.«01_k».proof.Proof.Out
public import proofs.«01_k».proof.Proof.Last
public import proofs.«01_k».proof.Proof.Up2
public import proofs.«01_k».proof.Proof.Mid
public import proofs.«01_k».proof.Proof.Operand
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts,
  Cert.Kernel10.Gen.facts, Cert.Kernel10Ideal.Gen.facts, Cert.Reference10Ideal.Gen.facts,
  Cert.Kernel11.Gen.facts, Cert.Kernel11Ideal.Gen.facts, Cert.Reference11Ideal.Gen.facts,
  Cert.Kernel12.Gen.facts, Cert.Kernel12Ideal.Gen.facts, Cert.Reference12Ideal.Gen.facts,
  Cert.Pre_finite_scores.Gen.facts,
  fun m ρ _ => Cert.Kernel.Gen.frame m ρ, fun m ρ _ => Cert.KernelIdeal.Gen.frame m ρ, fun m ρ _ => Cert.KernelIdeal.Gen.frame m ρ,
  Cert.Window.frame_reference, fun m ρ _ => Cert.Window.frame_reference m ρ trivial,
  fun m ρ _ => Cert.Kernel2.Gen.frame m ρ, fun m ρ _ => Cert.Kernel2Ideal.Gen.frame m ρ, Cert.Merge.frame_reference,
  fun m ρ _ => Cert.Kernel3.Gen.frame m ρ, fun m ρ _ => Cert.Kernel3Ideal.Gen.frame m ρ, Cert.Up.frame_reference,
  fun m ρ _ => Cert.Kernel4.Gen.frame m ρ, fun m ρ _ => Cert.Kernel4Ideal.Gen.frame m ρ, Cert.Res.frame_reference,
  fun m ρ _ => Cert.Kernel5.Gen.frame m ρ, fun m ρ _ => Cert.Kernel5Ideal.Gen.frame m ρ, Cert.QkvAB.frame_reference,
  fun m ρ _ => Cert.Kernel6.Gen.frame m ρ, fun m ρ _ => Cert.Kernel6Ideal.Gen.frame m ρ, Cert.QkvC.frame_reference,
  fun m ρ _ => Cert.Kernel7.Gen.frame m ρ, fun m ρ _ => Cert.Kernel7Ideal.Gen.frame m ρ, Cert.Rms.frame_reference,
  fun m ρ _ => Cert.Kernel8.Gen.frame m ρ, fun m ρ _ => Cert.Kernel8Ideal.Gen.frame m ρ, Cert.Out.frame_reference,
  fun m ρ _ => Cert.Kernel9.Gen.frame m ρ, fun m ρ _ => Cert.Kernel9Ideal.Gen.frame m ρ, Cert.Last.frame_reference,
  fun m ρ _ => Cert.Kernel10.Gen.frame m ρ, fun m ρ _ => Cert.Kernel10Ideal.Gen.frame m ρ, Cert.Up2.frame_reference,
  fun m ρ _ => Cert.Kernel11.Gen.frame m ρ, fun m ρ _ => Cert.Kernel11Ideal.Gen.frame m ρ, Cert.Mid.frame_reference,
  fun m ρ _ => Cert.Kernel12.Gen.frame m ρ, fun m ρ _ => Cert.Kernel12Ideal.Gen.frame m ρ, Cert.Operand.frame_reference,
  Cert.Window.named, Cert.Window.same,
  Cert.Merge.named, Cert.Merge.same,
  Cert.Up.named, Cert.Up.same,
  Cert.Res.named, Cert.Res.same,
  Cert.QkvAB.named, Cert.QkvAB.same,
  Cert.QkvC.named, Cert.QkvC.same,
  Cert.Rms.named, Cert.Rms.same,
  Cert.Out.named, Cert.Out.same,
  Cert.Last.named, Cert.Last.same,
  Cert.Up2.named, Cert.Up2.same,
  Cert.Mid.named, Cert.Mid.same,
  Cert.Operand.named, Cert.Operand.same⟩

end Cert.Proof

end
